-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_lse [hPre_finite_lse : Cert.Pre_finite_lse.Facts] (m : (ℓ : Loc Cert.MergeIdeal.nD Cert.MergeIdeal.τ Cert.MergeIdeal.sig) → Buf (Elt Ideal) ℓ) : Prop :=
  ∀ c : Dev Cert.MergeIdeal.nD,
    (Cert.Pre_finite_lse.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_lse [hPre_finite_lse : Cert.Pre_finite_lse.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_lse.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))) = (fun _ => 1#1)

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Samp (m : (ℓ : Loc Cert.Samp.nD Cert.Samp.τ Cert.Samp.sig) → Buf (Elt Bits) ℓ) : Prop :=
  True

def Pre_SampIdeal (m : (ℓ : Loc Cert.SampIdeal.nD Cert.SampIdeal.τ Cert.SampIdeal.sig) → Buf (Elt Ideal) ℓ) : Prop :=
  True

def Pre_SampRefIdeal (m : (ℓ : Loc Cert.SampRefIdeal.nD Cert.SampRefIdeal.τ Cert.SampRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeIdeal_pre_finite_lse [hMergeIdeal : Cert.MergeIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_lse m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MergeRefIdeal_pre_finite_lse [hMergeRefIdeal : Cert.MergeRefIdeal.Facts] [hPre_finite_lse : Cert.Pre_finite_lse.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_lse m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8)
      ∧ r.2.mem ((c.tc : Thread Cert.Step.nD Cert.Step.τ).loc Cert.Step.main_arg9) = m ((c.tc : Thread Cert.Step.nD Cert.Step.τ).loc Cert.Step.main_arg9))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8)
      ∧ r.2.mem ((c.tc : Thread Cert.StepRefIdeal.nD Cert.StepRefIdeal.τ).loc Cert.StepRefIdeal.main_arg9) = m ((c.tc : Thread Cert.StepRefIdeal.nD Cert.StepRefIdeal.τ).loc Cert.StepRefIdeal.main_arg9))
      ∧ r.2.sem = fun _ => 0)

def quiescent_Samp [hSamp : Cert.Samp.Facts] : Prop :=
  ∀ (m : (ℓ : Loc Cert.Samp.nD Cert.Samp.τ Cert.Samp.sig) → Buf (Elt Bits) ℓ) (g : Dev Cert.Samp.nD → PrngReg), Pre_Samp m →
    θ_run (Cert.Samp.defs (F := Bits)) (onTc (τ := Cert.Samp.τ) (Cert.Samp.main (F := Bits))) ⟨m, fun _ => 0, g⟩ (fun r => (∀ c : Dev Cert.Samp.nD,
      r.2.mem ((c.tc : Thread Cert.Samp.nD Cert.Samp.τ).loc Cert.Samp.main_arg0) = m ((c.tc : Thread Cert.Samp.nD Cert.Samp.τ).loc Cert.Samp.main_arg0)
      ∧ r.2.mem ((c.tc : Thread Cert.Samp.nD Cert.Samp.τ).loc Cert.Samp.main_arg1) = m ((c.tc : Thread Cert.Samp.nD Cert.Samp.τ).loc Cert.Samp.main_arg1)
      ∧ r.2.mem ((c.tc : Thread Cert.Samp.nD Cert.Samp.τ).loc Cert.Samp.main_arg2) = m ((c.tc : Thread Cert.Samp.nD Cert.Samp.τ).loc Cert.Samp.main_arg2)
      ∧ r.2.mem ((c.tc : Thread Cert.Samp.nD Cert.Samp.τ).loc Cert.Samp.main_arg3) = m ((c.tc : Thread Cert.Samp.nD Cert.Samp.τ).loc Cert.Samp.main_arg3))
      ∧ r.2.sem = fun _ => 0)

def quiescent_SampIdeal [hSampIdeal : Cert.SampIdeal.Facts] : Prop :=
  ∀ (m : (ℓ : Loc Cert.SampIdeal.nD Cert.SampIdeal.τ Cert.SampIdeal.sig) → Buf (Elt Ideal) ℓ) (g : Dev Cert.SampIdeal.nD → PrngReg), Pre_SampIdeal m →
    θ_run (Cert.SampIdeal.defs (F := Ideal)) (onTc (τ := Cert.SampIdeal.τ) (Cert.SampIdeal.main (F := Ideal))) ⟨m, fun _ => 0, g⟩ (fun r => (∀ c : Dev Cert.SampIdeal.nD,
      r.2.mem ((c.tc : Thread Cert.SampIdeal.nD Cert.SampIdeal.τ).loc Cert.SampIdeal.main_arg0) = m ((c.tc : Thread Cert.SampIdeal.nD Cert.SampIdeal.τ).loc Cert.SampIdeal.main_arg0)
      ∧ r.2.mem ((c.tc : Thread Cert.SampIdeal.nD Cert.SampIdeal.τ).loc Cert.SampIdeal.main_arg1) = m ((c.tc : Thread Cert.SampIdeal.nD Cert.SampIdeal.τ).loc Cert.SampIdeal.main_arg1)
      ∧ r.2.mem ((c.tc : Thread Cert.SampIdeal.nD Cert.SampIdeal.τ).loc Cert.SampIdeal.main_arg2) = m ((c.tc : Thread Cert.SampIdeal.nD Cert.SampIdeal.τ).loc Cert.SampIdeal.main_arg2)
      ∧ r.2.mem ((c.tc : Thread Cert.SampIdeal.nD Cert.SampIdeal.τ).loc Cert.SampIdeal.main_arg3) = m ((c.tc : Thread Cert.SampIdeal.nD Cert.SampIdeal.τ).loc Cert.SampIdeal.main_arg3))
      ∧ r.2.sem = fun _ => 0)

def quiescent_SampRefIdeal [hSampRefIdeal : Cert.SampRefIdeal.Facts] : Prop :=
  ∀ (m : (ℓ : Loc Cert.SampRefIdeal.nD Cert.SampRefIdeal.τ Cert.SampRefIdeal.sig) → Buf (Elt Ideal) ℓ) (g : Dev Cert.SampRefIdeal.nD → PrngReg), Pre_SampRefIdeal m →
    θ_run (Cert.SampRefIdeal.defs (F := Ideal)) (onTc (τ := Cert.SampRefIdeal.τ) (Cert.SampRefIdeal.main (F := Ideal))) ⟨m, fun _ => 0, g⟩ (fun r => (∀ c : Dev Cert.SampRefIdeal.nD,
      r.2.mem ((c.tc : Thread Cert.SampRefIdeal.nD Cert.SampRefIdeal.τ).loc Cert.SampRefIdeal.main_arg0) = m ((c.tc : Thread Cert.SampRefIdeal.nD Cert.SampRefIdeal.τ).loc Cert.SampRefIdeal.main_arg0)
      ∧ r.2.mem ((c.tc : Thread Cert.SampRefIdeal.nD Cert.SampRefIdeal.τ).loc Cert.SampRefIdeal.main_arg1) = m ((c.tc : Thread Cert.SampRefIdeal.nD Cert.SampRefIdeal.τ).loc Cert.SampRefIdeal.main_arg1)
      ∧ r.2.mem ((c.tc : Thread Cert.SampRefIdeal.nD Cert.SampRefIdeal.τ).loc Cert.SampRefIdeal.main_arg2) = m ((c.tc : Thread Cert.SampRefIdeal.nD Cert.SampRefIdeal.τ).loc Cert.SampRefIdeal.main_arg2)
      ∧ r.2.mem ((c.tc : Thread Cert.SampRefIdeal.nD Cert.SampRefIdeal.τ).loc Cert.SampRefIdeal.main_arg3) = m ((c.tc : Thread Cert.SampRefIdeal.nD Cert.SampRefIdeal.τ).loc Cert.SampRefIdeal.main_arg3))
      ∧ r.2.sem = fun _ => 0)

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v89) = v0 c
          ∧ r.2.mem ((c.tc : Thread Cert.AttnRefIdeal.nD Cert.AttnRefIdeal.τ).loc Cert.AttnRefIdeal.main_v91) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)) (v2 : (c : Dev Cert.OutIdeal.nD) → Buf (Elt Ideal) ((c.tc : Thread Cert.OutIdeal.nD Cert.OutIdeal.τ).loc Cert.OutIdeal.main_v3_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_v3_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v15) = v1 c
          ∧ r.2.mem ((c.tc : Thread Cert.OutRefIdeal.nD Cert.OutRefIdeal.τ).loc Cert.OutRefIdeal.main_v17) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)) →
    ∃ (v0 : (c : Dev Cert.FinIdeal.nD) → Buf (Elt Ideal) ((c.tc : Thread Cert.FinIdeal.nD Cert.FinIdeal.τ).loc Cert.FinIdeal.main_v1)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v1) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v14) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2))

def preserves_Merge_MergeIdeal : Prop :=
  True

def algebraic_MergeIdeal_MergeRefIdeal_pre_finite_lse [hMergeIdeal : Cert.MergeIdeal.Facts] [hMergeRefIdeal : Cert.MergeRefIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_lse m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v57) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)
      ∧ m' ((c.tc : Thread Cert.StepRefIdeal.nD Cert.StepRefIdeal.τ).loc Cert.StepRefIdeal.main_arg8) = m ((c.tc : Thread Cert.StepIdeal.nD Cert.StepIdeal.τ).loc Cert.StepIdeal.main_arg8)
      ∧ m' ((c.tc : Thread Cert.StepRefIdeal.nD Cert.StepRefIdeal.τ).loc Cert.StepRefIdeal.main_arg9) = m ((c.tc : Thread Cert.StepIdeal.nD Cert.StepIdeal.τ).loc Cert.StepIdeal.main_arg9)) →
    ∃ (v0 : (c : Dev Cert.StepIdeal.nD) → Buf (Elt Ideal) ((c.tc : Thread Cert.StepIdeal.nD Cert.StepIdeal.τ).loc Cert.StepIdeal.main_v8_0)) (v1 : (c : Dev Cert.StepIdeal.nD) → Buf (Elt Ideal) ((c.tc : Thread Cert.StepIdeal.nD Cert.StepIdeal.τ).loc Cert.StepIdeal.main_v8_1)) (v2 : (c : Dev Cert.StepIdeal.nD) → Buf (Elt Ideal) ((c.tc : Thread Cert.StepIdeal.nD Cert.StepIdeal.τ).loc Cert.StepIdeal.main_v8_2)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v8_0) = v0 c
          ∧ r.2.mem ((c.tc : Thread Cert.StepIdeal.nD Cert.StepIdeal.τ).loc Cert.StepIdeal.main_v8_1) = v1 c
          ∧ r.2.mem ((c.tc : Thread Cert.StepIdeal.nD Cert.StepIdeal.τ).loc Cert.StepIdeal.main_v8_2) = v2 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
          ∧ r.2.mem ((c.tc : Thread Cert.StepIdeal.nD Cert.StepIdeal.τ).loc Cert.StepIdeal.main_arg9) = m ((c.tc : Thread Cert.StepIdeal.nD Cert.StepIdeal.τ).loc Cert.StepIdeal.main_arg9))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v142) = v0 c
          ∧ r.2.mem ((c.tc : Thread Cert.StepRefIdeal.nD Cert.StepRefIdeal.τ).loc Cert.StepRefIdeal.main_v143) = v1 c
          ∧ r.2.mem ((c.tc : Thread Cert.StepRefIdeal.nD Cert.StepRefIdeal.τ).loc Cert.StepRefIdeal.main_v132) = v2 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7)
          ∧ r.2.mem ((c.tc : Thread Cert.StepRefIdeal.nD Cert.StepRefIdeal.τ).loc Cert.StepRefIdeal.main_arg8) = m' ((c.tc : Thread Cert.StepRefIdeal.nD Cert.StepRefIdeal.τ).loc Cert.StepRefIdeal.main_arg8)
          ∧ r.2.mem ((c.tc : Thread Cert.StepRefIdeal.nD Cert.StepRefIdeal.τ).loc Cert.StepRefIdeal.main_arg9) = m' ((c.tc : Thread Cert.StepRefIdeal.nD Cert.StepRefIdeal.τ).loc Cert.StepRefIdeal.main_arg9))

def preserves_Samp_SampIdeal : Prop :=
  True

def algebraic_SampIdeal_SampRefIdeal [hSampIdeal : Cert.SampIdeal.Facts] [hSampRefIdeal : Cert.SampRefIdeal.Facts] : Prop :=
  ∀ (m : (ℓ : Loc Cert.SampIdeal.nD Cert.SampIdeal.τ Cert.SampIdeal.sig) → Buf (Elt Ideal) ℓ) (g : Dev Cert.SampIdeal.nD → PrngReg)
    (m' : (ℓ : Loc Cert.SampRefIdeal.nD Cert.SampRefIdeal.τ Cert.SampRefIdeal.sig) → Buf (Elt Ideal) ℓ) (g' : Dev Cert.SampRefIdeal.nD → PrngReg), Pre_SampIdeal m →
    (∀ c : Dev Cert.SampIdeal.nD,
      m' ((c.tc : Thread Cert.SampRefIdeal.nD Cert.SampRefIdeal.τ).loc Cert.SampRefIdeal.main_arg0) = m ((c.tc : Thread Cert.SampIdeal.nD Cert.SampIdeal.τ).loc Cert.SampIdeal.main_arg0)
      ∧ m' ((c.tc : Thread Cert.SampRefIdeal.nD Cert.SampRefIdeal.τ).loc Cert.SampRefIdeal.main_arg1) = m ((c.tc : Thread Cert.SampIdeal.nD Cert.SampIdeal.τ).loc Cert.SampIdeal.main_arg1)
      ∧ m' ((c.tc : Thread Cert.SampRefIdeal.nD Cert.SampRefIdeal.τ).loc Cert.SampRefIdeal.main_arg2) = m ((c.tc : Thread Cert.SampIdeal.nD Cert.SampIdeal.τ).loc Cert.SampIdeal.main_arg2)
      ∧ m' ((c.tc : Thread Cert.SampRefIdeal.nD Cert.SampRefIdeal.τ).loc Cert.SampRefIdeal.main_arg3) = m ((c.tc : Thread Cert.SampIdeal.nD Cert.SampIdeal.τ).loc Cert.SampIdeal.main_arg3)) →
    ∃ (v0 : (c : Dev Cert.SampIdeal.nD) → Buf (Elt Ideal) ((c.tc : Thread Cert.SampIdeal.nD Cert.SampIdeal.τ).loc Cert.SampIdeal.main_v0_0)) (v1 : (c : Dev Cert.SampIdeal.nD) → Buf (Elt Ideal) ((c.tc : Thread Cert.SampIdeal.nD Cert.SampIdeal.τ).loc Cert.SampIdeal.main_v0_1)) (v2 : (c : Dev Cert.SampIdeal.nD) → Buf (Elt Ideal) ((c.tc : Thread Cert.SampIdeal.nD Cert.SampIdeal.τ).loc Cert.SampIdeal.main_v0_2)),
      θ_run (Cert.SampIdeal.defs (F := Ideal)) (onTc (τ := Cert.SampIdeal.τ) (Cert.SampIdeal.main (F := Ideal))) ⟨m, fun _ => 0, g⟩ (fun r => ∀ c : Dev Cert.SampIdeal.nD,
          r.2.mem ((c.tc : Thread Cert.SampIdeal.nD Cert.SampIdeal.τ).loc Cert.SampIdeal.main_v0_0) = v0 c
          ∧ r.2.mem ((c.tc : Thread Cert.SampIdeal.nD Cert.SampIdeal.τ).loc Cert.SampIdeal.main_v0_1) = v1 c
          ∧ r.2.mem ((c.tc : Thread Cert.SampIdeal.nD Cert.SampIdeal.τ).loc Cert.SampIdeal.main_v0_2) = v2 c
          ∧ r.2.mem ((c.tc : Thread Cert.SampIdeal.nD Cert.SampIdeal.τ).loc Cert.SampIdeal.main_arg0) = m ((c.tc : Thread Cert.SampIdeal.nD Cert.SampIdeal.τ).loc Cert.SampIdeal.main_arg0)
          ∧ r.2.mem ((c.tc : Thread Cert.SampIdeal.nD Cert.SampIdeal.τ).loc Cert.SampIdeal.main_arg1) = m ((c.tc : Thread Cert.SampIdeal.nD Cert.SampIdeal.τ).loc Cert.SampIdeal.main_arg1)
          ∧ r.2.mem ((c.tc : Thread Cert.SampIdeal.nD Cert.SampIdeal.τ).loc Cert.SampIdeal.main_arg2) = m ((c.tc : Thread Cert.SampIdeal.nD Cert.SampIdeal.τ).loc Cert.SampIdeal.main_arg2)
          ∧ r.2.mem ((c.tc : Thread Cert.SampIdeal.nD Cert.SampIdeal.τ).loc Cert.SampIdeal.main_arg3) = m ((c.tc : Thread Cert.SampIdeal.nD Cert.SampIdeal.τ).loc Cert.SampIdeal.main_arg3))
      ∧ θ_run (Cert.SampRefIdeal.defs (F := Ideal)) (onTc (τ := Cert.SampRefIdeal.τ) (Cert.SampRefIdeal.main (F := Ideal))) ⟨m', fun _ => 0, g'⟩ (fun r => ∀ c : Dev Cert.SampRefIdeal.nD,
          r.2.mem ((c.tc : Thread Cert.SampRefIdeal.nD Cert.SampRefIdeal.τ).loc Cert.SampRefIdeal.main_v52) = v0 c
          ∧ r.2.mem ((c.tc : Thread Cert.SampRefIdeal.nD Cert.SampRefIdeal.τ).loc Cert.SampRefIdeal.main_v59) = v1 c
          ∧ r.2.mem ((c.tc : Thread Cert.SampRefIdeal.nD Cert.SampRefIdeal.τ).loc Cert.SampRefIdeal.main_v57) = v2 c
          ∧ r.2.mem ((c.tc : Thread Cert.SampRefIdeal.nD Cert.SampRefIdeal.τ).loc Cert.SampRefIdeal.main_arg0) = m' ((c.tc : Thread Cert.SampRefIdeal.nD Cert.SampRefIdeal.τ).loc Cert.SampRefIdeal.main_arg0)
          ∧ r.2.mem ((c.tc : Thread Cert.SampRefIdeal.nD Cert.SampRefIdeal.τ).loc Cert.SampRefIdeal.main_arg1) = m' ((c.tc : Thread Cert.SampRefIdeal.nD Cert.SampRefIdeal.τ).loc Cert.SampRefIdeal.main_arg1)
          ∧ r.2.mem ((c.tc : Thread Cert.SampRefIdeal.nD Cert.SampRefIdeal.τ).loc Cert.SampRefIdeal.main_arg2) = m' ((c.tc : Thread Cert.SampRefIdeal.nD Cert.SampRefIdeal.τ).loc Cert.SampRefIdeal.main_arg2)
          ∧ r.2.mem ((c.tc : Thread Cert.SampRefIdeal.nD Cert.SampRefIdeal.τ).loc Cert.SampRefIdeal.main_arg3) = m' ((c.tc : Thread Cert.SampRefIdeal.nD Cert.SampRefIdeal.τ).loc Cert.SampRefIdeal.main_arg3))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hFin : Cert.Fin.Facts) (hFinIdeal : Cert.FinIdeal.Facts) (hFinRefIdeal : Cert.FinRefIdeal.Facts) (hMerge : Cert.Merge.Facts) (hMergeIdeal : Cert.MergeIdeal.Facts) (hMergeRefIdeal : Cert.MergeRefIdeal.Facts) (hStep : Cert.Step.Facts) (hStepIdeal : Cert.StepIdeal.Facts) (hStepRefIdeal : Cert.StepRefIdeal.Facts) (hSamp : Cert.Samp.Facts) (hSampIdeal : Cert.SampIdeal.Facts) (hSampRefIdeal : Cert.SampRefIdeal.Facts) (hPre_finite_lse : Cert.Pre_finite_lse.Facts),
    quiescent_Attn (hAttn := hAttn)
    ∧ quiescent_AttnIdeal (hAttnIdeal := hAttnIdeal)
    ∧ quiescent_AttnRefIdeal (hAttnRefIdeal := hAttnRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Fin (hFin := hFin)
    ∧ quiescent_FinIdeal (hFinIdeal := hFinIdeal)
    ∧ quiescent_FinRefIdeal (hFinRefIdeal := hFinRefIdeal)
    ∧ quiescent_Merge (hMerge := hMerge)
    ∧ quiescent_MergeIdeal (hMergeIdeal := hMergeIdeal)
    ∧ quiescent_MergeIdeal_pre_finite_lse (hMergeIdeal := hMergeIdeal) (hPre_finite_lse := hPre_finite_lse)
    ∧ quiescent_MergeRefIdeal (hMergeRefIdeal := hMergeRefIdeal)
    ∧ quiescent_MergeRefIdeal_pre_finite_lse (hMergeRefIdeal := hMergeRefIdeal) (hPre_finite_lse := hPre_finite_lse)
    ∧ quiescent_Step (hStep := hStep)
    ∧ quiescent_StepIdeal (hStepIdeal := hStepIdeal)
    ∧ quiescent_StepRefIdeal (hStepRefIdeal := hStepRefIdeal)
    ∧ quiescent_Samp (hSamp := hSamp)
    ∧ quiescent_SampIdeal (hSampIdeal := hSampIdeal)
    ∧ quiescent_SampRefIdeal (hSampRefIdeal := hSampRefIdeal)
    ∧ preserves_Attn_AttnIdeal
    ∧ algebraic_AttnIdeal_AttnRefIdeal (hAttnIdeal := hAttnIdeal) (hAttnRefIdeal := hAttnRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Fin_FinIdeal
    ∧ algebraic_FinIdeal_FinRefIdeal (hFinIdeal := hFinIdeal) (hFinRefIdeal := hFinRefIdeal)
    ∧ preserves_Merge_MergeIdeal
    ∧ algebraic_MergeIdeal_MergeRefIdeal_pre_finite_lse (hMergeIdeal := hMergeIdeal) (hMergeRefIdeal := hMergeRefIdeal) (hPre_finite_lse := hPre_finite_lse)
    ∧ preserves_Step_StepIdeal
    ∧ algebraic_StepIdeal_StepRefIdeal (hStepIdeal := hStepIdeal) (hStepRefIdeal := hStepRefIdeal)
    ∧ preserves_Samp_SampIdeal
    ∧ algebraic_SampIdeal_SampRefIdeal (hSampIdeal := hSampIdeal) (hSampRefIdeal := hSampRefIdeal)
-- ==== Pre_finite_lse.lean ====
abbrev S16384x2048 : Shape := ⟨2, ![16384, 2048]⟩
abbrev S16384x1024 : Shape := ⟨2, ![16384, 1024]⟩
abbrev S16384x128 : Shape := ⟨2, ![16384, 128]⟩
abbrev S16384x17408 : Shape := ⟨2, ![16384, 17408]⟩
abbrev S2048x2048 : Shape := ⟨2, ![2048, 2048]⟩
abbrev S1024x2048 : Shape := ⟨2, ![1024, 2048]⟩
abbrev S16384x8 : Shape := ⟨2, ![16384, 8]⟩
abbrev S_ : Shape := ⟨0, ![]⟩

class Facts : Prop where
  slices_S16384x128_S16384x8_0_0 : S16384x128.Slices ![0, 0] S16384x8
  bcast_S_S16384x8 : S_.BroadcastsInDim S16384x8 (![] : Fin 0 → Fin S16384x8.rank)

variable [Facts]

def fn {F : FTy → Type} [FloatOps F] (main_arg0 : FVec F S16384x2048 .f32) (main_arg1 : FVec F S16384x1024 .f32) (main_arg2 : FVec F S16384x1024 .f32) (main_arg3 : FVec F S16384x1024 .f32) (main_arg4 : FVec F S16384x128 .f32) (main_arg5 : FVec F S16384x128 .f32) (main_arg6 : FVec F S16384x128 .f32) (main_arg7 : FVec F S16384x17408 .f32) (main_arg8 : FVec F S2048x2048 .f32) (main_arg9 : FVec F S1024x2048 .f32) : IVec S16384x8 1 :=
  let main_v0 : FVec F S16384x128 .f32 := maximumf main_arg4 main_arg5
  let main_v1 : FVec F S16384x128 .f32 := maximumf main_v0 main_arg6
  let main_v2 : FVec F S16384x8 .f32 := (extractStridedSlice S16384x8 ![0, 0] · slices_S16384x128_S16384x8_0_0) main_v1
  let main_cst : FVec F S_ .f32 := constant S_ .f32 0xFF800000#32
  let main_v3 : FVec F S16384x8 .f32 := broadcastInDim S16384x8 ![] bcast_S_S16384x8 main_cst
  let main_v4 : IVec S16384x8 1 := cmpf .ogt main_v2 main_v3
  let main_cst_0 : FVec F S_ .f32 := constant S_ .f32 0x7F800000#32
  let main_v5 : FVec F S16384x8 .f32 := broadcastInDim S16384x8 ![] bcast_S_S16384x8 main_cst_0
  let main_v6 : IVec S16384x8 1 := cmpf .olt main_v2 main_v5
  let main_v7 : IVec S16384x8 1 := andi main_v4 main_v6
  main_v7
-- ==== Attn.lean ====
abbrev S16384x17408 : Shape := ⟨2, ![16384, 17408]⟩
abbrev S16384x1024 : Shape := ⟨2, ![16384, 1024]⟩
abbrev S16384x128 : Shape := ⟨2, ![16384, 128]⟩
abbrev S512x1024 : Shape := ⟨2, ![512, 1024]⟩
abbrev S128x1024 : Shape := ⟨2, ![128, 1024]⟩
abbrev S512x128 : Shape := ⟨2, ![512, 128]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 14
  | .smem => 0
  | _ => 0

abbrev bufTy : (tb : Table) → Fin (tcTables nBuf tb) → BufTy
  | .hbm, ⟨0, _⟩ => ⟨S16384x17408, .f32⟩
  | .hbm, ⟨1, _⟩ => ⟨S16384x1024, .f32⟩
  | .hbm, ⟨2, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S128x1024, .f32⟩
  | .local _ .vmem, ⟨5, _⟩ => ⟨S128x1024, .f32⟩
  | .local _ .vmem, ⟨6, _⟩ => ⟨S512x1024, .f32⟩
  | .local _ .vmem, ⟨7, _⟩ => ⟨S512x1024, .f32⟩
  | .local _ .vmem, ⟨8, _⟩ => ⟨S128x1024, .f32⟩
  | .local _ .vmem, ⟨9, _⟩ => ⟨S128x1024, .f32⟩
  | .local _ .vmem, ⟨10, _⟩ => ⟨S512x1024, .f32⟩
  | .local _ .vmem, ⟨11, _⟩ => ⟨S512x1024, .f32⟩
  | .local _ .vmem, ⟨12, _⟩ => ⟨S512x128, .f32⟩
  | .local _ .vmem, ⟨13, _⟩ => ⟨S512x128, .f32⟩
  | _, _ => ⟨S16384x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let v3 : BitVec 32 := Scalar.addi c7_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let v3 : BitVec 32 := Scalar.addi c10_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttnRefIdeal.lean ====
abbrev S16384x17408 : Shape := ⟨2, ![16384, 17408]⟩
abbrev S1x16384x17408 : Shape := ⟨3, ![1, 16384, 17408]⟩
abbrev S1x16384x2048 : Shape := ⟨3, ![1, 16384, 2048]⟩
abbrev S1x16384x3072 : Shape := ⟨3, ![1, 16384, 3072]⟩
abbrev S1x16384x3x8x128 : Shape := ⟨5, ![1, 16384, 3, 8, 128]⟩
abbrev S_ : Shape := ⟨0, ![]⟩
abbrev S1x16384x1x8x128 : Shape := ⟨5, ![1, 16384, 1, 8, 128]⟩
abbrev S1x16384x8x128 : Shape := ⟨4, ![1, 16384, 8, 128]⟩
abbrev S1x1x16384x8x128 : Shape := ⟨5, ![1, 1, 16384, 8, 128]⟩
abbrev S1x1x128x128x8x128 : Shape := ⟨6, ![1, 1, 128, 128, 8, 128]⟩
abbrev S1x1x129x128x8x128 : Shape := ⟨6, ![1, 1, 129, 128, 8, 128]⟩
abbrev S1x1x128x256x8x128 : Shape := ⟨6, ![1, 1, 128, 256, 8, 128]⟩
abbrev S1x1x128x8x128x256 : Shape := ⟨6, ![1, 1, 128, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x1x128x1x128x256 : Shape := ⟨6, ![1, 1, 128, 1, 128, 256]⟩
abbrev S1x1x128x8x128 : Shape := ⟨5, ![1, 1, 128, 8, 128]⟩
abbrev S1x1x128x8x128x1 : Shape := ⟨6, ![1, 1, 128, 8, 128, 1]⟩
abbrev S1x1x128x8x128x128 : Shape := ⟨6, ![1, 1, 128, 8, 128, 128]⟩
abbrev S1x1x128x128x8 : Shape := ⟨5, ![1, 1, 128, 128, 8]⟩
abbrev S1x1x128x128x8x1 : Shape := ⟨6, ![1, 1, 128, 128, 8, 1]⟩
abbrev S1x1x16384x8 : Shape := ⟨4, ![1, 1, 16384, 8]⟩
abbrev S1x16384x1x8 : Shape := ⟨4, ![1, 16384, 1, 8]⟩
abbrev S1x16384x8 : Shape := ⟨3, ![1, 16384, 8]⟩
abbrev S16384x1024 : Shape := ⟨2, ![16384, 1024]⟩
abbrev S16384x8 : Shape := ⟨2, ![16384, 8]⟩
abbrev S16384x128 : Shape := ⟨2, ![16384, 128]⟩

abbrev nBuf : Space → Nat
  | .hbm => 112
  | .vmem => 0
  | .smem => 0
  | _ => 0

abbrev bufTy : (tb : Table) → Fin (tcTables nBuf tb) → BufTy
  | .hbm, ⟨0, _⟩ => ⟨S16384x17408, .f32⟩
  | .hbm, ⟨1, _⟩ => ⟨S1x16384x17408, .f32⟩
  | .hbm, ⟨2, _⟩ => ⟨S1x16384x2048, .f32⟩
  | .hbm, ⟨3, _⟩ => ⟨S1x16384x2048, .f32⟩
  | .hbm, ⟨4, _⟩ => ⟨S1x16384x3072, .f32⟩
  | .hbm, ⟨5, _⟩ => ⟨S1x16384x3072, .f32⟩
  | .hbm, ⟨6, _⟩ => ⟨S1x16384x3072, .f32⟩
  | .hbm, ⟨7, _⟩ => ⟨S1x16384x2048, .f32⟩
  | .hbm, ⟨8, _⟩ => ⟨S1x16384x2048, .f32⟩
  | .hbm, ⟨9, _⟩ => ⟨S1x16384x3x8x128, .f32⟩
  | .hbm, ⟨10, _⟩ => ⟨S_, .f32⟩
  | .hbm, ⟨11, _⟩ => ⟨S1x16384x3x8x128, .f32⟩
  | .hbm, ⟨12, _⟩ => ⟨S1x16384x3x8x128, .f32⟩
  | .hbm, ⟨13, _⟩ => ⟨S1x16384x3x8x128, .f32⟩
  | .hbm, ⟨14, _⟩ => ⟨S1x16384x3x8x128, .f32⟩
  | .hbm, ⟨15, _⟩ => ⟨S1x16384x1x8x128, .f32⟩
  | .hbm, ⟨16, _⟩ => ⟨S1x16384x8x128, .f32⟩
  | .hbm, ⟨17, _⟩ => ⟨S1x16384x1x8x128, .f32⟩
  | .hbm, ⟨18, _⟩ => ⟨S1x16384x8x128, .f32⟩
  | .hbm, ⟨19, _⟩ => ⟨S1x16384x1x8x128, .f32⟩
  | .hbm, ⟨20, _⟩ => ⟨S1x16384x8x128, .f32⟩
  | .hbm, ⟨21, _⟩ => ⟨S1x16384x1x8x128, .f32⟩
  | .hbm, ⟨22, _⟩ => ⟨S1x1x16384x8x128, .f32⟩
  | .hbm, ⟨23, _⟩ => ⟨S1x1x128x128x8x128, .f32⟩
  | .hbm, ⟨24, _⟩ => ⟨S1x16384x1x8x128, .f32⟩
  | .hbm, ⟨25, _⟩ => ⟨S1x1x16384x8x128, .f32⟩
  | .hbm, ⟨26, _⟩ => ⟨S1x1x128x128x8x128, .f32⟩
  | .hbm, ⟨27, _⟩ => ⟨S_, .i32⟩
  | .hbm, ⟨28, _⟩ => ⟨S_, .f32⟩
  | .hbm, ⟨29, _⟩ => ⟨S1x1x129x128x8x128, .f32⟩
  | .hbm, ⟨30, _⟩ => ⟨S1x1x128x128x8x128, .f32⟩
  | .hbm, ⟨31, _⟩ => ⟨S1x1x128x256x8x128, .f32⟩
  | .hbm, ⟨32, _⟩ => ⟨S1x16384x1x8x128, .f32⟩
  | .hbm, ⟨33, _⟩ => ⟨S1x1x16384x8x128, .f32⟩
  | .hbm, ⟨34, _⟩ => ⟨S1x1x128x128x8x128, .f32⟩
  | .hbm, ⟨35, _⟩ => ⟨S_, .i32⟩
  | .hbm, ⟨36, _⟩ => ⟨S_, .f32⟩
  | .hbm, ⟨37, _⟩ => ⟨S1x1x129x128x8x128, .f32⟩
  | .hbm, ⟨38, _⟩ => ⟨S1x1x128x128x8x128, .f32⟩
  | .hbm, ⟨39, _⟩ => ⟨S1x1x128x256x8x128, .f32⟩
  | .hbm, ⟨40, _⟩ => ⟨S1x1x128x8x128x256, .f32⟩
  | .hbm, ⟨41, _⟩ => ⟨S128, .i32⟩
  | .hbm, ⟨42, _⟩ => ⟨S128x1, .i32⟩
  | .hbm, ⟨43, _⟩ => ⟨S256, .i32⟩
  | .hbm, ⟨44, _⟩ => ⟨S1x256, .i32⟩
  | .hbm, ⟨45, _⟩ => ⟨S_, .i32⟩
  | .hbm, ⟨46, _⟩ => ⟨S128x1, .i32⟩
  | .hbm, ⟨47, _⟩ => ⟨S128x1, .i32⟩
  | .hbm, ⟨48, _⟩ => ⟨S128x256, .i32⟩
  | .hbm, ⟨49, _⟩ => ⟨S128x256, .i32⟩
  | .hbm, ⟨50, _⟩ => ⟨S128x256, .i32⟩
  | .hbm, ⟨51, _⟩ => ⟨S128, .i32⟩
  | .hbm, ⟨52, _⟩ => ⟨S128x1x1, .i32⟩
  | .hbm, ⟨53, _⟩ => ⟨S_, .i32⟩
  | .hbm, ⟨54, _⟩ => ⟨S128x1x1, .i32⟩
  | .hbm, ⟨55, _⟩ => ⟨S128x1x1, .i32⟩
  | .hbm, ⟨56, _⟩ => ⟨S1x1x256, .i32⟩
  | .hbm, ⟨57, _⟩ => ⟨S128x1x256, .i32⟩
  | .hbm, ⟨58, _⟩ => ⟨S128x1x256, .i32⟩
  | .hbm, ⟨59, _⟩ => ⟨S128x1x256, .i32⟩
  | .hbm, ⟨60, _⟩ => ⟨S_, .i32⟩
  | .hbm, ⟨61, _⟩ => ⟨S128x1x256, .i32⟩
  | .hbm, ⟨62, _⟩ => ⟨S128x1x256, .i32⟩
  | .hbm, ⟨63, _⟩ => ⟨S_, .i32⟩
  | .hbm, ⟨64, _⟩ => ⟨S128x256, .i32⟩
  | .hbm, ⟨65, _⟩ => ⟨S128x256, .i1⟩
  | .hbm, ⟨66, _⟩ => ⟨S_, .i32⟩
  | .hbm, ⟨67, _⟩ => ⟨S128x256, .i32⟩
  | .hbm, ⟨68, _⟩ => ⟨S128x256, .i1⟩
  | .hbm, ⟨69, _⟩ => ⟨S128x256, .i1⟩
  | .hbm, ⟨70, _⟩ => ⟨S_, .i32⟩
  | .hbm, ⟨71, _⟩ => ⟨S128x1x256, .i32⟩
  | .hbm, ⟨72, _⟩ => ⟨S128x1x256, .i1⟩
  | .hbm, ⟨73, _⟩ => ⟨S1x128x256, .i1⟩
  | .hbm, ⟨74, _⟩ => ⟨S128x128x256, .i1⟩
  | .hbm, ⟨75, _⟩ => ⟨S128x128x256, .i1⟩
  | .hbm, ⟨76, _⟩ => ⟨S128x128x256, .i1⟩
  | .hbm, ⟨77, _⟩ => ⟨S1x1x128x1x128x256, .i1⟩
  | .hbm, ⟨78, _⟩ => ⟨S_, .f32⟩
  | .hbm, ⟨79, _⟩ => ⟨S_, .f32⟩
  | .hbm, ⟨80, _⟩ => ⟨S1x1x128x8x128x256, .i1⟩
  | .hbm, ⟨81, _⟩ => ⟨S1x1x128x8x128x256, .f32⟩
  | .hbm, ⟨82, _⟩ => ⟨S1x1x128x8x128x256, .f32⟩
  | .hbm, ⟨83, _⟩ => ⟨S_, .f32⟩
  | .hbm, ⟨84, _⟩ => ⟨S1x1x128x8x128, .f32⟩
  | .hbm, ⟨85, _⟩ => ⟨S1x1x128x8x128x1, .f32⟩
  | .hbm, ⟨86, _⟩ => ⟨S1x1x128x8x128x256, .f32⟩
  | .hbm, ⟨87, _⟩ => ⟨S1x1x128x8x128x256, .f32⟩
  | .hbm, ⟨88, _⟩ => ⟨S1x1x128x8x128x256, .f32⟩
  | .hbm, ⟨89, _⟩ => ⟨S_, .f32⟩
  | .hbm, ⟨90, _⟩ => ⟨S1x1x128x8x128, .f32⟩
  | .hbm, ⟨91, _⟩ => ⟨S1x1x128x8x128x128, .f32⟩
  | .hbm, ⟨92, _⟩ => ⟨S1x1x128x128x8x128, .f32⟩
  | .hbm, ⟨93, _⟩ => ⟨S1x1x128x8x128, .f32⟩
  | .hbm, ⟨94, _⟩ => ⟨S1x1x128x8x128, .f32⟩
  | .hbm, ⟨95, _⟩ => ⟨S1x1x128x8x128, .f32⟩
  | .hbm, ⟨96, _⟩ => ⟨S1x1x128x128x8, .f32⟩
  | .hbm, ⟨97, _⟩ => ⟨S1x1x128x128x8x1, .f32⟩
  | .hbm, ⟨98, _⟩ => ⟨S1x1x128x128x8x128, .f32⟩
  | .hbm, ⟨99, _⟩ => ⟨S1x1x128x128x8x128, .f32⟩
  | .hbm, ⟨100, _⟩ => ⟨S1x1x16384x8x128, .f32⟩
  | .hbm, ⟨101, _⟩ => ⟨S1x16384x1x8x128, .f32⟩
  | .hbm, ⟨102, _⟩ => ⟨S1x16384x8x128, .f32⟩
  | .hbm, ⟨103, _⟩ => ⟨S1x1x128x128x8, .f32⟩
  | .hbm, ⟨104, _⟩ => ⟨S1x1x16384x8, .f32⟩
  | .hbm, ⟨105, _⟩ => ⟨S1x16384x1x8, .f32⟩
  | .hbm, ⟨106, _⟩ => ⟨S1x16384x8, .f32⟩
  | .hbm, ⟨107, _⟩ => ⟨S16384x1024, .f32⟩
  | .hbm, ⟨108, _⟩ => ⟨S16384x8, .f32⟩
  | .hbm, ⟨109, _⟩ => ⟨S_, .i32⟩
  | .hbm, ⟨110, _⟩ => ⟨S_, .f32⟩
  | .hbm, ⟨111, _⟩ => ⟨S16384x128, .f32⟩
  | _, _ => ⟨S16384x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_c : Ref sig .tc := ⟨.hbm, 27, rfl⟩
abbrev main_call0_v0 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_c_0 : Ref sig .tc := ⟨.hbm, 35, rfl⟩
abbrev main_call1_v0 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_1 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_c_2 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_c_3 : Ref sig .tc := ⟨.hbm, 60, rfl⟩
abbrev main_v52 : Ref sig .tc := ⟨.hbm, 61, rfl⟩
abbrev main_v53 : Ref sig .tc := ⟨.hbm, 62, rfl⟩
abbrev main_c_4 : Ref sig .tc := ⟨.hbm, 63, rfl⟩
abbrev main_v54 : Ref sig .tc := ⟨.hbm, 64, rfl⟩
abbrev main_v55 : Ref sig .tc := ⟨.hbm, 65, rfl⟩
abbrev main_c_5 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_c_6 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v66 : Ref sig .tc := ⟨.hbm, 82, rfl⟩
abbrev main_cst_8 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_9 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_c_10 : Ref sig .tc := ⟨.hbm, 109, rfl⟩
abbrev main_call3_v0 : Ref sig .tc := ⟨.hbm, 110, rfl⟩
abbrev main_v91 : Ref sig .tc := ⟨.hbm, 111, rfl⟩

abbrev nD : Nat := 1
abbrev τ : Topo := Topo.v7x

variable {F : FTy → Type} [FloatOps F]
-- ==== Proj.lean ====
abbrev S16384x2048 : Shape := ⟨2, ![16384, 2048]⟩
abbrev S2048 : Shape := ⟨1, ![2048]⟩
abbrev S2048x17408 : Shape := ⟨2, ![2048, 17408]⟩
abbrev S1x2048 : Shape := ⟨2, ![1, 2048]⟩
abbrev S16384x17408 : Shape := ⟨2, ![16384, 17408]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x17408, .f32⟩
  | .hbm, ⟨3, _⟩ => ⟨S1x2048, .f32⟩
  | .hbm, ⟨4, _⟩ => ⟨S2048x17408, .bf16⟩
  | .hbm, ⟨5, _⟩ => ⟨S16384x17408, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S16384x2048 : Shape := ⟨2, ![16384, 2048]⟩
abbrev S2048 : Shape := ⟨1, ![2048]⟩
abbrev S2048x17408 : Shape := ⟨2, ![2048, 17408]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x17408 : Shape := ⟨2, ![16384, 17408]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x17408, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x17408, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S2048x16384 : Shape := ⟨2, ![2048, 16384]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S16384x2048, .bf16⟩
  | .hbm, ⟨5, _⟩ => ⟨S2048x2048, .bf16⟩
  | .hbm, ⟨6, _⟩ => ⟨S1x2048, .f32⟩
  | .hbm, ⟨7, _⟩ => ⟨S16384x2048, .f32⟩
  | .hbm, ⟨8, _⟩ => ⟨S16384x2048, .bf16⟩
  | .hbm, ⟨9, _⟩ => ⟨S2048x16384, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x512, .bf16⟩
  | .local _ .vmem, ⟨11, _⟩ => ⟨S2048x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x16384 : Shape := ⟨2, ![2048, 16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .bf16⟩
  | .hbm, ⟨23, _⟩ => ⟨S2048x16384, .f32⟩
  | .hbm, ⟨24, _⟩ => ⟨S2048x16384, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Fin.lean ====
abbrev S16384x2048 : Shape := ⟨2, ![16384, 2048]⟩
abbrev S2048x16384 : Shape := ⟨2, ![2048, 16384]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinRefIdeal.lean ====
abbrev S16384x2048 : Shape := ⟨2, ![16384, 2048]⟩
abbrev S2048x16384 : Shape := ⟨2, ![2048, 16384]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Merge.lean ====
abbrev S16384x2048 : Shape := ⟨2, ![16384, 2048]⟩
abbrev S16384x1024 : Shape := ⟨2, ![16384, 1024]⟩
abbrev S16384x128 : Shape := ⟨2, ![16384, 128]⟩
abbrev S16384x17408 : Shape := ⟨2, ![16384, 17408]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩
abbrev S512x128 : Shape := ⟨2, ![512, 128]⟩
abbrev S2048x1024 : Shape := ⟨2, ![2048, 1024]⟩
abbrev S1024x1024 : Shape := ⟨2, ![1024, 1024]⟩
abbrev S512x1 : Shape := ⟨2, ![512, 1]⟩

abbrev nBuf : Space → Nat
  | .hbm => 14
  | .vmem => 25
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x17408, .f32⟩
  | .hbm, ⟨8, _⟩ => ⟨S2048x2048, .f32⟩
  | .hbm, ⟨9, _⟩ => ⟨S1024x2048, .f32⟩
  | .hbm, ⟨10, _⟩ => ⟨S16384x2048, .bf16⟩
  | .hbm, ⟨11, _⟩ => ⟨S2048x2048, .bf16⟩
  | .hbm, ⟨12, _⟩ => ⟨S1024x2048, .bf16⟩
  | .hbm, ⟨13, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S2048x1024, .bf16⟩
  | .local _ .vmem, ⟨19, _⟩ => ⟨S2048x1024, .bf16⟩
  | .local _ .vmem, ⟨20, _⟩ => ⟨S1024x1024, .bf16⟩
  | .local _ .vmem, ⟨21, _⟩ => ⟨S1024x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S16384x2048 : Shape := ⟨2, ![16384, 2048]⟩
abbrev S16384x1024 : Shape := ⟨2, ![16384, 1024]⟩
abbrev S16384x128 : Shape := ⟨2, ![16384, 128]⟩
abbrev S16384x17408 : Shape := ⟨2, ![16384, 17408]⟩
abbrev S2048x2048 : Shape := ⟨2, ![2048, 2048]⟩
abbrev S1024x2048 : Shape := ⟨2, ![1024, 2048]⟩
abbrev S1x16384x8x128 : Shape := ⟨4, ![1, 16384, 8, 128]⟩
abbrev S16384x8 : Shape := ⟨2, ![16384, 8]⟩
abbrev S1x16384x8 : Shape := ⟨3, ![1, 16384, 8]⟩
abbrev S1x16384x17408 : Shape := ⟨3, ![1, 16384, 17408]⟩
abbrev S1x16384x2048 : Shape := ⟨3, ![1, 16384, 2048]⟩
abbrev S1x16384x3072 : Shape := ⟨3, ![1, 16384, 3072]⟩
abbrev S1x1x16384x8 : Shape := ⟨4, ![1, 1, 16384, 8]⟩
abbrev S3x1x16384x8 : Shape := ⟨4, ![3, 1, 16384, 8]⟩
abbrev S_ : Shape := ⟨0, ![]⟩
abbrev S1x1x16384x8x128 : Shape := ⟨5, ![1, 1, 16384, 8, 128]⟩
abbrev S3x1x16384x8x128 : Shape := ⟨5, ![3, 1, 16384, 8, 128]⟩
abbrev S1x16384x1024 : Shape := ⟨3, ![1, 16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x17408, .f32⟩
  | .hbm, ⟨8, _⟩ => ⟨S2048x2048, .f32⟩
  | .hbm, ⟨9, _⟩ => ⟨S1024x2048, .f32⟩
  | .hbm, ⟨10, _⟩ => ⟨S1x16384x8x128, .f32⟩
  | .hbm, ⟨11, _⟩ => ⟨S1x16384x8x128, .f32⟩
  | .hbm, ⟨12, _⟩ => ⟨S1x16384x8x128, .f32⟩
  | .hbm, ⟨13, _⟩ => ⟨S16384x8, .f32⟩
  | .hbm, ⟨14, _⟩ => ⟨S1x16384x8, .f32⟩
  | .hbm, ⟨15, _⟩ => ⟨S16384x8, .f32⟩
  | .hbm, ⟨16, _⟩ => ⟨S1x16384x8, .f32⟩
  | .hbm, ⟨17, _⟩ => ⟨S16384x8, .f32⟩
  | .hbm, ⟨18, _⟩ => ⟨S1x16384x8, .f32⟩
  | .hbm, ⟨19, _⟩ => ⟨S1x16384x17408, .f32⟩
  | .hbm, ⟨20, _⟩ => ⟨S1x16384x2048, .f32⟩
  | .hbm, ⟨21, _⟩ => ⟨S1x16384x2048, .f32⟩
  | .hbm, ⟨22, _⟩ => ⟨S1x16384x3072, .f32⟩
  | .hbm, ⟨23, _⟩ => ⟨S1x16384x3072, .f32⟩
  | .hbm, ⟨24, _⟩ => ⟨S1x16384x3072, .f32⟩
  | .hbm, ⟨25, _⟩ => ⟨S1x16384x2048, .f32⟩
  | .hbm, ⟨26, _⟩ => ⟨S1x16384x2048, .f32⟩
  | .hbm, ⟨27, _⟩ => ⟨S1x16384x2048, .f32⟩
  | .hbm, ⟨28, _⟩ => ⟨S1x16384x2048, .f32⟩
  | .hbm, ⟨29, _⟩ => ⟨S1x1x16384x8, .f32⟩
  | .hbm, ⟨30, _⟩ => ⟨S1x1x16384x8, .f32⟩
  | .hbm, ⟨31, _⟩ => ⟨S1x1x16384x8, .f32⟩
  | .hbm, ⟨32, _⟩ => ⟨S3x1x16384x8, .f32⟩
  | .hbm, ⟨33, _⟩ => ⟨S_, .f32⟩
  | .hbm, ⟨34, _⟩ => ⟨S1x16384x8, .f32⟩
  | .hbm, ⟨35, _⟩ => ⟨S_, .f32⟩
  | .hbm, ⟨36, _⟩ => ⟨S1x16384x8, .f32⟩
  | .hbm, ⟨37, _⟩ => ⟨S1x16384x8, .f32⟩
  | .hbm, ⟨38, _⟩ => ⟨S1x1x16384x8, .f32⟩
  | .hbm, ⟨39, _⟩ => ⟨S3x1x16384x8, .f32⟩
  | .hbm, ⟨40, _⟩ => ⟨S3x1x16384x8, .f32⟩
  | .hbm, ⟨41, _⟩ => ⟨S3x1x16384x8, .f32⟩
  | .hbm, ⟨42, _⟩ => ⟨S_, .f32⟩
  | .hbm, ⟨43, _⟩ => ⟨S1x16384x8, .f32⟩
  | .hbm, ⟨44, _⟩ => ⟨S1x1x16384x8, .f32⟩
  | .hbm, ⟨45, _⟩ => ⟨S3x1x16384x8, .f32⟩
  | .hbm, ⟨46, _⟩ => ⟨S3x1x16384x8, .f32⟩
  | .hbm, ⟨47, _⟩ => ⟨S1x1x16384x8x128, .f32⟩
  | .hbm, ⟨48, _⟩ => ⟨S1x1x16384x8x128, .f32⟩
  | .hbm, ⟨49, _⟩ => ⟨S1x1x16384x8x128, .f32⟩
  | .hbm, ⟨50, _⟩ => ⟨S3x1x16384x8x128, .f32⟩
  | .hbm, ⟨51, _⟩ => ⟨S1x16384x8x128, .f32⟩
  | .hbm, ⟨52, _⟩ => ⟨S1x16384x1024, .f32⟩
  | .hbm, ⟨53, _⟩ => ⟨S1x16384x2048, .f32⟩
  | .hbm, ⟨54, _⟩ => ⟨S1x16384x2048, .f32⟩
  | .hbm, ⟨55, _⟩ => ⟨S1x16384x2048, .f32⟩
  | .hbm, ⟨56, _⟩ => ⟨S_, .f32⟩
  | .hbm, ⟨57, _⟩ => ⟨S1x16384x2048, .f32⟩
  | .hbm, ⟨58, _⟩ => ⟨S1x16384x2048, .f32⟩
  | .hbm, ⟨59, _⟩ => ⟨S_, .f32⟩
  | .hbm, ⟨60, _⟩ => ⟨S1x16384x2048, .f32⟩
  | .hbm, ⟨61, _⟩ => ⟨S1x16384x2048, .f32⟩
  | .hbm, ⟨62, _⟩ => ⟨S1x16384x2048, .f32⟩
  | .hbm, ⟨63, _⟩ => ⟨S1x16384x2048, .f32⟩
  | .hbm, ⟨64, _⟩ => ⟨S1x16384x2048, .f32⟩
  | .hbm, ⟨65, _⟩ => ⟨S_, .f32⟩
  | .hbm, ⟨66, _⟩ => ⟨S1x16384x2048, .f32⟩
  | .hbm, ⟨67, _⟩ => ⟨S1x16384x2048, .f32⟩
  | .hbm, ⟨68, _⟩ => ⟨S_, .f32⟩
  | .hbm, ⟨69, _⟩ => ⟨S1x16384x2048, .f32⟩
  | .hbm, ⟨70, _⟩ => ⟨S1x16384x2048, .f32⟩
  | .hbm, ⟨71, _⟩ => ⟨S1x16384x2048, .f32⟩
  | .hbm, ⟨72, _⟩ => ⟨S1x16384x2048, .f32⟩
  | .hbm, ⟨73, _⟩ => ⟨S16384x2048, .f32⟩
  | .hbm, ⟨74, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Step.lean ====
abbrev S32x4x17408 : Shape := ⟨3, ![32, 4, 17408]⟩
abbrev S32x3x2048 : Shape := ⟨3, ![32, 3, 2048]⟩
abbrev S32x2048 : Shape := ⟨2, ![32, 2048]⟩
abbrev S4x2048 : Shape := ⟨2, ![4, 2048]⟩
abbrev S2048 : Shape := ⟨1, ![2048]⟩
abbrev S8x256x256 : Shape := ⟨3, ![8, 256, 256]⟩
abbrev S8x256 : Shape := ⟨2, ![8, 256]⟩
abbrev S32x69632 : Shape := ⟨2, ![32, 69632]⟩
abbrev S1x2048 : Shape := ⟨2, ![1, 2048]⟩
abbrev S32x6144 : Shape := ⟨2, ![32, 6144]⟩
abbrev S32x8192 : Shape := ⟨2, ![32, 8192]⟩
abbrev S32x256 : Shape := ⟨2, ![32, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 21
  | .vmem => 13
  | .smem => 0
  | _ => 0

abbrev bufTy : (tb : Table) → Fin (tcTables nBuf tb) → BufTy
  | .hbm, ⟨0, _⟩ => ⟨S32x4x17408, .f32⟩
  | .hbm, ⟨1, _⟩ => ⟨S32x3x2048, .f32⟩
  | .hbm, ⟨2, _⟩ => ⟨S32x2048, .f32⟩
  | .hbm, ⟨3, _⟩ => ⟨S4x2048, .f32⟩
  | .hbm, ⟨4, _⟩ => ⟨S2048, .f32⟩
  | .hbm, ⟨5, _⟩ => ⟨S8x256x256, .f32⟩
  | .hbm, ⟨6, _⟩ => ⟨S8x256, .f32⟩
  | .hbm, ⟨7, _⟩ => ⟨S8x256x256, .f32⟩
  | .hbm, ⟨8, _⟩ => ⟨S8x256, .f32⟩
  | .hbm, ⟨9, _⟩ => ⟨S2048, .f32⟩
  | .hbm, ⟨10, _⟩ => ⟨S32x69632, .f32⟩
  | .hbm, ⟨11, _⟩ => ⟨S1x2048, .f32⟩
  | .hbm, ⟨12, _⟩ => ⟨S8x256x256, .bf16⟩
  | .hbm, ⟨13, _⟩ => ⟨S1x2048, .f32⟩
  | .hbm, ⟨14, _⟩ => ⟨S8x256x256, .bf16⟩
  | .hbm, ⟨15, _⟩ => ⟨S1x2048, .f32⟩
  | .hbm, ⟨16, _⟩ => ⟨S1x2048, .f32⟩
  | .hbm, ⟨17, _⟩ => ⟨S32x6144, .f32⟩
  | .hbm, ⟨18, _⟩ => ⟨S32x8192, .bf16⟩
  | .hbm, ⟨19, _⟩ => ⟨S32x6144, .f32⟩
  | .hbm, ⟨20, _⟩ => ⟨S32x2048, .f32⟩
  | .local _ .vmem, ⟨0, _⟩ => ⟨S32x69632, .f32⟩
  | .local _ .vmem, ⟨1, _⟩ => ⟨S4x2048, .f32⟩
  | .local _ .vmem, ⟨2, _⟩ => ⟨S1x2048, .f32⟩
  | .local _ .vmem, ⟨3, _⟩ => ⟨S8x256x256, .bf16⟩
  | .local _ .vmem, ⟨4, _⟩ => ⟨S1x2048, .f32⟩
  | .local _ .vmem, ⟨5, _⟩ => ⟨S8x256x256, .bf16⟩
  | .local _ .vmem, ⟨6, _⟩ => ⟨S1x2048, .f32⟩
  | .local _ .vmem, ⟨7, _⟩ => ⟨S1x2048, .f32⟩
  | .local _ .vmem, ⟨8, _⟩ => ⟨S32x6144, .f32⟩
  | .local _ .vmem, ⟨9, _⟩ => ⟨S32x2048, .f32⟩
  | .local _ .vmem, ⟨10, _⟩ => ⟨S32x8192, .bf16⟩
  | .local _ .vmem, ⟨11, _⟩ => ⟨S32x6144, .f32⟩
  | .local _ .vmem, ⟨12, _⟩ => ⟨S32x2048, .f32⟩
  | _, _ => ⟨S32x4x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S32x69632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x8192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== StepRefIdeal.lean ====
abbrev S32x4x17408 : Shape := ⟨3, ![32, 4, 17408]⟩
abbrev S32x3x2048 : Shape := ⟨3, ![32, 3, 2048]⟩
abbrev S32x2048 : Shape := ⟨2, ![32, 2048]⟩
abbrev S4x2048 : Shape := ⟨2, ![4, 2048]⟩
abbrev S2048 : Shape := ⟨1, ![2048]⟩
abbrev S8x256x256 : Shape := ⟨3, ![8, 256, 256]⟩
abbrev S8x256 : Shape := ⟨2, ![8, 256]⟩
abbrev S32x4x2048 : Shape := ⟨3, ![32, 4, 2048]⟩
abbrev S32x4x3072 : Shape := ⟨3, ![32, 4, 3072]⟩
abbrev S32x7x2048 : Shape := ⟨3, ![32, 7, 2048]⟩
abbrev S1x2048 : Shape := ⟨2, ![1, 2048]⟩
abbrev S1x1x2048 : Shape := ⟨3, ![1, 1, 2048]⟩
abbrev S32x4x8x256 : Shape := ⟨4, ![32, 4, 8, 256]⟩
abbrev S8x256x32x4 : Shape := ⟨4, ![8, 256, 32, 4]⟩
abbrev S1x1x8x256 : Shape := ⟨4, ![1, 1, 8, 256]⟩
abbrev S_ : Shape := ⟨0, ![]⟩
abbrev S32x1x2048 : Shape := ⟨3, ![32, 1, 2048]⟩
abbrev S1 : Shape := ⟨1, ![1]⟩
abbrev S32x2x2048 : Shape := ⟨3, ![32, 2, 2048]⟩
abbrev S32x0x2048 : Shape := ⟨3, ![32, 0, 2048]⟩
abbrev S32x8192 : Shape := ⟨2, ![32, 8192]⟩
abbrev S32x6144 : Shape := ⟨2, ![32, 6144]⟩

abbrev nBuf : Space → Nat
  | .hbm => 186
  | .vmem => 0
  | .smem => 0
  | _ => 0

abbrev hbmTy0_0 (i : Nat) : BufTy := match i % 128 with
  | 0 => ⟨S32x4x17408, .f32⟩
  | 1 => ⟨S32x3x2048, .f32⟩
  | 2 => ⟨S32x2048, .f32⟩
  | 3 => ⟨S4x2048, .f32⟩
  | 4 => ⟨S2048, .f32⟩
  | 5 => ⟨S8x256x256, .f32⟩
  | 6 => ⟨S8x256, .f32⟩
  | 7 => ⟨S8x256x256, .f32⟩
  | 8 => ⟨S8x256, .f32⟩
  | 9 => ⟨S2048, .f32⟩
  | 10 => ⟨S32x4x2048, .f32⟩
  | 11 => ⟨S32x4x2048, .f32⟩
  | 12 => ⟨S32x4x3072, .f32⟩
  | 13 => ⟨S32x4x3072, .f32⟩
  | 14 => ⟨S32x4x3072, .f32⟩
  | 15 => ⟨S32x4x2048, .f32⟩
  | 16 => ⟨S32x4x2048, .f32⟩
  | 17 => ⟨S32x7x2048, .f32⟩
  | 18 => ⟨S1x2048, .f32⟩
  | 19 => ⟨S2048, .f32⟩
  | 20 => ⟨S32x4x2048, .f32⟩
  | 21 => ⟨S1x1x2048, .f32⟩
  | 22 => ⟨S32x4x2048, .f32⟩
  | 23 => ⟨S32x4x2048, .f32⟩
  | 24 => ⟨S1x1x2048, .f32⟩
  | 25 => ⟨S32x4x2048, .f32⟩
  | 26 => ⟨S32x4x2048, .f32⟩
  | 27 => ⟨S1x2048, .f32⟩
  | 28 => ⟨S2048, .f32⟩
  | 29 => ⟨S32x4x2048, .f32⟩
  | 30 => ⟨S1x1x2048, .f32⟩
  | 31 => ⟨S32x4x2048, .f32⟩
  | 32 => ⟨S32x4x2048, .f32⟩
  | 33 => ⟨S32x4x2048, .f32⟩
  | 34 => ⟨S1x2048, .f32⟩
  | 35 => ⟨S2048, .f32⟩
  | 36 => ⟨S32x4x2048, .f32⟩
  | 37 => ⟨S1x1x2048, .f32⟩
  | 38 => ⟨S32x4x2048, .f32⟩
  | 39 => ⟨S32x4x2048, .f32⟩
  | 40 => ⟨S32x4x2048, .f32⟩
  | 41 => ⟨S1x2048, .f32⟩
  | 42 => ⟨S2048, .f32⟩
  | 43 => ⟨S32x4x2048, .f32⟩
  | 44 => ⟨S1x1x2048, .f32⟩
  | 45 => ⟨S32x4x2048, .f32⟩
  | 46 => ⟨S32x4x2048, .f32⟩
  | 47 => ⟨S32x4x2048, .f32⟩
  | 48 => ⟨S32x3x2048, .f32⟩
  | 49 => ⟨S32x4x8x256, .f32⟩
  | 50 => ⟨S8x256x32x4, .f32⟩
  | 51 => ⟨S32x4x8x256, .f32⟩
  | 52 => ⟨S1x1x8x256, .f32⟩
  | 53 => ⟨S32x4x8x256, .f32⟩
  | 54 => ⟨S32x4x8x256, .f32⟩
  | 55 => ⟨S32x4x8x256, .f32⟩
  | 56 => ⟨S32x4x8x256, .f32⟩
  | 57 => ⟨S_, .f32⟩
  | 58 => ⟨S32x4x8x256, .f32⟩
  | 59 => ⟨S32x4x8x256, .f32⟩
  | 60 => ⟨S_, .f32⟩
  | 61 => ⟨S32x4x8x256, .f32⟩
  | 62 => ⟨S32x4x8x256, .f32⟩
  | 63 => ⟨S32x4x2048, .f32⟩
  | 64 => ⟨S8x256x32x4, .f32⟩
  | 65 => ⟨S32x4x8x256, .f32⟩
  | 66 => ⟨S1x1x8x256, .f32⟩
  | 67 => ⟨S32x4x8x256, .f32⟩
  | 68 => ⟨S32x4x8x256, .f32⟩
  | 69 => ⟨S32x4x8x256, .f32⟩
  | 70 => ⟨S32x4x8x256, .f32⟩
  | 71 => ⟨S_, .f32⟩
  | 72 => ⟨S32x4x8x256, .f32⟩
  | 73 => ⟨S32x4x8x256, .f32⟩
  | 74 => ⟨S_, .f32⟩
  | 75 => ⟨S32x4x8x256, .f32⟩
  | 76 => ⟨S32x4x8x256, .f32⟩
  | 77 => ⟨S32x4x2048, .f32⟩
  | 78 => ⟨S_, .f32⟩
  | 79 => ⟨S32x4x2048, .f32⟩
  | 80 => ⟨S32x4x2048, .f32⟩
  | 81 => ⟨S2048, .f32⟩
  | 82 => ⟨S_, .f32⟩
  | 83 => ⟨S2048, .f32⟩
  | 84 => ⟨S2048, .f32⟩
  | 85 => ⟨S2048, .f32⟩
  | 86 => ⟨S2048, .f32⟩
  | 87 => ⟨S2048, .i1⟩
  | 88 => ⟨S2048, .f32⟩
  | 89 => ⟨S2048, .f32⟩
  | 90 => ⟨S2048, .f32⟩
  | 91 => ⟨S2048, .f32⟩
  | 92 => ⟨S2048, .f32⟩
  | 93 => ⟨S2048, .f32⟩
  | 94 => ⟨S2048, .f32⟩
  | 95 => ⟨S2048, .f32⟩
  | 96 => ⟨S2048, .f32⟩
  | 97 => ⟨S1x1x2048, .f32⟩
  | 98 => ⟨S32x4x2048, .f32⟩
  | 99 => ⟨S32x4x2048, .f32⟩
  | 100 => ⟨S32x4x2048, .f32⟩
  | 101 => ⟨S_, .f32⟩
  | 102 => ⟨S32x4x2048, .f32⟩
  | 103 => ⟨S32x4x2048, .f32⟩
  | 104 => ⟨S32x4x2048, .f32⟩
  | 105 => ⟨S32x4x2048, .f32⟩
  | 106 => ⟨S32x4x2048, .f32⟩
  | 107 => ⟨S32x4x2048, .f32⟩
  | 108 => ⟨S32x4x2048, .f32⟩
  | 109 => ⟨S32x1x2048, .f32⟩
  | 110 => ⟨S32x2048, .f32⟩
  | 111 => ⟨S32x2048, .f32⟩
  | 112 => ⟨S_, .i32⟩
  | 113 => ⟨S1, .i32⟩
  | 114 => ⟨S32x4x2048, .f32⟩
  | 115 => ⟨S32x2x2048, .f32⟩
  | 116 => ⟨S32x2x2048, .f32⟩
  | 117 => ⟨S32x2x2048, .f32⟩
  | 118 => ⟨S32x2x2048, .f32⟩
  | 119 => ⟨S32x2x2048, .f32⟩
  | 120 => ⟨S32x2x2048, .f32⟩
  | 121 => ⟨S32x2x2048, .f32⟩
  | 122 => ⟨S32x1x2048, .f32⟩
  | 123 => ⟨S32x1x2048, .f32⟩
  | 124 => ⟨S32x1x2048, .f32⟩
  | 125 => ⟨S32x1x2048, .f32⟩
  | 126 => ⟨S32x1x2048, .f32⟩
  | 127 => ⟨S32x1x2048, .f32⟩
  | _ => ⟨S32x4x17408, .f32⟩

abbrev hbmTy0_1 (i : Nat) : BufTy := match i % 128 with
  | 0 => ⟨S32x1x2048, .f32⟩
  | 1 => ⟨S32x0x2048, .f32⟩
  | 2 => ⟨S32x0x2048, .f32⟩
  | 3 => ⟨S32x0x2048, .f32⟩
  | 4 => ⟨S32x0x2048, .f32⟩
  | 5 => ⟨S32x0x2048, .f32⟩
  | 6 => ⟨S32x0x2048, .f32⟩
  | 7 => ⟨S32x0x2048, .f32⟩
  | 8 => ⟨S32x1x2048, .f32⟩
  | 9 => ⟨S32x1x2048, .f32⟩
  | 10 => ⟨S32x1x2048, .f32⟩
  | 11 => ⟨S32x1x2048, .f32⟩
  | 12 => ⟨S_, .f32⟩
  | 13 => ⟨S32x2x2048, .f32⟩
  | 14 => ⟨S_, .f32⟩
  | 15 => ⟨S32x2x2048, .f32⟩
  | 16 => ⟨S32x2x2048, .f32⟩
  | 17 => ⟨S_, .f32⟩
  | 18 => ⟨S32x2x2048, .f32⟩
  | 19 => ⟨S_, .f32⟩
  | 20 => ⟨S32x2x2048, .f32⟩
  | 21 => ⟨S32x2x2048, .f32⟩
  | 22 => ⟨S32x1x2048, .f32⟩
  | 23 => ⟨S32x1x2048, .f32⟩
  | 24 => ⟨S32x1x2048, .f32⟩
  | 25 => ⟨S32x1x2048, .f32⟩
  | 26 => ⟨S32x1x2048, .f32⟩
  | 27 => ⟨S32x1x2048, .f32⟩
  | 28 => ⟨S32x1x2048, .f32⟩
  | 29 => ⟨S32x1x2048, .f32⟩
  | 30 => ⟨S32x2x2048, .f32⟩
  | 31 => ⟨S32x1x2048, .f32⟩
  | 32 => ⟨S32x2x2048, .f32⟩
  | 33 => ⟨S_, .f32⟩
  | 34 => ⟨S32x4x2048, .f32⟩
  | 35 => ⟨S_, .f32⟩
  | 36 => ⟨S32x4x2048, .f32⟩
  | 37 => ⟨S32x4x2048, .f32⟩
  | 38 => ⟨S_, .f32⟩
  | 39 => ⟨S32x4x2048, .f32⟩
  | 40 => ⟨S_, .f32⟩
  | 41 => ⟨S32x4x2048, .f32⟩
  | 42 => ⟨S32x4x2048, .f32⟩
  | 43 => ⟨S32x1x2048, .f32⟩
  | 44 => ⟨S32x2048, .f32⟩
  | 45 => ⟨S_, .f32⟩
  | 46 => ⟨S32x4x2048, .f32⟩
  | 47 => ⟨S32x4x2048, .f32⟩
  | 48 => ⟨S32x4x2048, .f32⟩
  | 49 => ⟨S_, .f32⟩
  | 50 => ⟨S32x4x2048, .f32⟩
  | 51 => ⟨S32x4x2048, .f32⟩
  | 52 => ⟨S32x4x2048, .f32⟩
  | 53 => ⟨S32x4x2048, .f32⟩
  | 54 => ⟨S32x4x2048, .f32⟩
  | 55 => ⟨S32x8192, .f32⟩
  | 56 => ⟨S32x8192, .bf16⟩
  | 57 => ⟨S32x6144, .f32⟩
  | _ => ⟨S32x4x17408, .f32⟩

abbrev hbmTy (i : Nat) : BufTy := match i / 128 with
  | 0 => hbmTy0_0 i
  | 1 => hbmTy0_1 i
  | _ => ⟨S32x4x17408, .f32⟩

abbrev bufTy : (tb : Table) → Fin (tcTables nBuf tb) → BufTy
  | .hbm, ⟨i, _⟩ => hbmTy i
  | _, _ => ⟨S32x4x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_v47 : Ref sig .tc := ⟨.hbm, 58, rfl⟩
abbrev main_v48 : Ref sig .tc := ⟨.hbm, 59, rfl⟩
abbrev main_cst_0 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_1 : Ref sig .tc := ⟨.hbm, 71, rfl⟩
abbrev main_v59 : Ref sig .tc := ⟨.hbm, 72, rfl⟩
abbrev main_v60 : Ref sig .tc := ⟨.hbm, 73, rfl⟩
abbrev main_cst_2 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_v64 : Ref sig .tc := ⟨.hbm, 79, rfl⟩
abbrev main_v65 : Ref sig .tc := ⟨.hbm, 80, rfl⟩
abbrev main_call0_v0 : Ref sig .tc := ⟨.hbm, 81, rfl⟩
abbrev main_call0_call0_cst : Ref sig .tc := ⟨.hbm, 82, rfl⟩
abbrev main_call0_call0_v0 : Ref sig .tc := ⟨.hbm, 83, rfl⟩
abbrev main_call0_call0_v1 : Ref sig .tc := ⟨.hbm, 84, rfl⟩
abbrev main_call0_call0_v2 : Ref sig .tc := ⟨.hbm, 85, rfl⟩
abbrev main_call0_call0_v3 : Ref sig .tc := ⟨.hbm, 86, rfl⟩
abbrev main_call0_call0_v4 : Ref sig .tc := ⟨.hbm, 87, rfl⟩
abbrev main_call0_call0_v5 : Ref sig .tc := ⟨.hbm, 88, rfl⟩
abbrev main_call0_call0_v6 : Ref sig .tc := ⟨.hbm, 89, rfl⟩
abbrev main_call0_call0_v7 : Ref sig .tc := ⟨.hbm, 90, rfl⟩
abbrev main_call0_call0_v8 : Ref sig .tc := ⟨.hbm, 91, rfl⟩
abbrev main_call0_call0_v9 : Ref sig .tc := ⟨.hbm, 92, rfl⟩
abbrev main_call0_call0_v10 : Ref sig .tc := ⟨.hbm, 93, rfl⟩
abbrev main_call0_call0_v11 : Ref sig .tc := ⟨.hbm, 94, rfl⟩
abbrev main_call0_v1 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_4 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_5 : Ref sig .tc := ⟨.hbm, 140, rfl⟩
abbrev main_v108 : Ref sig .tc := ⟨.hbm, 141, rfl⟩
abbrev main_cst_6 : Ref sig .tc := ⟨.hbm, 142, rfl⟩
abbrev main_v109 : Ref sig .tc := ⟨.hbm, 143, rfl⟩
abbrev main_v110 : Ref sig .tc := ⟨.hbm, 144, rfl⟩
abbrev main_cst_7 : Ref sig .tc := ⟨.hbm, 145, rfl⟩
abbrev main_v111 : Ref sig .tc := ⟨.hbm, 146, rfl⟩
abbrev main_cst_8 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_9 : Ref sig .tc := ⟨.hbm, 161, rfl⟩
abbrev main_v125 : Ref sig .tc := ⟨.hbm, 162, rfl⟩
abbrev main_cst_10 : Ref sig .tc := ⟨.hbm, 163, rfl⟩
abbrev main_v126 : Ref sig .tc := ⟨.hbm, 164, rfl⟩
abbrev main_v127 : Ref sig .tc := ⟨.hbm, 165, rfl⟩
abbrev main_cst_11 : Ref sig .tc := ⟨.hbm, 166, rfl⟩
abbrev main_v128 : Ref sig .tc := ⟨.hbm, 167, rfl⟩
abbrev main_cst_12 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_13 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_14 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩

abbrev nD : Nat := 1
abbrev τ : Topo := Topo.v7x

variable {F : FTy → Type} [FloatOps F]
-- ==== Samp.lean ====
abbrev S32x4x8x128 : Shape := ⟨4, ![32, 4, 8, 128]⟩
abbrev S32x128x2x8x128 : Shape := ⟨5, ![32, 128, 2, 8, 128]⟩
abbrev S1x4x8x128 : Shape := ⟨4, ![1, 4, 8, 128]⟩
abbrev S1x128x2x8x128 : Shape := ⟨5, ![1, 128, 2, 8, 128]⟩
abbrev S1x4x2x8x128 : Shape := ⟨5, ![1, 4, 2, 8, 128]⟩
abbrev S4x8x128 : Shape := ⟨3, ![4, 8, 128]⟩
abbrev S1x1x8x128 : Shape := ⟨4, ![1, 1, 8, 128]⟩
abbrev S1x8x128 : Shape := ⟨3, ![1, 8, 128]⟩
abbrev S8x128 : Shape := ⟨2, ![8, 128]⟩
abbrev S1x8 : Shape := ⟨2, ![1, 8]⟩
abbrev S1x8x1 : Shape := ⟨3, ![1, 8, 1]⟩
abbrev S8x1 : Shape := ⟨2, ![8, 1]⟩
abbrev S1x2x8x128 : Shape := ⟨4, ![1, 2, 8, 128]⟩
abbrev S2x8x128 : Shape := ⟨3, ![2, 8, 128]⟩
abbrev S2x8 : Shape := ⟨2, ![2, 8]⟩
abbrev S2x8x1 : Shape := ⟨3, ![2, 8, 1]⟩
abbrev S1x3x8x128 : Shape := ⟨4, ![1, 3, 8, 128]⟩
abbrev S3x8x128 : Shape := ⟨3, ![3, 8, 128]⟩
abbrev S3x8 : Shape := ⟨2, ![3, 8]⟩
abbrev S3x8x1 : Shape := ⟨3, ![3, 8, 1]⟩
abbrev S4x8 : Shape := ⟨2, ![4, 8]⟩
abbrev S4x8x1 : Shape := ⟨3, ![4, 8, 1]⟩
abbrev S128x1x1 : Shape := ⟨3, ![128, 1, 1]⟩
abbrev S1x128x1x8x128 : Shape := ⟨5, ![1, 128, 1, 8, 128]⟩
abbrev S128x8x128 : Shape := ⟨3, ![128, 8, 128]⟩
abbrev S128x8 : Shape := ⟨2, ![128, 8]⟩
abbrev S128x8x1 : Shape := ⟨3, ![128, 8, 1]⟩
abbrev S1x124x2x8x128 : Shape := ⟨5, ![1, 124, 2, 8, 128]⟩
abbrev S124x2x8x128 : Shape := ⟨4, ![124, 2, 8, 128]⟩
abbrev S4x2x8x128 : Shape := ⟨4, ![4, 2, 8, 128]⟩
abbrev S1x4x1x8x128 : Shape := ⟨5, ![1, 4, 1, 8, 128]⟩

abbrev nBuf : Space → Nat
  | .hbm => 7
  | .vmem => 19
  | .smem => 0
  | _ => 0

abbrev bufTy : (tb : Table) → Fin (tcTables nBuf tb) → BufTy
  | .hbm, ⟨0, _⟩ => ⟨S32x4x8x128, .f32⟩
  | .hbm, ⟨1, _⟩ => ⟨S32x4x8x128, .f32⟩
  | .hbm, ⟨2, _⟩ => ⟨S32x4x8x128, .f32⟩
  | .hbm, ⟨3, _⟩ => ⟨S32x128x2x8x128, .f32⟩
  | .hbm, ⟨4, _⟩ => ⟨S32x4x8x128, .f32⟩
  | .hbm, ⟨5, _⟩ => ⟨S32x4x8x128, .f32⟩
  | .hbm, ⟨6, _⟩ => ⟨S32x128x2x8x128, .f32⟩
  | .local _ .vmem, ⟨0, _⟩ => ⟨S1x4x8x128, .f32⟩
  | .local _ .vmem, ⟨1, _⟩ => ⟨S1x4x8x128, .f32⟩
  | .local _ .vmem, ⟨2, _⟩ => ⟨S1x4x8x128, .f32⟩
  | .local _ .vmem, ⟨3, _⟩ => ⟨S1x4x8x128, .f32⟩
  | .local _ .vmem, ⟨4, _⟩ => ⟨S1x4x8x128, .f32⟩
  | .local _ .vmem, ⟨5, _⟩ => ⟨S1x4x8x128, .f32⟩
  | .local _ .vmem, ⟨6, _⟩ => ⟨S1x128x2x8x128, .f32⟩
  | .local _ .vmem, ⟨7, _⟩ => ⟨S1x128x2x8x128, .f32⟩
  | .local _ .vmem, ⟨8, _⟩ => ⟨S1x4x2x8x128, .f32⟩
  | .local _ .vmem, ⟨9, _⟩ => ⟨S1x4x2x8x128, .f32⟩
  | .local _ .vmem, ⟨10, _⟩ => ⟨S1x4x8x128, .f32⟩
  | .local _ .vmem, ⟨11, _⟩ => ⟨S1x4x8x128, .f32⟩
  | .local _ .vmem, ⟨12, _⟩ => ⟨S1x4x8x128, .f32⟩
  | .local _ .vmem, ⟨13, _⟩ => ⟨S1x4x8x128, .f32⟩
  | .local _ .vmem, ⟨14, _⟩ => ⟨S1x128x2x8x128, .f32⟩
  | .local _ .vmem, ⟨15, _⟩ => ⟨S1x128x2x8x128, .f32⟩
  | .local _ .vmem, ⟨16, _⟩ => ⟨S4x8x128, .f32⟩
  | .local _ .vmem, ⟨17, _⟩ => ⟨S4x8x128, .f32⟩
  | .local _ .vmem, ⟨18, _⟩ => ⟨S4x8x128, .f32⟩
  | _, _ => ⟨S32x4x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_152 : BitVec 32 := 0#32
  let v247 : BitVec 1 := Scalar.cmpi .eq arg1 c0_i32_152
  let v248 : BitVec 32 := Scalar.extui v247
  let c0_i32_153 : BitVec 32 := 0#32
  let v249 : BitVec 1 := Scalar.cmpi .ne v248 c0_i32_153
  v249

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  let c0_i32_2 : BitVec 32 := 0#32
  ![arg0.toNat, v2.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x4x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x2x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x2x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SampRefIdeal.lean ====
abbrev S32x4x8x128 : Shape := ⟨4, ![32, 4, 8, 128]⟩
abbrev S32x128x2x8x128 : Shape := ⟨5, ![32, 128, 2, 8, 128]⟩
abbrev S_ : Shape := ⟨0, ![]⟩
abbrev S32x128x1x8x128 : Shape := ⟨5, ![32, 128, 1, 8, 128]⟩
abbrev S32x128x8x128 : Shape := ⟨4, ![32, 128, 8, 128]⟩
abbrev S32x132x8x128 : Shape := ⟨4, ![32, 132, 8, 128]⟩
abbrev S4 : Shape := ⟨1, ![4]⟩
abbrev S4x1 : Shape := ⟨2, ![4, 1]⟩
abbrev S129 : Shape := ⟨1, ![129]⟩
abbrev S1x129 : Shape := ⟨2, ![1, 129]⟩
abbrev S4x129 : Shape := ⟨2, ![4, 129]⟩
abbrev S4x129x1 : Shape := ⟨3, ![4, 129, 1]⟩
abbrev S32x4x129x8x128 : Shape := ⟨5, ![32, 4, 129, 8, 128]⟩
abbrev S32x4x8x129 : Shape := ⟨4, ![32, 4, 8, 129]⟩
abbrev S1x4x1x129 : Shape := ⟨4, ![1, 4, 1, 129]⟩
abbrev S32x4x8 : Shape := ⟨3, ![32, 4, 8]⟩
abbrev S32x4x8x1 : Shape := ⟨4, ![32, 4, 8, 1]⟩
abbrev S32x4x1x8x128 : Shape := ⟨5, ![32, 4, 1, 8, 128]⟩
abbrev S32x4x2x8x128 : Shape := ⟨5, ![32, 4, 2, 8, 128]⟩
abbrev S32x132x2x8x128 : Shape := ⟨5, ![32, 132, 2, 8, 128]⟩

abbrev nBuf : Space → Nat
  | .hbm => 79
  | .vmem => 0
  | .smem => 0
  | _ => 0

abbrev bufTy : (tb : Table) → Fin (tcTables nBuf tb) → BufTy
  | .hbm, ⟨0, _⟩ => ⟨S32x4x8x128, .f32⟩
  | .hbm, ⟨1, _⟩ => ⟨S32x4x8x128, .f32⟩
  | .hbm, ⟨2, _⟩ => ⟨S32x4x8x128, .f32⟩
  | .hbm, ⟨3, _⟩ => ⟨S32x128x2x8x128, .f32⟩
  | .hbm, ⟨4, _⟩ => ⟨S_, .f32⟩
  | .hbm, ⟨5, _⟩ => ⟨S32x4x8x128, .f32⟩
  | .hbm, ⟨6, _⟩ => ⟨S32x4x8x128, .f32⟩
  | .hbm, ⟨7, _⟩ => ⟨S32x128x1x8x128, .f32⟩
  | .hbm, ⟨8, _⟩ => ⟨S32x128x8x128, .f32⟩
  | .hbm, ⟨9, _⟩ => ⟨S32x132x8x128, .f32⟩
  | .hbm, ⟨10, _⟩ => ⟨S32x128x1x8x128, .f32⟩
  | .hbm, ⟨11, _⟩ => ⟨S32x128x8x128, .f32⟩
  | .hbm, ⟨12, _⟩ => ⟨S32x132x8x128, .f32⟩
  | .hbm, ⟨13, _⟩ => ⟨S4, .i32⟩
  | .hbm, ⟨14, _⟩ => ⟨S4x1, .i32⟩
  | .hbm, ⟨15, _⟩ => ⟨S_, .i32⟩
  | .hbm, ⟨16, _⟩ => ⟨S4x1, .i32⟩
  | .hbm, ⟨17, _⟩ => ⟨S4x1, .i32⟩
  | .hbm, ⟨18, _⟩ => ⟨S129, .i32⟩
  | .hbm, ⟨19, _⟩ => ⟨S1x129, .i32⟩
  | .hbm, ⟨20, _⟩ => ⟨S_, .i32⟩
  | .hbm, ⟨21, _⟩ => ⟨S1x129, .i32⟩
  | .hbm, ⟨22, _⟩ => ⟨S1x129, .i32⟩
  | .hbm, ⟨23, _⟩ => ⟨S4x129, .i32⟩
  | .hbm, ⟨24, _⟩ => ⟨S4x129, .i32⟩
  | .hbm, ⟨25, _⟩ => ⟨S4x129, .i32⟩
  | .hbm, ⟨26, _⟩ => ⟨S_, .i32⟩
  | .hbm, ⟨27, _⟩ => ⟨S4x129, .i32⟩
  | .hbm, ⟨28, _⟩ => ⟨S4x129, .i1⟩
  | .hbm, ⟨29, _⟩ => ⟨S_, .i32⟩
  | .hbm, ⟨30, _⟩ => ⟨S4x129, .i32⟩
  | .hbm, ⟨31, _⟩ => ⟨S4x129, .i32⟩
  | .hbm, ⟨32, _⟩ => ⟨S_, .i32⟩
  | .hbm, ⟨33, _⟩ => ⟨S4x129, .i32⟩
  | .hbm, ⟨34, _⟩ => ⟨S4x129, .i1⟩
  | .hbm, ⟨35, _⟩ => ⟨S_, .i32⟩
  | .hbm, ⟨36, _⟩ => ⟨S4x129, .i32⟩
  | .hbm, ⟨37, _⟩ => ⟨S4x129, .i32⟩
  | .hbm, ⟨38, _⟩ => ⟨S4x129, .i32⟩
  | .hbm, ⟨39, _⟩ => ⟨S4x129x1, .i32⟩
  | .hbm, ⟨40, _⟩ => ⟨S32x4x129x8x128, .f32⟩
  | .hbm, ⟨41, _⟩ => ⟨S_, .i32⟩
  | .hbm, ⟨42, _⟩ => ⟨S4x129, .i32⟩
  | .hbm, ⟨43, _⟩ => ⟨S4x129, .i1⟩
  | .hbm, ⟨44, _⟩ => ⟨S_, .i32⟩
  | .hbm, ⟨45, _⟩ => ⟨S4x129, .i32⟩
  | .hbm, ⟨46, _⟩ => ⟨S4x129, .i32⟩
  | .hbm, ⟨47, _⟩ => ⟨S4x129, .i32⟩
  | .hbm, ⟨48, _⟩ => ⟨S4x129x1, .i32⟩
  | .hbm, ⟨49, _⟩ => ⟨S32x4x129x8x128, .f32⟩
  | .hbm, ⟨50, _⟩ => ⟨S32x4x8x129, .f32⟩
  | .hbm, ⟨51, _⟩ => ⟨S1x4x1x129, .i1⟩
  | .hbm, ⟨52, _⟩ => ⟨S_, .f32⟩
  | .hbm, ⟨53, _⟩ => ⟨S_, .f32⟩
  | .hbm, ⟨54, _⟩ => ⟨S32x4x8x129, .i1⟩
  | .hbm, ⟨55, _⟩ => ⟨S32x4x8x129, .f32⟩
  | .hbm, ⟨56, _⟩ => ⟨S32x4x8x129, .f32⟩
  | .hbm, ⟨57, _⟩ => ⟨S_, .f32⟩
  | .hbm, ⟨58, _⟩ => ⟨S32x4x8, .f32⟩
  | .hbm, ⟨59, _⟩ => ⟨S32x4x8x1, .f32⟩
  | .hbm, ⟨60, _⟩ => ⟨S32x4x8x129, .f32⟩
  | .hbm, ⟨61, _⟩ => ⟨S32x4x8x129, .f32⟩
  | .hbm, ⟨62, _⟩ => ⟨S32x4x8x129, .f32⟩
  | .hbm, ⟨63, _⟩ => ⟨S_, .f32⟩
  | .hbm, ⟨64, _⟩ => ⟨S32x4x8, .f32⟩
  | .hbm, ⟨65, _⟩ => ⟨S32x4x8x128, .f32⟩
  | .hbm, ⟨66, _⟩ => ⟨S32x4x8, .f32⟩
  | .hbm, ⟨67, _⟩ => ⟨S32x4x8, .f32⟩
  | .hbm, ⟨68, _⟩ => ⟨S32x4x8, .f32⟩
  | .hbm, ⟨69, _⟩ => ⟨S32x4x8x1, .f32⟩
  | .hbm, ⟨70, _⟩ => ⟨S32x4x8x128, .f32⟩
  | .hbm, ⟨71, _⟩ => ⟨S32x4x8x128, .f32⟩
  | .hbm, ⟨72, _⟩ => ⟨S32x4x1x8x128, .f32⟩
  | .hbm, ⟨73, _⟩ => ⟨S32x4x1x8x128, .f32⟩
  | .hbm, ⟨74, _⟩ => ⟨S32x4x2x8x128, .f32⟩
  | .hbm, ⟨75, _⟩ => ⟨S32x132x2x8x128, .f32⟩
  | .hbm, ⟨76, _⟩ => ⟨S32x128x2x8x128, .f32⟩
  | .hbm, ⟨77, _⟩ => ⟨S32x4x8x1, .f32⟩
  | .hbm, ⟨78, _⟩ => ⟨S32x4x8x128, .f32⟩
  | _, _ => ⟨S32x4x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Proof.Band.lean ====
/- ONE BAND OF WINDOWED ATTENTION, as a kernel's body computes it: 128 queries of one head against 256 keys, the band
   before the queries' own and their own. The functions are stated over any float semantics, without reference to a
   program; at the ideal reading each is then read at an index as the textbook expression. -/
module

public import Idealize.ShloMosaic.PureOps.Ideal.Laws
public import Idealize.ShloMosaic.Lib.ValueIdx
public import Idealize.ShloMosaic.Lib.MatmulPlain
public import Idealize.ShloMosaic.Lib.Pipeline.Value

@[expose] public section

set_option maxRecDepth 16384

noncomputable section

namespace Cert.Band

open Idealize.ShloMosaic Idealize.ShloMosaic.ValueIdx

variable {F : FTy → Type} [FloatOps F]

/-- A block of 128 positions by 128 lanes. -/
abbrev B : Shape := ⟨2, ![128, 128]⟩
/-- Two blocks one after the other. -/
abbrev B2 : Shape := ⟨2, ![256, 128]⟩
/-- The scores: 128 queries by 256 keys. -/
abbrev SC : Shape := ⟨2, ![128, 256]⟩
/-- A column, one entry per query. -/
abbrev C1 : Shape := ⟨2, ![128, 1]⟩
/-- The same entries as a vector. -/
abbrev C0 : Shape := ⟨1, ![128]⟩

theorem reduces : SC.Reduces [1] C0 := by decide
theorem colCasts : C0.ShapeCasts C1 := by decide
theorem colSelf : C1.ShapeCasts C1 := by decide
theorem spread2 : C1.Broadcasts SC := by decide
theorem spread : C1.Broadcasts B := by decide
theorem pair : Shape.Concatenates [B, B] B2 0 := by decide
theorem lanes : B.Iotas .tc 32 [1] := by decide
theorem narrow : FTy.bits .bf16 < FTy.bits .f32 := by decide

/-- The masked scores. -/
def scores (M : IVec SC 1) (q kp kc : FVec F B .f32) : FVec F SC .f32 :=
  select M
    (matmul (DotDims.transposedRhs 128 128 256) none
      (truncf .bf16 (mulf q (broadcast B (Scalar.ofBits .f32 0x3DB504F3#32))) narrow)
      (truncf .bf16 (concatenate B2 0 [⟨B, kp⟩, ⟨B, kc⟩] pair) narrow)
      (constant SC .f32 0x00000000#32))
    (broadcast SC (Scalar.ofBits .f32 0xFF800000#32))

/-- Each query's greatest score. -/
def top (s : FVec F SC .f32) : FVec F C1 .f32 :=
  shapeCast C1 (multiReduction .maximumf [1] C0 s 0xFF800000#32 reduces (.inl rfl) rfl) colCasts

/-- The exponentials of the scores less the greatest. -/
def wgt (s : FVec F SC .f32) : FVec F SC .f32 := exp (subf s (broadcastTo SC (top s) spread2))

/-- Each query's sum of the exponentials. -/
def den (s : FVec F SC .f32) : FVec F C1 .f32 :=
  shapeCast C1 (multiReduction .add [1] C0 (wgt s) 0x00000000#32 reduces (.inl rfl) rfl) colCasts

/-- The attention's output block: the weighted values over the sum of the weights. -/
def out (s : FVec F SC .f32) (vp vc : FVec F B .f32) : FVec F B .f32 :=
  divf
    (matmul (DotDims.plain 128 256 128) none (truncf .bf16 (wgt s) narrow)
      (truncf .bf16 (concatenate B2 0 [⟨B, vp⟩, ⟨B, vc⟩] pair) narrow) (constant B .f32 0x00000000#32))
    (broadcastTo B (den s) spread)

/-- Lane `w` of an accumulator replaced by each query's log-sum-exp. -/
def put (w : BitVec 32) (s : FVec F SC .f32) (acc : FVec F B .f32) : FVec F B .f32 :=
  select (cmpi .eq (iota .tc B 32 [1] lanes) (broadcast B w))
    (broadcastTo B (shapeCast C1 (addf (top s) (log (den s))) colSelf) spread) acc

/-! ## Read at an index, at the ideal reading -/

/-- The factor the queries are scaled by. -/
abbrev sc : EReal := Ideal.ofBits .f32 0x3DB504F3#32

theorem ofBits_bot : Ideal.ofBits .f32 0xFF800000#32 = (⊥ : EReal) := by
  simp [Ideal.ofBits, Ideal.ieee]

/-- Two blocks one after the other, by coordinates. -/
def cat (x y : B.Idx → EReal) (k : Fin 256) (d : Fin 128) : EReal :=
  if h : k.val < 128 then x (ix2 ⟨k.val, h⟩ d) else y (ix2 ⟨k.val - 128, by omega⟩ d)

theorem concat_apply (x y : FVec Ideal B .f32) (k : Fin 256) (d : Fin 128) :
    concatenate B2 0 [⟨B, x⟩, ⟨B, y⟩] pair (ix2 k d) = cat x y k d := by
  unfold cat
  split
  · next h =>
    exact concatenate_pair_apply_left (t := B2) (s₁ := B) (s₂ := B) 0 x y pair (ix2 k d) rfl (ix2 ⟨k.val, h⟩ d)
      (fun b => match b with | ⟨0, _⟩ => rfl | ⟨1, _⟩ => rfl)
  · next h =>
    exact concatenate_pair_apply_right (t := B2) (s₁ := B) (s₂ := B) 0 x y pair (ix2 k d) rfl rfl (ix2 ⟨k.val - 128, by omega⟩ d)
      (fun b => match b with | ⟨0, _⟩ => fun hb => absurd rfl hb | ⟨1, _⟩ => fun _ => rfl)
      (show k.val - 128 + 128 = k.val by omega)

theorem scores_apply (M : IVec SC 1) (q kp kc : FVec Ideal B .f32) (r : Fin 128) (k : Fin 256) :
    scores M q kp kc (ix2 r k) = if M (ix2 r k) = 1#1 then ∑ d : Fin 128, (q (ix2 r d) * sc) * cat kp kc k d else ⊥ := by
  unfold scores
  show (if M (ix2 r k) = 1#1 then (FloatOps.matmul (F := Ideal) (DotDims.transposedRhs 128 128 256) none _ _ _ (ix2 r k) : EReal) else Ideal.ofBits .f32 0xFF800000#32) = _
  rw [Ideal.matmul_transposedRhs_apply, ofBits_bot]
  refine if_congr Iff.rfl ?_ rfl
  show Ideal.ofBits .f32 0x00000000#32 + _ = _
  rw [Ideal.ofBits_zero_f32, zero_add]
  refine Finset.sum_congr rfl fun d _ => ?_
  rw [← concat_apply]
  rfl

/-- The greatest of a row of scores. -/
def topR (s : Fin 256 → EReal) : EReal := (Finset.univ : Finset (Fin 256)).fold max ⊥ s
/-- A row's exponentials. -/
def wgtR (s : Fin 256 → EReal) (k : Fin 256) : EReal := Ideal.exp (s k - topR s)
/-- Their sum. -/
def denR (s : Fin 256 → EReal) : EReal := ∑ k : Fin 256, wgtR s k

theorem lift_eq (r : Fin 128) (k : Fin 256) : reduces.lift (ix1 r) k = ix2 r k := by
  funext a; apply Fin.ext
  match a with
  | ⟨0, _⟩ => rfl
  | ⟨1, _⟩ => rfl

theorem col_apply (v : C0.Idx → EReal) (r : Fin 128) (u : Fin 1) : shapeCast C1 v colCasts (ix2 r u) = v (ix1 r) := by
  unfold shapeCast
  congr 1
  apply Shape.reshapeEquiv_eq_of_rowMajor
  have := u.isLt
  rw [Shape.rowMajor_val_one, Shape.rowMajor_val_two]
  show r.val = r.val * 1 + u.val
  omega

theorem top_apply (s : FVec Ideal SC .f32) (r : Fin 128) (u : Fin 1) : top s (ix2 r u) = topR fun k => s (ix2 r k) := by
  unfold top topR
  rw [col_apply]
  refine (Ideal.multiReduction_maximumf_single s 0xFF800000#32 reduces (.inl rfl) rfl (ix1 r)).trans ?_
  show Finset.fold max (Ideal.ofBits .f32 0xFF800000#32) _ _ = _
  rw [ofBits_bot]
  congr 1
  funext k
  exact congrArg s (lift_eq r k)

theorem spread2_apply (v : C1.Idx → EReal) (r : Fin 128) (k : Fin 256) : broadcastTo SC v spread2 (ix2 r k) = v (ix2 r 0) :=
  broadcastTo_apply v spread2 (ix2 r k) (ix2 r 0) (fun a => match a with | ⟨0, _⟩ => rfl | ⟨1, _⟩ => rfl)

theorem spread_apply (v : C1.Idx → EReal) (r : Fin 128) (k : Fin 128) : broadcastTo B v spread (ix2 r k) = v (ix2 r 0) :=
  broadcastTo_apply v spread (ix2 r k) (ix2 r 0) (fun a => match a with | ⟨0, _⟩ => rfl | ⟨1, _⟩ => rfl)

theorem wgt_apply (s : FVec Ideal SC .f32) (r : Fin 128) (k : Fin 256) : wgt s (ix2 r k) = wgtR (fun k => s (ix2 r k)) k := by
  unfold wgt wgtR
  show Ideal.exp (s (ix2 r k) - broadcastTo SC (top s) spread2 (ix2 r k)) = _
  rw [spread2_apply, top_apply]

theorem den_apply (s : FVec Ideal SC .f32) (r : Fin 128) (u : Fin 1) : den s (ix2 r u) = denR fun k => s (ix2 r k) := by
  unfold den denR
  rw [col_apply]
  refine (Ideal.multiReduction_add_single (wgt s) 0x00000000#32 reduces (.inl rfl) rfl (ix1 r)).trans ?_
  refine Finset.sum_congr rfl fun k _ => ?_
  exact (congrArg (wgt s) (lift_eq r k)).trans (wgt_apply s r k)

theorem out_apply (s : FVec Ideal SC .f32) (vp vc : FVec Ideal B .f32) (r d : Fin 128) :
    out s vp vc (ix2 r d)
      = Ideal.div (∑ k : Fin 256, wgtR (fun k => s (ix2 r k)) k * cat vp vc k d) (denR fun k => s (ix2 r k)) := by
  unfold out
  show Ideal.div (FloatOps.matmul (F := Ideal) (DotDims.plain 128 256 128) none _ _ _ (ix2 r d)) (broadcastTo B (den s) spread (ix2 r d)) = _
  rw [Ideal.matmul_plain_apply, spread_apply, den_apply]
  congr 1
  show Ideal.ofBits .f32 0x00000000#32 + _ = _
  rw [Ideal.ofBits_zero_f32, zero_add]
  refine Finset.sum_congr rfl fun k _ => ?_
  rw [← concat_apply, ← wgt_apply]
  rfl

theorem put_apply (w : BitVec 32) (s : FVec Ideal SC .f32) (acc : FVec Ideal B .f32) (r d : Fin 128) :
    put w s acc (ix2 r d)
      = if BitVec.ofNat 32 d.val = w then topR (fun k => s (ix2 r k)) + Ideal.log (denR fun k => s (ix2 r k)) else acc (ix2 r d) := by
  unfold put
  show (if BitVec.ofBool (iota .tc B 32 [1] lanes (ix2 r d) == w) = 1#1 then broadcastTo B (shapeCast C1 (addf (top s) (log (den s))) colSelf) spread (ix2 r d) else acc (ix2 r d)) = _
  rw [spread_apply, shapeCast_self, iota_single_apply]
  show (if _ then top s (ix2 r 0) + Ideal.log (den s (ix2 r 0)) else _) = _
  rw [top_apply, den_apply]
  refine if_congr ?_ rfl rfl
  show BitVec.ofBool (BitVec.ofNat 32 d.val == w) = 1#1 ↔ _
  by_cases h : BitVec.ofNat 32 d.val = w
  · simp [h]
  · rw [beq_false_of_ne h]; simp [h]

end Cert.Band

end
-- ==== Proof.Spec.lean ====
/- THE ATTENTION BOTH PROGRAMS COMPUTE, written over the array's coordinates. `z` holds each position's projected row; a
   head group's positions are taken `dil` apart, so that row `l · dil + p` is the `l`th position of the sequence `p`; each
   sequence is cut into bands of 128, and a query attends to the positions from 128 before it up to itself.
   The last section says that a block of `Band` is this. -/
module

public import proofs.«01_k».proof.Proof.Band

@[expose] public section

set_option maxRecDepth 16384

noncomputable section

namespace Cert.Spec

open Idealize.ShloMosaic Idealize.ShloMosaic.ValueIdx Cert.Band

/-- The projected rows: 16384 positions. -/
abbrev Z : Shape := ⟨2, ![16384, 17408]⟩

/-- The array at a row and a column given as numbers. -/
def zn (z : Z.Idx → EReal) (r c : ℕ) : EReal := if h : r < 16384 ∧ c < 17408 then z (ix2 ⟨r, h.1⟩ ⟨c, h.2⟩) else 0

theorem zn_eq (z : Z.Idx → EReal) (i : Z.Idx) : zn z (i 0).val (i 1).val = z i := by
  have h0 : (i 0).val < 16384 := (i 0).isLt
  have h1 : (i 1).val < 17408 := (i 1).isLt
  unfold zn
  rw [dif_pos ⟨h0, h1⟩]
  congr 1
  funext a; apply Fin.ext
  match a with
  | ⟨0, _⟩ => rfl
  | ⟨1, _⟩ => rfl

/-- Query `r` of band `n` sees key `k` of the two bands `n - 1`, `n`. -/
def Vis (n r k : ℕ) : Prop := r ≤ k ∧ k ≤ r + 128 ∧ 128 ≤ 128 * n + k

instance (n r k : ℕ) : Decidable (Vis n r k) := by unfold Vis; infer_instance

section

variable (z : Z.Idx → EReal) (dil g h n p : ℕ)

/-- The row that holds key `k` of the two bands. -/
abbrev krow (k : ℕ) : ℕ := (128 * n + k - 128) * dil + p

/-- The score of query `r` and key `k`. -/
def score (r k : ℕ) : EReal :=
  if Vis n r k then
    ∑ d : Fin 128, (zn z ((128 * n + r) * dil + p) (4096 + 1024 * g + 128 * h + d.val) * sc)
      * zn z (krow dil n p k) (7168 + 1024 * g + 128 * h + d.val)
  else ⊥

/-- A query's scores. -/
def row (r : ℕ) (k : Fin 256) : EReal := score z dil g h n p r k.val

/-- The attention of a query, lane `c` of its head. -/
def att (r c : ℕ) : EReal :=
  Ideal.div (∑ k : Fin 256, if Vis n r k.val then wgtR (row z dil g h n p r) k * zn z (krow dil n p k.val) (10240 + 1024 * g + 128 * h + c) else 0)
    (denR (row z dil g h n p r))

/-- The logarithm of the sum of the exponentials of a query's scores. -/
def lse (r : ℕ) : EReal := topR (row z dil g h n p r) + Ideal.log (denR (row z dil g h n p r))

end

/-- The attention's result at a row and a column. -/
def oN (z : Z.Idx → EReal) (dil g R C : ℕ) : EReal := att z dil g (C / 128) (R / dil / 128) (R % dil) (R / dil % 128) (C % 128)
/-- The log-sum-exp result at a row and a lane: lane `h` holds head `h`'s, the lanes after the heads' are zero. -/
def lN (z : Z.Idx → EReal) (dil g R L : ℕ) : EReal := if L < 8 then lse z dil g L (R / dil / 128) (R % dil) (R / dil % 128) else 0

/-- The two results as arrays. -/
def O (z : Z.Idx → EReal) (dil g : ℕ) : (⟨2, ![16384, 1024]⟩ : Shape).Idx → EReal := fun i => oN z dil g (i 0).val (i 1).val
def L (z : Z.Idx → EReal) (dil g : ℕ) : (⟨2, ![16384, 128]⟩ : Shape).Idx → EReal := fun i => lN z dil g (i 0).val (i 1).val

theorem wgtR_bot (s : Fin 256 → EReal) (k : Fin 256) (h : s k = ⊥) : wgtR s k = 0 := by
  unfold wgtR
  rw [h, sub_eq_add_neg, EReal.bot_add]
  exact Ideal.exp_bot

/-- A sum of weighted values over the keys leaves out the keys that are not seen, whatever their values. -/
theorem num_eq (z : Z.Idx → EReal) (dil g h n p r : ℕ) (v w : Fin 256 → EReal) (hv : ∀ k : Fin 256, Vis n r k.val → v k = w k) :
    ∑ k, wgtR (row z dil g h n p r) k * v k = ∑ k : Fin 256, if Vis n r k.val then wgtR (row z dil g h n p r) k * w k else 0 := by
  refine Finset.sum_congr rfl fun k _ => ?_
  split
  · next hk => rw [hv k hk]
  · next hk => rw [wgtR_bot _ _ (if_neg hk), zero_mul]

/-! ## A block of `Band` is a band of it -/

section

variable (z : Z.Idx → EReal) (dil g h n p : ℕ) (M : IVec SC 1) (q kp kc vp vc : FVec Ideal B .f32)

theorem cat_seen (x y : B.Idx → EReal) (col : ℕ) (hc : ∀ k d : Fin 128, y (ix2 k d) = zn z ((128 * n + k.val) * dil + p) (col + d.val))
    (hp : n ≠ 0 → ∀ k d : Fin 128, x (ix2 k d) = zn z ((128 * n + k.val - 128) * dil + p) (col + d.val))
    (r : ℕ) (k : Fin 256) (d : Fin 128) (hk : Vis n r k.val) : cat x y k d = zn z (krow dil n p k.val) (col + d.val) := by
  unfold cat
  split
  · next hlt => exact hp (by unfold Vis at hk; omega) ⟨k.val, hlt⟩ d
  · next hlt =>
    rw [hc]
    show zn z ((128 * n + (k.val - 128)) * dil + p) _ = zn z ((128 * n + k.val - 128) * dil + p) _
    rw [show 128 * n + (k.val - 128) = 128 * n + k.val - 128 by omega]

theorem scores_row (hM : ∀ (r : Fin 128) (k : Fin 256), M (ix2 r k) = 1#1 ↔ Vis n r.val k.val)
    (hq : ∀ r d : Fin 128, q (ix2 r d) = zn z ((128 * n + r.val) * dil + p) (4096 + 1024 * g + 128 * h + d.val))
    (hkc : ∀ k d : Fin 128, kc (ix2 k d) = zn z ((128 * n + k.val) * dil + p) (7168 + 1024 * g + 128 * h + d.val))
    (hkp : n ≠ 0 → ∀ k d : Fin 128, kp (ix2 k d) = zn z ((128 * n + k.val - 128) * dil + p) (7168 + 1024 * g + 128 * h + d.val))
    (r : Fin 128) : (fun k => scores M q kp kc (ix2 r k)) = row z dil g h n p r.val := by
  funext k
  rw [scores_apply]
  unfold row score
  by_cases hk : Vis n r.val k.val
  · rw [if_pos ((hM r k).2 hk), if_pos hk]
    refine Finset.sum_congr rfl fun d _ => ?_
    rw [hq, cat_seen z dil n p kp kc _ hkc hkp r.val k d hk]
  · rw [if_neg (fun e => hk ((hM r k).1 e)), if_neg hk]

theorem out_eq (hM : ∀ (r : Fin 128) (k : Fin 256), M (ix2 r k) = 1#1 ↔ Vis n r.val k.val)
    (hq : ∀ r d : Fin 128, q (ix2 r d) = zn z ((128 * n + r.val) * dil + p) (4096 + 1024 * g + 128 * h + d.val))
    (hkc : ∀ k d : Fin 128, kc (ix2 k d) = zn z ((128 * n + k.val) * dil + p) (7168 + 1024 * g + 128 * h + d.val))
    (hkp : n ≠ 0 → ∀ k d : Fin 128, kp (ix2 k d) = zn z ((128 * n + k.val - 128) * dil + p) (7168 + 1024 * g + 128 * h + d.val))
    (hvc : ∀ k d : Fin 128, vc (ix2 k d) = zn z ((128 * n + k.val) * dil + p) (10240 + 1024 * g + 128 * h + d.val))
    (hvp : n ≠ 0 → ∀ k d : Fin 128, vp (ix2 k d) = zn z ((128 * n + k.val - 128) * dil + p) (10240 + 1024 * g + 128 * h + d.val))
    (r d : Fin 128) : out (scores M q kp kc) vp vc (ix2 r d) = att z dil g h n p r.val d.val := by
  rw [out_apply, scores_row z dil g h n p M q kp kc hM hq hkc hkp]
  unfold att
  congr 1
  exact num_eq z dil g h n p r.val _ _ fun k hk => cat_seen z dil n p vp vc _ hvc hvp r.val k d hk

/-- Eight lanes replaced one after the other. -/
theorem lanes_eq (f : ℕ → EReal) (d : Fin 128) :
    (if BitVec.ofNat 32 d.val = 7#32 then f 7 else if BitVec.ofNat 32 d.val = 6#32 then f 6 else if BitVec.ofNat 32 d.val = 5#32 then f 5
      else if BitVec.ofNat 32 d.val = 4#32 then f 4 else if BitVec.ofNat 32 d.val = 3#32 then f 3 else if BitVec.ofNat 32 d.val = 2#32 then f 2
      else if BitVec.ofNat 32 d.val = 1#32 then f 1 else if BitVec.ofNat 32 d.val = 0#32 then f 0 else 0) = if d.val < 8 then f d.val else 0 := by
  have e : ∀ a : ℕ, a < 8 → (BitVec.ofNat 32 d.val = BitVec.ofNat 32 a ↔ d.val = a) := by
    intro a ha
    constructor
    · intro hh
      have := congrArg BitVec.toNat hh
      simp only [BitVec.toNat_ofNat] at this
      have := d.isLt
      omega
    · intro hh; rw [hh]
  have e0 := e 0 (by omega); have e1 := e 1 (by omega); have e2 := e 2 (by omega); have e3 := e 3 (by omega)
  have e4 := e 4 (by omega); have e5 := e 5 (by omega); have e6 := e 6 (by omega); have e7 := e 7 (by omega)
  simp only [e0, e1, e2, e3, e4, e5, e6, e7]
  split_ifs <;> first | omega | (congr 1; omega) | simp_all

end

/-- The eight heads' blocks of log-sum-exps over a zero accumulator. -/
theorem put8_eq (z : Z.Idx → EReal) (dil g n p : ℕ) (s : Fin 8 → FVec Ideal SC .f32) (w : Fin 8 → BitVec 32) (acc : FVec Ideal B .f32)
    (hw : ∀ h, w h = BitVec.ofNat 32 h.val) (hacc : ∀ x, acc x = 0)
    (hs : ∀ (h : Fin 8) (r : Fin 128), (fun k => s h (ix2 r k)) = row z dil g h.val n p r.val) (r d : Fin 128) :
    put (w 7) (s 7) (put (w 6) (s 6) (put (w 5) (s 5) (put (w 4) (s 4) (put (w 3) (s 3) (put (w 2) (s 2) (put (w 1) (s 1)
      (put (w 0) (s 0) acc))))))) (ix2 r d) = if d.val < 8 then lse z dil g d.val n p r.val else 0 := by
  simp only [put_apply, hs, hw, hacc]
  exact lanes_eq (fun h => lse z dil g h n p r.val) d

end Cert.Spec

end
-- ==== Proof.Kernel.lean ====
/- THE KERNEL'S SIDE for the prompt's attention of head group 0: each of the 32 blocks that a grid point stores is one band
   of one head, so that the two result arrays after the run are the attention of `Spec`. -/
module

public import proofs.«01_k».proof.Proof.Gen.AttnIdeal.Value
public import proofs.«01_k».proof.Proof.Spec
public import Idealize.ShloMosaic.Lib.WordArith
public import Idealize.ShloMosaic.Lib.Pipeline.ValueKit.Geometry

@[expose] public section

set_option maxRecDepth 16384

noncomputable section

namespace Cert.AttnIdeal.Side

open Cert.AttnIdeal Cert.AttnIdeal.Gen Idealize.ShloMosaic Idealize.ShloMosaic.TcCoe Idealize.SL.Sem Idealize.ShloMosaic.ValueIdx
open Cert.Band Cert.Spec

variable (m : (ℓ : Loc nD τ sig) → Buf (Elt Ideal) ℓ)

/-! ## The masks -/

theorem sle_ofNat (a b : ℕ) (ha : a < 2 ^ 31) (hb : b < 2 ^ 31) :
    BitVec.sle (BitVec.ofNat 32 a) (BitVec.ofNat 32 b) = decide (a ≤ b) := by
  unfold BitVec.sle
  rw [WordArith.toInt_ofNat_small a ha, WordArith.toInt_ofNat_small b hb]
  simp

theorem pay3_apply (r : Fin 128) (k : Fin 256) : k0_pay3 (ix2 r k) = BitVec.ofBool (decide (r.val ≤ k.val) && decide (k.val ≤ r.val + 128)) := by
  have hr := r.isLt; have hk := k.isLt
  show IntOp.andi (BitVec.ofBool (BitVec.sle (iota Kind.tc S128x256 32 [0] iota_S128x256_d0_w32 (ix2 r k)) (iota Kind.tc S128x256 32 [1] iota_S128x256_d1_w32 (ix2 r k))))
    (BitVec.ofBool (BitVec.sle (iota Kind.tc S128x256 32 [1] iota_S128x256_d1_w32 (ix2 r k)) (iota Kind.tc S128x256 32 [0] iota_S128x256_d0_w32 (ix2 r k) + 128#32))) = _
  rw [iota_single_apply, iota_single_apply]
  show IntOp.andi (BitVec.ofBool (BitVec.sle (BitVec.ofNat 32 r.val) (BitVec.ofNat 32 k.val))) (BitVec.ofBool (BitVec.sle (BitVec.ofNat 32 k.val) (BitVec.ofNat 32 r.val + 128#32))) = _
  rw [show BitVec.ofNat 32 r.val + 128#32 = BitVec.ofNat 32 (r.val + 128) from (BitVec.ofNat_add _ _).symm, sle_ofNat _ _ (by omega) (by omega), sle_ofNat _ _ (by omega) (by omega),
    WordArith.andi_ofBool]

/-- Bands after a tile's first see both of their two bands. -/
theorem mask_later (n : ℕ) (hn : n ≠ 0) (r : Fin 128) (k : Fin 256) : k0_pay3 (ix2 r k) = 1#1 ↔ Vis n r.val k.val := by
  rw [pay3_apply, WordArith.ofBool_eq_one_iff]
  unfold Vis
  simp only [Bool.and_eq_true, decide_eq_true_eq]
  omega

/-- A tile's first band sees the band before it unless there is none. -/
theorem mask_first (i : grid0.Coords) (n : ℕ) (hn : n = 4 * (i 0).val) (r : Fin 128) (k : Fin 256) : k0_pay5 i (ix2 r k) = 1#1 ↔ Vis n r.val k.val := by
  have hr := r.isLt; have hk := k.isLt
  have hi : (i 0).val < 32 := (i 0).isLt
  show IntOp.andi (k0_pay3 (ix2 r k)) (BitVec.ofBool (BitVec.sle
    (if BitVec.ofBool (BitVec.slt 0#32 (BitVec.ofNat 32 (i 0).val)) = 1#1 then 0#32 else 128#32) (iota Kind.tc S128x256 32 [1] iota_S128x256_d1_w32 (ix2 r k)))) = 1#1 ↔ _
  rw [iota_single_apply]
  show IntOp.andi (k0_pay3 (ix2 r k)) (BitVec.ofBool (BitVec.sle
    (if BitVec.ofBool (BitVec.slt 0#32 (BitVec.ofNat 32 (i 0).val)) = 1#1 then 0#32 else 128#32) (BitVec.ofNat 32 k.val))) = 1#1 ↔ _
  have hs : BitVec.slt 0#32 (BitVec.ofNat 32 (i 0).val) = decide (0 < (i 0).val) := by
    unfold BitVec.slt
    rw [WordArith.toInt_ofNat_small (i 0).val (by omega)]
    simp
  have hsel : (if BitVec.ofBool (BitVec.slt 0#32 (BitVec.ofNat 32 (i 0).val)) = 1#1 then 0#32 else 128#32)
      = BitVec.ofNat 32 (if 0 < (i 0).val then 0 else 128) := by
    rw [hs]
    by_cases h : 0 < (i 0).val <;> simp [h]
  rw [pay3_apply, hsel, sle_ofNat _ _ (by split <;> omega) (by omega), WordArith.andi_ofBool, WordArith.ofBool_eq_one_iff]
  unfold Vis
  simp only [Bool.and_eq_true, decide_eq_true_eq]
  split <;> omega

/-! ## The staged blocks -/

/-- The projected rows as the run finds them. -/
abbrev zz (c : Dev nD) : Z.Idx → EReal := m ((c : Thread nD τ).loc main_arg0)

theorem coord0 : ∀ t : Fin cfg0.N, (grid0.coords t 0).val = t.val := (by decide +kernel : ∀ t : Fin grid0.N, (grid0.coords t 0).val = t.val)
theorem coord1 : ∀ t : Fin cfg0.N, (grid0.coords t 1).val = 0 := (by decide +kernel : ∀ t : Fin grid0.N, (grid0.coords t 1).val = 0)
theorem index0 : ∀ t : Fin cfg0.N, win0_0.index t = ![t.val, 4] := (by decide +kernel : ∀ t : Fin grid0.N, win0_0.index t = ![t.val, 4])
theorem index1 : ∀ t : Fin cfg0.N, win0_1.index t = ![t.val, 7] := (by decide +kernel : ∀ t : Fin grid0.N, win0_1.index t = ![t.val, 7])
theorem index2 : ∀ t : Fin cfg0.N, win0_2.index t = ![4 * t.val - 1, 7] := (by decide +kernel : ∀ t : Fin grid0.N, win0_2.index t = ![4 * t.val - 1, 7])
theorem index3 : ∀ t : Fin cfg0.N, win0_3.index t = ![t.val, 10] := (by decide +kernel : ∀ t : Fin grid0.N, win0_3.index t = ![t.val, 10])
theorem index4 : ∀ t : Fin cfg0.N, win0_4.index t = ![4 * t.val - 1, 10] := (by decide +kernel : ∀ t : Fin grid0.N, win0_4.index t = ![4 * t.val - 1, 10])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])

theorem iblk0_apply (c : Dev nD) (t : Fin cfg0.N) (y : S512x1024.Idx) :
    iblk m c 0 t y = zn (zz m c) (512 * t.val + (y 0).val) (4096 + (y 1).val) := by
  show V m c main_arg0 (((cfg0.win 0).blk t).view.emb y) = _
  rw [V_main_arg0]
  refine (zn_eq (zz m c) _).symm.trans ?_
  congr 1
  · blk_simp [index0 t]; simp; omega
  · blk_simp [index0 t]

theorem iblk1_apply (c : Dev nD) (t : Fin cfg0.N) (y : S512x1024.Idx) :
    iblk m c 1 t y = zn (zz m c) (512 * t.val + (y 0).val) (7168 + (y 1).val) := by
  show V m c main_arg0 (((cfg0.win 1).blk t).view.emb y) = _
  rw [V_main_arg0]
  refine (zn_eq (zz m c) _).symm.trans ?_
  congr 1
  · blk_simp [index1 t]; simp; omega
  · blk_simp [index1 t]

theorem iblk2_apply (c : Dev nD) (t : Fin cfg0.N) (y : S128x1024.Idx) :
    iblk m c 2 t y = zn (zz m c) (128 * (4 * t.val - 1) + (y 0).val) (7168 + (y 1).val) := by
  show V m c main_arg0 (((cfg0.win 2).blk t).view.emb y) = _
  rw [V_main_arg0]
  refine (zn_eq (zz m c) _).symm.trans ?_
  congr 1
  · blk_simp [index2 t]; simp; omega
  · blk_simp [index2 t]

theorem iblk3_apply (c : Dev nD) (t : Fin cfg0.N) (y : S512x1024.Idx) :
    iblk m c 3 t y = zn (zz m c) (512 * t.val + (y 0).val) (10240 + (y 1).val) := by
  show V m c main_arg0 (((cfg0.win 3).blk t).view.emb y) = _
  rw [V_main_arg0]
  refine (zn_eq (zz m c) _).symm.trans ?_
  congr 1
  · blk_simp [index3 t]; simp; omega
  · blk_simp [index3 t]

theorem iblk4_apply (c : Dev nD) (t : Fin cfg0.N) (y : S128x1024.Idx) :
    iblk m c 4 t y = zn (zz m c) (128 * (4 * t.val - 1) + (y 0).val) (10240 + (y 1).val) := by
  show V m c main_arg0 (((cfg0.win 4).blk t).view.emb y) = _
  rw [V_main_arg0]
  refine (zn_eq (zz m c) _).symm.trans ?_
  congr 1
  · blk_simp [index4 t]; simp; omega
  · blk_simp [index4 t]

/-- A block of a tile's result. -/
def tileO (c : Dev nD) (t : ℕ) : S512x1024.Idx → EReal := fun y => oN (zz m c) 1 0 (512 * t + (y 0).val) (y 1).val
def tileL (c : Dev nD) (t : ℕ) : S512x128.Idx → EReal := fun y => lN (zz m c) 1 0 (512 * t + (y 0).val) (y 1).val

theorem ld0 (c : Dev nD) (t : Fin cfg0.N) (r0 c0 : ℕ) (inb : ∀ a, ![r0, c0] a + ![128, 128] a ≤ S512x1024.size a) (r d : Fin 128) (R C : ℕ)
    (hR : 512 * t.val + (r0 + r.val) = R) (hC : 4096 + (c0 + d.val) = C) :
    View.ld (iblk m c 0 t) (Rect.unit (s := S512x1024) ![r0, c0] ![128, 128] inb) (ix2 r d) = zn (zz m c) R C := by
  refine (iblk0_apply m c t _).trans ?_
  show zn _ (512 * t.val + (r0 + 1 * r.val)) (4096 + (c0 + 1 * d.val)) = _
  rw [Nat.one_mul, Nat.one_mul, hR, hC]

theorem ld1 (c : Dev nD) (t : Fin cfg0.N) (r0 c0 : ℕ) (inb : ∀ a, ![r0, c0] a + ![128, 128] a ≤ S512x1024.size a) (r d : Fin 128) (R C : ℕ)
    (hR : 512 * t.val + (r0 + r.val) = R) (hC : 7168 + (c0 + d.val) = C) :
    View.ld (iblk m c 1 t) (Rect.unit (s := S512x1024) ![r0, c0] ![128, 128] inb) (ix2 r d) = zn (zz m c) R C := by
  refine (iblk1_apply m c t _).trans ?_
  show zn _ (512 * t.val + (r0 + 1 * r.val)) (7168 + (c0 + 1 * d.val)) = _
  rw [Nat.one_mul, Nat.one_mul, hR, hC]

theorem ld2 (c : Dev nD) (t : Fin cfg0.N) (r0 c0 : ℕ) (inb : ∀ a, ![r0, c0] a + ![128, 128] a ≤ S128x1024.size a) (r d : Fin 128) (R C : ℕ)
    (hR : 128 * (4 * t.val - 1) + (r0 + r.val) = R) (hC : 7168 + (c0 + d.val) = C) :
    View.ld (iblk m c 2 t) (Rect.unit (s := S128x1024) ![r0, c0] ![128, 128] inb) (ix2 r d) = zn (zz m c) R C := by
  refine (iblk2_apply m c t _).trans ?_
  show zn _ (128 * (4 * t.val - 1) + (r0 + 1 * r.val)) (7168 + (c0 + 1 * d.val)) = _
  rw [Nat.one_mul, Nat.one_mul, hR, hC]

theorem ld3 (c : Dev nD) (t : Fin cfg0.N) (r0 c0 : ℕ) (inb : ∀ a, ![r0, c0] a + ![128, 128] a ≤ S512x1024.size a) (r d : Fin 128) (R C : ℕ)
    (hR : 512 * t.val + (r0 + r.val) = R) (hC : 10240 + (c0 + d.val) = C) :
    View.ld (iblk m c 3 t) (Rect.unit (s := S512x1024) ![r0, c0] ![128, 128] inb) (ix2 r d) = zn (zz m c) R C := by
  refine (iblk3_apply m c t _).trans ?_
  show zn _ (512 * t.val + (r0 + 1 * r.val)) (10240 + (c0 + 1 * d.val)) = _
  rw [Nat.one_mul, Nat.one_mul, hR, hC]

theorem ld4 (c : Dev nD) (t : Fin cfg0.N) (r0 c0 : ℕ) (inb : ∀ a, ![r0, c0] a + ![128, 128] a ≤ S128x1024.size a) (r d : Fin 128) (R C : ℕ)
    (hR : 128 * (4 * t.val - 1) + (r0 + r.val) = R) (hC : 10240 + (c0 + d.val) = C) :
    View.ld (iblk m c 4 t) (Rect.unit (s := S128x1024) ![r0, c0] ![128, 128] inb) (ix2 r d) = zn (zz m c) R C := by
  refine (iblk4_apply m c t _).trans ?_
  show zn _ (128 * (4 * t.val - 1) + (r0 + 1 * r.val)) (10240 + (c0 + 1 * d.val)) = _
  rw [Nat.one_mul, Nat.one_mul, hR, hC]

theorem firstS (c : Dev nD) (t : Fin cfg0.N) (h c0 : ℕ) (hc : c0 = 128 * h)
    (iq : ∀ a, ![0, c0] a + ![128, 128] a ≤ S512x1024.size a) (ip : ∀ a, ![0, c0] a + ![128, 128] a ≤ S128x1024.size a) (r : Fin 128) :
    (fun k : Fin 256 => scores (F := Ideal) (k0_pay5 (grid0.coords t)) (View.ld (iblk m c 0 t) (Rect.unit (s := S512x1024) ![0, c0] ![128, 128] iq)) (View.ld (iblk m c 2 t) (Rect.unit (s := S128x1024) ![0, c0] ![128, 128] ip)) (View.ld (iblk m c 1 t) (Rect.unit (s := S512x1024) ![0, c0] ![128, 128] iq)) (ix2 r k))
      = row (zz m c) 1 0 h (4 * t.val) 0 r.val :=
  scores_row (zz m c) 1 0 h (4 * t.val) 0 _ _ _ _ (fun r k => mask_first (grid0.coords t) _ (by rw [coord0 t]) r k)
    (fun r d => ld0 m c t 0 c0 iq r d _ _ (by omega) (by omega)) (fun k d => ld1 m c t 0 c0 iq k d _ _ (by omega) (by omega))
    (fun hn k d => ld2 m c t 0 c0 ip k d _ _ (by omega) (by omega)) r

theorem firstO (c : Dev nD) (t : Fin cfg0.N) (h c0 : ℕ) (hc : c0 = 128 * h)
    (iq : ∀ a, ![0, c0] a + ![128, 128] a ≤ S512x1024.size a) (ip : ∀ a, ![0, c0] a + ![128, 128] a ≤ S128x1024.size a) (x : B.Idx) :
    out (F := Ideal) (scores (F := Ideal) (k0_pay5 (grid0.coords t)) (View.ld (iblk m c 0 t) (Rect.unit (s := S512x1024) ![0, c0] ![128, 128] iq)) (View.ld (iblk m c 2 t) (Rect.unit (s := S128x1024) ![0, c0] ![128, 128] ip)) (View.ld (iblk m c 1 t) (Rect.unit (s := S512x1024) ![0, c0] ![128, 128] iq)))
        (View.ld (iblk m c 4 t) (Rect.unit (s := S128x1024) ![0, c0] ![128, 128] ip)) (View.ld (iblk m c 3 t) (Rect.unit (s := S512x1024) ![0, c0] ![128, 128] iq)) x
      = tileO m c t.val ((Rect.unit (s := S512x1024) ![0, c0] ![128, 128] iq).emb x) := by
  obtain ⟨r, d, rfl⟩ : ∃ r d : Fin 128, x = ix2 r d := ⟨x 0, x 1, eq_ix2 x⟩
  refine (out_eq (zz m c) 1 0 h (4 * t.val) 0 _ _ _ _ _ _ (fun r k => mask_first (grid0.coords t) _ (by rw [coord0 t]) r k)
    (fun r d => ld0 m c t 0 c0 iq r d _ _ (by omega) (by omega)) (fun k d => ld1 m c t 0 c0 iq k d _ _ (by omega) (by omega))
    (fun hn k d => ld2 m c t 0 c0 ip k d _ _ (by omega) (by omega)) (fun k d => ld3 m c t 0 c0 iq k d _ _ (by omega) (by omega))
    (fun hn k d => ld4 m c t 0 c0 ip k d _ _ (by omega) (by omega)) r d).trans ?_
  show _ = oN (zz m c) 1 0 (512 * t.val + (0 + 1 * r.val)) (c0 + 1 * d.val)
  unfold oN
  have h1 := r.isLt; have h2 := d.isLt
  congr 1 <;> omega

theorem laterS (c : Dev nD) (t : Fin cfg0.N) (b h r0 rp c0 : ℕ) (hb : b ≠ 0) (hb4 : b < 4) (hr : r0 = 128 * b) (hrp : rp + 128 = r0) (hc : c0 = 128 * h)
    (iq : ∀ a, ![r0, c0] a + ![128, 128] a ≤ S512x1024.size a) (ip : ∀ a, ![rp, c0] a + ![128, 128] a ≤ S512x1024.size a) (r : Fin 128) :
    (fun k : Fin 256 => scores (F := Ideal) k0_pay3 (View.ld (iblk m c 0 t) (Rect.unit (s := S512x1024) ![r0, c0] ![128, 128] iq)) (View.ld (iblk m c 1 t) (Rect.unit (s := S512x1024) ![rp, c0] ![128, 128] ip)) (View.ld (iblk m c 1 t) (Rect.unit (s := S512x1024) ![r0, c0] ![128, 128] iq)) (ix2 r k))
      = row (zz m c) 1 0 h (4 * t.val + b) 0 r.val :=
  scores_row (zz m c) 1 0 h (4 * t.val + b) 0 _ _ _ _ (fun r k => mask_later _ (by omega) r k)
    (fun r d => ld0 m c t r0 c0 iq r d _ _ (by omega) (by omega)) (fun k d => ld1 m c t r0 c0 iq k d _ _ (by omega) (by omega))
    (fun hn k d => ld1 m c t rp c0 ip k d _ _ (by omega) (by omega)) r

theorem laterO (c : Dev nD) (t : Fin cfg0.N) (b h r0 rp c0 : ℕ) (hb : b ≠ 0) (hb4 : b < 4) (hr : r0 = 128 * b) (hrp : rp + 128 = r0) (hc : c0 = 128 * h)
    (iq : ∀ a, ![r0, c0] a + ![128, 128] a ≤ S512x1024.size a) (ip : ∀ a, ![rp, c0] a + ![128, 128] a ≤ S512x1024.size a) (x : B.Idx) :
    out (F := Ideal) (scores (F := Ideal) k0_pay3 (View.ld (iblk m c 0 t) (Rect.unit (s := S512x1024) ![r0, c0] ![128, 128] iq)) (View.ld (iblk m c 1 t) (Rect.unit (s := S512x1024) ![rp, c0] ![128, 128] ip)) (View.ld (iblk m c 1 t) (Rect.unit (s := S512x1024) ![r0, c0] ![128, 128] iq)))
        (View.ld (iblk m c 3 t) (Rect.unit (s := S512x1024) ![rp, c0] ![128, 128] ip)) (View.ld (iblk m c 3 t) (Rect.unit (s := S512x1024) ![r0, c0] ![128, 128] iq)) x
      = tileO m c t.val ((Rect.unit (s := S512x1024) ![r0, c0] ![128, 128] iq).emb x) := by
  obtain ⟨r, d, rfl⟩ : ∃ r d : Fin 128, x = ix2 r d := ⟨x 0, x 1, eq_ix2 x⟩
  refine (out_eq (zz m c) 1 0 h (4 * t.val + b) 0 _ _ _ _ _ _ (fun r k => mask_later _ (by omega) r k)
    (fun r d => ld0 m c t r0 c0 iq r d _ _ (by omega) (by omega)) (fun k d => ld1 m c t r0 c0 iq k d _ _ (by omega) (by omega))
    (fun hn k d => ld1 m c t rp c0 ip k d _ _ (by omega) (by omega)) (fun k d => ld3 m c t r0 c0 iq k d _ _ (by omega) (by omega))
    (fun hn k d => ld3 m c t rp c0 ip k d _ _ (by omega) (by omega)) r d).trans ?_
  show _ = oN (zz m c) 1 0 (512 * t.val + (r0 + 1 * r.val)) (c0 + 1 * d.val)
  unfold oN
  have h1 := r.isLt; have h2 := d.isLt
  congr 1 <;> omega

/-- What a grid point leaves in the attention's block. -/
theorem outs_o (c : Dev nD) (t : Fin cfg0.N) (y : S512x1024.Idx) : (outsAt0 m c t).1 y = tileO m c t.val y := by
  have cov := cover0_A_5 (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (hcond0_0 t) (iblk m c 0 t) (iblk m c 1 t) (iblk m c 2 t) (iblk m c 3 t) (iblk m c 4 t)
  unfold outsAt0 out0_A_5
  dsimp only
  rw [View.read_writes_eq_canon _ _ _ cov]
  refine View.canon_apply_of_pieces (tileO m c t.val) _ ?_ y (cov y)
  unfold kernelRun0_A
  dsimp only
  sl_unfold_words
  simp only [View.readAt_eq_ld, (hs0_0 t).read_unread, (hs0_1 t).read_unread, (hs0_2 t).read_unread, (hs0_3 t).read_unread, (hs0_4 t).read_unread]
  exact
    (List.forall_mem_cons.2 ⟨laterO m c t 3 7 384 256 896 (by decide) (by decide) rfl rfl rfl _ _,
    (List.forall_mem_cons.2 ⟨laterO m c t 3 6 384 256 768 (by decide) (by decide) rfl rfl rfl _ _,
    (List.forall_mem_cons.2 ⟨laterO m c t 3 5 384 256 640 (by decide) (by decide) rfl rfl rfl _ _,
    (List.forall_mem_cons.2 ⟨laterO m c t 3 4 384 256 512 (by decide) (by decide) rfl rfl rfl _ _,
    (List.forall_mem_cons.2 ⟨laterO m c t 3 3 384 256 384 (by decide) (by decide) rfl rfl rfl _ _,
    (List.forall_mem_cons.2 ⟨laterO m c t 3 2 384 256 256 (by decide) (by decide) rfl rfl rfl _ _,
    (List.forall_mem_cons.2 ⟨laterO m c t 3 1 384 256 128 (by decide) (by decide) rfl rfl rfl _ _,
    (List.forall_mem_cons.2 ⟨laterO m c t 3 0 384 256 0 (by decide) (by decide) rfl rfl rfl _ _,
    (List.forall_mem_cons.2 ⟨laterO m c t 2 7 256 128 896 (by decide) (by decide) rfl rfl rfl _ _,
    (List.forall_mem_cons.2 ⟨laterO m c t 2 6 256 128 768 (by decide) (by decide) rfl rfl rfl _ _,
    (List.forall_mem_cons.2 ⟨laterO m c t 2 5 256 128 640 (by decide) (by decide) rfl rfl rfl _ _,
    (List.forall_mem_cons.2 ⟨laterO m c t 2 4 256 128 512 (by decide) (by decide) rfl rfl rfl _ _,
    (List.forall_mem_cons.2 ⟨laterO m c t 2 3 256 128 384 (by decide) (by decide) rfl rfl rfl _ _,
    (List.forall_mem_cons.2 ⟨laterO m c t 2 2 256 128 256 (by decide) (by decide) rfl rfl rfl _ _,
    (List.forall_mem_cons.2 ⟨laterO m c t 2 1 256 128 128 (by decide) (by decide) rfl rfl rfl _ _,
    (List.forall_mem_cons.2 ⟨laterO m c t 2 0 256 128 0 (by decide) (by decide) rfl rfl rfl _ _,
    (List.forall_mem_cons.2 ⟨laterO m c t 1 7 128 0 896 (by decide) (by decide) rfl rfl rfl _ _,
    (List.forall_mem_cons.2 ⟨laterO m c t 1 6 128 0 768 (by decide) (by decide) rfl rfl rfl _ _,
    (List.forall_mem_cons.2 ⟨laterO m c t 1 5 128 0 640 (by decide) (by decide) rfl rfl rfl _ _,
    (List.forall_mem_cons.2 ⟨laterO m c t 1 4 128 0 512 (by decide) (by decide) rfl rfl rfl _ _,
    (List.forall_mem_cons.2 ⟨laterO m c t 1 3 128 0 384 (by decide) (by decide) rfl rfl rfl _ _,
    (List.forall_mem_cons.2 ⟨laterO m c t 1 2 128 0 256 (by decide) (by decide) rfl rfl rfl _ _,
    (List.forall_mem_cons.2 ⟨laterO m c t 1 1 128 0 128 (by decide) (by decide) rfl rfl rfl _ _,
    (List.forall_mem_cons.2 ⟨laterO m c t 1 0 128 0 0 (by decide) (by decide) rfl rfl rfl _ _,
    (List.forall_mem_cons.2 ⟨firstO m c t 7 896 rfl _ _,
    (List.forall_mem_cons.2 ⟨firstO m c t 6 768 rfl _ _,
    (List.forall_mem_cons.2 ⟨firstO m c t 5 640 rfl _ _,
    (List.forall_mem_cons.2 ⟨firstO m c t 4 512 rfl _ _,
    (List.forall_mem_cons.2 ⟨firstO m c t 3 384 rfl _ _,
    (List.forall_mem_cons.2 ⟨firstO m c t 2 256 rfl _ _,
    (List.forall_mem_cons.2 ⟨firstO m c t 1 128 rfl _ _,
    (List.forall_mem_cons.2 ⟨firstO m c t 0 0 rfl _ _,
    (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)

/-! ## The log-sum-exps -/

section
variable {Val : EltTy → Type} [∀ e, Nonempty (Val e)] {S : Shape} {e : EltTy}

/-- Stores that agree with one function decide an element they reach, whatever was stored before. -/
theorem canon_hit (G : S.Idx → Val e) (M : List (View.Piece Val S e)) :
    ∀ (L : List (View.Piece Val S e)) (_ : ∀ p ∈ L, ∀ x : p.1.shape.Idx, p.2 x = G (p.1.emb x)) (y : S.Idx)
      (_ : ∃ p ∈ L, y ∈ p.1.set), View.canon (L ++ M) y = G y
  | [], _, _, hy => by obtain ⟨p, hp, _⟩ := hy; simp at hp
  | p :: L, hL, y, hy => by
    rw [List.cons_append]
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_hit G M L (fun q hq => hL q (by simp [hq])) y ?_
      obtain ⟨q, hq, hyq⟩ := hy
      rcases List.mem_cons.mp hq with rfl | hq'
      · exact absurd hyq hm
      · exact ⟨q, hq', hyq⟩

/-- Stores that do not reach an element leave it. -/
theorem canon_miss (M : List (View.Piece Val S e)) (y : S.Idx) :
    ∀ (L : List (View.Piece Val S e)) (_ : ∀ p ∈ L, y ∉ p.1.set), View.canon (L ++ M) y = View.canon M y
  | [], _ => rfl
  | p :: L, h => by
    rw [List.cons_append, View.canon_cons_of_not_mem _ _ (h p (by simp))]
    exact canon_miss M y L fun q hq => h q (by simp [hq])

end

/-- A band of the log-sum-exps' block. -/
abbrev lrect (r0 : ℕ) (il : ∀ a, ![r0, 0] a + ![128, 128] a ≤ S512x128.size a) : Rect S512x128 := Rect.unit ![r0, 0] ![128, 128] il

theorem lrect_apart (r0 r1 : ℕ) (il il') (h : r1 + 128 ≤ r0) (x : B.Idx) : (lrect r0 il).idx x ∉ (lrect r1 il').set := by
  rw [Rect.mem_set_unit]
  intro hh
  have h0 : r0 + 1 * (x 0).val < r1 + 128 := (hh 0).2
  omega

/-- Stores that miss a band leave the zeros the block was filled with. -/
theorem base_zero (v : View sig .tc .vmem S512x128 .f32) (L : List (View.Piece (Elt Ideal) S512x128 .f32)) (r0 : ℕ) (il)
    (iz : ∀ a, ![0, 0] a + ![512, 128] a ≤ S512x128.size a) (hL : ∀ p ∈ L, ∀ x : B.Idx, (lrect r0 il).idx x ∉ p.1.set) (x : B.Idx) :
    k0_pay6 (F := Ideal) (v.readCov (L ++ [⟨Rect.unit ![0, 0] ![512, 128] iz, k0_pay4 (F := Ideal)⟩]) (lrect r0 il).toLoadRect) x = 0 := by
  refine (congrFun (shapeCast_self (v.readCov _ (lrect r0 il).toLoadRect) _) x).trans ?_
  rw [View.readCov_eq_canon']
  show View.canon (L ++ _) ((lrect r0 il).idx x) = 0
  rw [canon_miss _ _ L fun p hp => hL p hp x, View.canon_unit_zero (funext fun a => match a with | ⟨0, _⟩ => rfl | ⟨1, _⟩ => rfl)]
  exact Ideal.ofBits_zero_f32

theorem base0 (v : View sig .tc .vmem S512x128 .f32) (il iz) (x : B.Idx) :
    k0_pay6 (F := Ideal) (v.readCov [⟨Rect.unit ![0, 0] ![512, 128] iz, k0_pay4 (F := Ideal)⟩] (lrect 0 il).toLoadRect) x = 0 :=
  base_zero v [] 0 il iz (fun _ h => absurd h List.not_mem_nil) x

theorem base1 (v : View sig .tc .vmem S512x128 .f32) (il iz i0) (P0 : B.Idx → EReal) (x : B.Idx) :
    k0_pay6 (F := Ideal) (v.readCov [⟨lrect 0 i0, P0⟩, ⟨Rect.unit ![0, 0] ![512, 128] iz, k0_pay4 (F := Ideal)⟩] (lrect 128 il).toLoadRect) x = 0 :=
  base_zero v [⟨lrect 0 i0, P0⟩] 128 il iz (List.forall_mem_cons.2 ⟨lrect_apart 128 0 il i0 (by decide), fun _ h => absurd h List.not_mem_nil⟩) x

theorem base2 (v : View sig .tc .vmem S512x128 .f32) (il iz i0 i1) (P0 P1 : B.Idx → EReal) (x : B.Idx) :
    k0_pay6 (F := Ideal) (v.readCov [⟨lrect 128 i1, P1⟩, ⟨lrect 0 i0, P0⟩, ⟨Rect.unit ![0, 0] ![512, 128] iz, k0_pay4 (F := Ideal)⟩]
      (lrect 256 il).toLoadRect) x = 0 :=
  base_zero v [⟨lrect 128 i1, P1⟩, ⟨lrect 0 i0, P0⟩] 256 il iz (List.forall_mem_cons.2 ⟨lrect_apart 256 128 il i1 (by decide),
    List.forall_mem_cons.2 ⟨lrect_apart 256 0 il i0 (by decide), fun _ h => absurd h List.not_mem_nil⟩⟩) x

theorem base3 (v : View sig .tc .vmem S512x128 .f32) (il iz i0 i1 i2) (P0 P1 P2 : B.Idx → EReal) (x : B.Idx) :
    k0_pay6 (F := Ideal) (v.readCov [⟨lrect 256 i2, P2⟩, ⟨lrect 128 i1, P1⟩, ⟨lrect 0 i0, P0⟩, ⟨Rect.unit ![0, 0] ![512, 128] iz, k0_pay4 (F := Ideal)⟩]
      (lrect 384 il).toLoadRect) x = 0 :=
  base_zero v [⟨lrect 256 i2, P2⟩, ⟨lrect 128 i1, P1⟩, ⟨lrect 0 i0, P0⟩] 384 il iz (List.forall_mem_cons.2 ⟨lrect_apart 384 256 il i2 (by decide),
    List.forall_mem_cons.2 ⟨lrect_apart 384 128 il i1 (by decide), List.forall_mem_cons.2 ⟨lrect_apart 384 0 il i0 (by decide),
    fun _ h => absurd h List.not_mem_nil⟩⟩⟩) x

/-- The scores of head `h` in such a band. -/
def firstSc (c : Dev nD) (t : Fin cfg0.N)
    (iq : ∀ h : Fin 8, ∀ a, ![0, 128 * h.val] a + ![128, 128] a ≤ S512x1024.size a) (ip : ∀ h : Fin 8, ∀ a, ![0, 128 * h.val] a + ![128, 128] a ≤ S128x1024.size a) (h : Fin 8) : FVec Ideal SC .f32 :=
  scores (F := Ideal) (k0_pay5 (grid0.coords t)) (View.ld (iblk m c 0 t) (Rect.unit (s := S512x1024) ![0, 128 * h.val] ![128, 128] (iq h)))
    (View.ld (iblk m c 2 t) (Rect.unit (s := S128x1024) ![0, 128 * h.val] ![128, 128] (ip h)))
    (View.ld (iblk m c 1 t) (Rect.unit (s := S512x1024) ![0, 128 * h.val] ![128, 128] (iq h)))

theorem firstL (c : Dev nD) (t : Fin cfg0.N)
    (iq : ∀ h : Fin 8, ∀ a, ![0, 128 * h.val] a + ![128, 128] a ≤ S512x1024.size a) (ip : ∀ h : Fin 8, ∀ a, ![0, 128 * h.val] a + ![128, 128] a ≤ S128x1024.size a)
    (il : ∀ a, ![0, 0] a + ![128, 128] a ≤ S512x128.size a) (acc : FVec Ideal B .f32) (hacc : ∀ x, acc x = 0) (x : B.Idx) :
    put (Scalar.addi (Scalar.muli (BitVec.ofNat 32 (grid0.coords t 1).val) 8#32) 7#32) (firstSc m c t iq ip 7) (put (Scalar.addi (Scalar.muli (BitVec.ofNat 32 (grid0.coords t 1).val) 8#32) 6#32) (firstSc m c t iq ip 6) (put (Scalar.addi (Scalar.muli (BitVec.ofNat 32 (grid0.coords t 1).val) 8#32) 5#32) (firstSc m c t iq ip 5) (put (Scalar.addi (Scalar.muli (BitVec.ofNat 32 (grid0.coords t 1).val) 8#32) 4#32) (firstSc m c t iq ip 4) (put (Scalar.addi (Scalar.muli (BitVec.ofNat 32 (grid0.coords t 1).val) 8#32) 3#32) (firstSc m c t iq ip 3) (put (Scalar.addi (Scalar.muli (BitVec.ofNat 32 (grid0.coords t 1).val) 8#32) 2#32) (firstSc m c t iq ip 2) (put (Scalar.addi (Scalar.muli (BitVec.ofNat 32 (grid0.coords t 1).val) 8#32) 1#32) (firstSc m c t iq ip 1) (put (Scalar.addi (Scalar.muli (BitVec.ofNat 32 (grid0.coords t 1).val) 8#32) 0#32) (firstSc m c t iq ip 0) acc))))))) x
      = tileL m c t.val ((Rect.unit (s := S512x128) ![0, 0] ![128, 128] il).emb x) := by
  obtain ⟨r, d, rfl⟩ : ∃ r d : Fin 128, x = ix2 r d := ⟨x 0, x 1, eq_ix2 x⟩
  refine (put8_eq (zz m c) 1 0 (4 * t.val) 0 (fun h => firstSc m c t iq ip h)
    (fun h => Scalar.addi (Scalar.muli (BitVec.ofNat 32 (grid0.coords t 1).val) 8#32) (BitVec.ofNat 32 h.val)) acc
    (fun h => by rw [coord1 t]; revert h; decide) hacc (fun h r => firstS m c t h.val _ rfl (iq h) (ip h) r) r d).trans ?_
  show _ = lN (zz m c) 1 0 (512 * t.val + (0 + 1 * r.val)) (0 + 1 * d.val)
  unfold lN
  have h1 := r.isLt; have h2 := d.isLt
  rw [show 0 + 1 * d.val = d.val by omega]
  refine if_congr Iff.rfl ?_ rfl
  congr 1 <;> omega

/-- The scores of head `h` in such a band. -/
def laterSc (c : Dev nD) (t : Fin cfg0.N) (r0 rp : ℕ)
    (iq : ∀ h : Fin 8, ∀ a, ![r0, 128 * h.val] a + ![128, 128] a ≤ S512x1024.size a) (ip : ∀ h : Fin 8, ∀ a, ![rp, 128 * h.val] a + ![128, 128] a ≤ S512x1024.size a) (h : Fin 8) : FVec Ideal SC .f32 :=
  scores (F := Ideal) k0_pay3 (View.ld (iblk m c 0 t) (Rect.unit (s := S512x1024) ![r0, 128 * h.val] ![128, 128] (iq h)))
    (View.ld (iblk m c 1 t) (Rect.unit (s := S512x1024) ![rp, 128 * h.val] ![128, 128] (ip h)))
    (View.ld (iblk m c 1 t) (Rect.unit (s := S512x1024) ![r0, 128 * h.val] ![128, 128] (iq h)))

theorem laterL (c : Dev nD) (t : Fin cfg0.N) (b r0 rp : ℕ) (hb : b ≠ 0) (hb4 : b < 4) (hr : r0 = 128 * b) (hrp : rp + 128 = r0)
    (iq : ∀ h : Fin 8, ∀ a, ![r0, 128 * h.val] a + ![128, 128] a ≤ S512x1024.size a) (ip : ∀ h : Fin 8, ∀ a, ![rp, 128 * h.val] a + ![128, 128] a ≤ S512x1024.size a)
    (il : ∀ a, ![r0, 0] a + ![128, 128] a ≤ S512x128.size a) (acc : FVec Ideal B .f32) (hacc : ∀ x, acc x = 0) (x : B.Idx) :
    put (Scalar.addi (Scalar.muli (BitVec.ofNat 32 (grid0.coords t 1).val) 8#32) 7#32) (laterSc m c t r0 rp iq ip 7) (put (Scalar.addi (Scalar.muli (BitVec.ofNat 32 (grid0.coords t 1).val) 8#32) 6#32) (laterSc m c t r0 rp iq ip 6) (put (Scalar.addi (Scalar.muli (BitVec.ofNat 32 (grid0.coords t 1).val) 8#32) 5#32) (laterSc m c t r0 rp iq ip 5) (put (Scalar.addi (Scalar.muli (BitVec.ofNat 32 (grid0.coords t 1).val) 8#32) 4#32) (laterSc m c t r0 rp iq ip 4) (put (Scalar.addi (Scalar.muli (BitVec.ofNat 32 (grid0.coords t 1).val) 8#32) 3#32) (laterSc m c t r0 rp iq ip 3) (put (Scalar.addi (Scalar.muli (BitVec.ofNat 32 (grid0.coords t 1).val) 8#32) 2#32) (laterSc m c t r0 rp iq ip 2) (put (Scalar.addi (Scalar.muli (BitVec.ofNat 32 (grid0.coords t 1).val) 8#32) 1#32) (laterSc m c t r0 rp iq ip 1) (put (Scalar.addi (Scalar.muli (BitVec.ofNat 32 (grid0.coords t 1).val) 8#32) 0#32) (laterSc m c t r0 rp iq ip 0) acc))))))) x
      = tileL m c t.val ((Rect.unit (s := S512x128) ![r0, 0] ![128, 128] il).emb x) := by
  obtain ⟨r, d, rfl⟩ : ∃ r d : Fin 128, x = ix2 r d := ⟨x 0, x 1, eq_ix2 x⟩
  refine (put8_eq (zz m c) 1 0 (4 * t.val + b) 0 (fun h => laterSc m c t r0 rp iq ip h)
    (fun h => Scalar.addi (Scalar.muli (BitVec.ofNat 32 (grid0.coords t 1).val) 8#32) (BitVec.ofNat 32 h.val)) acc
    (fun h => by rw [coord1 t]; revert h; decide) hacc (fun h r => laterS m c t b h.val r0 rp _ hb hb4 hr hrp rfl (iq h) (ip h) r) r d).trans ?_
  show _ = lN (zz m c) 1 0 (512 * t.val + (r0 + 1 * r.val)) (0 + 1 * d.val)
  unfold lN
  have h1 := r.isLt; have h2 := d.isLt
  rw [show 0 + 1 * d.val = d.val by omega]
  refine if_congr Iff.rfl ?_ rfl
  congr 1 <;> omega

theorem inQ (r0 : ℕ) (hr : r0 + 128 ≤ 512) (h : Fin 8) : ∀ a, ![r0, 128 * h.val] a + ![128, 128] a ≤ S512x1024.size a :=
  Rect.inb₂ (by show r0 + 128 ≤ 512; omega) (by show 128 * h.val + 128 ≤ 1024; omega)
theorem inP (h : Fin 8) : ∀ a, ![0, 128 * h.val] a + ![128, 128] a ≤ S128x1024.size a :=
  Rect.inb₂ (by show 0 + 128 ≤ 128; omega) (by show 128 * h.val + 128 ≤ 1024; omega)

theorem inL (r0 : ℕ) (hr : r0 + 128 ≤ 512) : ∀ a, ![r0, 0] a + ![128, 128] a ≤ S512x128.size a :=
  Rect.inb₂ (by show r0 + 128 ≤ 512; omega) (by show 0 + 128 ≤ 128; omega)

theorem lcover (i0 i1 i2 i3) (P0 P1 P2 P3 : B.Idx → EReal) (y : S512x128.Idx) :
    ∃ p ∈ ([⟨lrect 384 i3, P3⟩, ⟨lrect 256 i2, P2⟩, ⟨lrect 128 i1, P1⟩, ⟨lrect 0 i0, P0⟩] : List (View.Piece (Elt Ideal) S512x128 .f32)), y ∈ p.1.set := by
  have h0 : (y 0).val < 512 := (y 0).isLt
  have h1 : (y 1).val < 128 := (y 1).isLt
  have key : ∀ r0 il, r0 ≤ (y 0).val → (y 0).val < r0 + 128 → y ∈ (lrect r0 il).set := fun r0 il ha hb => by
    rw [Rect.mem_set_unit]
    intro a
    match a with
    | ⟨0, _⟩ => exact ⟨ha, hb⟩
    | ⟨1, _⟩ => exact ⟨Nat.zero_le _, by show (y 1).val < 0 + 128; omega⟩
  rcases (by omega : 384 ≤ (y 0).val ∨ (256 ≤ (y 0).val ∧ (y 0).val < 384) ∨ (128 ≤ (y 0).val ∧ (y 0).val < 256) ∨ (y 0).val < 128) with h | h | h | h
  · exact ⟨_, List.mem_cons_self, key 384 i3 h (by omega)⟩
  · exact ⟨_, List.mem_cons_of_mem _ List.mem_cons_self, key 256 i2 h.1 (by omega)⟩
  · exact ⟨_, List.mem_cons_of_mem _ (List.mem_cons_of_mem _ List.mem_cons_self), key 128 i1 h.1 (by omega)⟩
  · exact ⟨_, List.mem_cons_of_mem _ (List.mem_cons_of_mem _ (List.mem_cons_of_mem _ List.mem_cons_self)), key 0 i0 (by omega) (by omega)⟩

/-- What a grid point leaves in the log-sum-exps' block. -/
theorem outs_l (c : Dev nD) (t : Fin cfg0.N) (y : S512x128.Idx) : (outsAt0 m c t).2 y = tileL m c t.val y := by
  have cov := cover0_A_6 (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (hcond0_0 t) (iblk m c 0 t) (iblk m c 1 t) (iblk m c 2 t) (iblk m c 3 t) (iblk m c 4 t)
  unfold outsAt0 out0_A_6
  dsimp only
  rw [View.read_writes_eq_canon _ _ _ cov]
  clear cov
  unfold kernelRun0_A
  dsimp only
  sl_unfold_words
  simp only [View.readAt_eq_ld, (hs0_0 t).read_unread, (hs0_1 t).read_unread, (hs0_2 t).read_unread, (hs0_3 t).read_unread, (hs0_4 t).read_unread]
  refine canon_hit (tileL m c t.val) [_] [_, _, _, _] ?_ y (lcover _ _ _ _ _ _ _ _ y)
  refine List.forall_mem_cons.2 ⟨?_, List.forall_mem_cons.2 ⟨?_, List.forall_mem_cons.2 ⟨?_, List.forall_mem_cons.2 ⟨?_, fun _ h => absurd h List.not_mem_nil⟩⟩⟩⟩
  · exact laterL m c t 3 384 256 (by decide) (by decide) rfl rfl (inQ 384 (by decide)) (inQ 256 (by decide)) (inL 384 (by decide)) _ (fun x => base3 _ _ _ _ _ _ _ _ _ x)
  · exact laterL m c t 2 256 128 (by decide) (by decide) rfl rfl (inQ 256 (by decide)) (inQ 128 (by decide)) (inL 256 (by decide)) _ (fun x => base2 _ _ _ _ _ _ _ x)
  · exact laterL m c t 1 128 0 (by decide) (by decide) rfl rfl (inQ 128 (by decide)) (inQ 0 (by decide)) (inL 128 (by decide)) _ (fun x => base1 _ _ _ _ _ x)
  · exact firstL m c t (inQ 0 (by decide)) inP (inL 0 (by decide)) _ (fun x => base0 _ _ _ x)

/-! ## The arrays after the run -/

theorem final_o (c : Dev nD) : (dats m 0 c).arrAt 5 cfg0.N = O (zz m c) 1 0 := by
  refine (dats m 0 c).arrAt_eq_of_covers 5 _ (by decide +kernel) fun t hf y => ?_
  blk_simp
  rw [after0_5]
  refine (outs_o m c t y).trans ?_
  show oN (zz m c) 1 0 (512 * t.val + (y 0).val) (y 1).val = oN (zz m c) 1 0 _ _
  congr 1
  · blk_simp [index5 t]; simp; omega
  · blk_simp [index5 t]

theorem final_l (c : Dev nD) : (dats m 0 c).arrAt 6 cfg0.N = L (zz m c) 1 0 := by
  refine (dats m 0 c).arrAt_eq_of_covers 6 _ (by decide +kernel) fun t hf y => ?_
  blk_simp
  rw [after0_6]
  refine (outs_l m c t y).trans ?_
  show lN (zz m c) 1 0 (512 * t.val + (y 0).val) (y 1).val = lN (zz m c) 1 0 _ _
  congr 1
  · blk_simp [index6 t]; simp; omega
  · blk_simp [index6 t]

end Cert.AttnIdeal.Side

end
-- ==== Proof.Reference.lean ====
/- THE REFERENCE'S SIDE for the prompt's attention of head group 0: the reference, read one operation at a time at an index
   given by its coordinates, is the attention of `Spec`. -/
module

public import proofs.«01_k».proof.Proof.Gen.AttnRefIdeal.Read
public import proofs.«01_k».proof.Proof.Spec
public import Idealize.ShloMosaic.Lib.WordArith
public import Idealize.ShloMosaic.Lib.ValueIdxRank6

@[expose] public section

set_option maxRecDepth 16384

noncomputable section

namespace Cert.AttnRefIdeal.Side

open Cert.AttnRefIdeal Cert.AttnRefIdeal.Gen Cert.AttnRefIdeal.Read Idealize.ShloMosaic Idealize.ShloMosaic.TcCoe Idealize.SL.Sem Idealize.ShloMosaic.ValueIdx
open Cert.Band Cert.Spec

variable (x0 : S16384x17408.Idx → EReal)

attribute [local irreducible] zn att lse row topR wgtR denR

/-! ## Queries, keys and values as rows of the array -/

/-- A scaled element. -/
def zs (z : S16384x17408.Idx → EReal) (R C : ℕ) : EReal := zn z R C * sc

theorem at_v0 (i : S1x16384x17408.Idx) : val_main_v0 (F := Ideal) x0 i = zn x0 (i 1).val (i 2).val :=
  (val_main_v0_apply (F := Ideal) x0 i).trans (zn_eq x0 (idx_main_v0 i)).symm

theorem at_v3 (i : S1x16384x3072.Idx) : val_main_v3 (F := Ideal) x0 i = zn x0 ((i 1).val) (4096 + (i 2).val) := by
  have h0 : (i 0).val < 1 := (i 0).isLt
  have h1 : (i 1).val < 16384 := (i 1).isLt
  have h2 : (i 2).val < 3072 := (i 2).isLt
  refine (val_main_v3_apply (F := Ideal) x0 i).trans ((at_v0 x0 (idx_main_v3 i)).trans ?_)
  show zn x0 ((i 1).val) ((4096 + (i 2).val)) = _
  exact congr (congrArg (zn x0) (by omega)) (by omega)

theorem at_v4 (i : S1x16384x3072.Idx) : val_main_v4 (F := Ideal) x0 i = zn x0 ((i 1).val) (7168 + (i 2).val) := by
  have h0 : (i 0).val < 1 := (i 0).isLt
  have h1 : (i 1).val < 16384 := (i 1).isLt
  have h2 : (i 2).val < 3072 := (i 2).isLt
  refine (val_main_v4_apply (F := Ideal) x0 i).trans ((at_v0 x0 (idx_main_v4 i)).trans ?_)
  show zn x0 ((i 1).val) ((7168 + (i 2).val)) = _
  exact congr (congrArg (zn x0) (by omega)) (by omega)

theorem at_v5 (i : S1x16384x3072.Idx) : val_main_v5 (F := Ideal) x0 i = zn x0 ((i 1).val) (10240 + (i 2).val) := by
  have h0 : (i 0).val < 1 := (i 0).isLt
  have h1 : (i 1).val < 16384 := (i 1).isLt
  have h2 : (i 2).val < 3072 := (i 2).isLt
  refine (val_main_v5_apply (F := Ideal) x0 i).trans ((at_v0 x0 (idx_main_v5 i)).trans ?_)
  show zn x0 ((i 1).val) ((10240 + (i 2).val)) = _
  exact congr (congrArg (zn x0) (by omega)) (by omega)

theorem at_v8 (i : S1x16384x3x8x128.Idx) : val_main_v8 (F := Ideal) x0 i = zn x0 ((i 1).val) (4096 + 1024 * (i 2).val + 128 * (i 3).val + (i 4).val) := by
  have h0 : (i 0).val < 1 := (i 0).isLt
  have h1 : (i 1).val < 16384 := (i 1).isLt
  have h2 : (i 2).val < 3 := (i 2).isLt
  have h3 : (i 3).val < 8 := (i 3).isLt
  have h4 : (i 4).val < 128 := (i 4).isLt
  refine (val_main_v8_apply (F := Ideal) x0 i).trans ((at_v3 x0 (idx_main_v8 i)).trans ?_)
  show zn x0 (((((((i 0).val * 16384 + (i 1).val) * 3 + (i 2).val) * 8 + (i 3).val) * 128 + (i 4).val) / 3072 % 16384)) (4096 + ((((((i 0).val * 16384 + (i 1).val) * 3 + (i 2).val) * 8 + (i 3).val) * 128 + (i 4).val) % 3072)) = _
  exact congr (congrArg (zn x0) (by omega)) (by omega)

theorem at_v11 (i : S1x16384x3x8x128.Idx) : val_main_v11 (F := Ideal) x0 i = zn x0 ((i 1).val) (7168 + 1024 * (i 2).val + 128 * (i 3).val + (i 4).val) := by
  have h0 : (i 0).val < 1 := (i 0).isLt
  have h1 : (i 1).val < 16384 := (i 1).isLt
  have h2 : (i 2).val < 3 := (i 2).isLt
  have h3 : (i 3).val < 8 := (i 3).isLt
  have h4 : (i 4).val < 128 := (i 4).isLt
  refine (val_main_v11_apply (F := Ideal) x0 i).trans ((at_v4 x0 (idx_main_v11 i)).trans ?_)
  show zn x0 (((((((i 0).val * 16384 + (i 1).val) * 3 + (i 2).val) * 8 + (i 3).val) * 128 + (i 4).val) / 3072 % 16384)) (7168 + ((((((i 0).val * 16384 + (i 1).val) * 3 + (i 2).val) * 8 + (i 3).val) * 128 + (i 4).val) % 3072)) = _
  exact congr (congrArg (zn x0) (by omega)) (by omega)

theorem at_v12 (i : S1x16384x3x8x128.Idx) : val_main_v12 (F := Ideal) x0 i = zn x0 ((i 1).val) (10240 + 1024 * (i 2).val + 128 * (i 3).val + (i 4).val) := by
  have h0 : (i 0).val < 1 := (i 0).isLt
  have h1 : (i 1).val < 16384 := (i 1).isLt
  have h2 : (i 2).val < 3 := (i 2).isLt
  have h3 : (i 3).val < 8 := (i 3).isLt
  have h4 : (i 4).val < 128 := (i 4).isLt
  refine (val_main_v12_apply (F := Ideal) x0 i).trans ((at_v5 x0 (idx_main_v12 i)).trans ?_)
  show zn x0 (((((((i 0).val * 16384 + (i 1).val) * 3 + (i 2).val) * 8 + (i 3).val) * 128 + (i 4).val) / 3072 % 16384)) (10240 + ((((((i 0).val * 16384 + (i 1).val) * 3 + (i 2).val) * 8 + (i 3).val) * 128 + (i 4).val) % 3072)) = _
  exact congr (congrArg (zn x0) (by omega)) (by omega)

theorem at_v10 (i : S1x16384x3x8x128.Idx) :
    val_main_v10 (F := Ideal) x0 i = zs x0 (i 1).val (4096 + 1024 * (i 2).val + 128 * (i 3).val + (i 4).val) :=
  congrArg₂ (fun a b : EReal => a * b) (at_v8 x0 i) (val_main_v9_apply (F := Ideal) i)

theorem at_v13 (i : S1x16384x1x8x128.Idx) : val_main_v13 (F := Ideal) x0 i = zs x0 ((i 1).val) (4096 + 128 * (i 3).val + (i 4).val) := by
  have h0 : (i 0).val < 1 := (i 0).isLt
  have h1 : (i 1).val < 16384 := (i 1).isLt
  have h2 : (i 2).val < 1 := (i 2).isLt
  have h3 : (i 3).val < 8 := (i 3).isLt
  have h4 : (i 4).val < 128 := (i 4).isLt
  refine (val_main_v13_apply (F := Ideal) x0 i).trans ((at_v10 x0 (idx_main_v13 i)).trans ?_)
  show zs x0 ((i 1).val) (4096 + 1024 * (i 2).val + 128 * (i 3).val + (i 4).val) = _
  exact congr (congrArg (zs x0) (by omega)) (by omega)

theorem at_v15 (i : S1x16384x1x8x128.Idx) : val_main_v15 (F := Ideal) x0 i = zn x0 ((i 1).val) (7168 + 128 * (i 3).val + (i 4).val) := by
  have h0 : (i 0).val < 1 := (i 0).isLt
  have h1 : (i 1).val < 16384 := (i 1).isLt
  have h2 : (i 2).val < 1 := (i 2).isLt
  have h3 : (i 3).val < 8 := (i 3).isLt
  have h4 : (i 4).val < 128 := (i 4).isLt
  refine (val_main_v15_apply (F := Ideal) x0 i).trans ((at_v11 x0 (idx_main_v15 i)).trans ?_)
  show zn x0 ((i 1).val) (7168 + 1024 * (i 2).val + 128 * (i 3).val + (i 4).val) = _
  exact congr (congrArg (zn x0) (by omega)) (by omega)

theorem at_v17 (i : S1x16384x1x8x128.Idx) : val_main_v17 (F := Ideal) x0 i = zn x0 ((i 1).val) (10240 + 128 * (i 3).val + (i 4).val) := by
  have h0 : (i 0).val < 1 := (i 0).isLt
  have h1 : (i 1).val < 16384 := (i 1).isLt
  have h2 : (i 2).val < 1 := (i 2).isLt
  have h3 : (i 3).val < 8 := (i 3).isLt
  have h4 : (i 4).val < 128 := (i 4).isLt
  refine (val_main_v17_apply (F := Ideal) x0 i).trans ((at_v12 x0 (idx_main_v17 i)).trans ?_)
  show zn x0 ((i 1).val) (10240 + 1024 * (i 2).val + 128 * (i 3).val + (i 4).val) = _
  exact congr (congrArg (zn x0) (by omega)) (by omega)

theorem at_v14 (i : S1x16384x8x128.Idx) : val_main_v14 (F := Ideal) x0 i = zs x0 ((i 1).val) (4096 + 128 * (i 2).val + (i 3).val) := by
  have h0 : (i 0).val < 1 := (i 0).isLt
  have h1 : (i 1).val < 16384 := (i 1).isLt
  have h2 : (i 2).val < 8 := (i 2).isLt
  have h3 : (i 3).val < 128 := (i 3).isLt
  refine (val_main_v14_apply (F := Ideal) x0 i).trans ((at_v13 x0 (idx_main_v14 i)).trans ?_)
  show zs x0 ((((((i 0).val * 16384 + (i 1).val) * 8 + (i 2).val) * 128 + (i 3).val) / 1024 % 16384)) (4096 + 128 * (((((i 0).val * 16384 + (i 1).val) * 8 + (i 2).val) * 128 + (i 3).val) / 128 % 8) + (((((i 0).val * 16384 + (i 1).val) * 8 + (i 2).val) * 128 + (i 3).val) % 128)) = _
  exact congr (congrArg (zs x0) (by omega)) (by omega)

theorem at_v16 (i : S1x16384x8x128.Idx) : val_main_v16 (F := Ideal) x0 i = zn x0 ((i 1).val) (7168 + 128 * (i 2).val + (i 3).val) := by
  have h0 : (i 0).val < 1 := (i 0).isLt
  have h1 : (i 1).val < 16384 := (i 1).isLt
  have h2 : (i 2).val < 8 := (i 2).isLt
  have h3 : (i 3).val < 128 := (i 3).isLt
  refine (val_main_v16_apply (F := Ideal) x0 i).trans ((at_v15 x0 (idx_main_v16 i)).trans ?_)
  show zn x0 ((((((i 0).val * 16384 + (i 1).val) * 8 + (i 2).val) * 128 + (i 3).val) / 1024 % 16384)) (7168 + 128 * (((((i 0).val * 16384 + (i 1).val) * 8 + (i 2).val) * 128 + (i 3).val) / 128 % 8) + (((((i 0).val * 16384 + (i 1).val) * 8 + (i 2).val) * 128 + (i 3).val) % 128)) = _
  exact congr (congrArg (zn x0) (by omega)) (by omega)

theorem at_v18 (i : S1x16384x8x128.Idx) : val_main_v18 (F := Ideal) x0 i = zn x0 ((i 1).val) (10240 + 128 * (i 2).val + (i 3).val) := by
  have h0 : (i 0).val < 1 := (i 0).isLt
  have h1 : (i 1).val < 16384 := (i 1).isLt
  have h2 : (i 2).val < 8 := (i 2).isLt
  have h3 : (i 3).val < 128 := (i 3).isLt
  refine (val_main_v18_apply (F := Ideal) x0 i).trans ((at_v17 x0 (idx_main_v18 i)).trans ?_)
  show zn x0 ((((((i 0).val * 16384 + (i 1).val) * 8 + (i 2).val) * 128 + (i 3).val) / 1024 % 16384)) (10240 + 128 * (((((i 0).val * 16384 + (i 1).val) * 8 + (i 2).val) * 128 + (i 3).val) / 128 % 8) + (((((i 0).val * 16384 + (i 1).val) * 8 + (i 2).val) * 128 + (i 3).val) % 128)) = _
  exact congr (congrArg (zn x0) (by omega)) (by omega)

theorem at_v19 (i : S1x16384x1x8x128.Idx) : val_main_v19 (F := Ideal) x0 i = zs x0 ((i 1).val * 1 + (i 2).val) (4096 + 128 * (i 3).val + (i 4).val) := by
  have h0 : (i 0).val < 1 := (i 0).isLt
  have h1 : (i 1).val < 16384 := (i 1).isLt
  have h2 : (i 2).val < 1 := (i 2).isLt
  have h3 : (i 3).val < 8 := (i 3).isLt
  have h4 : (i 4).val < 128 := (i 4).isLt
  refine (val_main_v19_apply (F := Ideal) x0 i).trans ((at_v14 x0 (idx_main_v19 i)).trans ?_)
  show zs x0 (((((((i 0).val * 16384 + (i 1).val) * 1 + (i 2).val) * 8 + (i 3).val) * 128 + (i 4).val) / 1024 % 16384)) (4096 + 128 * ((((((i 0).val * 16384 + (i 1).val) * 1 + (i 2).val) * 8 + (i 3).val) * 128 + (i 4).val) / 128 % 8) + ((((((i 0).val * 16384 + (i 1).val) * 1 + (i 2).val) * 8 + (i 3).val) * 128 + (i 4).val) % 128)) = _
  exact congr (congrArg (zs x0) (by omega)) (by omega)

theorem at_v22 (i : S1x16384x1x8x128.Idx) : val_main_v22 (F := Ideal) x0 i = zn x0 ((i 1).val * 1 + (i 2).val) (7168 + 128 * (i 3).val + (i 4).val) := by
  have h0 : (i 0).val < 1 := (i 0).isLt
  have h1 : (i 1).val < 16384 := (i 1).isLt
  have h2 : (i 2).val < 1 := (i 2).isLt
  have h3 : (i 3).val < 8 := (i 3).isLt
  have h4 : (i 4).val < 128 := (i 4).isLt
  refine (val_main_v22_apply (F := Ideal) x0 i).trans ((at_v16 x0 (idx_main_v22 i)).trans ?_)
  show zn x0 (((((((i 0).val * 16384 + (i 1).val) * 1 + (i 2).val) * 8 + (i 3).val) * 128 + (i 4).val) / 1024 % 16384)) (7168 + 128 * ((((((i 0).val * 16384 + (i 1).val) * 1 + (i 2).val) * 8 + (i 3).val) * 128 + (i 4).val) / 128 % 8) + ((((((i 0).val * 16384 + (i 1).val) * 1 + (i 2).val) * 8 + (i 3).val) * 128 + (i 4).val) % 128)) = _
  exact congr (congrArg (zn x0) (by omega)) (by omega)

theorem at_v28 (i : S1x16384x1x8x128.Idx) : val_main_v28 (F := Ideal) x0 i = zn x0 ((i 1).val * 1 + (i 2).val) (10240 + 128 * (i 3).val + (i 4).val) := by
  have h0 : (i 0).val < 1 := (i 0).isLt
  have h1 : (i 1).val < 16384 := (i 1).isLt
  have h2 : (i 2).val < 1 := (i 2).isLt
  have h3 : (i 3).val < 8 := (i 3).isLt
  have h4 : (i 4).val < 128 := (i 4).isLt
  refine (val_main_v28_apply (F := Ideal) x0 i).trans ((at_v18 x0 (idx_main_v28 i)).trans ?_)
  show zn x0 (((((((i 0).val * 16384 + (i 1).val) * 1 + (i 2).val) * 8 + (i 3).val) * 128 + (i 4).val) / 1024 % 16384)) (10240 + 128 * ((((((i 0).val * 16384 + (i 1).val) * 1 + (i 2).val) * 8 + (i 3).val) * 128 + (i 4).val) / 128 % 8) + ((((((i 0).val * 16384 + (i 1).val) * 1 + (i 2).val) * 8 + (i 3).val) * 128 + (i 4).val) % 128)) = _
  exact congr (congrArg (zn x0) (by omega)) (by omega)

theorem at_v20 (i : S1x1x16384x8x128.Idx) : val_main_v20 (F := Ideal) x0 i = zs x0 ((i 2).val * 1 + (i 1).val) (4096 + 128 * (i 3).val + (i 4).val) := by
  have h0 : (i 0).val < 1 := (i 0).isLt
  have h1 : (i 1).val < 1 := (i 1).isLt
  have h2 : (i 2).val < 16384 := (i 2).isLt
  have h3 : (i 3).val < 8 := (i 3).isLt
  have h4 : (i 4).val < 128 := (i 4).isLt
  refine (val_main_v20_apply (F := Ideal) x0 i).trans ((at_v19 x0 (idx_main_v20 i)).trans ?_)
  show zs x0 ((i 2).val * 1 + (i 1).val) (4096 + 128 * (i 3).val + (i 4).val) = _
  exact congr (congrArg (zs x0) (by omega)) (by omega)

theorem at_v23 (i : S1x1x16384x8x128.Idx) : val_main_v23 (F := Ideal) x0 i = zn x0 ((i 2).val * 1 + (i 1).val) (7168 + 128 * (i 3).val + (i 4).val) := by
  have h0 : (i 0).val < 1 := (i 0).isLt
  have h1 : (i 1).val < 1 := (i 1).isLt
  have h2 : (i 2).val < 16384 := (i 2).isLt
  have h3 : (i 3).val < 8 := (i 3).isLt
  have h4 : (i 4).val < 128 := (i 4).isLt
  refine (val_main_v23_apply (F := Ideal) x0 i).trans ((at_v22 x0 (idx_main_v23 i)).trans ?_)
  show zn x0 ((i 2).val * 1 + (i 1).val) (7168 + 128 * (i 3).val + (i 4).val) = _
  exact congr (congrArg (zn x0) (by omega)) (by omega)

theorem at_v29 (i : S1x1x16384x8x128.Idx) : val_main_v29 (F := Ideal) x0 i = zn x0 ((i 2).val * 1 + (i 1).val) (10240 + 128 * (i 3).val + (i 4).val) := by
  have h0 : (i 0).val < 1 := (i 0).isLt
  have h1 : (i 1).val < 1 := (i 1).isLt
  have h2 : (i 2).val < 16384 := (i 2).isLt
  have h3 : (i 3).val < 8 := (i 3).isLt
  have h4 : (i 4).val < 128 := (i 4).isLt
  refine (val_main_v29_apply (F := Ideal) x0 i).trans ((at_v28 x0 (idx_main_v29 i)).trans ?_)
  show zn x0 ((i 2).val * 1 + (i 1).val) (10240 + 128 * (i 3).val + (i 4).val) = _
  exact congr (congrArg (zn x0) (by omega)) (by omega)

theorem at_v21 (i : S1x1x128x128x8x128.Idx) : val_main_v21 (F := Ideal) x0 i = zs x0 ((128 * (i 2).val + (i 3).val) * 1 + (i 1).val) (4096 + 128 * (i 4).val + (i 5).val) := by
  have h0 : (i 0).val < 1 := (i 0).isLt
  have h1 : (i 1).val < 1 := (i 1).isLt
  have h2 : (i 2).val < 128 := (i 2).isLt
  have h3 : (i 3).val < 128 := (i 3).isLt
  have h4 : (i 4).val < 8 := (i 4).isLt
  have h5 : (i 5).val < 128 := (i 5).isLt
  unfold val_main_v21
  refine (shapeCast_apply _ _ i (ix5 (⟨0, by omega⟩ : Fin 1) (⟨(i 1).val, by omega⟩ : Fin 1) (⟨128 * (i 2).val + (i 3).val, by omega⟩ : Fin 16384) (⟨(i 4).val, by omega⟩ : Fin 8) (⟨(i 5).val, by omega⟩ : Fin 128)) ?_).trans ((at_v20 x0 _).trans ?_)
  · rw [Shape.rowMajor_val_five, Shape.rowMajor_val_six]
    show ((((0) * 1 + ((i 1).val)) * 16384 + (128 * (i 2).val + (i 3).val)) * 8 + ((i 4).val)) * 128 + ((i 5).val) = ((((((i 0).val) * 1 + ((i 1).val)) * 128 + ((i 2).val)) * 128 + ((i 3).val)) * 8 + ((i 4).val)) * 128 + ((i 5).val)
    omega
  · show zs x0 ((128 * (i 2).val + (i 3).val) * 1 + (i 1).val) (4096 + 128 * (i 4).val + (i 5).val) = _
    exact congr (congrArg (zs x0) (by omega)) (by omega)

theorem at_v24 (i : S1x1x128x128x8x128.Idx) : val_main_v24 (F := Ideal) x0 i = zn x0 ((128 * (i 2).val + (i 3).val) * 1 + (i 1).val) (7168 + 128 * (i 4).val + (i 5).val) := by
  have h0 : (i 0).val < 1 := (i 0).isLt
  have h1 : (i 1).val < 1 := (i 1).isLt
  have h2 : (i 2).val < 128 := (i 2).isLt
  have h3 : (i 3).val < 128 := (i 3).isLt
  have h4 : (i 4).val < 8 := (i 4).isLt
  have h5 : (i 5).val < 128 := (i 5).isLt
  unfold val_main_v24
  refine (shapeCast_apply _ _ i (ix5 (⟨0, by omega⟩ : Fin 1) (⟨(i 1).val, by omega⟩ : Fin 1) (⟨128 * (i 2).val + (i 3).val, by omega⟩ : Fin 16384) (⟨(i 4).val, by omega⟩ : Fin 8) (⟨(i 5).val, by omega⟩ : Fin 128)) ?_).trans ((at_v23 x0 _).trans ?_)
  · rw [Shape.rowMajor_val_five, Shape.rowMajor_val_six]
    show ((((0) * 1 + ((i 1).val)) * 16384 + (128 * (i 2).val + (i 3).val)) * 8 + ((i 4).val)) * 128 + ((i 5).val) = ((((((i 0).val) * 1 + ((i 1).val)) * 128 + ((i 2).val)) * 128 + ((i 3).val)) * 8 + ((i 4).val)) * 128 + ((i 5).val)
    omega
  · show zn x0 ((128 * (i 2).val + (i 3).val) * 1 + (i 1).val) (7168 + 128 * (i 4).val + (i 5).val) = _
    exact congr (congrArg (zn x0) (by omega)) (by omega)

theorem at_v30 (i : S1x1x128x128x8x128.Idx) : val_main_v30 (F := Ideal) x0 i = zn x0 ((128 * (i 2).val + (i 3).val) * 1 + (i 1).val) (10240 + 128 * (i 4).val + (i 5).val) := by
  have h0 : (i 0).val < 1 := (i 0).isLt
  have h1 : (i 1).val < 1 := (i 1).isLt
  have h2 : (i 2).val < 128 := (i 2).isLt
  have h3 : (i 3).val < 128 := (i 3).isLt
  have h4 : (i 4).val < 8 := (i 4).isLt
  have h5 : (i 5).val < 128 := (i 5).isLt
  unfold val_main_v30
  refine (shapeCast_apply _ _ i (ix5 (⟨0, by omega⟩ : Fin 1) (⟨(i 1).val, by omega⟩ : Fin 1) (⟨128 * (i 2).val + (i 3).val, by omega⟩ : Fin 16384) (⟨(i 4).val, by omega⟩ : Fin 8) (⟨(i 5).val, by omega⟩ : Fin 128)) ?_).trans ((at_v29 x0 _).trans ?_)
  · rw [Shape.rowMajor_val_five, Shape.rowMajor_val_six]
    show ((((0) * 1 + ((i 1).val)) * 16384 + (128 * (i 2).val + (i 3).val)) * 8 + ((i 4).val)) * 128 + ((i 5).val) = ((((((i 0).val) * 1 + ((i 1).val)) * 128 + ((i 2).val)) * 128 + ((i 3).val)) * 8 + ((i 4).val)) * 128 + ((i 5).val)
    omega
  · show zn x0 ((128 * (i 2).val + (i 3).val) * 1 + (i 1).val) (10240 + 128 * (i 4).val + (i 5).val) = _
    exact congr (congrArg (zn x0) (by omega)) (by omega)

/-! ## The keys and values of the two bands that a query can see -/

/-- The band before, where there is one. -/
theorem at_v26 (i : S1x1x128x128x8x128.Idx) (hi : (i 2).val ≠ 0) : val_main_v26 (F := Ideal) x0 i = zn x0 ((128 * (i 2).val + (i 3).val - 128) * 1 + (i 1).val) (7168 + 128 * (i 4).val + (i 5).val) := by
  have h0 : (i 0).val < 1 := (i 0).isLt
  have h1 : (i 1).val < 1 := (i 1).isLt
  have h2 : (i 2).val < 128 := (i 2).isLt
  have h3 : (i 3).val < 128 := (i 3).isLt
  have h4 : (i 4).val < 8 := (i 4).isLt
  have h5 : (i 5).val < 128 := (i 5).isLt
  refine (val_main_v26_apply (F := Ideal) x0 i).trans ?_
  unfold val_main_v25 pad
  rw [dif_pos (fun a => match a with
      | ⟨0, _⟩ => by show 0 ≤ (i 0).val ∧ ((i 0).val - 0) % (0 + 1) = 0 ∧ ((i 0).val - 0) / (0 + 1) < 1; omega
      | ⟨1, _⟩ => by show 0 ≤ (i 1).val ∧ ((i 1).val - 0) % (0 + 1) = 0 ∧ ((i 1).val - 0) / (0 + 1) < 1; omega
      | ⟨2, _⟩ => by show 1 ≤ (i 2).val ∧ ((i 2).val - 1) % (0 + 1) = 0 ∧ ((i 2).val - 1) / (0 + 1) < 128; omega
      | ⟨3, _⟩ => by show 0 ≤ (i 3).val ∧ ((i 3).val - 0) % (0 + 1) = 0 ∧ ((i 3).val - 0) / (0 + 1) < 128; omega
      | ⟨4, _⟩ => by show 0 ≤ (i 4).val ∧ ((i 4).val - 0) % (0 + 1) = 0 ∧ ((i 4).val - 0) / (0 + 1) < 8; omega
      | ⟨5, _⟩ => by show 0 ≤ (i 5).val ∧ ((i 5).val - 0) % (0 + 1) = 0 ∧ ((i 5).val - 0) / (0 + 1) < 128; omega)]
  refine (at_v24 x0 _).trans ?_
  show zn x0 ((128 * (((i 2).val - 1) / (0 + 1)) + (((i 3).val - 0) / (0 + 1))) * 1 + (((i 1).val - 0) / (0 + 1))) (7168 + 128 * (((i 4).val - 0) / (0 + 1)) + (((i 5).val - 0) / (0 + 1))) = _
  exact congr (congrArg (zn x0) (by omega)) (by omega)

theorem at_v27 (i : S1x1x128x256x8x128.Idx) (r : ℕ) (hv : Vis (i 2).val r (i 3).val) :
    val_main_v27 (F := Ideal) x0 i = zn x0 (krow 1 (i 2).val (i 1).val (i 3).val) (7168 + 128 * (i 4).val + (i 5).val) := by
  have h0 : (i 0).val < 1 := (i 0).isLt
  have h1 : (i 1).val < 1 := (i 1).isLt
  have h2 : (i 2).val < 128 := (i 2).isLt
  have h3 : (i 3).val < 256 := (i 3).isLt
  have h4 : (i 4).val < 8 := (i 4).isLt
  have h5 : (i 5).val < 128 := (i 5).isLt
  unfold Vis at hv
  unfold val_main_v27
  by_cases hlt : (i 3).val < 128
  · refine (concatenate_pair_apply_left (s₁ := S1x1x128x128x8x128) (s₂ := S1x1x128x128x8x128) 3 _ _ _ i rfl (ix6 (i 0) (i 1) (i 2) (⟨(i 3).val, hlt⟩ : Fin 128) (i 4) (i 5)) fun b => match b with
      | ⟨0, _⟩ => rfl | ⟨1, _⟩ => rfl | ⟨2, _⟩ => rfl | ⟨3, _⟩ => rfl | ⟨4, _⟩ => rfl | ⟨5, _⟩ => rfl).trans ?_
    exact at_v26 x0 _ (by show (i 2).val ≠ 0; omega)
  · refine (concatenate_pair_apply_right (s₁ := S1x1x128x128x8x128) (s₂ := S1x1x128x128x8x128) 3 _ _ _ i rfl rfl (ix6 (i 0) (i 1) (i 2) (⟨(i 3).val - 128, by omega⟩ : Fin 128) (i 4) (i 5)) (fun b hb => match b, hb with
      | ⟨0, _⟩, _ => rfl | ⟨1, _⟩, _ => rfl | ⟨2, _⟩, _ => rfl | ⟨3, _⟩, hb => absurd rfl hb | ⟨4, _⟩, _ => rfl | ⟨5, _⟩, _ => rfl)
      (by show (i 3).val - 128 + 128 = (i 3).val; omega)).trans ?_
    refine (at_v24 x0 _).trans ?_
    show zn x0 ((128 * (i 2).val + ((i 3).val - 128)) * 1 + (i 1).val) (7168 + 128 * (i 4).val + (i 5).val) = zn x0 ((128 * (i 2).val + (i 3).val - 128) * 1 + (i 1).val) _
    rw [show 128 * (i 2).val + ((i 3).val - 128) = 128 * (i 2).val + (i 3).val - 128 by omega]

/-- The band before, where there is one. -/
theorem at_v32 (i : S1x1x128x128x8x128.Idx) (hi : (i 2).val ≠ 0) : val_main_v32 (F := Ideal) x0 i = zn x0 ((128 * (i 2).val + (i 3).val - 128) * 1 + (i 1).val) (10240 + 128 * (i 4).val + (i 5).val) := by
  have h0 : (i 0).val < 1 := (i 0).isLt
  have h1 : (i 1).val < 1 := (i 1).isLt
  have h2 : (i 2).val < 128 := (i 2).isLt
  have h3 : (i 3).val < 128 := (i 3).isLt
  have h4 : (i 4).val < 8 := (i 4).isLt
  have h5 : (i 5).val < 128 := (i 5).isLt
  refine (val_main_v32_apply (F := Ideal) x0 i).trans ?_
  unfold val_main_v31 pad
  rw [dif_pos (fun a => match a with
      | ⟨0, _⟩ => by show 0 ≤ (i 0).val ∧ ((i 0).val - 0) % (0 + 1) = 0 ∧ ((i 0).val - 0) / (0 + 1) < 1; omega
      | ⟨1, _⟩ => by show 0 ≤ (i 1).val ∧ ((i 1).val - 0) % (0 + 1) = 0 ∧ ((i 1).val - 0) / (0 + 1) < 1; omega
      | ⟨2, _⟩ => by show 1 ≤ (i 2).val ∧ ((i 2).val - 1) % (0 + 1) = 0 ∧ ((i 2).val - 1) / (0 + 1) < 128; omega
      | ⟨3, _⟩ => by show 0 ≤ (i 3).val ∧ ((i 3).val - 0) % (0 + 1) = 0 ∧ ((i 3).val - 0) / (0 + 1) < 128; omega
      | ⟨4, _⟩ => by show 0 ≤ (i 4).val ∧ ((i 4).val - 0) % (0 + 1) = 0 ∧ ((i 4).val - 0) / (0 + 1) < 8; omega
      | ⟨5, _⟩ => by show 0 ≤ (i 5).val ∧ ((i 5).val - 0) % (0 + 1) = 0 ∧ ((i 5).val - 0) / (0 + 1) < 128; omega)]
  refine (at_v30 x0 _).trans ?_
  show zn x0 ((128 * (((i 2).val - 1) / (0 + 1)) + (((i 3).val - 0) / (0 + 1))) * 1 + (((i 1).val - 0) / (0 + 1))) (10240 + 128 * (((i 4).val - 0) / (0 + 1)) + (((i 5).val - 0) / (0 + 1))) = _
  exact congr (congrArg (zn x0) (by omega)) (by omega)

theorem at_v33 (i : S1x1x128x256x8x128.Idx) (r : ℕ) (hv : Vis (i 2).val r (i 3).val) :
    val_main_v33 (F := Ideal) x0 i = zn x0 (krow 1 (i 2).val (i 1).val (i 3).val) (10240 + 128 * (i 4).val + (i 5).val) := by
  have h0 : (i 0).val < 1 := (i 0).isLt
  have h1 : (i 1).val < 1 := (i 1).isLt
  have h2 : (i 2).val < 128 := (i 2).isLt
  have h3 : (i 3).val < 256 := (i 3).isLt
  have h4 : (i 4).val < 8 := (i 4).isLt
  have h5 : (i 5).val < 128 := (i 5).isLt
  unfold Vis at hv
  unfold val_main_v33
  by_cases hlt : (i 3).val < 128
  · refine (concatenate_pair_apply_left (s₁ := S1x1x128x128x8x128) (s₂ := S1x1x128x128x8x128) 3 _ _ _ i rfl (ix6 (i 0) (i 1) (i 2) (⟨(i 3).val, hlt⟩ : Fin 128) (i 4) (i 5)) fun b => match b with
      | ⟨0, _⟩ => rfl | ⟨1, _⟩ => rfl | ⟨2, _⟩ => rfl | ⟨3, _⟩ => rfl | ⟨4, _⟩ => rfl | ⟨5, _⟩ => rfl).trans ?_
    exact at_v32 x0 _ (by show (i 2).val ≠ 0; omega)
  · refine (concatenate_pair_apply_right (s₁ := S1x1x128x128x8x128) (s₂ := S1x1x128x128x8x128) 3 _ _ _ i rfl rfl (ix6 (i 0) (i 1) (i 2) (⟨(i 3).val - 128, by omega⟩ : Fin 128) (i 4) (i 5)) (fun b hb => match b, hb with
      | ⟨0, _⟩, _ => rfl | ⟨1, _⟩, _ => rfl | ⟨2, _⟩, _ => rfl | ⟨3, _⟩, hb => absurd rfl hb | ⟨4, _⟩, _ => rfl | ⟨5, _⟩, _ => rfl)
      (by show (i 3).val - 128 + 128 = (i 3).val; omega)).trans ?_
    refine (at_v30 x0 _).trans ?_
    show zn x0 ((128 * (i 2).val + ((i 3).val - 128)) * 1 + (i 1).val) (10240 + 128 * (i 4).val + (i 5).val) = zn x0 ((128 * (i 2).val + (i 3).val - 128) * 1 + (i 1).val) _
    rw [show 128 * (i 2).val + ((i 3).val - 128) = 128 * (i 2).val + (i 3).val - 128 by omega]

/-! ## The scores -/

theorem sle_ofInt (a b : ℤ) (ha : -2 ^ 31 ≤ a ∧ a < 2 ^ 31) (hb : -2 ^ 31 ≤ b ∧ b < 2 ^ 31) :
    BitVec.sle (BitVec.ofInt 32 a) (BitVec.ofInt 32 b) = decide (a ≤ b) := by
  unfold BitVec.sle
  rw [BitVec.toInt_ofInt, BitVec.toInt_ofInt, Int.bmod_eq_of_le (by omega) (by omega), Int.bmod_eq_of_le (by omega) (by omega)]

/-- The mask: distances from 0 to 128, and no key before the first. -/
theorem mask_apply (n : Fin 128) (r : Fin 128) (k : Fin 256) : val_main_v64 (F := Ideal) (ix3 n r k) = 1#1 ↔ Vis n.val r.val k.val := by
  have hn := n.isLt; have hr := r.isLt; have hk := k.isLt
  have e : val_main_v64 (F := Ideal) (ix3 n r k) = IntOp.andi
      (IntOp.andi (BitVec.ofBool (BitVec.sle 0#32 (BitVec.ofNat 32 r.val + 128#32 - BitVec.ofNat 32 k.val)))
        (BitVec.ofBool (BitVec.sle (BitVec.ofNat 32 r.val + 128#32 - BitVec.ofNat 32 k.val) 128#32)))
      (BitVec.ofBool (BitVec.sle 0#32 (BitVec.ofNat 32 n.val * 128#32 + BitVec.ofNat 32 k.val - 128#32))) := by
    rw [val_main_v64_apply, val_main_v62_apply, val_main_v61_apply, val_main_v58_apply, val_main_v55_apply, val_main_v57_apply, val_main_v54_apply,
      val_main_v56_apply, val_main_v43_apply, val_main_v41_apply, val_main_v42_apply, val_main_v40_apply, val_main_v36_apply, val_main_v39_apply,
      val_main_v63_apply, val_main_v60_apply, val_main_v59_apply, val_main_v53_apply, val_main_v52_apply, val_main_v51_apply, val_main_v49_apply,
      val_main_v50_apply, val_main_v47_apply, val_main_v48_apply, val_main_v45_apply, val_main_v46_apply, val_main_v38_apply]
    rfl
  have e1 : BitVec.ofNat 32 r.val + 128#32 - BitVec.ofNat 32 k.val = BitVec.ofInt 32 ((r.val : ℤ) + 128 - k.val) := by
    refine (BitVec.eq_sub_iff_add_eq.2 ?_).symm
    rw [show BitVec.ofNat 32 k.val = BitVec.ofInt 32 k.val from (BitVec.ofInt_natCast _ _).symm, show BitVec.ofNat 32 r.val = BitVec.ofInt 32 r.val from (BitVec.ofInt_natCast _ _).symm,
      show (128#32) = BitVec.ofInt 32 128 from rfl, ← BitVec.ofInt_add, ← BitVec.ofInt_add]
    congr 1; omega
  have e2 : BitVec.ofNat 32 n.val * 128#32 + BitVec.ofNat 32 k.val - 128#32 = BitVec.ofInt 32 ((n.val : ℤ) * 128 + k.val - 128) := by
    refine (BitVec.eq_sub_iff_add_eq.2 ?_).symm
    rw [show BitVec.ofNat 32 k.val = BitVec.ofInt 32 k.val from (BitVec.ofInt_natCast _ _).symm, show BitVec.ofNat 32 n.val = BitVec.ofInt 32 n.val from (BitVec.ofInt_natCast _ _).symm,
      show (128#32) = BitVec.ofInt 32 128 from rfl, ← BitVec.ofInt_mul, ← BitVec.ofInt_add, ← BitVec.ofInt_add]
    congr 1; omega
  rw [e, e1, e2, show (0#32) = BitVec.ofInt 32 0 from rfl, show (128#32) = BitVec.ofInt 32 128 from rfl,
    sle_ofInt _ _ (by omega) (by omega), sle_ofInt _ _ (by omega) (by omega), sle_ofInt _ _ (by omega) (by omega),
    WordArith.andi_ofBool, WordArith.andi_ofBool, WordArith.ofBool_eq_one_iff]
  unfold Vis
  simp only [Bool.and_eq_true, decide_eq_true_eq]
  omega

theorem at_v34 (i : S1x1x128x8x128x256.Idx) (hv : Vis (i 2).val (i 4).val (i 5).val) : val_main_v34 (F := Ideal) x0 i
    = ∑ d : Fin 128, (zn x0 ((128 * (i 2).val + (i 4).val) * 1 + (i 1).val) (4096 + 128 * (i 3).val + d.val) * sc)
      * zn x0 (krow 1 (i 2).val (i 1).val (i 5).val) (7168 + 128 * (i 3).val + d.val) :=
  (val_main_v34_apply x0 i).trans (Finset.sum_congr rfl fun d _ =>
    congrArg₂ (fun a b : EReal => a * b) (at_v21 x0 (lidx_main_v34 i d)) (at_v27 x0 (ridx_main_v34 i d) (i 4).val hv))

theorem at_v66 (i : S1x1x128x8x128x256.Idx) :
    val_main_v66 (F := Ideal) x0 i = score x0 1 0 (i 3).val (i 2).val (i 1).val (i 4).val (i 5).val := by
  refine (val_main_v66_apply (F := Ideal) x0 i).trans ?_
  have hm : val_main_call2_v1 (F := Ideal) i = val_main_v64 (F := Ideal) (ix3 (i 2) (i 4) (i 5)) := by
    rw [val_main_call2_v1_apply, val_main_v65_apply]
    congr 1
    funext a; apply Fin.ext
    match a with
    | ⟨0, _⟩ => rfl
    | ⟨1, _⟩ => rfl
    | ⟨2, _⟩ => rfl
  rw [hm]
  unfold score
  by_cases hv : Vis (i 2).val (i 4).val (i 5).val
  · rw [if_pos hv, (mask_apply (i 2) (i 4) (i 5)).2 hv]
    exact at_v34 x0 i hv
  · rw [if_neg hv]
    show (if val_main_v64 (F := Ideal) (ix3 (i 2) (i 4) (i 5)) = 1#1 then _ else val_main_call2_v2 (F := Ideal) i) = _
    rw [if_neg (fun e => hv ((mask_apply (i 2) (i 4) (i 5)).1 e)), val_main_call2_v2_apply]
    exact ofBits_bot

/-! ## The softmax -/

theorem reduces_last : S1x1x128x8x128x256.Reduces [5] S1x1x128x8x128 := by decide

theorem at_v67 (i : S1x1x128x8x128.Idx) : val_main_v67 (F := Ideal) x0 i = topR (row x0 1 0 (i 3).val (i 2).val (i 1).val (i 4).val) := by
  have e : val_main_v67 (F := Ideal) x0 i = Host.reduce (max : EReal → EReal → EReal) (val_main_v66 (F := Ideal) x0) (val_main_cst_8 (F := Ideal))
    reducesTo_S1x1x128x8x128x256_S1x1x128x8x128_d5 h_S_ i := rfl
  rw [e]
  refine Eq.trans (Host.reduce_eq_fold_single (max : EReal → EReal → EReal) (val_main_v66 (F := Ideal) x0) (val_main_cst_8 (F := Ideal)) reducesTo_S1x1x128x8x128x256_S1x1x128x8x128_d5 reduces_last h_S_ i) ?_
  unfold topR
  show Finset.fold max (Ideal.ofBits .f32 0xFF800000#32) _ _ = _
  rw [ofBits_bot]
  refine congrArg (fun f : Fin 256 → EReal => Finset.fold max ⊥ f Finset.univ) (funext fun k => ?_)
  unfold row
  refine (congrArg (val_main_v66 (F := Ideal) x0) (?_ : reduces_last.lift i k = ix6 (i 0) (i 1) (i 2) (i 3) (i 4) k)).trans (at_v66 x0 _)
  funext a; apply Fin.ext
  match a with
  | ⟨0, _⟩ => rfl
  | ⟨1, _⟩ => rfl
  | ⟨2, _⟩ => rfl
  | ⟨3, _⟩ => rfl
  | ⟨4, _⟩ => rfl
  | ⟨5, _⟩ => rfl

theorem at_v68 (i : S1x1x128x8x128x1.Idx) : val_main_v68 (F := Ideal) x0 i = topR (row x0 1 0 (i 3).val (i 2).val (i 1).val (i 4).val) := by
  have h0 : (i 0).val < 1 := (i 0).isLt
  have h1 : (i 1).val < 1 := (i 1).isLt
  have h2 : (i 2).val < 128 := (i 2).isLt
  have h3 : (i 3).val < 8 := (i 3).isLt
  have h4 : (i 4).val < 128 := (i 4).isLt
  have h5 : (i 5).val < 1 := (i 5).isLt
  refine (val_main_v68_apply (F := Ideal) x0 i).trans ((at_v67 x0 (idx_main_v68 i)).trans ?_)
  show topR (row x0 1 0 (i 3).val (i 2).val (0) (i 4).val) = _
  rw [show (i 1).val = 0 by omega]

theorem at_v71 (i : S1x1x128x8x128x256.Idx) : val_main_v71 (F := Ideal) x0 i = wgtR (row x0 1 0 (i 3).val (i 2).val (i 1).val (i 4).val) (i 5) := by
  have h0 : (i 0).val < 1 := (i 0).isLt
  have h1 : (i 1).val < 1 := (i 1).isLt
  have h2 : (i 2).val < 128 := (i 2).isLt
  have h3 : (i 3).val < 8 := (i 3).isLt
  have h4 : (i 4).val < 128 := (i 4).isLt
  have h5 : (i 5).val < 256 := (i 5).isLt
  have e : val_main_v69 (F := Ideal) x0 i = topR (row x0 1 0 (i 3).val (i 2).val (i 1).val (i 4).val) := by
    refine (val_main_v69_apply (F := Ideal) x0 i).trans ((at_v68 x0 (idx_main_v69 i)).trans ?_)
    show topR (row x0 1 0 (i 3).val (i 2).val (0) (i 4).val) = _
    rw [show (i 1).val = 0 by omega]
  unfold wgtR
  refine congrArg₂ (fun a b : EReal => Ideal.exp (a - b)) ((at_v66 x0 i).trans ?_) e
  unfold row
  rfl

theorem at_v72 (i : S1x1x128x8x128.Idx) : val_main_v72 (F := Ideal) x0 i = denR (row x0 1 0 (i 3).val (i 2).val (i 1).val (i 4).val) := by
  refine (val_main_v72_apply x0 i).trans ?_
  show Ideal.ofBits .f32 0x00000000#32 + _ = _
  rw [Ideal.ofBits_zero_f32, zero_add]
  unfold denR
  exact Finset.sum_congr rfl fun k _ => at_v71 x0 (idx_main_v72 i k)

theorem at_v73 (i : S1x1x128x8x128x128.Idx) : val_main_v73 (F := Ideal) x0 i
    = ∑ k : Fin 256, if Vis (i 2).val (i 5).val k.val then wgtR (row x0 1 0 (i 3).val (i 2).val (i 1).val (i 5).val) k
      * zn x0 (krow 1 (i 2).val (i 1).val k.val) (10240 + 128 * (i 3).val + (i 4).val) else 0 := by
  refine (val_main_v73_apply x0 i).trans ((Finset.sum_congr rfl fun k _ => (mul_comm _ _).trans
    (congrArg (fun a : EReal => a * val_main_v33 (F := Ideal) x0 (lidx_main_v73 i k)) (at_v71 x0 (ridx_main_v73 i k)))).trans ?_)
  exact num_eq x0 1 0 (i 3).val (i 2).val (i 1).val (i 5).val (fun k => val_main_v33 (F := Ideal) x0 (lidx_main_v73 i k)) _
    fun k hk => at_v33 x0 (lidx_main_v73 i k) (i 5).val hk

/-! ## The first result -/

theorem at_v81 (i : S1x1x128x128x8x128.Idx) :
    val_main_v81 (F := Ideal) x0 i = att x0 1 0 (i 4).val (i 2).val (i 1).val (i 3).val (i 5).val := by
  have h0 : (i 0).val < 1 := (i 0).isLt
  have h1 : (i 1).val < 1 := (i 1).isLt
  have h2 : (i 2).val < 128 := (i 2).isLt
  have h3 : (i 3).val < 128 := (i 3).isLt
  have h4 : (i 4).val < 8 := (i 4).isLt
  have h5 : (i 5).val < 128 := (i 5).isLt
  have e : val_main_v80 (F := Ideal) x0 i = denR (row x0 1 0 (i 4).val (i 2).val (i 1).val (i 3).val) := by
    refine (val_main_v80_apply (F := Ideal) x0 i).trans ((val_main_v79_apply (F := Ideal) x0 _).trans ((val_main_v78_apply (F := Ideal) x0 _).trans ((at_v72 x0 _).trans ?_)))
    show denR (row x0 1 0 (i 4).val (i 2).val 0 (i 3).val) = _
    rw [show (i 1).val = 0 by omega]
  unfold att
  exact congrArg₂ Ideal.div ((val_main_v74_apply (F := Ideal) x0 i).trans (at_v73 x0 (idx_main_v74 i))) e

theorem at_v82 (i : S1x1x16384x8x128.Idx) : val_main_v82 (F := Ideal) x0 i = att x0 1 0 ((i 3).val) ((i 2).val / 128) ((i 1).val) ((i 2).val % 128) ((i 4).val) := by
  have h0 : (i 0).val < 1 := (i 0).isLt
  have h1 : (i 1).val < 1 := (i 1).isLt
  have h2 : (i 2).val < 16384 := (i 2).isLt
  have h3 : (i 3).val < 8 := (i 3).isLt
  have h4 : (i 4).val < 128 := (i 4).isLt
  unfold val_main_v82
  refine (shapeCast_apply _ _ i (ix6 (⟨0, by omega⟩ : Fin 1) (⟨(i 1).val, by omega⟩ : Fin 1) (⟨(i 2).val / 128, by omega⟩ : Fin 128) (⟨(i 2).val % 128, by omega⟩ : Fin 128) (⟨(i 3).val, by omega⟩ : Fin 8) (⟨(i 4).val, by omega⟩ : Fin 128)) ?_).trans ((at_v81 x0 _).trans ?_)
  · rw [Shape.rowMajor_val_six, Shape.rowMajor_val_five]
    show (((((0) * 1 + ((i 1).val)) * 128 + ((i 2).val / 128)) * 128 + ((i 2).val % 128)) * 8 + ((i 3).val)) * 128 + ((i 4).val) = (((((i 0).val) * 1 + ((i 1).val)) * 16384 + ((i 2).val)) * 8 + ((i 3).val)) * 128 + ((i 4).val)
    omega
  · show att x0 1 0 ((i 3).val) (((i 2).val / 128)) ((i 1).val) (((i 2).val % 128)) ((i 4).val) = _
    exact congr (congr (congr (congr (congrArg (att x0 1 0) (by omega)) (by omega)) (by omega)) (by omega)) (by omega)

theorem at_v83 (i : S1x16384x1x8x128.Idx) : val_main_v83 (F := Ideal) x0 i = att x0 1 0 ((i 3).val) ((i 1).val / 128) ((i 2).val) ((i 1).val % 128) ((i 4).val) := by
  have h0 : (i 0).val < 1 := (i 0).isLt
  have h1 : (i 1).val < 16384 := (i 1).isLt
  have h2 : (i 2).val < 1 := (i 2).isLt
  have h3 : (i 3).val < 8 := (i 3).isLt
  have h4 : (i 4).val < 128 := (i 4).isLt
  refine (val_main_v83_apply (F := Ideal) x0 i).trans ((at_v82 x0 (idx_main_v83 i)).trans ?_)
  show att x0 1 0 ((i 3).val) ((i 1).val / 128) ((i 2).val) ((i 1).val % 128) ((i 4).val) = _
  exact congr (congr (congr (congr (congrArg (att x0 1 0) (by omega)) (by omega)) (by omega)) (by omega)) (by omega)

theorem at_v84 (i : S1x16384x8x128.Idx) : val_main_v84 (F := Ideal) x0 i = att x0 1 0 ((i 2).val) ((i 1).val / 1 / 128) ((i 1).val % 1) ((i 1).val / 1 % 128) ((i 3).val) := by
  have h0 : (i 0).val < 1 := (i 0).isLt
  have h1 : (i 1).val < 16384 := (i 1).isLt
  have h2 : (i 2).val < 8 := (i 2).isLt
  have h3 : (i 3).val < 128 := (i 3).isLt
  refine (val_main_v84_apply (F := Ideal) x0 i).trans ((at_v83 x0 (idx_main_v84 i)).trans ?_)
  show att x0 1 0 ((((((i 0).val * 16384 + (i 1).val) * 8 + (i 2).val) * 128 + (i 3).val) / 128 % 8)) ((((((i 0).val * 16384 + (i 1).val) * 8 + (i 2).val) * 128 + (i 3).val) / 1024 % 16384) / 128) (0) ((((((i 0).val * 16384 + (i 1).val) * 8 + (i 2).val) * 128 + (i 3).val) / 1024 % 16384) % 128) ((((((i 0).val * 16384 + (i 1).val) * 8 + (i 2).val) * 128 + (i 3).val) % 128)) = _
  exact congr (congr (congr (congr (congrArg (att x0 1 0) (by omega)) (by omega)) (by omega)) (by omega)) (by omega)

theorem at_v89 (i : S16384x1024.Idx) : val_main_v89 (F := Ideal) x0 i = att x0 1 0 ((i 1).val / 128) ((i 0).val / 1 / 128) ((i 0).val % 1) ((i 0).val / 1 % 128) ((i 1).val % 128) := by
  have h0 : (i 0).val < 16384 := (i 0).isLt
  have h1 : (i 1).val < 1024 := (i 1).isLt
  refine (val_main_v89_apply (F := Ideal) x0 i).trans ((at_v84 x0 (idx_main_v89 i)).trans ?_)
  show att x0 1 0 ((((i 0).val * 1024 + (i 1).val) / 128 % 8)) ((((i 0).val * 1024 + (i 1).val) / 1024 % 16384) / 1 / 128) ((((i 0).val * 1024 + (i 1).val) / 1024 % 16384) % 1) ((((i 0).val * 1024 + (i 1).val) / 1024 % 16384) / 1 % 128) ((((i 0).val * 1024 + (i 1).val) % 128)) = _
  exact congr (congr (congr (congr (congrArg (att x0 1 0) (by omega)) (by omega)) (by omega)) (by omega)) (by omega)

theorem res_o : val_main_v89 (F := Ideal) x0 = O x0 1 0 := funext fun i => at_v89 x0 i

/-! ## The second result -/

theorem at_v77 (i : S1x1x128x8x128.Idx) : val_main_v77 (F := Ideal) x0 i = lse x0 1 0 (i 3).val (i 2).val (i 1).val (i 4).val := by
  have h0 : (i 0).val < 1 := (i 0).isLt
  have h1 : (i 1).val < 1 := (i 1).isLt
  have h2 : (i 2).val < 128 := (i 2).isLt
  have h3 : (i 3).val < 8 := (i 3).isLt
  have h4 : (i 4).val < 128 := (i 4).isLt
  have e : val_main_v75 (F := Ideal) x0 i = topR (row x0 1 0 (i 3).val (i 2).val (i 1).val (i 4).val) := by
    unfold val_main_v75
    refine (shapeCast_apply _ _ i (ix6 (i 0) (i 1) (i 2) (i 3) (i 4) (0 : Fin 1)) ?_).trans (at_v68 x0 _)
    rw [Shape.rowMajor_val_six, Shape.rowMajor_val_five]
    show (((((i 0).val * 1 + (i 1).val) * 128 + (i 2).val) * 8 + (i 3).val) * 128 + (i 4).val) * 1 + 0
      = ((((i 0).val * 1 + (i 1).val) * 128 + (i 2).val) * 8 + (i 3).val) * 128 + (i 4).val
    omega
  unfold lse
  refine (val_main_v77_apply (F := Ideal) x0 i).trans ?_
  rw [e, val_main_v76_apply, at_v72 x0 i]
  rfl

theorem at_v85 (i : S1x1x128x128x8.Idx) : val_main_v85 (F := Ideal) x0 i = lse x0 1 0 ((i 4).val) ((i 2).val) ((i 1).val) ((i 3).val) := by
  have h0 : (i 0).val < 1 := (i 0).isLt
  have h1 : (i 1).val < 1 := (i 1).isLt
  have h2 : (i 2).val < 128 := (i 2).isLt
  have h3 : (i 3).val < 128 := (i 3).isLt
  have h4 : (i 4).val < 8 := (i 4).isLt
  refine (val_main_v85_apply (F := Ideal) x0 i).trans ((at_v77 x0 (idx_main_v85 i)).trans ?_)
  show lse x0 1 0 ((i 4).val) ((i 2).val) ((i 1).val) ((i 3).val) = _
  exact congr (congr (congr (congrArg (lse x0 1 0) (by omega)) (by omega)) (by omega)) (by omega)

theorem at_v86 (i : S1x1x16384x8.Idx) : val_main_v86 (F := Ideal) x0 i = lse x0 1 0 ((i 3).val) ((i 2).val / 128) ((i 1).val) ((i 2).val % 128) := by
  have h0 : (i 0).val < 1 := (i 0).isLt
  have h1 : (i 1).val < 1 := (i 1).isLt
  have h2 : (i 2).val < 16384 := (i 2).isLt
  have h3 : (i 3).val < 8 := (i 3).isLt
  refine (val_main_v86_apply (F := Ideal) x0 i).trans ((at_v85 x0 (idx_main_v86 i)).trans ?_)
  show lse x0 1 0 ((((((i 0).val * 1 + (i 1).val) * 16384 + (i 2).val) * 8 + (i 3).val) % 8)) ((((((i 0).val * 1 + (i 1).val) * 16384 + (i 2).val) * 8 + (i 3).val) / 1024 % 128)) (0) ((((((i 0).val * 1 + (i 1).val) * 16384 + (i 2).val) * 8 + (i 3).val) / 8 % 128)) = _
  exact congr (congr (congr (congrArg (lse x0 1 0) (by omega)) (by omega)) (by omega)) (by omega)

theorem at_v87 (i : S1x16384x1x8.Idx) : val_main_v87 (F := Ideal) x0 i = lse x0 1 0 ((i 3).val) ((i 1).val / 128) ((i 2).val) ((i 1).val % 128) := by
  have h0 : (i 0).val < 1 := (i 0).isLt
  have h1 : (i 1).val < 16384 := (i 1).isLt
  have h2 : (i 2).val < 1 := (i 2).isLt
  have h3 : (i 3).val < 8 := (i 3).isLt
  refine (val_main_v87_apply (F := Ideal) x0 i).trans ((at_v86 x0 (idx_main_v87 i)).trans ?_)
  show lse x0 1 0 ((i 3).val) ((i 1).val / 128) ((i 2).val) ((i 1).val % 128) = _
  exact congr (congr (congr (congrArg (lse x0 1 0) (by omega)) (by omega)) (by omega)) (by omega)

theorem at_v88 (i : S1x16384x8.Idx) : val_main_v88 (F := Ideal) x0 i = lse x0 1 0 ((i 2).val) ((i 1).val / 1 / 128) ((i 1).val % 1) ((i 1).val / 1 % 128) := by
  have h0 : (i 0).val < 1 := (i 0).isLt
  have h1 : (i 1).val < 16384 := (i 1).isLt
  have h2 : (i 2).val < 8 := (i 2).isLt
  refine (val_main_v88_apply (F := Ideal) x0 i).trans ((at_v87 x0 (idx_main_v88 i)).trans ?_)
  show lse x0 1 0 (((((i 0).val * 16384 + (i 1).val) * 8 + (i 2).val) % 8)) (((((i 0).val * 16384 + (i 1).val) * 8 + (i 2).val) / 8 % 16384) / 128) (0) (((((i 0).val * 16384 + (i 1).val) * 8 + (i 2).val) / 8 % 16384) % 128) = _
  exact congr (congr (congr (congrArg (lse x0 1 0) (by omega)) (by omega)) (by omega)) (by omega)

theorem at_v90 (i : S16384x8.Idx) : val_main_v90 (F := Ideal) x0 i = lse x0 1 0 ((i 1).val) ((i 0).val / 1 / 128) ((i 0).val % 1) ((i 0).val / 1 % 128) := by
  have h0 : (i 0).val < 16384 := (i 0).isLt
  have h1 : (i 1).val < 8 := (i 1).isLt
  refine (val_main_v90_apply (F := Ideal) x0 i).trans ((at_v88 x0 (idx_main_v90 i)).trans ?_)
  show lse x0 1 0 ((((i 0).val * 8 + (i 1).val) % 8)) ((((i 0).val * 8 + (i 1).val) / 8 % 16384) / 1 / 128) ((((i 0).val * 8 + (i 1).val) / 8 % 16384) % 1) ((((i 0).val * 8 + (i 1).val) / 8 % 16384) / 1 % 128) = _
  exact congr (congr (congr (congrArg (lse x0 1 0) (by omega)) (by omega)) (by omega)) (by omega)

theorem res_l : val_main_v91 (F := Ideal) x0 = L x0 1 0 := by
  funext i
  have h0 : (i 0).val < 16384 := (i 0).isLt
  have h1 : (i 1).val < 128 := (i 1).isLt
  unfold val_main_v91 pad
  show _ = lN x0 1 0 (i 0).val (i 1).val
  unfold lN
  by_cases hlt : (i 1).val < 8
  · rw [if_pos hlt, dif_pos (fun a => match a with
      | ⟨0, _⟩ => by show 0 ≤ (i 0).val ∧ ((i 0).val - 0) % (0 + 1) = 0 ∧ ((i 0).val - 0) / (0 + 1) < 16384; omega
      | ⟨1, _⟩ => by show 0 ≤ (i 1).val ∧ ((i 1).val - 0) % (0 + 1) = 0 ∧ ((i 1).val - 0) / (0 + 1) < 8; omega)]
    refine (at_v90 x0 _).trans ?_
    have e : ((i 0).val - 0) / (0 + 1) = (i 0).val := by omega
    have e' : ((i 1).val - 0) / (0 + 1) = (i 1).val := by omega
    show lse x0 1 0 (((i 1).val - 0) / (0 + 1)) ((((i 0).val - 0) / (0 + 1)) / 1 / 128) ((((i 0).val - 0) / (0 + 1)) % 1) ((((i 0).val - 0) / (0 + 1)) / 1 % 128) = _
    rw [e, e']
  · rw [if_neg hlt, dif_neg]
    · show (((0#32 : BitVec 32).toInt : ℝ) : EReal) = 0
      simp
    · intro hin
      have h : ((i 1).val - 0) / (0 + 1) < 8 := (hin (1 : Fin 2)).2.2
      omega

end Cert.AttnRefIdeal.Side

end
-- ==== Proof.Dense.lean ====
/- A ROW SCALED BY ITS ROOT MEAN SQUARE, as the model's dense parts use it: stated once for a row of 2048 entries, and read
   off the vector operations that compute it for a block of any number of rows. No program enters. -/
module

public import Idealize.ShloMosaic.PureOps.Ideal.Laws
public import Idealize.ShloMosaic.Lib.ValueIdx
public import Idealize.ShloMosaic.Lib.MatmulPlain
public import Idealize.ShloMosaic.Lib.Pipeline.Value

@[expose] public section

set_option maxRecDepth 16384

noncomputable section

namespace Cert.Dense

open Idealize.ShloMosaic Idealize.ShloMosaic.ValueIdx

/-- `a` rows of `b` entries. -/
abbrev M2 (a b : ℕ) : Shape := ⟨2, ![a, b]⟩
/-- `a` entries. -/
abbrev M1 (a : ℕ) : Shape := ⟨1, ![a]⟩

/-- The reciprocal root of a row's mean square plus the model's epsilon. -/
def scaleR (x : Fin 2048 → EReal) : EReal :=
  Ideal.rsqrt (Ideal.div (∑ j, x j * x j) (Ideal.ofBits .f32 0x45000000#32) + Ideal.ofBits .f32 0x358637BD#32)

/-- A row scaled by its root mean square and the gain. -/
def rmsR (x g : Fin 2048 → EReal) (k : Fin 2048) : EReal := x k * scaleR x * g k

variable {F : FTy → Type} [FloatOps F] {n : ℕ}

/-- The same over a block of `n` rows, in vector operations. -/
def rms (hr : (M2 n 2048).Reduces [1] (M1 n)) (hc : (M1 n).ShapeCasts (M2 n 1)) (hb : (M2 n 1).Broadcasts (M2 n 2048))
    (hg : (M2 1 2048).ShapeCasts (M2 1 2048)) (hgb : (M2 1 2048).Broadcasts (M2 n 2048))
    (x : FVec F (M2 n 2048) .f32) (g : FVec F (M2 1 2048) .f32) : FVec F (M2 n 2048) .f32 :=
  mulf (mulf x (broadcastTo (M2 n 2048)
    (rsqrt (addf (divf (shapeCast (M2 n 1) (multiReduction .add [1] (M1 n) (mulf x x) 0x00000000#32 hr (.inl rfl) rfl) hc)
      (broadcast (M2 n 1) (Scalar.ofBits (F := F) .f32 0x45000000#32))) (broadcast (M2 n 1) (Scalar.ofBits (F := F) .f32 0x358637BD#32)))) hb))
    (broadcastTo (M2 n 2048) (shapeCast (M2 1 2048) g hg) hgb)

theorem lift_eq (hr : (M2 n 2048).Reduces [1] (M1 n)) (r : Fin n) (k : Fin 2048) : hr.lift (ix1 r) k = ix2 r k := by
  funext a; apply Fin.ext
  match a with
  | ⟨0, _⟩ => rfl
  | ⟨1, _⟩ => rfl

theorem col_apply (v : (M1 n).Idx → EReal) (hc : (M1 n).ShapeCasts (M2 n 1)) (r : Fin n) (u : Fin 1) :
    shapeCast (M2 n 1) v hc (ix2 r u) = v (ix1 r) := by
  refine shapeCast_apply v hc (ix2 r u) (ix1 r) ?_
  have := u.isLt
  rw [Shape.rowMajor_val_one, Shape.rowMajor_val_two]
  show r.val = r.val * 1 + u.val
  omega

theorem spread_apply (v : (M2 n 1).Idx → EReal) (hb : (M2 n 1).Broadcasts (M2 n 2048)) (r : Fin n) (k : Fin 2048) :
    broadcastTo (M2 n 2048) v hb (ix2 r k) = v (ix2 r 0) :=
  broadcastTo_apply v hb (ix2 r k) (ix2 r 0) (fun a => match a with
    | ⟨0, _⟩ => by
      show r.val = if n = 1 then 0 else r.val
      have := r.isLt
      split <;> omega
    | ⟨1, _⟩ => rfl)

theorem gain_apply (v : (M2 1 2048).Idx → EReal) (hb : (M2 1 2048).Broadcasts (M2 n 2048)) (r : Fin n) (k : Fin 2048) :
    broadcastTo (M2 n 2048) v hb (ix2 r k) = v (ix2 0 k) :=
  broadcastTo_apply v hb (ix2 r k) (ix2 0 k) (fun a => match a with
    | ⟨0, _⟩ => rfl
    | ⟨1, _⟩ => rfl)

theorem rms_apply (hr : (M2 n 2048).Reduces [1] (M1 n)) (hc : (M1 n).ShapeCasts (M2 n 1)) (hb : (M2 n 1).Broadcasts (M2 n 2048))
    (hg : (M2 1 2048).ShapeCasts (M2 1 2048)) (hgb : (M2 1 2048).Broadcasts (M2 n 2048))
    (x : FVec Ideal (M2 n 2048) .f32) (g : FVec Ideal (M2 1 2048) .f32) (r : Fin n) (k : Fin 2048) :
    rms hr hc hb hg hgb x g (ix2 r k) = rmsR (fun j => x (ix2 r j)) (fun j => g (ix2 0 j)) k := by
  unfold rms rmsR scaleR
  rw [shapeCast_self]
  show x (ix2 r k) * broadcastTo (M2 n 2048) _ hb (ix2 r k) * broadcastTo (M2 n 2048) g hgb (ix2 r k) = _
  rw [spread_apply, gain_apply]
  show x (ix2 r k) * Ideal.rsqrt (Ideal.div (shapeCast (M2 n 1) _ hc (ix2 r 0)) (Ideal.ofBits .f32 0x45000000#32) + Ideal.ofBits .f32 0x358637BD#32) * _ = _
  rw [col_apply, Ideal.multiReduction_add_single (mulf x x) 0x00000000#32 hr (.inl rfl) rfl (ix1 r)]
  have e : (∑ k : Fin 2048, mulf x x (hr.lift (ix1 r) k)) = ∑ j : Fin 2048, x (ix2 r j) * x (ix2 r j) :=
    Finset.sum_congr rfl fun k _ => congrArg (mulf x x) (lift_eq hr r k)
  exact congrArg (fun z => x (ix2 r k) * Ideal.rsqrt (Ideal.div z (Ideal.ofBits .f32 0x45000000#32) + Ideal.ofBits .f32 0x358637BD#32) * g (ix2 0 k)) e

/-- A product accumulated from zero, at an entry. -/
theorem mm_apply {φ : FTy} {a b c : ℕ} (x : FVec Ideal (M2 a b) φ) (y : FVec Ideal (M2 b c) φ) (i : Fin a) (j : Fin c) :
    matmul (F := Ideal) (DotDims.plain a b c) none x y (constant (M2 a c) .f32 0x00000000#32) (ix2 i j) = ∑ k : Fin b, x (ix2 i k) * y (ix2 k j) := by
  show FloatOps.matmul (F := Ideal) (DotDims.plain a b c) none x y (constant (M2 a c) .f32 0x00000000#32) (ix2 i j) = _
  rw [Ideal.matmul_plain_apply]
  show Ideal.ofBits .f32 0x00000000#32 + _ = _
  rw [Ideal.ofBits_zero_f32, zero_add]

/-- The rows projected: each row scaled by its root mean square and the gain, times the weights. -/
def projS (x : (M2 16384 2048).Idx → EReal) (g : (M1 2048).Idx → EReal) (w : (M2 2048 17408).Idx → EReal) : (M2 16384 17408).Idx → EReal :=
  fun i => ∑ k : Fin 2048, rmsR (fun j => x (ix2 (i 0) j)) (fun j => g (ix1 j)) k * w (ix2 k (i 1))

/-- The residual rows: the mixed rows through the output weights, added. -/
def outS (x : (M2 16384 2048).Idx → EReal) (y : (M2 16384 2048).Idx → EReal) (w : (M2 2048 2048).Idx → EReal) (i : Fin 16384) (j : Fin 2048) : EReal :=
  x (ix2 i j) + ∑ k : Fin 2048, y (ix2 i k) * w (ix2 k j)

/-- … and those rows scaled by their root mean square and a gain. -/
def outN (x : (M2 16384 2048).Idx → EReal) (y : (M2 16384 2048).Idx → EReal) (w : (M2 2048 2048).Idx → EReal) (g : (M1 2048).Idx → EReal)
    (i : Fin 16384) (j : Fin 2048) : EReal := rmsR (outS x y w i) (fun j => g (ix1 j)) j

/-- The last rows: the experts' part, kept transposed, added, then scaled. -/
def finS (h : (M2 16384 2048).Idx → EReal) (yt : (M2 2048 16384).Idx → EReal) (g : (M1 2048).Idx → EReal) (i : Fin 16384) (j : Fin 2048) : EReal :=
  rmsR (fun k => h (ix2 i k) + yt (ix2 k i)) (fun j => g (ix1 j)) j

end Cert.Dense

end
-- ==== Proof.ProjKernel.lean ====
/- THE KERNEL'S SIDE for the projection of the prompt's rows: a run of grid points along the columns keeps the scaled rows in a
   scratch its first point fills, and each point stores their product with one block of the weights. -/
module

public import proofs.«01_k».proof.Proof.Gen.ProjIdeal.Value
public import proofs.«01_k».proof.Proof.Dense
public import Idealize.ShloMosaic.Lib.Pipeline.ValueKit.Geometry

@[expose] public section

set_option maxRecDepth 16384

noncomputable section

namespace Cert.ProjIdeal.Side

open Cert.ProjIdeal Cert.ProjIdeal.Gen Idealize.ShloMosaic Idealize.ShloMosaic.TcCoe Idealize.SL.Sem Idealize.ShloMosaic.ValueIdx
open Idealize.ShloMosaic.StableHlo
open Cert.Dense

variable (m : (ℓ : Loc nD τ sig) → Buf (Elt Ideal) ℓ)

abbrev xx (c : Dev nD) : (M2 16384 2048).Idx → EReal := m ((c : Thread nD τ).loc main_arg0)
abbrev gg (c : Dev nD) : (M1 2048).Idx → EReal := m ((c : Thread nD τ).loc main_arg1)
abbrev ww (c : Dev nD) : (M2 2048 17408).Idx → EReal := m ((c : Thread nD τ).loc main_arg2)

theorem index0 : ∀ t : Fin cfg0.N, win0_0.index t = ![t.val / 17, 0] := (by decide +kernel : ∀ t : Fin grid0.N, win0_0.index t = ![t.val / 17, 0])
theorem index1 : ∀ t : Fin cfg0.N, win0_1.index t = ![0, 0] := (by decide +kernel : ∀ t : Fin grid0.N, win0_1.index t = ![0, 0])
theorem index2 : ∀ t : Fin cfg0.N, win0_2.index t = ![0, t.val % 17] := (by decide +kernel : ∀ t : Fin grid0.N, win0_2.index t = ![0, t.val % 17])
theorem index3 : ∀ t : Fin cfg0.N, win0_3.index t = ![t.val / 17, t.val % 17] := (by decide +kernel : ∀ t : Fin grid0.N, win0_3.index t = ![t.val / 17, t.val % 17])

/-- The gain as the host lays it out. -/
theorem V_gain (c : Dev nD) (j : Fin 2048) : V m c main_v0 (ix2 0 j) = gg m c (ix1 j) := by
  have e : V m c main_v0 = shapeCast S1x2048 (m ((c : Thread nD τ).loc main_arg1)) shapeCasts_S2048_S1x2048 := by
    unfold_abbrev_sides
    after_results
    rfl
  rw [e]
  refine shapeCast_apply _ _ (ix2 0 j) (ix1 j) ?_
  rw [Shape.rowMajor_val_one, Shape.rowMajor_val_two]
  show j.val = 0 * 2048 + j.val
  omega

/-- The weights as the host casts them. -/
theorem V_weights (c : Dev nD) : V m c main_v1 = ww m c := by
  unfold_abbrev_sides
  after_results
  rfl

theorem iblk0_apply (c : Dev nD) (t : Fin cfg0.N) (y : S1024x2048.Idx) (R : Fin 16384) (K : Fin 2048) (hR : R.val = 1024 * (t.val / 17) + (y 0).val)
    (hK : K.val = (y 1).val) : iblk m c 0 t y = xx m c (ix2 R K) := by
  show V m c main_arg0 (((cfg0.win 0).blk t).view.emb y) = _
  rw [V_main_arg0]
  refine congrArg (xx m c) (funext fun a => Fin.ext ?_)
  match a with
  | ⟨0, _⟩ => refine Eq.trans ?_ hR.symm; blk_simp [index0 t]; simp; omega
  | ⟨1, _⟩ => refine Eq.trans ?_ hK.symm; blk_simp [index0 t]; rfl

theorem iblk1_apply (c : Dev nD) (t : Fin cfg0.N) (k : Fin 2048) : iblk m c 1 t (ix2 0 k) = gg m c (ix1 k) := by
  refine Eq.trans ?_ (V_gain m c k)
  show V m c main_v0 (((cfg0.win 1).blk t).view.emb (ix2 0 k)) = _
  refine congrArg (V m c main_v0) (funext fun a => Fin.ext ?_)
  match a with
  | ⟨0, _⟩ => blk_simp [index1 t]
  | ⟨1, _⟩ => blk_simp [index1 t]

theorem iblk2_apply (c : Dev nD) (t : Fin cfg0.N) (y : S2048x1024.Idx) (K : Fin 2048) (J : Fin 17408) (hK : K.val = (y 0).val)
    (hJ : J.val = 1024 * (t.val % 17) + (y 1).val) : iblk m c 2 t y = ww m c (ix2 K J) := by
  show V m c main_v1 (((cfg0.win 2).blk t).view.emb y) = _
  rw [V_weights]
  refine congrArg (ww m c) (funext fun a => Fin.ext ?_)
  match a with
  | ⟨0, _⟩ => refine Eq.trans ?_ hK.symm; blk_simp [index2 t]; rfl
  | ⟨1, _⟩ => refine Eq.trans ?_ hJ.symm; blk_simp [index2 t]; simp; omega

/-- The scaled rows of the run `q`. -/
def rowsAt (c : Dev nD) (q : ℕ) : S1024x2048.Idx → EReal := fun y =>
  if h : 1024 * q + (y 0).val < 16384 then rmsR (fun j => xx m c (ix2 ⟨1024 * q + (y 0).val, h⟩ j)) (fun j => gg m c (ix1 j)) (y 1) else 0

theorem pay1_eq (c : Dev nD) (t : Fin cfg0.N) : k0_pay1 (F := Ideal) (iblk m c 0 t) (iblk m c 1 t) = rowsAt m c (t.val / 17) := by
  have hN : t.val < 272 := lt_of_lt_of_eq t.isLt N_0
  funext y
  obtain ⟨r, k, rfl⟩ : ∃ (r : Fin 1024) (k : Fin 2048), y = ix2 r k := ⟨y 0, y 1, eq_ix2 y⟩
  have hr := r.isLt
  show shapeCast S1024x2048 (rms (F := Ideal) reduces_S1024x2048_S1024 shapeCasts_S1024_S1024x1 broadcasts_S1024x1_S1024x2048 shapeCasts_S1x2048_S1x2048
    broadcasts_S1x2048_S1024x2048 (iblk m c 0 t) (iblk m c 1 t)) shapeCasts_S1024x2048_S1024x2048 (ix2 r k) = _
  rw [shapeCast_self]
  refine (rms_apply reduces_S1024x2048_S1024 shapeCasts_S1024_S1024x1 broadcasts_S1024x1_S1024x2048 shapeCasts_S1x2048_S1x2048 broadcasts_S1x2048_S1024x2048
    (iblk m c 0 t) (iblk m c 1 t) r k).trans ?_
  unfold rowsAt
  have hb : 1024 * (t.val / 17) + r.val < 16384 := by omega
  rw [dif_pos (show 1024 * (t.val / 17) + ((ix2 r k : S1024x2048.Idx) 0).val < 16384 from hb)]
  rw [show (fun j => iblk m c 0 t (ix2 r j)) = fun j => xx m c (ix2 ⟨1024 * (t.val / 17) + r.val, hb⟩ j) from
    funext fun j => iblk0_apply m c t (ix2 r j) _ j rfl rfl, show (fun j => iblk m c 1 t (ix2 0 j)) = fun j => gg m c (ix1 j) from funext fun j => iblk1_apply m c t j]

/-- The scratch after a point that fills it. -/
theorem scratch_A (c : Dev nD) (t : Fin cfg0.N) (h0 : t.val % 17 = 0) : (outsAt0 m c t.val t.isLt).2 = rowsAt m c (t.val / 17) := by
  rw [outsAt0_A m c t h0]
  dsimp only
  unfold sout0_A_0
  rw [View.read_writes_eq_canon _ _ _ (scover0_A_0 (F := Ideal) c _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero (funext fun a => match a with | ⟨0, _⟩ => rfl | ⟨1, _⟩ => rfl)]
  rw [View.ld_unit_zero (funext fun a => match a with | ⟨0, _⟩ => rfl | ⟨1, _⟩ => rfl), View.ld_unit_zero (funext fun a => match a with | ⟨0, _⟩ => rfl | ⟨1, _⟩ => rfl)]
  exact pay1_eq m c t

/-- The scratch after any point: its run's scaled rows. -/
theorem scratch (c : Dev nD) : ∀ (n : ℕ) (h : n < cfg0.N), (outsAt0 m c n h).2 = rowsAt m c (n / 17)
  | 0, h => scratch_A m c ⟨0, h⟩ rfl
  | n + 1, h => by
    by_cases h0 : (n + 1) % 17 = 0
    · exact scratch_A m c ⟨n + 1, h⟩ h0
    · rw [outsAt0_B m c ⟨n + 1, h⟩ h0]
      dsimp only
      unfold sout0_B_0
      refine (scratch c n (by omega)).trans ?_
      rw [show (n + 1) / 17 = n / 17 by omega]

theorem pay2_apply (c : Dev nD) (t : Fin cfg0.N) (r j : Fin 1024) (R : Fin 16384) (J : Fin 17408) (hR : R.val = 1024 * (t.val / 17) + r.val)
    (hJ : J.val = 1024 * (t.val % 17) + j.val) :
    k0_pay2 (F := Ideal) (rowsAt m c (t.val / 17)) (iblk m c 2 t) (ix2 r j) = projS (xx m c) (gg m c) (ww m c) (ix2 R J) := by
  unfold k0_pay2
  rw [shapeCast_self]
  refine (mm_apply _ _ r j).trans ?_
  unfold projS
  refine Finset.sum_congr rfl fun k _ => ?_
  rw [iblk2_apply m c t (ix2 k j) k J rfl hJ]
  refine congrArg (· * ww m c (ix2 k J)) ?_
  unfold rowsAt
  have hb : 1024 * (t.val / 17) + r.val < 16384 := hR ▸ R.isLt
  rw [dif_pos (show 1024 * (t.val / 17) + ((ix2 r k : S1024x2048.Idx) 0).val < 16384 from hb)]
  rw [show R = ⟨1024 * (t.val / 17) + r.val, hb⟩ from Fin.ext hR]

/-- What a point stores. -/
theorem block (c : Dev nD) (t : Fin cfg0.N) : (outsAt0 m c t.val t.isLt).1 = k0_pay2 (F := Ideal) (rowsAt m c (t.val / 17)) (iblk m c 2 t) := by
  by_cases h0 : t.val % 17 = 0
  · rw [outsAt0_A m c t h0]
    dsimp only
    unfold out0_A_3
    rw [View.read_writes_eq_canon _ _ _ (cover0_A_3 (F := Ideal) c _ _ _ _ _ _ _ _ _ _ _ _ _ _ _)]
    unfold kernelRun0_A
    dsimp only
    sl_unfold_words
    simp only [View.readAt_eq_ld, (hs0_0 t).read_unread, (hs0_1 t).read_unread, (hs0_2 t).read_unread]
    rw [View.canon_unit_zero (funext fun a => match a with | ⟨0, _⟩ => rfl | ⟨1, _⟩ => rfl)]
    rw [View.readCov_unit_zero _ (funext fun a => match a with | ⟨0, _⟩ => rfl | ⟨1, _⟩ => rfl)]
    rw [View.ld_unit_zero (funext fun a => match a with | ⟨0, _⟩ => rfl | ⟨1, _⟩ => rfl), View.ld_unit_zero (funext fun a => match a with | ⟨0, _⟩ => rfl | ⟨1, _⟩ => rfl),
      View.ld_unit_zero (funext fun a => match a with | ⟨0, _⟩ => rfl | ⟨1, _⟩ => rfl)]
    rw [pay1_eq]
  · have hp := scratch m c (t.val - 1) (Nat.lt_of_le_of_lt (Nat.sub_le _ _) t.isLt)
    rw [outsAt0_B m c t h0]
    dsimp only
    unfold out0_B_3
    rw [View.read_writes_eq_canon _ _ _ (cover0_B_3 (F := Ideal) c _ _ _ _ _ _ _ _ _ _ _ _ _ _ _ _)]
    unfold kernelRun0_B
    dsimp only
    sl_unfold_words
    simp only [View.readAt_eq_ld, (hs0_0 t).read_unread, (hs0_1 t).read_unread, (hs0_2 t).read_unread, (Memref.isWhole_whole _).read_unread]
    rw [View.canon_unit_zero (funext fun a => match a with | ⟨0, _⟩ => rfl | ⟨1, _⟩ => rfl)]
    rw [View.ld_unit_zero (funext fun a => match a with | ⟨0, _⟩ => rfl | ⟨1, _⟩ => rfl), View.ld_unit_zero (funext fun a => match a with | ⟨0, _⟩ => rfl | ⟨1, _⟩ => rfl)]
    rw [hp, show (t.val - 1) / 17 = t.val / 17 by omega]

/-- The array the kernel leaves. -/
theorem result (c : Dev nD) : (dats m 0 c).arrAt 3 cfg0.N = projS (xx m c) (gg m c) (ww m c) := by
  refine (dats m 0 c).arrAt_eq_of_cover 3 _ (fun t hf => ?_) (fun i => (Value.covered_iff3 i).2 ⟨Nat.zero_le _, (i 0).isLt, Nat.zero_le _, (i 1).isLt⟩)
  rw [Value.flushed3, block]
  funext y
  have hN : t.val < 272 := lt_of_lt_of_eq t.isLt N_0
  have h0 : (y 0).val < 1024 := (y 0).isLt
  have h1 : (y 1).val < 1024 := (y 1).isLt
  refine (pay2_apply m c t ⟨(y 0).val, h0⟩ ⟨(y 1).val, h1⟩ (((cfg0.win 3).blk t).view.emb y 0) (((cfg0.win 3).blk t).view.emb y 1) ?_ ?_).trans ?_
  · blk_simp [index3 t]; simp; omega
  · blk_simp [index3 t]; simp; omega
  · exact congrArg (projS (xx m c) (gg m c) (ww m c)) (eq_ix2 _).symm

end Cert.ProjIdeal.Side

end
-- ==== Proof.ProjReference.lean ====
/- THE REFERENCE'S SIDE for the projection of the prompt's rows: its lines, read one at a time, are `Dense`'s product. -/
module

public import proofs.«01_k».proof.Proof.Gen.ProjRefIdeal.Read
public import proofs.«01_k».proof.Proof.Dense

@[expose] public section

set_option maxRecDepth 16384

noncomputable section

namespace Cert.ProjRefIdeal.Side

open Cert.ProjRefIdeal Cert.ProjRefIdeal.Gen Cert.ProjRefIdeal.Read Idealize.ShloMosaic Idealize.ShloMosaic.ValueIdx Cert.Dense

theorem scale_apply (x : (M2 16384 2048).Idx → EReal) (i : S16384x1.Idx) :
    val_main_v7 (F := Ideal) x i = scaleR fun j => x (ix2 (i 0) j) := by
  rw [val_main_v7_apply (F := Ideal), val_main_v6_apply (F := Ideal), val_main_v5_apply (F := Ideal), val_main_cst_1_apply (F := Ideal),
    val_main_v4_apply (F := Ideal), val_main_v3_apply (F := Ideal), val_main_cst_0_apply (F := Ideal), val_main_v2_apply (F := Ideal),
    val_main_v1_apply, val_main_cst_apply (F := Ideal), Ideal.hostUnary_rsqrt_def, Ideal.hostDivf_def]
  unfold scaleR
  show Ideal.rsqrt (Ideal.div (Ideal.ofBits .f32 0x00000000#32 + _) _ + _) = _
  rw [Ideal.ofBits_zero_f32, zero_add]
  refine congrArg (fun z => Ideal.rsqrt (Ideal.div z (Ideal.ofBits .f32 0x45000000#32) + Ideal.ofBits .f32 0x358637BD#32)) (Finset.sum_congr rfl fun k _ => ?_)
  rw [val_main_v0_apply (F := Ideal)]
  rw [show idx_main_v1 (idx_main_v2 i) k = ix2 (i 0) k from funext fun a => match a with | ⟨0, _⟩ => rfl | ⟨1, _⟩ => rfl]
  rfl

theorem rows_apply (x : (M2 16384 2048).Idx → EReal) (g : (M1 2048).Idx → EReal) (i : Fin 16384) (k : Fin 2048) :
    val_main_v12 (F := Ideal) x g (ix2 i k) = rmsR (fun j => x (ix2 i j)) (fun j => g (ix1 j)) k := by
  rw [val_main_v12_apply (F := Ideal), val_main_v11_apply (F := Ideal), val_main_v10_apply (F := Ideal), val_main_v9_apply (F := Ideal), val_main_v8_apply (F := Ideal), scale_apply]
  unfold rmsR
  rw [show idx_main_v10 (idx_main_v11 (ix2 i k)) = ix1 k from funext fun a => match a with | ⟨0, _⟩ => rfl]
  rfl

theorem result (x : (M2 16384 2048).Idx → EReal) (g : (M1 2048).Idx → EReal) (w : (M2 2048 17408).Idx → EReal) :
    val_main_v13 (F := Ideal) x g w = projS x g w := by
  funext i
  rw [val_main_v13_apply]
  unfold projS
  refine Finset.sum_congr rfl fun k _ => ?_
  rw [show lidx_main_v13 i k = ix2 (i 0) k from funext fun a => match a with | ⟨0, _⟩ => rfl | ⟨1, _⟩ => rfl,
    show ridx_main_v13 i k = ix2 k (i 1) from funext fun a => match a with | ⟨0, _⟩ => rfl | ⟨1, _⟩ => rfl]
  exact congrArg (· * w (ix2 k (i 1))) (rows_apply x g (i 0) k)

end Cert.ProjRefIdeal.Side

end
-- ==== Proof.OutKernel.lean ====
/- THE KERNEL'S SIDE for the output projection of the prompt: each of the 32 grid points adds 512 mixed rows through the output
   weights to the residual rows, and stores the sum and its scaled rows, these also transposed. -/
module

public import proofs.«01_k».proof.Proof.Gen.OutIdeal.Value
public import proofs.«01_k».proof.Proof.Dense
public import Idealize.ShloMosaic.Lib.Pipeline.ValueKit.Geometry

@[expose] public section

set_option maxRecDepth 16384

noncomputable section

namespace Cert.OutIdeal.Side

open Cert.OutIdeal Cert.OutIdeal.Gen Idealize.ShloMosaic Idealize.ShloMosaic.TcCoe Idealize.SL.Sem Idealize.ShloMosaic.ValueIdx
open Idealize.ShloMosaic.StableHlo
open Cert.Dense

variable (m : (ℓ : Loc nD τ sig) → Buf (Elt Ideal) ℓ)

abbrev xx (c : Dev nD) : (M2 16384 2048).Idx → EReal := m ((c : Thread nD τ).loc main_arg0)
abbrev yy (c : Dev nD) : (M2 16384 2048).Idx → EReal := m ((c : Thread nD τ).loc main_arg1)
abbrev ww (c : Dev nD) : (M2 2048 2048).Idx → EReal := m ((c : Thread nD τ).loc main_arg2)
abbrev gg (c : Dev nD) : (M1 2048).Idx → EReal := m ((c : Thread nD τ).loc main_arg3)

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![0, t.val] := (by decide +kernel : ∀ t : Fin grid0.N, win0_6.index t = ![0, t.val])

/-! ## The arguments as the host prepares them -/

theorem V_mixed (c : Dev nD) : V m c main_v0 = yy m c := by
  unfold_abbrev_sides
  after_results
  rfl

theorem V_weights (c : Dev nD) : V m c main_v1 = ww m c := by
  unfold_abbrev_sides
  after_results
  rfl

theorem V_gain (c : Dev nD) (j : Fin 2048) : V m c main_v2 (ix2 0 j) = gg m c (ix1 j) := by
  have e : V m c main_v2 = shapeCast S1x2048 (m ((c : Thread nD τ).loc main_arg3)) shapeCasts_S2048_S1x2048 := by
    unfold_abbrev_sides
    after_results
    rfl
  rw [e]
  refine shapeCast_apply _ _ (ix2 0 j) (ix1 j) ?_
  rw [Shape.rowMajor_val_one, Shape.rowMajor_val_two]
  show j.val = 0 * 2048 + j.val
  omega

/-! ## The staged blocks -/

theorem iblk0_apply (c : Dev nD) (t : Fin cfg0.N) (y : S512x2048.Idx) (R : Fin 16384) (K : Fin 2048) (hR : R.val = 512 * t.val + (y 0).val)
    (hK : K.val = (y 1).val) : iblk m c 0 t y = xx m c (ix2 R K) := by
  show V m c main_arg0 (((cfg0.win 0).blk t).view.emb y) = _
  rw [V_main_arg0]
  refine congrArg (xx m c) (funext fun a => Fin.ext ?_)
  match a with
  | ⟨0, _⟩ => refine Eq.trans ?_ hR.symm; blk_simp [index0 t]; simp; omega
  | ⟨1, _⟩ => refine Eq.trans ?_ hK.symm; blk_simp [index0 t]; rfl

theorem iblk1_apply (c : Dev nD) (t : Fin cfg0.N) (y : S512x2048.Idx) (R : Fin 16384) (K : Fin 2048) (hR : R.val = 512 * t.val + (y 0).val)
    (hK : K.val = (y 1).val) : iblk m c 1 t y = yy m c (ix2 R K) := by
  show V m c main_v0 (((cfg0.win 1).blk t).view.emb y) = _
  rw [V_mixed]
  refine congrArg (yy m c) (funext fun a => Fin.ext ?_)
  match a with
  | ⟨0, _⟩ => refine Eq.trans ?_ hR.symm; blk_simp [index1 t]; simp; omega
  | ⟨1, _⟩ => refine Eq.trans ?_ hK.symm; blk_simp [index1 t]; rfl

theorem iblk2_apply (c : Dev nD) (t : Fin cfg0.N) (i j : Fin 2048) : iblk m c 2 t (ix2 i j) = ww m c (ix2 i j) := by
  show V m c main_v1 (((cfg0.win 2).blk t).view.emb (ix2 i j)) = _
  rw [V_weights]
  refine congrArg (ww m c) (funext fun a => Fin.ext ?_)
  match a with
  | ⟨0, _⟩ => blk_simp [index2 t]
  | ⟨1, _⟩ => blk_simp [index2 t]

theorem iblk3_apply (c : Dev nD) (t : Fin cfg0.N) (k : Fin 2048) : iblk m c 3 t (ix2 0 k) = gg m c (ix1 k) := by
  refine Eq.trans ?_ (V_gain m c k)
  show V m c main_v2 (((cfg0.win 3).blk t).view.emb (ix2 0 k)) = _
  refine congrArg (V m c main_v2) (funext fun a => Fin.ext ?_)
  match a with
  | ⟨0, _⟩ => blk_simp [index3 t]
  | ⟨1, _⟩ => blk_simp [index3 t]

/-! ## What a point stores -/

theorem sum_apply (c : Dev nD) (t : Fin cfg0.N) (r : Fin 512) (k : Fin 2048) (R : Fin 16384) (hR : R.val = 512 * t.val + r.val) :
    k0_pay1 (F := Ideal) (iblk m c 0 t) (iblk m c 1 t) (iblk m c 2 t) (ix2 r k) = outS (xx m c) (yy m c) (ww m c) R k := by
  unfold k0_pay1 outS
  rw [shapeCast_self, shapeCast_self]
  refine congrArg₂ (fun a b : EReal => a + b) (iblk0_apply m c t (ix2 r k) R k hR rfl)
    ((mm_apply (iblk m c 1 t) (iblk m c 2 t) r k).trans (Finset.sum_congr rfl fun j _ => ?_))
  rw [iblk1_apply m c t (ix2 r j) R j hR rfl, iblk2_apply]

theorem scaled_apply (c : Dev nD) (t : Fin cfg0.N) (r : Fin 512) (k : Fin 2048) (R : Fin 16384) (hR : R.val = 512 * t.val + r.val) :
    k0_pay2 (F := Ideal) (iblk m c 0 t) (iblk m c 1 t) (iblk m c 2 t) (iblk m c 3 t) (ix2 r k) = outN (xx m c) (yy m c) (ww m c) (gg m c) R k := by
  refine (rms_apply reduces_S512x2048_S512 shapeCasts_S512_S512x1 broadcasts_S512x1_S512x2048 shapeCasts_S1x2048_S1x2048 broadcasts_S1x2048_S512x2048
    (k0_pay1 (F := Ideal) (iblk m c 0 t) (iblk m c 1 t) (iblk m c 2 t)) (iblk m c 3 t) r k).trans ?_
  unfold outN
  rw [show (fun j => k0_pay1 (F := Ideal) (iblk m c 0 t) (iblk m c 1 t) (iblk m c 2 t) (ix2 r j)) = outS (xx m c) (yy m c) (ww m c) R from
    funext fun j => sum_apply m c t r j R hR, show (fun j => iblk m c 3 t (ix2 0 j)) = fun j => gg m c (ix1 j) from funext fun j => iblk3_apply m c t j]

theorem off : (![0, 0] : Fin 2 → ℕ) = fun _ => 0 := funext fun a => match a with | ⟨0, _⟩ => rfl | ⟨1, _⟩ => rfl

/-! ## The arrays after the run -/

theorem final_h (c : Dev nD) : (dats m 0 c).arrAt 4 cfg0.N = fun i => outS (xx m c) (yy m c) (ww m c) (i 0) (i 1) := by
  refine (dats m 0 c).arrAt_eq_of_covers 4 _ (by decide +kernel) fun t hf y => ?_
  blk_simp
  rw [after0_4]
  unfold out0_4
  rw [View.canon_unit_zero off, View.ld_unit_zero off, View.ld_unit_zero off, View.ld_unit_zero off]
  refine (congrArg (k0_pay1 (F := Ideal) (iblk m c 0 t) (iblk m c 1 t) (iblk m c 2 t)) (eq_ix2 y)).trans ((sum_apply m c t (y 0) (y 1) (((cfg0.win 4).blk t).view.emb y 0) ?_).trans ?_)
  · blk_simp [index4 t]; simp; omega
  · refine congrArg (outS (xx m c) (yy m c) (ww m c) _) (Fin.ext ?_)
    blk_simp [index4 t]

theorem final_n (c : Dev nD) : (dats m 0 c).arrAt 5 cfg0.N = fun i => outN (xx m c) (yy m c) (ww m c) (gg m c) (i 0) (i 1) := by
  refine (dats m 0 c).arrAt_eq_of_covers 5 _ (by decide +kernel) fun t hf y => ?_
  blk_simp
  rw [after0_5]
  unfold out0_5
  rw [View.canon_unit_zero off, View.ld_unit_zero off, View.ld_unit_zero off, View.ld_unit_zero off, View.ld_unit_zero off]
  refine (congrArg (k0_pay2 (F := Ideal) (iblk m c 0 t) (iblk m c 1 t) (iblk m c 2 t) (iblk m c 3 t)) (eq_ix2 y)).trans
    ((scaled_apply m c t (y 0) (y 1) (((cfg0.win 5).blk t).view.emb y 0) ?_).trans ?_)
  · blk_simp [index5 t]; simp; omega
  · refine congrArg (outN (xx m c) (yy m c) (ww m c) (gg m c) _) (Fin.ext ?_)
    blk_simp [index5 t]

theorem final_t (c : Dev nD) : (dats m 0 c).arrAt 6 cfg0.N = fun i => outN (xx m c) (yy m c) (ww m c) (gg m c) (i 1) (i 0) := by
  refine (dats m 0 c).arrAt_eq_of_covers 6 _ (by decide +kernel) fun t hf y => ?_
  blk_simp
  rw [after0_6]
  unfold out0_6
  rw [View.canon_unit_zero off, View.ld_unit_zero off, View.ld_unit_zero off, View.ld_unit_zero off, View.ld_unit_zero off]
  refine (transpose_apply [1, 0] (k0_pay2 (F := Ideal) (iblk m c 0 t) (iblk m c 1 t) (iblk m c 2 t) (iblk m c 3 t)) transposes_S512x2048_p1_0_S2048x512 y
    (ix2 (y 1) (y 0)) (fun b => match b with | ⟨0, _⟩ => rfl | ⟨1, _⟩ => rfl)).trans
    ((scaled_apply m c t (y 1) (y 0) (((cfg0.win 6).blk t).view.emb y 1) ?_).trans ?_)
  · blk_simp [index6 t]; simp; omega
  · refine congrArg (outN (xx m c) (yy m c) (ww m c) (gg m c) _) (Fin.ext ?_)
    blk_simp [index6 t]

end Cert.OutIdeal.Side

end
-- ==== Proof.OutReference.lean ====
/- THE REFERENCE'S SIDE for the output projection of the prompt: its lines, read one at a time. -/
module

public import proofs.«01_k».proof.Proof.Gen.OutRefIdeal.Read
public import proofs.«01_k».proof.Proof.Dense

@[expose] public section

set_option maxRecDepth 16384

noncomputable section

namespace Cert.OutRefIdeal.Side

open Cert.OutRefIdeal Cert.OutRefIdeal.Gen Cert.OutRefIdeal.Read Idealize.ShloMosaic Idealize.ShloMosaic.ValueIdx Cert.Dense

theorem sum_apply (x y : (M2 16384 2048).Idx → EReal) (w : (M2 2048 2048).Idx → EReal) (i : S16384x2048.Idx) :
    val_main_v1 (F := Ideal) x y w i = outS x y w (i 0) (i 1) := by
  rw [val_main_v1_apply (F := Ideal), val_main_v0_apply]
  unfold outS
  refine (congrArg (fun z => x z + _) (eq_ix2 i)).trans (congrArg (x (ix2 (i 0) (i 1)) + ·) (Finset.sum_congr rfl fun k _ => ?_))
  rw [show lidx_main_v0 i k = ix2 (i 0) k from funext fun a => match a with | ⟨0, _⟩ => rfl | ⟨1, _⟩ => rfl,
    show ridx_main_v0 i k = ix2 k (i 1) from funext fun a => match a with | ⟨0, _⟩ => rfl | ⟨1, _⟩ => rfl]
  rfl

theorem scale_apply (x y : (M2 16384 2048).Idx → EReal) (w : (M2 2048 2048).Idx → EReal) (i : S16384x1.Idx) :
    val_main_v9 (F := Ideal) x y w i = scaleR (outS x y w (i 0)) := by
  rw [val_main_v9_apply (F := Ideal), val_main_v8_apply (F := Ideal), val_main_v7_apply (F := Ideal), val_main_cst_1_apply (F := Ideal),
    val_main_v6_apply (F := Ideal), val_main_v5_apply (F := Ideal), val_main_cst_0_apply (F := Ideal), val_main_v4_apply (F := Ideal),
    val_main_v3_apply, val_main_cst_apply (F := Ideal), Ideal.hostUnary_rsqrt_def, Ideal.hostDivf_def]
  unfold scaleR
  show Ideal.rsqrt (Ideal.div (Ideal.ofBits .f32 0x00000000#32 + _) _ + _) = _
  rw [Ideal.ofBits_zero_f32, zero_add]
  refine congrArg (fun z => Ideal.rsqrt (Ideal.div z (Ideal.ofBits .f32 0x45000000#32) + Ideal.ofBits .f32 0x358637BD#32)) (Finset.sum_congr rfl fun k _ => ?_)
  rw [val_main_v2_apply (F := Ideal), sum_apply]
  rfl

theorem scaled_apply (x y : (M2 16384 2048).Idx → EReal) (w : (M2 2048 2048).Idx → EReal) (g : (M1 2048).Idx → EReal) (i : S16384x2048.Idx) :
    val_main_v14 (F := Ideal) x y w g i = outN x y w g (i 0) (i 1) := by
  rw [val_main_v14_apply (F := Ideal), val_main_v13_apply (F := Ideal), val_main_v12_apply (F := Ideal), val_main_v11_apply (F := Ideal), val_main_v10_apply (F := Ideal),
    scale_apply, sum_apply]
  rw [show idx_main_v12 (idx_main_v13 i) = ix1 (i 1) from funext fun a => match a with | ⟨0, _⟩ => rfl]
  rfl

theorem result_h (x y : (M2 16384 2048).Idx → EReal) (w : (M2 2048 2048).Idx → EReal) :
    val_main_v1 (F := Ideal) x y w = fun i => outS x y w (i 0) (i 1) := funext fun i => sum_apply x y w i

theorem result_n (x y : (M2 16384 2048).Idx → EReal) (w : (M2 2048 2048).Idx → EReal) (g : (M1 2048).Idx → EReal) :
    val_main_v15 (F := Ideal) x y w g = fun i => outN x y w g (i 0) (i 1) := funext fun i => scaled_apply x y w g i

theorem result_t (x y : (M2 16384 2048).Idx → EReal) (w : (M2 2048 2048).Idx → EReal) (g : (M1 2048).Idx → EReal) :
    val_main_v17 (F := Ideal) x y w g = fun i => outN x y w g (i 1) (i 0) := funext fun i => by
  rw [val_main_v17_apply (F := Ideal), val_main_v16_apply (F := Ideal)]
  exact scaled_apply x y w g (idx_main_v16 i)

end Cert.OutRefIdeal.Side

end
-- ==== Proof.FinKernel.lean ====
/- THE KERNEL'S SIDE for the prompt's last rows: each of the 32 grid points adds 512 columns of the experts' part, transposed, to
   the residual rows and stores them scaled. -/
module

public import proofs.«01_k».proof.Proof.Gen.FinIdeal.Value
public import proofs.«01_k».proof.Proof.Dense
public import Idealize.ShloMosaic.Lib.Pipeline.ValueKit.Geometry

@[expose] public section

set_option maxRecDepth 16384

noncomputable section

namespace Cert.FinIdeal.Side

open Cert.FinIdeal Cert.FinIdeal.Gen Idealize.ShloMosaic Idealize.ShloMosaic.TcCoe Idealize.SL.Sem Idealize.ShloMosaic.ValueIdx
open Idealize.ShloMosaic.StableHlo
open Cert.Dense

variable (m : (ℓ : Loc nD τ sig) → Buf (Elt Ideal) ℓ)

abbrev hh (c : Dev nD) : (M2 16384 2048).Idx → EReal := m ((c : Thread nD τ).loc main_arg0)
abbrev yt (c : Dev nD) : (M2 2048 16384).Idx → EReal := m ((c : Thread nD τ).loc main_arg1)
abbrev gg (c : Dev nD) : (M1 2048).Idx → EReal := m ((c : Thread nD τ).loc main_arg2)

theorem index0 : ∀ t : Fin cfg0.N, win0_0.index t = ![t.val, 0] := (by decide +kernel : ∀ t : Fin grid0.N, win0_0.index t = ![t.val, 0])
theorem index1 : ∀ t : Fin cfg0.N, win0_1.index t = ![0, t.val] := (by decide +kernel : ∀ t : Fin grid0.N, win0_1.index t = ![0, t.val])
theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])

/-- The gain as the host lays it out. -/
theorem V_gain (c : Dev nD) (j : Fin 2048) : V m c main_v0 (ix2 0 j) = gg m c (ix1 j) := by
  have e : V m c main_v0 = shapeCast S1x2048 (m ((c : Thread nD τ).loc main_arg2)) shapeCasts_S2048_S1x2048 := by
    unfold_abbrev_sides
    after_results
    rfl
  rw [e]
  refine shapeCast_apply _ _ (ix2 0 j) (ix1 j) ?_
  rw [Shape.rowMajor_val_one, Shape.rowMajor_val_two]
  show j.val = 0 * 2048 + j.val
  omega

theorem iblk0_apply (c : Dev nD) (t : Fin cfg0.N) (y : S512x2048.Idx) (R : Fin 16384) (K : Fin 2048) (hR : R.val = 512 * t.val + (y 0).val)
    (hK : K.val = (y 1).val) : iblk m c 0 t y = hh m c (ix2 R K) := by
  show V m c main_arg0 (((cfg0.win 0).blk t).view.emb y) = _
  rw [V_main_arg0]
  refine congrArg (hh m c) (funext fun a => Fin.ext ?_)
  match a with
  | ⟨0, _⟩ => refine Eq.trans ?_ hR.symm; blk_simp [index0 t]; simp; omega
  | ⟨1, _⟩ => refine Eq.trans ?_ hK.symm; blk_simp [index0 t]; rfl

theorem iblk1_apply (c : Dev nD) (t : Fin cfg0.N) (y : S2048x512.Idx) (K : Fin 2048) (R : Fin 16384) (hK : K.val = (y 0).val)
    (hR : R.val = 512 * t.val + (y 1).val) : iblk m c 1 t y = yt m c (ix2 K R) := by
  show V m c main_arg1 (((cfg0.win 1).blk t).view.emb y) = _
  rw [V_main_arg1]
  refine congrArg (yt m c) (funext fun a => Fin.ext ?_)
  match a with
  | ⟨0, _⟩ => refine Eq.trans ?_ hK.symm; blk_simp [index1 t]; rfl
  | ⟨1, _⟩ => refine Eq.trans ?_ hR.symm; blk_simp [index1 t]; simp; omega

theorem iblk2_apply (c : Dev nD) (t : Fin cfg0.N) (k : Fin 2048) : iblk m c 2 t (ix2 0 k) = gg m c (ix1 k) := by
  refine Eq.trans ?_ (V_gain m c k)
  show V m c main_v0 (((cfg0.win 2).blk t).view.emb (ix2 0 k)) = _
  refine congrArg (V m c main_v0) (funext fun a => Fin.ext ?_)
  match a with
  | ⟨0, _⟩ => blk_simp [index2 t]
  | ⟨1, _⟩ => blk_simp [index2 t]

theorem pay_apply (c : Dev nD) (t : Fin cfg0.N) (r : Fin 512) (k : Fin 2048) (R : Fin 16384) (hR : R.val = 512 * t.val + r.val) :
    k0_pay1 (F := Ideal) (iblk m c 0 t) (iblk m c 1 t) (iblk m c 2 t) (ix2 r k) = finS (hh m c) (yt m c) (gg m c) R k := by
  refine (rms_apply reduces_S512x2048_S512 shapeCasts_S512_S512x1 broadcasts_S512x1_S512x2048 shapeCasts_S1x2048_S1x2048 broadcasts_S1x2048_S512x2048
    (addf (F := Ideal) (iblk m c 0 t) (transpose S512x2048 [1, 0] (iblk m c 1 t) transposes_S2048x512_p1_0_S512x2048)) (iblk m c 2 t) r k).trans ?_
  unfold finS
  rw [show (fun j => iblk m c 2 t (ix2 0 j)) = fun j => gg m c (ix1 j) from funext fun j => iblk2_apply m c t j]
  refine congrArg (fun z => rmsR z (fun j => gg m c (ix1 j)) k) (funext fun j => ?_)
  exact congrArg₂ (fun a b : EReal => a + b) (iblk0_apply m c t (ix2 r j) R j hR rfl)
    ((transpose_apply [1, 0] (iblk m c 1 t) transposes_S2048x512_p1_0_S512x2048 (ix2 r j) (ix2 j r) (fun b => match b with | ⟨0, _⟩ => rfl | ⟨1, _⟩ => rfl)).trans
      (iblk1_apply m c t (ix2 j r) j R rfl hR))

theorem off : (![0, 0] : Fin 2 → ℕ) = fun _ => 0 := funext fun a => match a with | ⟨0, _⟩ => rfl | ⟨1, _⟩ => rfl

/-- The array the kernel leaves. -/
theorem result (c : Dev nD) : (dats m 0 c).arrAt 3 cfg0.N = fun i => finS (hh m c) (yt m c) (gg m c) (i 0) (i 1) := by
  refine (dats m 0 c).arrAt_eq_of_covers 3 _ (by decide +kernel) fun t hf y => ?_
  blk_simp
  rw [after0_3]
  unfold out0_3
  rw [View.canon_unit_zero off, View.ld_unit_zero off, View.ld_unit_zero off, View.ld_unit_zero off]
  refine (congrArg (k0_pay1 (F := Ideal) (iblk m c 0 t) (iblk m c 1 t) (iblk m c 2 t)) (eq_ix2 y)).trans ((pay_apply m c t (y 0) (y 1) (((cfg0.win 3).blk t).view.emb y 0) ?_).trans ?_)
  · blk_simp [index3 t]; simp; omega
  · refine congrArg (finS (hh m c) (yt m c) (gg m c) _) (Fin.ext ?_)
    blk_simp [index3 t]

end Cert.FinIdeal.Side

end
-- ==== Proof.FinReference.lean ====
/- THE REFERENCE'S SIDE for the prompt's last rows: its lines, read one at a time. -/
module

public import proofs.«01_k».proof.Proof.Gen.FinRefIdeal.Read
public import proofs.«01_k».proof.Proof.Dense

@[expose] public section

set_option maxRecDepth 16384

noncomputable section

namespace Cert.FinRefIdeal.Side

open Cert.FinRefIdeal Cert.FinRefIdeal.Gen Cert.FinRefIdeal.Read Idealize.ShloMosaic Idealize.ShloMosaic.ValueIdx Cert.Dense

theorem sum_apply (h : (M2 16384 2048).Idx → EReal) (yt : (M2 2048 16384).Idx → EReal) (i : Fin 16384) (k : Fin 2048) :
    val_main_v1 (F := Ideal) h yt (ix2 i k) = h (ix2 i k) + yt (ix2 k i) := by
  rw [val_main_v1_apply (F := Ideal), val_main_v0_apply (F := Ideal),
    show idx_main_v0 (ix2 i k) = ix2 k i from funext fun a => match a with | ⟨0, _⟩ => rfl | ⟨1, _⟩ => rfl]
  rfl

theorem scale_apply (h : (M2 16384 2048).Idx → EReal) (yt : (M2 2048 16384).Idx → EReal) (i : S16384x1.Idx) :
    val_main_v9 (F := Ideal) h yt i = scaleR fun k => h (ix2 (i 0) k) + yt (ix2 k (i 0)) := by
  rw [val_main_v9_apply (F := Ideal), val_main_v8_apply (F := Ideal), val_main_v7_apply (F := Ideal), val_main_cst_1_apply (F := Ideal),
    val_main_v6_apply (F := Ideal), val_main_v5_apply (F := Ideal), val_main_cst_0_apply (F := Ideal), val_main_v4_apply (F := Ideal),
    val_main_v3_apply, val_main_cst_apply (F := Ideal), Ideal.hostUnary_rsqrt_def, Ideal.hostDivf_def]
  unfold scaleR
  show Ideal.rsqrt (Ideal.div (Ideal.ofBits .f32 0x00000000#32 + _) _ + _) = _
  rw [Ideal.ofBits_zero_f32, zero_add]
  refine congrArg (fun z => Ideal.rsqrt (Ideal.div z (Ideal.ofBits .f32 0x45000000#32) + Ideal.ofBits .f32 0x358637BD#32)) (Finset.sum_congr rfl fun k _ => ?_)
  rw [val_main_v2_apply (F := Ideal)]
  rw [show idx_main_v3 (idx_main_v4 i) k = ix2 (i 0) k from funext fun a => match a with | ⟨0, _⟩ => rfl | ⟨1, _⟩ => rfl]
  exact congrArg (fun z : EReal => z * z) (sum_apply h yt (i 0) k)

theorem result (h : (M2 16384 2048).Idx → EReal) (yt : (M2 2048 16384).Idx → EReal) (g : (M1 2048).Idx → EReal) :
    val_main_v14 (F := Ideal) h yt g = fun i => finS h yt g (i 0) (i 1) := by
  funext i
  obtain ⟨r, k, rfl⟩ : ∃ (r : Fin 16384) (k : Fin 2048), i = ix2 r k := ⟨i 0, i 1, eq_ix2 i⟩
  rw [val_main_v14_apply (F := Ideal), val_main_v13_apply (F := Ideal), val_main_v12_apply (F := Ideal), val_main_v11_apply (F := Ideal), val_main_v10_apply (F := Ideal),
    scale_apply, sum_apply]
  rw [show idx_main_v12 (idx_main_v13 (ix2 r k)) = ix1 k from funext fun a => match a with | ⟨0, _⟩ => rfl]
  rfl

end Cert.FinRefIdeal.Side

end
-- ==== Proof.Mix.lean ====
/- THE MERGE OF THE TWO BRANCHES, written over the arrays' coordinates: the three head groups' attentions are averaged with weights
   proportional to the exponentials of their log-sum-exps, each branch goes through its weights, and a gate for each entry
   scales it before the two are added. No program enters. -/
module

public import proofs.«01_k».proof.Proof.Dense
public import Idealize.ShloMosaic.Lib.IdealHost

@[expose] public section

set_option maxRecDepth 16384

noncomputable section

namespace Cert.Mix

open Idealize.ShloMosaic Idealize.ShloMosaic.ValueIdx Cert.Dense

/-- The largest of three. -/
def top3 (a b c : EReal) : EReal := max (max a b) c

/-- The exponentials of three relative to their largest, summed. -/
def den3 (a b c : EReal) : EReal := Ideal.exp (a - top3 a b c) + Ideal.exp (b - top3 a b c) + Ideal.exp (c - top3 a b c)

/-- The share of `x` among the three. -/
def share (a b c x : EReal) : EReal := Ideal.div (Ideal.exp (x - top3 a b c)) (den3 a b c)

theorem exp_nonneg (x : EReal) : 0 ≤ Ideal.exp x := by
  induction x with
  | bot => exact le_of_eq Ideal.exp_bot.symm
  | coe r => rw [Ideal.exp_coe]; exact_mod_cast (Real.exp_pos r).le
  | top => rw [Ideal.exp_top]; exact le_top

theorem exp_sub_self (x : EReal) (h : ⊥ < x) (h' : x < ⊤) : Ideal.exp (x - x) = 1 := by
  induction x with
  | bot => exact absurd h (lt_irrefl _)
  | coe r => rw [← EReal.coe_sub, Ideal.exp_coe, sub_self, Real.exp_zero]; rfl
  | top => exact absurd h' (lt_irrefl _)

theorem den3_pos (a b c : EReal) (h : ⊥ < top3 a b c) (h' : top3 a b c < ⊤) : 0 < den3 a b c := by
  have ea := exp_nonneg (a - top3 a b c)
  have eb := exp_nonneg (b - top3 a b c)
  have ec := exp_nonneg (c - top3 a b c)
  have e : top3 a b c = a ∨ top3 a b c = b ∨ top3 a b c = c := by
    unfold top3
    rcases max_choice (max a b) c with e | e
    · rcases max_choice a b with e' | e'
      · exact .inl (e.trans e')
      · exact .inr (.inl (e.trans e'))
    · exact .inr (.inr e)
  refine lt_of_lt_of_le (zero_lt_one : (0 : EReal) < 1) ?_
  have one := exp_sub_self _ h h'
  unfold den3
  rcases e with e | e | e
  · have o : Ideal.exp (a - top3 a b c) = 1 := by rw [e] at one ⊢; exact one
    rw [o]
    calc (1 : EReal) = 1 + 0 + 0 := by rw [add_zero, add_zero]
      _ ≤ _ := add_le_add (add_le_add le_rfl eb) ec
  · have o : Ideal.exp (b - top3 a b c) = 1 := by rw [e] at one ⊢; exact one
    rw [o]
    calc (1 : EReal) = 0 + 1 + 0 := by rw [add_zero, zero_add]
      _ ≤ _ := add_le_add (add_le_add ea le_rfl) ec
  · have o : Ideal.exp (c - top3 a b c) = 1 := by rw [e] at one ⊢; exact one
    rw [o]
    calc (1 : EReal) = 0 + 0 + 1 := by rw [add_zero, zero_add]
      _ ≤ _ := add_le_add (add_le_add ea eb) le_rfl

/-- The share as a product with the reciprocal, which is the quotient wherever the largest of the three is a real number. -/
theorem share_eq (a b c x : EReal) (h : ⊥ < top3 a b c) (h' : top3 a b c < ⊤) :
    Ideal.exp (x - top3 a b c) * Ideal.div 1 (den3 a b c) = share a b c x := by
  unfold share Ideal.div
  have hne := (den3_pos a b c h h').ne'
  rw [if_neg hne, if_neg hne, one_mul]

/-- The head of a column. -/
def lane (k : Fin 1024) : Fin 128 := ⟨k.val / 128, by have := k.isLt; omega⟩

section

variable (g : (M2 16384 2048).Idx → EReal) (o0 o1 o2 : (M2 16384 1024).Idx → EReal) (l0 l1 l2 : (M2 16384 128).Idx → EReal)
  (z : (M2 16384 17408).Idx → EReal) (wr : (M2 2048 2048).Idx → EReal) (wa : (M2 1024 2048).Idx → EReal)

/-- The largest of the three log-sum-exps of a position and a head. -/
def topS (i : Fin 16384) (h : Fin 128) : EReal := top3 (l0 (ix2 i h)) (l1 (ix2 i h)) (l2 (ix2 i h))

/-- The share of a log-sum-exp of a position and a head. -/
def shareS (i : Fin 16384) (h : Fin 128) (x : EReal) : EReal := share (l0 (ix2 i h)) (l1 (ix2 i h)) (l2 (ix2 i h)) x

/-- The three attentions averaged. -/
def attS (i : Fin 16384) (k : Fin 1024) : EReal :=
  shareS l0 l1 l2 i (lane k) (l0 (ix2 i (lane k))) * o0 (ix2 i k) + shareS l0 l1 l2 i (lane k) (l1 (ix2 i (lane k))) * o1 (ix2 i k)
    + shareS l0 l1 l2 i (lane k) (l2 (ix2 i (lane k))) * o2 (ix2 i k)

/-- The two gates' columns. -/
def colA (j : Fin 2048) : Fin 17408 := ⟨13312 + j.val, by have := j.isLt; omega⟩
def colB (j : Fin 2048) : Fin 17408 := ⟨15360 + j.val, by have := j.isLt; omega⟩

/-- The two branches gated and added, the attention branch from `att`. -/
def mixW (att : Fin 16384 → Fin 1024 → EReal) (i : Fin 16384) (j : Fin 2048) : EReal :=
  Ideal.logistic (z (ix2 i (colA j))) * (∑ k : Fin 2048, g (ix2 i k) * wr (ix2 k j))
    + Ideal.logistic (z (ix2 i (colB j))) * (∑ k : Fin 1024, att i k * wa (ix2 k j))

def mixS (i : Fin 16384) (j : Fin 2048) : EReal := mixW g z wr wa (attS o0 o1 o2 l0 l1 l2) i j

/-- The share through the reciprocal of the sum. -/
def shareK (i : Fin 16384) (h : Fin 128) (x : EReal) : EReal :=
  Ideal.exp (x - topS l0 l1 l2 i h) * Ideal.div 1 (den3 (l0 (ix2 i h)) (l1 (ix2 i h)) (l2 (ix2 i h)))

/-- The three attentions averaged by the shares through the reciprocal. -/
def attK (i : Fin 16384) (k : Fin 1024) : EReal :=
  shareK l0 l1 l2 i (lane k) (l0 (ix2 i (lane k))) * o0 (ix2 i k) + shareK l0 l1 l2 i (lane k) (l1 (ix2 i (lane k))) * o1 (ix2 i k)
    + shareK l0 l1 l2 i (lane k) (l2 (ix2 i (lane k))) * o2 (ix2 i k)

theorem attK_eq (h : ∀ (i : Fin 16384) (q : Fin 128), q.val < 8 → ⊥ < topS l0 l1 l2 i q ∧ topS l0 l1 l2 i q < ⊤) :
    attK o0 o1 o2 l0 l1 l2 = attS o0 o1 o2 l0 l1 l2 := by
  funext i k
  have hk := k.isLt
  have hq : (lane k).val < 8 := by show k.val / 128 < 8; omega
  obtain ⟨h1, h2⟩ := h i (lane k) hq
  have e : ∀ x, shareK l0 l1 l2 i (lane k) x = shareS l0 l1 l2 i (lane k) x := fun x => share_eq _ _ _ x h1 h2
  unfold attK attS
  rw [e, e, e]

end

end Cert.Mix

end
-- ==== Proof.MergePre.lean ====
/- THE CONDITION ON THE MERGE'S ARGUMENTS, read at an entry: in each head's lane the largest of the three log-sum-exps is a real number. -/
module

public import proofs.«01_k».proof.Proof.Gen.Pre_finite_lse
public import proofs.«01_k».proof.Proof.Mix

@[expose] public section

noncomputable section

namespace Cert.Mix

open Idealize.ShloMosaic Idealize.ShloMosaic.ValueIdx Cert.Dense

theorem ofBits_low : Ideal.ofBits .f32 0xFF800000#32 = (⊥ : EReal) := by
  simp [Ideal.ofBits, Ideal.ieee]

theorem ofBits_high : Ideal.ofBits .f32 0x7F800000#32 = (⊤ : EReal) := by
  simp [Ideal.ofBits, Ideal.ieee]

theorem both_one (p q : Prop) [Decidable p] [Decidable q] (h : BitVec.ofBool (decide p) &&& BitVec.ofBool (decide q) = 1#1) : p ∧ q := by
  by_cases hp : p <;> by_cases hq : q <;> simp [hp, hq] at h ⊢

theorem bounds (g : (M2 16384 2048).Idx → EReal) (o0 o1 o2 : (M2 16384 1024).Idx → EReal) (l0 l1 l2 : (M2 16384 128).Idx → EReal)
    (z : (M2 16384 17408).Idx → EReal) (wr : (M2 2048 2048).Idx → EReal) (wa : (M2 1024 2048).Idx → EReal)
    (h : Cert.Pre_finite_lse.fn (F := Ideal) g o0 o1 o2 l0 l1 l2 z wr wa = fun _ => 1#1) (i : Fin 16384) (q : Fin 128) (hq : q.val < 8) :
    ⊥ < topS l0 l1 l2 i q ∧ topS l0 l1 l2 i q < ⊤ := by
  have e := congrFun h (ix2 i (⟨q.val, hq⟩ : Fin 8))
  have es : extractStridedSlice Cert.Pre_finite_lse.S16384x8 ![0, 0] (maximumf (F := Ideal) (φ := .f32) (maximumf (F := Ideal) (φ := .f32) l0 l1) l2) Cert.Pre_finite_lse.Facts.slices_S16384x128_S16384x8_0_0
      (ix2 i (⟨q.val, hq⟩ : Fin 8)) = topS l0 l1 l2 i q :=
    (extractStridedSlice_apply _ _ _ (ix2 i (⟨q.val, hq⟩ : Fin 8)) (ix2 i q) (fun a => match a with
      | ⟨0, _⟩ => (by show i.val = 0 + i.val; omega)
      | ⟨1, _⟩ => (by show q.val = 0 + q.val; omega))).trans rfl
  rw [← es, ← ofBits_low, ← ofBits_high]
  exact both_one _ _ e

end Cert.Mix

end
-- ==== Proof.MergeKernel.lean ====
/- THE KERNEL'S SIDE for the merge of the two branches: the first of a row block's two grid points averages the three attentions, a strip
   of columns for each head, into a scratch; each point stores the gated sum of the two branches' products with one block of their weights. -/
module

public import proofs.«01_k».proof.Proof.Gen.MergeIdeal.Value
public import proofs.«01_k».proof.Proof.Mix
public import Idealize.ShloMosaic.Lib.Pipeline.ValueKit.Geometry

@[expose] public section

set_option maxRecDepth 16384

noncomputable section

namespace Cert.MergeIdeal.Side

open Cert.MergeIdeal Cert.MergeIdeal.Gen Idealize.ShloMosaic Idealize.ShloMosaic.TcCoe Idealize.SL.Sem Idealize.ShloMosaic.ValueIdx
open Idealize.ShloMosaic.StableHlo
open Cert.Dense Cert.Mix

variable (m : (ℓ : Loc nD τ sig) → Buf (Elt Ideal) ℓ)

abbrev gg (c : Dev nD) : (M2 16384 2048).Idx → EReal := m ((c : Thread nD τ).loc main_arg0)
abbrev oa (c : Dev nD) : (M2 16384 1024).Idx → EReal := m ((c : Thread nD τ).loc main_arg1)
abbrev ob (c : Dev nD) : (M2 16384 1024).Idx → EReal := m ((c : Thread nD τ).loc main_arg2)
abbrev oc (c : Dev nD) : (M2 16384 1024).Idx → EReal := m ((c : Thread nD τ).loc main_arg3)
abbrev la (c : Dev nD) : (M2 16384 128).Idx → EReal := m ((c : Thread nD τ).loc main_arg4)
abbrev lb (c : Dev nD) : (M2 16384 128).Idx → EReal := m ((c : Thread nD τ).loc main_arg5)
abbrev lc (c : Dev nD) : (M2 16384 128).Idx → EReal := m ((c : Thread nD τ).loc main_arg6)
abbrev zz (c : Dev nD) : (M2 16384 17408).Idx → EReal := m ((c : Thread nD τ).loc main_arg7)
abbrev wr (c : Dev nD) : (M2 2048 2048).Idx → EReal := m ((c : Thread nD τ).loc main_arg8)
abbrev wa (c : Dev nD) : (M2 1024 2048).Idx → EReal := m ((c : Thread nD τ).loc main_arg9)

/-! ## The blocks -/

theorem index0 : ∀ t : Fin cfg0.N, win0_0.index t = ![t.val / 2, 0] := (by decide +kernel : ∀ t : Fin grid0.N, win0_0.index t = ![t.val / 2, 0])
theorem index1 : ∀ t : Fin cfg0.N, win0_1.index t = ![t.val / 2, 0] := (by decide +kernel : ∀ t : Fin grid0.N, win0_1.index t = ![t.val / 2, 0])
theorem index2 : ∀ t : Fin cfg0.N, win0_2.index t = ![t.val / 2, 0] := (by decide +kernel : ∀ t : Fin grid0.N, win0_2.index t = ![t.val / 2, 0])
theorem index3 : ∀ t : Fin cfg0.N, win0_3.index t = ![t.val / 2, 0] := (by decide +kernel : ∀ t : Fin grid0.N, win0_3.index t = ![t.val / 2, 0])
theorem index4 : ∀ t : Fin cfg0.N, win0_4.index t = ![t.val / 2, 0] := (by decide +kernel : ∀ t : Fin grid0.N, win0_4.index t = ![t.val / 2, 0])
theorem index5 : ∀ t : Fin cfg0.N, win0_5.index t = ![t.val / 2, 0] := (by decide +kernel : ∀ t : Fin grid0.N, win0_5.index t = ![t.val / 2, 0])
theorem index6 : ∀ t : Fin cfg0.N, win0_6.index t = ![t.val / 2, 0] := (by decide +kernel : ∀ t : Fin grid0.N, win0_6.index t = ![t.val / 2, 0])
theorem index7 : ∀ t : Fin cfg0.N, win0_7.index t = ![t.val / 2, 13 + t.val % 2] := (by decide +kernel : ∀ t : Fin grid0.N, win0_7.index t = ![t.val / 2, 13 + t.val % 2])
theorem index8 : ∀ t : Fin cfg0.N, win0_8.index t = ![t.val / 2, 15 + t.val % 2] := (by decide +kernel : ∀ t : Fin grid0.N, win0_8.index t = ![t.val / 2, 15 + t.val % 2])
theorem index9 : ∀ t : Fin cfg0.N, win0_9.index t = ![0, t.val % 2] := (by decide +kernel : ∀ t : Fin grid0.N, win0_9.index t = ![0, t.val % 2])
theorem index10 : ∀ t : Fin cfg0.N, win0_10.index t = ![0, t.val % 2] := (by decide +kernel : ∀ t : Fin grid0.N, win0_10.index t = ![0, t.val % 2])
theorem index11 : ∀ t : Fin cfg0.N, win0_11.index t = ![t.val / 2, t.val % 2] := (by decide +kernel : ∀ t : Fin grid0.N, win0_11.index t = ![t.val / 2, t.val % 2])

theorem V_g (c : Dev nD) : V m c main_v0 = gg m c := by
  unfold_abbrev_sides
  after_results
  rfl

theorem V_wr (c : Dev nD) : V m c main_v1 = wr m c := by
  unfold_abbrev_sides
  after_results
  rfl

theorem V_wa (c : Dev nD) : V m c main_v2 = wa m c := by
  unfold_abbrev_sides
  after_results
  rfl

theorem iblk0_apply (c : Dev nD) (t : Fin cfg0.N) (y : S512x2048.Idx) (R : Fin 16384) (K : Fin 2048) (hR : R.val = 512 * (t.val / 2) + (y 0).val)
    (hK : K.val = (y 1).val) : iblk m c 0 t y = gg m c (ix2 R K) := by
  show V m c main_v0 (((cfg0.win 0).blk t).view.emb y) = _
  rw [V_g]
  refine congrArg (gg m c) (funext fun a => Fin.ext ?_)
  match a with
  | ⟨0, _⟩ => refine Eq.trans ?_ hR.symm; blk_simp [index0 t]; simp; omega
  | ⟨1, _⟩ => refine Eq.trans ?_ hK.symm; blk_simp [index0 t]; rfl

theorem iblk1_apply (c : Dev nD) (t : Fin cfg0.N) (y : S512x1024.Idx) (R : Fin 16384) (K : Fin 1024) (hR : R.val = 512 * (t.val / 2) + (y 0).val)
    (hK : K.val = (y 1).val) : iblk m c 1 t y = oa m c (ix2 R K) := by
  show V m c main_arg1 (((cfg0.win 1).blk t).view.emb y) = _
  rw [V_main_arg1]
  refine congrArg (oa m c) (funext fun a => Fin.ext ?_)
  match a with
  | ⟨0, _⟩ => refine Eq.trans ?_ hR.symm; blk_simp [index1 t]; simp; omega
  | ⟨1, _⟩ => refine Eq.trans ?_ hK.symm; blk_simp [index1 t]; rfl

theorem iblk2_apply (c : Dev nD) (t : Fin cfg0.N) (y : S512x1024.Idx) (R : Fin 16384) (K : Fin 1024) (hR : R.val = 512 * (t.val / 2) + (y 0).val)
    (hK : K.val = (y 1).val) : iblk m c 2 t y = ob m c (ix2 R K) := by
  show V m c main_arg2 (((cfg0.win 2).blk t).view.emb y) = _
  rw [V_main_arg2]
  refine congrArg (ob m c) (funext fun a => Fin.ext ?_)
  match a with
  | ⟨0, _⟩ => refine Eq.trans ?_ hR.symm; blk_simp [index2 t]; simp; omega
  | ⟨1, _⟩ => refine Eq.trans ?_ hK.symm; blk_simp [index2 t]; rfl

theorem iblk3_apply (c : Dev nD) (t : Fin cfg0.N) (y : S512x1024.Idx) (R : Fin 16384) (K : Fin 1024) (hR : R.val = 512 * (t.val / 2) + (y 0).val)
    (hK : K.val = (y 1).val) : iblk m c 3 t y = oc m c (ix2 R K) := by
  show V m c main_arg3 (((cfg0.win 3).blk t).view.emb y) = _
  rw [V_main_arg3]
  refine congrArg (oc m c) (funext fun a => Fin.ext ?_)
  match a with
  | ⟨0, _⟩ => refine Eq.trans ?_ hR.symm; blk_simp [index3 t]; simp; omega
  | ⟨1, _⟩ => refine Eq.trans ?_ hK.symm; blk_simp [index3 t]; rfl

theorem iblk4_apply (c : Dev nD) (t : Fin cfg0.N) (y : S512x128.Idx) (R : Fin 16384) (K : Fin 128) (hR : R.val = 512 * (t.val / 2) + (y 0).val)
    (hK : K.val = (y 1).val) : iblk m c 4 t y = la m c (ix2 R K) := by
  show V m c main_arg4 (((cfg0.win 4).blk t).view.emb y) = _
  rw [V_main_arg4]
  refine congrArg (la m c) (funext fun a => Fin.ext ?_)
  match a with
  | ⟨0, _⟩ => refine Eq.trans ?_ hR.symm; blk_simp [index4 t]; simp; omega
  | ⟨1, _⟩ => refine Eq.trans ?_ hK.symm; blk_simp [index4 t]; rfl

theorem iblk5_apply (c : Dev nD) (t : Fin cfg0.N) (y : S512x128.Idx) (R : Fin 16384) (K : Fin 128) (hR : R.val = 512 * (t.val / 2) + (y 0).val)
    (hK : K.val = (y 1).val) : iblk m c 5 t y = lb m c (ix2 R K) := by
  show V m c main_arg5 (((cfg0.win 5).blk t).view.emb y) = _
  rw [V_main_arg5]
  refine congrArg (lb m c) (funext fun a => Fin.ext ?_)
  match a with
  | ⟨0, _⟩ => refine Eq.trans ?_ hR.symm; blk_simp [index5 t]; simp; omega
  | ⟨1, _⟩ => refine Eq.trans ?_ hK.symm; blk_simp [index5 t]; rfl

theorem iblk6_apply (c : Dev nD) (t : Fin cfg0.N) (y : S512x128.Idx) (R : Fin 16384) (K : Fin 128) (hR : R.val = 512 * (t.val / 2) + (y 0).val)
    (hK : K.val = (y 1).val) : iblk m c 6 t y = lc m c (ix2 R K) := by
  show V m c main_arg6 (((cfg0.win 6).blk t).view.emb y) = _
  rw [V_main_arg6]
  refine congrArg (lc m c) (funext fun a => Fin.ext ?_)
  match a with
  | ⟨0, _⟩ => refine Eq.trans ?_ hR.symm; blk_simp [index6 t]; simp; omega
  | ⟨1, _⟩ => refine Eq.trans ?_ hK.symm; blk_simp [index6 t]; rfl

theorem iblk7_apply (c : Dev nD) (t : Fin cfg0.N) (y : S512x1024.Idx) (R : Fin 16384) (J : Fin 17408) (hR : R.val = 512 * (t.val / 2) + (y 0).val)
    (hJ : J.val = 1024 * (13 + t.val % 2) + (y 1).val) : iblk m c 7 t y = zz m c (ix2 R J) := by
  show V m c main_arg7 (((cfg0.win 7).blk t).view.emb y) = _
  rw [V_main_arg7]
  refine congrArg (zz m c) (funext fun a => Fin.ext ?_)
  match a with
  | ⟨0, _⟩ => refine Eq.trans ?_ hR.symm; blk_simp [index7 t]; simp; omega
  | ⟨1, _⟩ => refine Eq.trans ?_ hJ.symm; blk_simp [index7 t]; simp; omega

theorem iblk8_apply (c : Dev nD) (t : Fin cfg0.N) (y : S512x1024.Idx) (R : Fin 16384) (J : Fin 17408) (hR : R.val = 512 * (t.val / 2) + (y 0).val)
    (hJ : J.val = 1024 * (15 + t.val % 2) + (y 1).val) : iblk m c 8 t y = zz m c (ix2 R J) := by
  show V m c main_arg7 (((cfg0.win 8).blk t).view.emb y) = _
  rw [V_main_arg7]
  refine congrArg (zz m c) (funext fun a => Fin.ext ?_)
  match a with
  | ⟨0, _⟩ => refine Eq.trans ?_ hR.symm; blk_simp [index8 t]; simp; omega
  | ⟨1, _⟩ => refine Eq.trans ?_ hJ.symm; blk_simp [index8 t]; simp; omega

theorem iblk9_apply (c : Dev nD) (t : Fin cfg0.N) (y : S2048x1024.Idx) (K : Fin 2048) (J : Fin 2048) (hK : K.val = (y 0).val)
    (hJ : J.val = 1024 * (t.val % 2) + (y 1).val) : iblk m c 9 t y = wr m c (ix2 K J) := by
  show V m c main_v1 (((cfg0.win 9).blk t).view.emb y) = _
  rw [V_wr]
  refine congrArg (wr m c) (funext fun a => Fin.ext ?_)
  match a with
  | ⟨0, _⟩ => refine Eq.trans ?_ hK.symm; blk_simp [index9 t]; rfl
  | ⟨1, _⟩ => refine Eq.trans ?_ hJ.symm; blk_simp [index9 t]; simp; omega

theorem iblk10_apply (c : Dev nD) (t : Fin cfg0.N) (y : S1024x1024.Idx) (K : Fin 1024) (J : Fin 2048) (hK : K.val = (y 0).val)
    (hJ : J.val = 1024 * (t.val % 2) + (y 1).val) : iblk m c 10 t y = wa m c (ix2 K J) := by
  show V m c main_v2 (((cfg0.win 10).blk t).view.emb y) = _
  rw [V_wa]
  refine congrArg (wa m c) (funext fun a => Fin.ext ?_)
  match a with
  | ⟨0, _⟩ => refine Eq.trans ?_ hK.symm; blk_simp [index10 t]; rfl
  | ⟨1, _⟩ => refine Eq.trans ?_ hJ.symm; blk_simp [index10 t]; simp; omega

/-! ## A strip of the scratch -/

/-- A head's strip: each of its three attentions times its share, the share read from the head's lane. -/
def strip (h : ℕ) (hs : S512x128.Slices ![0, h] S512x1) (u v w : FVec Ideal S512x128 .f32) (x y z : FVec Ideal S512x128 .f32) : FVec Ideal S512x128 .bf16 :=
  shapeCast S512x128 (truncf .bf16 (addf (addf (mulf (broadcastTo S512x128 (extractStridedSlice S512x1 ![0, h] u hs) broadcasts_S512x1_S512x128) x)
    (mulf (broadcastTo S512x128 (extractStridedSlice S512x1 ![0, h] v hs) broadcasts_S512x1_S512x128) y))
    (mulf (broadcastTo S512x128 (extractStridedSlice S512x1 ![0, h] w hs) broadcasts_S512x1_S512x128) z)) bitsLt_bf16_f32) shapeCasts_S512x128_S512x128

theorem lane_apply (h : Fin 128) (hs : S512x128.Slices ![0, h.val] S512x1) (u : FVec Ideal S512x128 .f32) (r : Fin 512) (d : Fin 128) :
    broadcastTo S512x128 (extractStridedSlice S512x1 ![0, h.val] u hs) broadcasts_S512x1_S512x128 (ix2 r d) = u (ix2 r h) := by
  refine (broadcastTo_apply _ _ (ix2 r d) (ix2 r (0 : Fin 1)) (fun a => match a with | ⟨0, _⟩ => rfl | ⟨1, _⟩ => rfl)).trans ?_
  exact extractStridedSlice_apply _ u hs (ix2 r (0 : Fin 1)) (ix2 r h) (fun a => match a with
    | ⟨0, _⟩ => (by show r.val = 0 + r.val; omega)
    | ⟨1, _⟩ => (by show h.val = h.val + 0; omega))

theorem strip_apply (h : Fin 128) (hs : S512x128.Slices ![0, h.val] S512x1) (u v w x y z : FVec Ideal S512x128 .f32) (r : Fin 512) (d : Fin 128) :
    strip h.val hs u v w x y z (ix2 r d)
      = u (ix2 r h) * x (ix2 r d) + v (ix2 r h) * y (ix2 r d) + w (ix2 r h) * z (ix2 r d) := by
  unfold strip
  rw [shapeCast_self]
  show broadcastTo S512x128 _ _ (ix2 r d) * x (ix2 r d) + broadcastTo S512x128 _ _ (ix2 r d) * y (ix2 r d) + broadcastTo S512x128 _ _ (ix2 r d) * z (ix2 r d) = _
  rw [lane_apply, lane_apply, lane_apply]

/-- The averaged attentions of the row block `q`. -/
def attT (c : Dev nD) (q : ℕ) : S512x1024.Idx → EReal := fun y =>
  if h : 512 * q + (y 0).val < 16384 then attK (oa m c) (ob m c) (oc m c) (la m c) (lb m c) (lc m c) ⟨512 * q + (y 0).val, h⟩ (y 1) else 0

theorem ldl (c : Dev nD) (t : Fin cfg0.N) (inb : ∀ a, ![0, 0] a + S512x128.size a ≤ S512x128.size a) (r : Fin 512) (h : Fin 128) (R : Fin 16384)
    (hR : R.val = 512 * (t.val / 2) + r.val) :
    View.ld (iblk m c 4 t) (Rect.unit (s := S512x128) ![0, 0] S512x128.size inb) (ix2 r h) = la m c (ix2 R h)
    ∧ View.ld (iblk m c 5 t) (Rect.unit (s := S512x128) ![0, 0] S512x128.size inb) (ix2 r h) = lb m c (ix2 R h)
    ∧ View.ld (iblk m c 6 t) (Rect.unit (s := S512x128) ![0, 0] S512x128.size inb) (ix2 r h) = lc m c (ix2 R h) := by
  refine ⟨iblk4_apply m c t _ R h ?_ ?_, iblk5_apply m c t _ R h ?_ ?_, iblk6_apply m c t _ R h ?_ ?_⟩
  all_goals first
    | (show R.val = 512 * (t.val / 2) + (0 + 1 * r.val); omega)
    | (show h.val = 0 + 1 * h.val; omega)

theorem ldo (c : Dev nD) (t : Fin cfg0.N) (c0 : ℕ) (inb : ∀ a, ![0, c0] a + S512x128.size a ≤ S512x1024.size a) (r : Fin 512) (d : Fin 128) (R : Fin 16384)
    (K : Fin 1024) (hR : R.val = 512 * (t.val / 2) + r.val) (hK : K.val = c0 + d.val) :
    View.ld (iblk m c 1 t) (Rect.unit (s := S512x1024) ![0, c0] S512x128.size inb) (ix2 r d) = oa m c (ix2 R K)
    ∧ View.ld (iblk m c 2 t) (Rect.unit (s := S512x1024) ![0, c0] S512x128.size inb) (ix2 r d) = ob m c (ix2 R K)
    ∧ View.ld (iblk m c 3 t) (Rect.unit (s := S512x1024) ![0, c0] S512x128.size inb) (ix2 r d) = oc m c (ix2 R K) := by
  refine ⟨iblk1_apply m c t _ R K ?_ ?_, iblk2_apply m c t _ R K ?_ ?_, iblk3_apply m c t _ R K ?_ ?_⟩
  all_goals first
    | (show R.val = 512 * (t.val / 2) + (0 + 1 * r.val); omega)
    | (show K.val = c0 + 1 * d.val; omega)

/-- The reciprocal of the sum, at an entry. -/
theorem pay6_apply (x y z : FVec Ideal S512x128 .f32) (i : S512x128.Idx) :
    k0_pay6 (F := Ideal) x y z i = Ideal.div 1 (den3 (x i) (y i) (z i)) := by
  show Ideal.div (Ideal.ofBits .f32 0x3F800000#32) _ = _
  rw [Ideal.ofBits_one_f32]
  rfl

theorem strip_eq (c : Dev nD) (t : Fin cfg0.N) (h c0 : ℕ) (hh : h < 8) (hc : c0 = 128 * h) (hs : S512x128.Slices ![0, h] S512x1)
    (il : ∀ a, ![0, 0] a + S512x128.size a ≤ S512x128.size a)
    (io : ∀ a, ![0, c0] a + S512x128.size a ≤ S512x1024.size a) (x : S512x128.Idx) :
    strip h hs
        (k0_pay7 (F := Ideal) (View.ld (iblk m c 4 t) (Rect.unit (s := S512x128) ![0, 0] S512x128.size il)) (View.ld (iblk m c 5 t) (Rect.unit (s := S512x128) ![0, 0] S512x128.size il)) (View.ld (iblk m c 6 t) (Rect.unit (s := S512x128) ![0, 0] S512x128.size il)))
        (k0_pay8 (F := Ideal) (View.ld (iblk m c 4 t) (Rect.unit (s := S512x128) ![0, 0] S512x128.size il)) (View.ld (iblk m c 5 t) (Rect.unit (s := S512x128) ![0, 0] S512x128.size il)) (View.ld (iblk m c 6 t) (Rect.unit (s := S512x128) ![0, 0] S512x128.size il)))
        (k0_pay9 (F := Ideal) (View.ld (iblk m c 4 t) (Rect.unit (s := S512x128) ![0, 0] S512x128.size il)) (View.ld (iblk m c 5 t) (Rect.unit (s := S512x128) ![0, 0] S512x128.size il)) (View.ld (iblk m c 6 t) (Rect.unit (s := S512x128) ![0, 0] S512x128.size il)))
        (View.ld (iblk m c 1 t) (Rect.unit (s := S512x1024) ![0, c0] S512x128.size io)) (View.ld (iblk m c 2 t) (Rect.unit (s := S512x1024) ![0, c0] S512x128.size io))
        (View.ld (iblk m c 3 t) (Rect.unit (s := S512x1024) ![0, c0] S512x128.size io)) x
      = attT m c (t.val / 2) ((Rect.unit (s := S512x1024) ![0, c0] S512x128.size io).emb x) := by
  obtain ⟨r, d, rfl⟩ : ∃ (r : Fin 512) (d : Fin 128), x = ix2 r d := ⟨x 0, x 1, eq_ix2 x⟩
  have hN : t.val < 64 := lt_of_lt_of_eq t.isLt N_0
  have hr := r.isLt
  have hd := d.isLt
  have hR : 512 * (t.val / 2) + r.val < 16384 := by omega
  have hK : c0 + d.val < 1024 := by omega
  refine (strip_apply ⟨h, by omega⟩ hs _ _ _ _ _ _ r d).trans ?_
  obtain ⟨e0, e1, e2⟩ := ldo m c t c0 io r d ⟨_, hR⟩ ⟨_, hK⟩ rfl rfl
  obtain ⟨f0, f1, f2⟩ := ldl m c t il r ⟨h, by omega⟩ ⟨_, hR⟩ rfl
  rw [e0, e1, e2]
  have hb : 512 * (t.val / 2) + (((Rect.unit (s := S512x1024) ![0, c0] S512x128.size io).emb (ix2 r d)) 0).val < 16384 := by
    show 512 * (t.val / 2) + (0 + 1 * r.val) < 16384; omega
  unfold attT
  rw [dif_pos hb]
  rw [show (⟨512 * (t.val / 2) + (((Rect.unit (s := S512x1024) ![0, c0] S512x128.size io).emb (ix2 r d)) 0).val, hb⟩ : Fin 16384) = ⟨_, hR⟩ from
    Fin.ext (by show 512 * (t.val / 2) + (0 + 1 * r.val) = 512 * (t.val / 2) + r.val; omega),
    show ((Rect.unit (s := S512x1024) ![0, c0] S512x128.size io).emb (ix2 r d)) 1 = (⟨_, hK⟩ : Fin 1024) from Fin.ext (by show c0 + 1 * d.val = c0 + d.val; omega)]
  unfold attK
  rw [show lane ⟨c0 + d.val, hK⟩ = (⟨h, by omega⟩ : Fin 128) from Fin.ext (by show (c0 + d.val) / 128 = h; omega)]
  have p : ∀ X : EReal, Ideal.exp (X - top3 (View.ld (iblk m c 4 t) (Rect.unit (s := S512x128) ![0, 0] S512x128.size il) (ix2 r ⟨h, by omega⟩)) (View.ld (iblk m c 5 t) (Rect.unit (s := S512x128) ![0, 0] S512x128.size il) (ix2 r ⟨h, by omega⟩)) (View.ld (iblk m c 6 t) (Rect.unit (s := S512x128) ![0, 0] S512x128.size il) (ix2 r ⟨h, by omega⟩)))
      * k0_pay6 (F := Ideal) (View.ld (iblk m c 4 t) (Rect.unit (s := S512x128) ![0, 0] S512x128.size il)) (View.ld (iblk m c 5 t) (Rect.unit (s := S512x128) ![0, 0] S512x128.size il)) (View.ld (iblk m c 6 t) (Rect.unit (s := S512x128) ![0, 0] S512x128.size il)) (ix2 r ⟨h, by omega⟩)
      = shareK (la m c) (lb m c) (lc m c) ⟨_, hR⟩ ⟨h, by omega⟩ X := by
    intro X
    rw [pay6_apply, f0, f1, f2]
    rfl
  refine congrArg₂ (fun a b : EReal => a + b) (congrArg₂ (fun a b : EReal => a + b) ?_ ?_) ?_
  · refine congrArg (· * _) (Eq.trans (p _) ?_); rw [f0]
  · refine congrArg (· * _) (Eq.trans (p _) ?_); rw [f1]
  · refine congrArg (· * _) (Eq.trans (p _) ?_); rw [f2]

/-- The stores of a point that fills the scratch, read back. -/
theorem canon_A (c : Dev nD) (t : Fin cfg0.N) (h0 : t.val % 2 = 0) :
    View.canon (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t)).2.1
      = attT m c (t.val / 2) := by
  funext y
  have cov := scover0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) y
  refine View.canon_apply_of_pieces (attT m c (t.val / 2)) _ ?_ y cov
  unfold kernelRun0_A
  dsimp only
  sl_unfold_words
  simp only [View.readAt_eq_ld, (hs0_1 t).read_unread, (hs0_2 t).read_unread, (hs0_3 t).read_unread, (hs0_4 t).read_unread, (hs0_5 t).read_unread, (hs0_6 t).read_unread]
  exact
    (List.forall_mem_cons.2 ⟨strip_eq m c t 7 896 (by decide) rfl slices_S512x128_o0_7_S512x1 _ _,
    (List.forall_mem_cons.2 ⟨strip_eq m c t 6 768 (by decide) rfl slices_S512x128_o0_6_S512x1 _ _,
    (List.forall_mem_cons.2 ⟨strip_eq m c t 5 640 (by decide) rfl slices_S512x128_o0_5_S512x1 _ _,
    (List.forall_mem_cons.2 ⟨strip_eq m c t 4 512 (by decide) rfl slices_S512x128_o0_4_S512x1 _ _,
    (List.forall_mem_cons.2 ⟨strip_eq m c t 3 384 (by decide) rfl slices_S512x128_o0_3_S512x1 _ _,
    (List.forall_mem_cons.2 ⟨strip_eq m c t 2 256 (by decide) rfl slices_S512x128_o0_2_S512x1 _ _,
    (List.forall_mem_cons.2 ⟨strip_eq m c t 1 128 (by decide) rfl slices_S512x128_o0_1_S512x1 _ _,
    (List.forall_mem_cons.2 ⟨strip_eq m c t 0 0 (by decide) rfl slices_S512x128_o0_0_S512x1 _ _,
    (fun _ h => absurd h List.not_mem_nil)⟩)⟩)⟩)⟩)⟩)⟩)⟩)⟩)

/-- The scratch after a point that fills it. -/
theorem scratch_A (c : Dev nD) (t : Fin cfg0.N) (h0 : t.val % 2 = 0) : (outsAt0 m c t.val t.isLt).2 = attT m c (t.val / 2) := by
  rw [outsAt0_A m c t h0]
  dsimp only
  unfold sout0_A_0
  rw [View.read_writes_eq_canon _ _ _ (scover0_A_0 (F := Ideal) c _ _ _ _ _ _ _ _ _ _ _ _ _ _ _ _ _ _ _ _ _ _ _ _ _ _ _ _ _ _ _ _ _ _ _ _ _ _ _)]
  exact canon_A m c t h0

/-! ## What a point stores -/

/-- The gated sum over the whole array, through the reciprocal. -/
def mixK (c : Dev nD) : (M2 16384 2048).Idx → EReal := fun i =>
  mixW (gg m c) (zz m c) (wr m c) (wa m c) (attK (oa m c) (ob m c) (oc m c) (la m c) (lb m c) (lc m c)) (i 0) (i 1)

theorem pay1_apply (c : Dev nD) (t : Fin cfg0.N) (r : Fin 512) (j : Fin 1024) (R : Fin 16384) (J : Fin 2048) (hR : R.val = 512 * (t.val / 2) + r.val)
    (hJ : J.val = 1024 * (t.val % 2) + j.val) :
    k0_pay1 (F := Ideal) (iblk m c 0 t) (iblk m c 9 t) (attT m c (t.val / 2)) (iblk m c 10 t) (iblk m c 7 t) (iblk m c 8 t) (ix2 r j)
      = mixK m c (ix2 R J) := by
  unfold k0_pay1
  rw [shapeCast_self, shapeCast_self, shapeCast_self]
  show Ideal.logistic (iblk m c 7 t (ix2 r j)) * matmul (F := Ideal) (DotDims.plain 512 2048 1024) none (iblk m c 0 t) (iblk m c 9 t) (constant (M2 512 1024) .f32 0x00000000#32) (ix2 r j)
    + Ideal.logistic (iblk m c 8 t (ix2 r j)) * matmul (F := Ideal) (DotDims.plain 512 1024 1024) none (attT m c (t.val / 2) : FVec Ideal (M2 512 1024) .bf16) (iblk m c 10 t) (constant (M2 512 1024) .f32 0x00000000#32) (ix2 r j) = _
  rw [mm_apply, mm_apply]
  show _ = mixW (gg m c) (zz m c) (wr m c) (wa m c) (attK (oa m c) (ob m c) (oc m c) (la m c) (lb m c) (lc m c)) R J
  unfold mixW
  rw [iblk7_apply m c t (ix2 r j) R (colA J) hR (by show 13312 + J.val = 1024 * (13 + t.val % 2) + j.val; omega),
    iblk8_apply m c t (ix2 r j) R (colB J) hR (by show 15360 + J.val = 1024 * (15 + t.val % 2) + j.val; omega)]
  refine congrArg₂ (fun a b : EReal => a + b) (congrArg (_ * ·) (Finset.sum_congr rfl fun k _ => ?_)) (congrArg (_ * ·) (Finset.sum_congr rfl fun k _ => ?_))
  · exact congrArg₂ (fun a b : EReal => a * b) (iblk0_apply m c t (ix2 r k) R k hR rfl) (iblk9_apply m c t (ix2 k j) k J rfl hJ)
  · refine congrArg₂ (fun a b : EReal => a * b) ?_ (iblk10_apply m c t (ix2 k j) k J rfl hJ)
    unfold attT
    have hb : 512 * (t.val / 2) + r.val < 16384 := hR ▸ R.isLt
    rw [dif_pos (show 512 * (t.val / 2) + ((ix2 r k : S512x1024.Idx) 0).val < 16384 from hb)]
    rw [show R = ⟨512 * (t.val / 2) + r.val, hb⟩ from Fin.ext hR]

theorem zero_two : (![0, 0] : Fin 2 → ℕ) = fun _ => 0 := funext fun a => match a with | ⟨0, _⟩ => rfl | ⟨1, _⟩ => rfl

theorem block (c : Dev nD) (t : Fin cfg0.N) : (outsAt0 m c t.val t.isLt).1
    = k0_pay1 (F := Ideal) (iblk m c 0 t) (iblk m c 9 t) (attT m c (t.val / 2)) (iblk m c 10 t) (iblk m c 7 t) (iblk m c 8 t) := by
  by_cases h0 : t.val % 2 = 0
  · rw [outsAt0_A m c t h0]
    dsimp only
    unfold out0_A_11
    rw [View.read_writes_eq_canon _ _ _ (cover0_A_11 (F := Ideal) c _ _ _ _ _ _ _ _ _ _ _ _ _ _ _ _ _ _ _ _ _ _ _ _ _ _ _ _ _ _ _ _ _ _ _ _ _ _ _)]
    unfold kernelRun0_A
    dsimp only
    sl_unfold_words
    rw [View.canon_unit_zero zero_two, View.readCov_eq_canon']
    refine Eq.trans (congrArg (fun s => k0_pay1 (F := Ideal) _ _ s _ _ _) (funext fun j => congrFun (canon_A m c t h0) _)) ?_
    simp only [View.readAt_eq_ld, (hs0_0 t).read_unread, (hs0_7 t).read_unread, (hs0_8 t).read_unread, (hs0_9 t).read_unread, (hs0_10 t).read_unread]
    rw [View.ld_unit_zero zero_two, View.ld_unit_zero zero_two, View.ld_unit_zero zero_two, View.ld_unit_zero zero_two, View.ld_unit_zero zero_two]
    refine congrArg (fun s => k0_pay1 (F := Ideal) (iblk m c 0 t) (iblk m c 9 t) s (iblk m c 10 t) (iblk m c 7 t) (iblk m c 8 t)) (funext fun j => ?_)
    refine congrArg (attT m c (t.val / 2)) (funext fun a => Fin.ext ?_)
    match a with
    | ⟨0, _⟩ => show 0 + 1 * (j 0).val = (j 0).val; omega
    | ⟨1, _⟩ => show 0 + 1 * (j 1).val = (j 1).val; omega
  · have hp : (outsAt0 m c (t.val - 1) (Nat.lt_of_le_of_lt (Nat.sub_le _ _) t.isLt)).2 = attT m c (t.val / 2) := by
      refine (scratch_A m c ⟨t.val - 1, Nat.lt_of_le_of_lt (Nat.sub_le _ _) t.isLt⟩ (by show (t.val - 1) % 2 = 0; omega)).trans ?_
      rw [show (⟨t.val - 1, Nat.lt_of_le_of_lt (Nat.sub_le _ _) t.isLt⟩ : Fin cfg0.N).val / 2 = t.val / 2 from by show (t.val - 1) / 2 = t.val / 2; omega]
    rw [outsAt0_B m c t h0]
    dsimp only
    unfold out0_B_11
    rw [View.read_writes_eq_canon _ _ _ (cover0_B_11 (F := Ideal) c _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_7 t).read_unread, (hs0_8 t).read_unread, (hs0_9 t).read_unread, (hs0_10 t).read_unread, (Memref.isWhole_whole _).read_unread]
    rw [View.canon_unit_zero zero_two]
    rw [View.ld_unit_zero zero_two, View.ld_unit_zero zero_two, View.ld_unit_zero zero_two, View.ld_unit_zero zero_two, View.ld_unit_zero zero_two, View.ld_unit_zero zero_two]
    rw [hp]

theorem emb0 (t : Fin cfg0.N) (y : S512x1024.Idx) : (((cfg0.win 11).blk t).view.emb y 0).val = 512 * (t.val / 2) + (y 0).val := by
  blk_simp [index11 t]; simp; omega

theorem emb1 (t : Fin cfg0.N) (y : S512x1024.Idx) : (((cfg0.win 11).blk t).view.emb y 1).val = 1024 * (t.val % 2) + (y 1).val := by
  blk_simp [index11 t]; simp; omega

/-- What a point stores, at the array's places. -/
theorem stored (c : Dev nD) (t : Fin cfg0.N) (y : S512x1024.Idx) : k0_pay1 (F := Ideal) (iblk m c 0 t) (iblk m c 9 t) (attT m c (t.val / 2)) (iblk m c 10 t) (iblk m c 7 t) (iblk m c 8 t) y
    = mixK m c (((cfg0.win 11).blk t).view.emb y) := by
  obtain ⟨r, d, rfl⟩ : ∃ (r : Fin 512) (d : Fin 1024), y = ix2 r d := ⟨y 0, y 1, eq_ix2 y⟩
  exact (pay1_apply m c t r d _ _ (emb0 t _) (emb1 t _)).trans (congrArg (mixK m c) (eq_ix2 _).symm)

/-- The array the kernel leaves. -/
theorem result (c : Dev nD) : (dats m 0 c).arrAt 11 cfg0.N = mixK m c := by
  refine (dats m 0 c).arrAt_eq_of_cover 11 _ (fun t hf => ?_) (fun i => (Value.covered_iff11 i).2 ⟨Nat.zero_le _, (i 0).isLt, Nat.zero_le _, (i 1).isLt⟩)
  rw [Value.flushed11, block]
  exact funext fun y => stored m c t y

end Cert.MergeIdeal.Side

end
-- ==== Proof.MergeReference.lean ====
/- THE REFERENCE'S SIDE for the merge of the two branches: its lines, read one at a time, are `Mix`'s. -/
module

public import proofs.«01_k».proof.Proof.Gen.MergeRefIdeal.Read
public import proofs.«01_k».proof.Proof.Mix

@[expose] public section

set_option maxRecDepth 16384

noncomputable section

namespace Cert.MergeRefIdeal.Side

open Cert.MergeRefIdeal Cert.MergeRefIdeal.Gen Cert.MergeRefIdeal.Read Idealize.ShloMosaic Idealize.ShloMosaic.ValueIdx Cert.Dense Cert.Mix

/-- One of three, by the group. -/
def sel (k : Fin 3) (a b c : EReal) : EReal := if k.val = 0 then a else if k.val = 1 then b else c

def lane8 (h : Fin 8) : Fin 128 := ⟨h.val, by have := h.isLt; omega⟩
def col8 (h : Fin 8) (d : Fin 128) : Fin 1024 := ⟨128 * h.val + d.val, by have := h.isLt; have := d.isLt; omega⟩

theorem lse0_at (l : (M2 16384 128).Idx → EReal) (i : Fin 16384) (h : Fin 8) :
    val_main_v4 (F := Ideal) l (ix3 0 i h) = l (ix2 i (lane8 h)) := by
  rw [val_main_v4_apply (F := Ideal), val_main_v3_apply (F := Ideal)]
  have hh := h.isLt
  refine congrArg l (funext fun a => Fin.ext ?_)
  match a with
  | ⟨0, _⟩ => show ((0 * 16384 + i.val) * 8 + h.val) / 8 = i.val; omega
  | ⟨1, _⟩ => show ((0 * 16384 + i.val) * 8 + h.val) % 8 = h.val; omega

theorem v22_at (l0 l1 l2 : (M2 16384 128).Idx → EReal) (k : Fin 3) (i : Fin 16384) (h : Fin 8) :
    val_main_v22 (F := Ideal) l0 l1 l2 (ix4 k 0 i h) = sel k (l0 (ix2 i (lane8 h))) (l1 (ix2 i (lane8 h))) (l2 (ix2 i (lane8 h))) := by
  unfold val_main_v22
  match k with
  | ⟨0, _⟩ =>
    refine Eq.trans (concatenate_apply_piece (t := S3x1x16384x8) 0 [⟨S1x1x16384x8, val_main_v19 (F := Ideal) l0⟩, ⟨S1x1x16384x8, val_main_v20 (F := Ideal) l1⟩, ⟨S1x1x16384x8, val_main_v21 (F := Ideal) l2⟩] _ (ix4 (0 : Fin 3) 0 i h) 0 (by show 0 < 3; decide) S1x1x16384x8 (val_main_v19 (F := Ideal) l0) rfl rfl 0 rfl (ix4 0 0 i h)
      (fun b hb => match b with | ⟨0, _⟩ => absurd rfl hb | ⟨1, _⟩ => rfl | ⟨2, _⟩ => rfl | ⟨3, _⟩ => rfl) rfl) ?_
    rw [val_main_v19_apply (F := Ideal)]
    exact lse0_at l0 i h
  | ⟨1, _⟩ =>
    refine Eq.trans (concatenate_apply_piece (t := S3x1x16384x8) 0 [⟨S1x1x16384x8, val_main_v19 (F := Ideal) l0⟩, ⟨S1x1x16384x8, val_main_v20 (F := Ideal) l1⟩, ⟨S1x1x16384x8, val_main_v21 (F := Ideal) l2⟩] _ (ix4 (1 : Fin 3) 0 i h) 1 (by show 1 < 3; decide) S1x1x16384x8 (val_main_v20 (F := Ideal) l1) rfl rfl 1 rfl (ix4 0 0 i h)
      (fun b hb => match b with | ⟨0, _⟩ => absurd rfl hb | ⟨1, _⟩ => rfl | ⟨2, _⟩ => rfl | ⟨3, _⟩ => rfl) rfl) ?_
    rw [val_main_v20_apply (F := Ideal)]
    exact lse0_at l1 i h
  | ⟨2, _⟩ =>
    refine Eq.trans (concatenate_apply_piece (t := S3x1x16384x8) 0 [⟨S1x1x16384x8, val_main_v19 (F := Ideal) l0⟩, ⟨S1x1x16384x8, val_main_v20 (F := Ideal) l1⟩, ⟨S1x1x16384x8, val_main_v21 (F := Ideal) l2⟩] _ (ix4 (2 : Fin 3) 0 i h) 2 (by show 2 < 3; decide) S1x1x16384x8 (val_main_v21 (F := Ideal) l2) rfl rfl 2 rfl (ix4 0 0 i h)
      (fun b hb => match b with | ⟨0, _⟩ => absurd rfl hb | ⟨1, _⟩ => rfl | ⟨2, _⟩ => rfl | ⟨3, _⟩ => rfl) rfl) ?_
    rw [val_main_v21_apply (F := Ideal)]
    exact lse0_at l2 i h

theorem out0_at (o : (M2 16384 1024).Idx → EReal) (i : Fin 16384) (h : Fin 8) (d : Fin 128) :
    val_main_v0 (F := Ideal) o (ix4 0 i h d) = o (ix2 i (col8 h d)) := by
  rw [val_main_v0_apply (F := Ideal)]
  have hh := h.isLt
  have hd := d.isLt
  refine congrArg o (funext fun a => Fin.ext ?_)
  match a with
  | ⟨0, _⟩ => show (((0 * 16384 + i.val) * 8 + h.val) * 128 + d.val) / 1024 = i.val; omega
  | ⟨1, _⟩ => show (((0 * 16384 + i.val) * 8 + h.val) * 128 + d.val) % 1024 = 128 * h.val + d.val; omega

theorem v37_at (o0 o1 o2 : (M2 16384 1024).Idx → EReal) (k : Fin 3) (i : Fin 16384) (h : Fin 8) (d : Fin 128) :
    val_main_v37 (F := Ideal) o0 o1 o2 (ix5 k 0 i h d) = sel k (o0 (ix2 i (col8 h d))) (o1 (ix2 i (col8 h d))) (o2 (ix2 i (col8 h d))) := by
  unfold val_main_v37
  match k with
  | ⟨0, _⟩ =>
    refine Eq.trans (concatenate_apply_piece (t := S3x1x16384x8x128) 0 [⟨S1x1x16384x8x128, val_main_v34 (F := Ideal) o0⟩, ⟨S1x1x16384x8x128, val_main_v35 (F := Ideal) o1⟩, ⟨S1x1x16384x8x128, val_main_v36 (F := Ideal) o2⟩] _ (ix5 (0 : Fin 3) 0 i h d) 0 (by show 0 < 3; decide) S1x1x16384x8x128 (val_main_v34 (F := Ideal) o0) rfl rfl 0 rfl (ix5 0 0 i h d)
      (fun b hb => match b with | ⟨0, _⟩ => absurd rfl hb | ⟨1, _⟩ => rfl | ⟨2, _⟩ => rfl | ⟨3, _⟩ => rfl | ⟨4, _⟩ => rfl) rfl) ?_
    rw [val_main_v34_apply (F := Ideal)]
    exact out0_at o0 i h d
  | ⟨1, _⟩ =>
    refine Eq.trans (concatenate_apply_piece (t := S3x1x16384x8x128) 0 [⟨S1x1x16384x8x128, val_main_v34 (F := Ideal) o0⟩, ⟨S1x1x16384x8x128, val_main_v35 (F := Ideal) o1⟩, ⟨S1x1x16384x8x128, val_main_v36 (F := Ideal) o2⟩] _ (ix5 (1 : Fin 3) 0 i h d) 1 (by show 1 < 3; decide) S1x1x16384x8x128 (val_main_v35 (F := Ideal) o1) rfl rfl 1 rfl (ix5 0 0 i h d)
      (fun b hb => match b with | ⟨0, _⟩ => absurd rfl hb | ⟨1, _⟩ => rfl | ⟨2, _⟩ => rfl | ⟨3, _⟩ => rfl | ⟨4, _⟩ => rfl) rfl) ?_
    rw [val_main_v35_apply (F := Ideal)]
    exact out0_at o1 i h d
  | ⟨2, _⟩ =>
    refine Eq.trans (concatenate_apply_piece (t := S3x1x16384x8x128) 0 [⟨S1x1x16384x8x128, val_main_v34 (F := Ideal) o0⟩, ⟨S1x1x16384x8x128, val_main_v35 (F := Ideal) o1⟩, ⟨S1x1x16384x8x128, val_main_v36 (F := Ideal) o2⟩] _ (ix5 (2 : Fin 3) 0 i h d) 2 (by show 2 < 3; decide) S1x1x16384x8x128 (val_main_v36 (F := Ideal) o2) rfl rfl 2 rfl (ix5 0 0 i h d)
      (fun b hb => match b with | ⟨0, _⟩ => absurd rfl hb | ⟨1, _⟩ => rfl | ⟨2, _⟩ => rfl | ⟨3, _⟩ => rfl | ⟨4, _⟩ => rfl) rfl) ?_
    rw [val_main_v36_apply (F := Ideal)]
    exact out0_at o2 i h d

theorem reduces_first : S3x1x16384x8.Reduces [0] S1x16384x8 := by decide

theorem ofBits_bot : Ideal.ofBits .f32 0xFF800000#32 = ⊥ := by
  simp [Ideal.ofBits, Ideal.ieee]

theorem fold_three (f : Fin 3 → EReal) : Finset.fold max ⊥ f Finset.univ = top3 (f 0) (f 1) (f 2) := by
  rw [show (Finset.univ : Finset (Fin 3)) = {0, 1, 2} from by decide, Finset.fold_insert (by decide), Finset.fold_insert (by decide), Finset.fold_singleton]
  unfold top3
  rw [max_bot_right, max_assoc]

variable (l0 l1 l2 : (M2 16384 128).Idx → EReal)

theorem v23_at (i : Fin 16384) (h : Fin 8) : val_main_v23 (F := Ideal) l0 l1 l2 (ix3 0 i h) = topS l0 l1 l2 i (lane8 h) := by
  have e : val_main_v23 (F := Ideal) l0 l1 l2 (ix3 0 i h) = Host.reduce (max : EReal → EReal → EReal) (val_main_v22 (F := Ideal) l0 l1 l2) (val_main_cst (F := Ideal))
    reducesTo_S3x1x16384x8_S1x16384x8_d0 h_S_ (ix3 0 i h) := rfl
  rw [e]
  refine Eq.trans (Host.reduce_eq_fold_single (max : EReal → EReal → EReal) (val_main_v22 (F := Ideal) l0 l1 l2) (val_main_cst (F := Ideal))
    reducesTo_S3x1x16384x8_S1x16384x8_d0 reduces_first h_S_ (ix3 0 i h)) ?_
  show Finset.fold max (Ideal.ofBits .f32 0xFF800000#32) _ _ = _
  rw [ofBits_bot]
  refine (congrArg (fun f : Fin 3 → EReal => Finset.fold max ⊥ f Finset.univ) (funext fun k => ?_)).trans
    (fold_three fun k => sel k (l0 (ix2 i (lane8 h))) (l1 (ix2 i (lane8 h))) (l2 (ix2 i (lane8 h))))
  refine (congrArg (val_main_v22 (F := Ideal) l0 l1 l2) (?_ : reduces_first.lift (ix3 0 i h) k = ix4 k 0 i h)).trans (v22_at l0 l1 l2 k i h)
  funext a; apply Fin.ext
  match a with
  | ⟨0, _⟩ => rfl
  | ⟨1, _⟩ => rfl
  | ⟨2, _⟩ => rfl
  | ⟨3, _⟩ => rfl

theorem v29_at (k : Fin 3) (i : Fin 16384) (h : Fin 8) :
    val_main_v29 (F := Ideal) l0 l1 l2 (ix4 k 0 i h) = Ideal.exp (sel k (l0 (ix2 i (lane8 h))) (l1 (ix2 i (lane8 h))) (l2 (ix2 i (lane8 h))) - topS l0 l1 l2 i (lane8 h)) := by
  rw [val_main_v29_apply (F := Ideal), val_main_v28_apply (F := Ideal), v22_at, val_main_v27_apply (F := Ideal), val_main_v26_apply (F := Ideal),
    val_main_v25_apply (F := Ideal), val_main_v24_apply (F := Ideal), val_main_cst_0_apply (F := Ideal)]
  rw [show idx_main_v26 (idx_main_v27 (ix4 k 0 i h)) = ix3 0 i h from funext fun a => match a with | ⟨0, _⟩ => rfl | ⟨1, _⟩ => rfl | ⟨2, _⟩ => rfl, v23_at]
  show Ideal.exp (_ - max (Ideal.ofBits .f32 0xFF800000#32) _) = _
  rw [ofBits_bot, max_bot_left]

theorem v33_at (k : Fin 3) (i : Fin 16384) (h : Fin 8) :
    val_main_v33 (F := Ideal) l0 l1 l2 (ix4 k 0 i h) = shareS l0 l1 l2 i (lane8 h) (sel k (l0 (ix2 i (lane8 h))) (l1 (ix2 i (lane8 h))) (l2 (ix2 i (lane8 h)))) := by
  rw [val_main_v33_apply (F := Ideal), v29_at, val_main_v32_apply (F := Ideal), val_main_v31_apply (F := Ideal), val_main_v30_apply, Fin.sum_univ_three,
    val_main_cst_1_apply (F := Ideal)]
  rw [show idx_main_v30 (idx_main_v31 (idx_main_v32 (ix4 k 0 i h))) 0 = ix4 0 0 i h from
      funext fun a => match a with | ⟨0, _⟩ => rfl | ⟨1, _⟩ => rfl | ⟨2, _⟩ => rfl | ⟨3, _⟩ => rfl,
    show idx_main_v30 (idx_main_v31 (idx_main_v32 (ix4 k 0 i h))) 1 = ix4 1 0 i h from
      funext fun a => match a with | ⟨0, _⟩ => rfl | ⟨1, _⟩ => rfl | ⟨2, _⟩ => rfl | ⟨3, _⟩ => rfl,
    show idx_main_v30 (idx_main_v31 (idx_main_v32 (ix4 k 0 i h))) 2 = ix4 2 0 i h from
      funext fun a => match a with | ⟨0, _⟩ => rfl | ⟨1, _⟩ => rfl | ⟨2, _⟩ => rfl | ⟨3, _⟩ => rfl, v29_at, v29_at, v29_at]
  show Ideal.div _ (Ideal.ofBits .f32 0x00000000#32 + _) = _
  rw [Ideal.ofBits_zero_f32, zero_add]
  rfl

theorem v39_at (o0 o1 o2 : (M2 16384 1024).Idx → EReal) (i : Fin 16384) (k : Fin 1024) :
    val_main_v39 (F := Ideal) o0 o1 o2 l0 l1 l2 (ix3 0 i k) = attS o0 o1 o2 l0 l1 l2 i k := by
  have hi := i.isLt
  have hk := k.isLt
  have hq : k.val / 128 < 8 := by omega
  have hr : k.val % 128 < 128 := by omega
  rw [val_main_v39_apply (F := Ideal)]
  rw [show idx_main_v39 (ix3 0 i k) = ix4 0 i ⟨k.val / 128, hq⟩ ⟨k.val % 128, hr⟩ from funext fun a => Fin.ext (match a with
    | ⟨0, _⟩ => rfl
    | ⟨1, _⟩ => (by show ((0 * 16384 + i.val) * 1024 + k.val) / 1024 % 16384 = i.val; omega)
    | ⟨2, _⟩ => (by show ((0 * 16384 + i.val) * 1024 + k.val) / 128 % 8 = k.val / 128; omega)
    | ⟨3, _⟩ => (by show ((0 * 16384 + i.val) * 1024 + k.val) % 128 = k.val % 128; omega))]
  rw [val_main_v38_apply, Fin.sum_univ_three]
  have hl : ∀ g : Fin 3, lidx_main_v38 (ix4 0 i ⟨k.val / 128, hq⟩ ⟨k.val % 128, hr⟩) g = ix4 g 0 i ⟨k.val / 128, hq⟩ := fun g =>
    funext fun a => match a with | ⟨0, _⟩ => rfl | ⟨1, _⟩ => rfl | ⟨2, _⟩ => rfl | ⟨3, _⟩ => rfl
  have hrr : ∀ g : Fin 3, ridx_main_v38 (ix4 0 i ⟨k.val / 128, hq⟩ ⟨k.val % 128, hr⟩) g = ix5 g 0 i ⟨k.val / 128, hq⟩ ⟨k.val % 128, hr⟩ := fun g =>
    funext fun a => match a with | ⟨0, _⟩ => rfl | ⟨1, _⟩ => rfl | ⟨2, _⟩ => rfl | ⟨3, _⟩ => rfl | ⟨4, _⟩ => rfl
  rw [hl, hl, hl, hrr, hrr, hrr, v33_at, v33_at, v33_at, v37_at, v37_at, v37_at]
  rw [show col8 ⟨k.val / 128, hq⟩ ⟨k.val % 128, hr⟩ = k from Fin.ext (by show 128 * (k.val / 128) + k.val % 128 = k.val; omega),
    show lane8 ⟨k.val / 128, hq⟩ = lane k from rfl]
  rfl

theorem gateA_at (z : (M2 16384 17408).Idx → EReal) (i : Fin 16384) (j : Fin 2048) :
    val_main_v46 (F := Ideal) z (ix3 0 i j) = Ideal.logistic (z (ix2 i (colA j))) := by
  rw [val_main_v46_apply (F := Ideal), val_main_v45_apply (F := Ideal), val_main_cst_3_apply (F := Ideal), val_main_v44_apply (F := Ideal),
    val_main_v43_apply (F := Ideal), val_main_cst_2_apply (F := Ideal), val_main_v42_apply (F := Ideal), val_main_v41_apply (F := Ideal),
    val_main_v15_apply (F := Ideal), val_main_v9_apply (F := Ideal)]
  rw [show idx_main_v9 (idx_main_v15 (ix3 0 i j)) = ix2 i (colA j) from funext fun a => match a with | ⟨0, _⟩ => rfl | ⟨1, _⟩ => rfl]
  show Ideal.div (Ideal.ofBits .f32 0x3F800000#32) (Ideal.ofBits .f32 0x3F800000#32 + Ideal.exp (-_)) = _
  rw [Ideal.ofBits_one_f32]
  rfl

theorem gateB_at (z : (M2 16384 17408).Idx → EReal) (i : Fin 16384) (j : Fin 2048) :
    val_main_v53 (F := Ideal) z (ix3 0 i j) = Ideal.logistic (z (ix2 i (colB j))) := by
  rw [val_main_v53_apply (F := Ideal), val_main_v52_apply (F := Ideal), val_main_cst_5_apply (F := Ideal), val_main_v51_apply (F := Ideal),
    val_main_v50_apply (F := Ideal), val_main_cst_4_apply (F := Ideal), val_main_v49_apply (F := Ideal), val_main_v48_apply (F := Ideal),
    val_main_v16_apply (F := Ideal), val_main_v9_apply (F := Ideal)]
  rw [show idx_main_v9 (idx_main_v16 (ix3 0 i j)) = ix2 i (colB j) from funext fun a => match a with | ⟨0, _⟩ => rfl | ⟨1, _⟩ => rfl]
  show Ideal.div (Ideal.ofBits .f32 0x3F800000#32) (Ideal.ofBits .f32 0x3F800000#32 + Ideal.exp (-_)) = _
  rw [Ideal.ofBits_one_f32]
  rfl

theorem v18_at (g : (M2 16384 2048).Idx → EReal) (wr : (M2 2048 2048).Idx → EReal) (i : Fin 16384) (j : Fin 2048) :
    val_main_v18 (F := Ideal) g wr (ix3 0 i j) = ∑ k : Fin 2048, g (ix2 i k) * wr (ix2 k j) := by
  rw [val_main_v18_apply]
  refine Finset.sum_congr rfl fun k _ => ?_
  rw [val_main_v17_apply (F := Ideal)]
  refine congrArg₂ (fun a b : EReal => a * b) (congrArg g (funext fun a => match a with | ⟨0, _⟩ => rfl | ⟨1, _⟩ => rfl))
    (congrArg wr (funext fun a => match a with | ⟨0, _⟩ => rfl | ⟨1, _⟩ => rfl))

theorem v40_at (o0 o1 o2 : (M2 16384 1024).Idx → EReal) (wa : (M2 1024 2048).Idx → EReal) (i : Fin 16384) (j : Fin 2048) :
    val_main_v40 (F := Ideal) o0 o1 o2 l0 l1 l2 wa (ix3 0 i j) = ∑ k : Fin 1024, attS o0 o1 o2 l0 l1 l2 i k * wa (ix2 k j) := by
  rw [val_main_v40_apply]
  refine Finset.sum_congr rfl fun k _ => ?_
  refine congrArg₂ (fun a b : EReal => a * b) ((congrArg (val_main_v39 (F := Ideal) o0 o1 o2 l0 l1 l2) ?_).trans (v39_at l0 l1 l2 o0 o1 o2 i k))
    (congrArg wa (funext fun a => match a with | ⟨0, _⟩ => rfl | ⟨1, _⟩ => rfl))
  exact funext fun a => match a with | ⟨0, _⟩ => rfl | ⟨1, _⟩ => rfl | ⟨2, _⟩ => rfl

theorem result (g : (M2 16384 2048).Idx → EReal) (o0 o1 o2 : (M2 16384 1024).Idx → EReal) (z : (M2 16384 17408).Idx → EReal)
    (wr : (M2 2048 2048).Idx → EReal) (wa : (M2 1024 2048).Idx → EReal) :
    val_main_v57 (F := Ideal) g o0 o1 o2 l0 l1 l2 z wr wa = fun i => mixS g o0 o1 o2 l0 l1 l2 z wr wa (i 0) (i 1) := by
  funext y
  obtain ⟨i, j, rfl⟩ : ∃ (i : Fin 16384) (j : Fin 2048), y = ix2 i j := ⟨y 0, y 1, eq_ix2 y⟩
  have hi := i.isLt
  have hj := j.isLt
  rw [val_main_v57_apply (F := Ideal), val_main_v56_apply (F := Ideal)]
  rw [show idx_main_v56 (ix2 i j) = ix3 0 i j from funext fun a => Fin.ext (match a with
    | ⟨0, _⟩ => rfl
    | ⟨1, _⟩ => (by show (i.val * 2048 + j.val) / 2048 % 16384 = i.val; omega)
    | ⟨2, _⟩ => (by show (i.val * 2048 + j.val) % 2048 = j.val; omega))]
  rw [val_main_v55_apply (F := Ideal), val_main_v47_apply (F := Ideal), val_main_v54_apply (F := Ideal), gateA_at, gateB_at, v18_at, v40_at]
  rfl

end Cert.MergeRefIdeal.Side

end
-- ==== Proof.Step.lean ====
/- THE SAMPLE'S RECURRENCE, stated on the arrays' entries: a causal convolution over the last four rows, two gates, and
   four steps of a gated linear recurrence, with the scalar facts under which the model's way of computing it is the
   kernel's. No program enters. -/
module

public import proofs.«01_k».proof.Proof.Dense
public import Idealize.ShloMosaic.Lib.IdealHost

@[expose] public section

set_option maxRecDepth 16384

noncomputable section

namespace Cert.Step

open Idealize.ShloMosaic Idealize.ShloMosaic.ValueIdx Cert.Dense

abbrev M3 (a b c : ℕ) : Shape := ⟨3, ![a, b, c]⟩

/-- What the recurrence reads. -/
structure Args where
  z : (M3 32 4 17408).Idx → EReal
  cs : (M3 32 3 2048).Idx → EReal
  h0 : (M2 32 2048).Idx → EReal
  cw : (M2 4 2048).Idx → EReal
  cb : (M1 2048).Idx → EReal
  wx : (M3 8 256 256).Idx → EReal
  bx : (M2 8 256).Idx → EReal
  wa : (M3 8 256 256).Idx → EReal
  ba : (M2 8 256).Idx → EReal
  lam : (M1 2048).Idx → EReal

def col (n : Fin 8) (k : Fin 256) : Fin 2048 := ⟨256 * n.val + k.val, by omega⟩
def colX (j : Fin 2048) : Fin 17408 := ⟨j.val, by omega⟩
def colY (j : Fin 2048) : Fin 17408 := ⟨2048 + j.val, by omega⟩

variable (A : Args)

/-- The convolution's rows: three kept from before, then the new ones. -/
def hist (b : Fin 32) (t : ℕ) (j : Fin 2048) : EReal :=
  if h : t < 3 then A.cs (ix3 b ⟨t, h⟩ j) else if h : t - 3 < 4 then A.z (ix3 b ⟨t - 3, h⟩ (colX j)) else 0

/-- The convolution at a new row. -/
def xc (b : Fin 32) (s : ℕ) (j : Fin 2048) : EReal :=
  A.cb (ix1 j) + A.cw (ix2 0 j) * hist A b (s + 3) j + A.cw (ix2 1 j) * hist A b (s + 2) j + A.cw (ix2 2 j) * hist A b (s + 1) j
    + A.cw (ix2 3 j) * hist A b s j

/-- A gate. -/
def gate (w : (M3 8 256 256).Idx → EReal) (v : (M2 8 256).Idx → EReal) (b : Fin 32) (s : ℕ) (n : Fin 8) (d : Fin 256) : EReal :=
  Ideal.logistic ((∑ k : Fin 256, xc A b s (col n k) * w (ix3 n k d)) + v (ix2 n d))

/-- The logarithm of the sigmoid. -/
def logSig (x : EReal) : EReal := 0 - (max (0 - x) 0 + Ideal.log1p (Ideal.exp (0 - max x (-x))))

/-- The decay's exponent. -/
def expo (b : Fin 32) (s : ℕ) (n : Fin 8) (d : Fin 256) : EReal :=
  Ideal.ofBits .f32 0x41000000#32 * gate A A.wa A.ba b s n d * logSig (A.lam (ix1 (col n d)))

/-- What one step adds, from the decay's exponent. -/
def addend (L g x : EReal) : EReal := Ideal.sqrt (1 - Ideal.exp L * Ideal.exp L) * g * x

def inc (b : Fin 32) (s : ℕ) (n : Fin 8) (d : Fin 256) : EReal :=
  addend (expo A b s n d) (gate A A.wx A.bx b s n d) (xc A b s (col n d))

/-- The state after `s` steps. -/
def hAt (b : Fin 32) (n : Fin 8) (d : Fin 256) : ℕ → EReal
  | 0 => A.h0 (ix2 b (col n d))
  | s + 1 => Ideal.exp (expo A b s n d) * hAt b n d s + inc A b s n d

/-- The exact GELU. -/
def gel (y : EReal) : EReal :=
  Ideal.ofBits .f32 0x3F000000#32 * y * (1 + Ideal.erf (y * Ideal.ofBits .f32 0x3F3504F3#32))

/-- The gated states, the four steps of a row side by side. -/
def gS (b : Fin 32) (s : Fin 4) (n : Fin 8) (d : Fin 256) : EReal :=
  gel (A.z (ix3 b s (colY (col n d)))) * hAt A b n d (s.val + 1)

def gOut : (M2 32 8192).Idx → EReal := fun i =>
  gS A (i 0) ⟨(i 1).val / 2048, by have := (i 1).isLt; change (i 1).val < 8192 at this; omega⟩
    ⟨(i 1).val % 2048 / 256, by omega⟩ ⟨(i 1).val % 256, by omega⟩

def cOut : (M2 32 6144).Idx → EReal := fun i => hist A (i 0) (4 + (i 1).val / 2048) ⟨(i 1).val % 2048, by omega⟩

def hOut : (M2 32 2048).Idx → EReal := fun i =>
  hAt A (i 0) ⟨(i 1).val / 256, by have := (i 1).isLt; change (i 1).val < 2048 at this; omega⟩ ⟨(i 1).val % 256, by omega⟩ 4

theorem gOut_ix (b : Fin 32) (s : Fin 4) (n : Fin 8) (d : Fin 256) (J : Fin 8192) (hJ : J.val = 2048 * s.val + 256 * n.val + d.val) :
    gOut A (ix2 b J) = gS A b s n d := by
  have hd := d.isLt
  have hn := n.isLt
  show gS A b ⟨J.val / 2048, _⟩ ⟨J.val % 2048 / 256, _⟩ ⟨J.val % 256, _⟩ = _
  congr 1
  · exact Fin.ext (by show J.val / 2048 = s.val; omega)
  · exact Fin.ext (by show J.val % 2048 / 256 = n.val; omega)
  · exact Fin.ext (by show J.val % 256 = d.val; omega)

theorem cOut_ix (b : Fin 32) (k : ℕ) (j : Fin 2048) (J : Fin 6144) (hJ : J.val = 2048 * k + j.val) : cOut A (ix2 b J) = hist A b (4 + k) j := by
  have hj := j.isLt
  show hist A b (4 + J.val / 2048) ⟨J.val % 2048, _⟩ = _
  congr 1
  · omega
  · exact Fin.ext (by show J.val % 2048 = j.val; omega)

theorem hOut_ix (b : Fin 32) (n : Fin 8) (d : Fin 256) : hOut A (ix2 b (col n d)) = hAt A b n d 4 := by
  have hd := d.isLt
  show hAt A b ⟨(256 * n.val + d.val) / 256, _⟩ ⟨(256 * n.val + d.val) % 256, _⟩ 4 = _
  congr 1
  · exact Fin.ext (by show (256 * n.val + d.val) / 256 = n.val; omega)
  · exact Fin.ext (by show (256 * n.val + d.val) % 256 = d.val; omega)

/-! ## Scalars -/

theorem one_bits : Ideal.ofBits .f32 0x3F800000#32 = 1 := Ideal.ofBits_one_f32

theorem eight_nonneg : 0 ≤ Ideal.ofBits .f32 0x41000000#32 := by
  have : Ideal.ofBits .f32 0x41000000#32 = ((8 : ℝ) : EReal) := by
    simp [Ideal.ofBits, Ideal.ieee]
    rw [← EReal.coe_mul]
    norm_num
  rw [this]; exact_mod_cast (by norm_num : (0 : ℝ) ≤ 8)

theorem two_bits : Ideal.ofBits .f32 0x40000000#32 = ((2 : ℝ) : EReal) := by
  simp [Ideal.ofBits, Ideal.ieee]
  rw [← EReal.coe_mul]
  norm_num

theorem exp_nonneg (x : EReal) : 0 ≤ Ideal.exp x := by
  induction x with
  | bot => exact le_refl _
  | top => exact le_top
  | coe r => rw [Ideal.exp_coe]; exact_mod_cast (Real.exp_pos r).le

theorem logistic_nonneg (x : EReal) : 0 ≤ Ideal.logistic x := by
  induction x with
  | bot => simp
  | top => simp
  | coe r => rw [Ideal.logistic_coe]; exact_mod_cast inv_nonneg.2 (by positivity)

theorem log1p_nonneg (x : EReal) (h : 0 ≤ x) : 0 ≤ Ideal.log1p x := by
  unfold Ideal.log1p
  induction x with
  | bot => exact absurd h (by simp)
  | top => rw [EReal.add_top_of_ne_bot (by exact_mod_cast EReal.coe_ne_bot 1)]; exact le_top
  | coe r =>
    have hr : 0 ≤ r := by exact_mod_cast h
    rw [show (1 : EReal) + (r : EReal) = ((1 + r : ℝ) : EReal) from by norm_cast, Ideal.log_coe, if_neg (by linarith)]
    exact_mod_cast Real.log_nonneg (by linarith)

theorem logSig_nonpos (x : EReal) : logSig x ≤ 0 := by
  unfold logSig
  rw [zero_sub]
  exact EReal.neg_le_zero.2 (add_nonneg (le_max_right _ _) (log1p_nonneg _ (exp_nonneg _)))

theorem expo_nonpos (b : Fin 32) (s : ℕ) (n : Fin 8) (d : Fin 256) : expo A b s n d ≤ 0 := by
  unfold expo
  exact mul_nonpos_of_nonneg_of_nonpos (mul_nonneg eight_nonneg (logistic_nonneg _)) (logSig_nonpos _)

theorem exp_ne_top (L : EReal) (h : L ≤ 0) : Ideal.exp L ≠ ⊤ := by
  induction L with
  | bot => simp
  | top => exact absurd h (by simp)
  | coe r => exact EReal.coe_ne_top _

/-- Twice the exponent squares the decay. -/
theorem expm1_eq (L : EReal) (h : L ≤ 0) : -(Ideal.exp (((2 : ℝ) : EReal) * L) - 1) = 1 - Ideal.exp L * Ideal.exp L := by
  induction L with
  | bot => rw [EReal.coe_mul_bot_of_pos (by norm_num)]; simp
  | top => exact absurd h (by simp)
  | coe r =>
    rw [← EReal.coe_mul, Ideal.exp_coe, Ideal.exp_coe, ← EReal.coe_mul, ← Real.exp_add, ← two_mul]
    norm_cast
    ring

/-- The reference's addend. -/
theorem addend_eq (L g x : EReal) (h : L ≤ 0) :
    Ideal.sqrt (-(Ideal.exp (Ideal.ofBits .f32 0x40000000#32 * L) - 1)) * g * x = addend L g x := by
  rw [two_bits, expm1_eq L h]; rfl

/-- The reference's logarithm of the sigmoid, through its guard for what is not a number. -/
theorem logSig_eq (x : EReal) :
    -(max (-x) 0 + Ideal.log1p (Ideal.exp (-(max (-x - 0) (-(-x - 0)))))) = logSig x := by
  unfold logSig
  rw [zero_sub, zero_sub, zero_sub, sub_zero, neg_neg, max_comm (-x) x]

/-- Two steps at once are two steps. -/
theorem two_steps (a3 a2 b3 b2 h : EReal) (h0 : 0 ≤ a3) (h1 : a3 ≠ ⊤) :
    a2 * a3 * h + (a3 * b2 + b3) = a3 * (a2 * h + b2) + b3 := by
  rw [EReal.left_distrib_of_nonneg_of_ne_top h0 h1, add_assoc, mul_comm a2 a3, mul_assoc]

theorem gel_eq (y : EReal) :
    Ideal.ofBits .f32 0x3F000000#32 * y * Ideal.erfc (-y * Ideal.ofBits .f32 0x3F3504F3#32) = gel y := by
  unfold gel
  rw [neg_mul, Ideal.erfc_neg]

end Cert.Step

end
-- ==== Proof.StepKernel.lean ====
/- THE KERNEL'S SIDE for the sample's recurrence: the four rows of the convolution, and for each of the eight blocks of
   columns the four steps of the recurrence, each step's state kept for the next and stored gated. -/
module

public import proofs.«01_k».proof.Proof.Gen.StepIdeal.Value
public import proofs.«01_k».proof.Proof.Step
public import Idealize.ShloMosaic.Lib.Pipeline.ValueKit.Geometry

@[expose] public section

set_option maxRecDepth 16384

noncomputable section

namespace Cert.StepIdeal.Side

open Cert.StepIdeal Cert.StepIdeal.Gen Idealize.ShloMosaic Idealize.ShloMosaic.TcCoe Idealize.SL.Sem Idealize.ShloMosaic.ValueIdx
open Idealize.ShloMosaic.StableHlo
open Cert.Dense Cert.Step

/-! ## The kernel's values over its ten loaded arrays -/

/-- The convolution's sum: its bias and the four rows' products. -/
def convV (b c0 c1 c2 c3 : Vec Ideal S1x2048 .f32) (u0 u1 u2 u3 : FVec Ideal S32x2048 .f32) : FVec Ideal S32x2048 .f32 :=
  addf (addf (addf (addf (broadcastTo S32x2048 (shapeCast S1x2048 b shapeCasts_S1x2048_S1x2048) broadcasts_S1x2048_S32x2048)
    (mulf (broadcastTo S32x2048 c0 broadcasts_S1x2048_S32x2048) u0))
    (mulf (broadcastTo S32x2048 c1 broadcasts_S1x2048_S32x2048) u1))
    (mulf (broadcastTo S32x2048 c2 broadcasts_S1x2048_S32x2048) u2))
    (mulf (broadcastTo S32x2048 c3 broadcasts_S1x2048_S32x2048) u3)

/-- A gate over one block of columns. -/
def gateV (X : FVec Ideal S32x256 .f32) (W : Vec Ideal S1x256x256 .bf16) (B : Vec Ideal S1x256 .f32) : FVec Ideal S32x256 .f32 :=
  logistic (addf (matmul dot_S32x256_S256x256_S32x256_1_0_0_1_n_n none (truncf .bf16 X bitsLt_bf16_f32)
      (shapeCast S256x256 W shapeCasts_S1x256x256_S256x256 : FVec Ideal S256x256 .bf16) (constant S32x256 .f32 0x00000000#32))
    (broadcastTo S32x256 (shapeCast S1x256 B shapeCasts_S1x256_S1x256) broadcasts_S1x256_S32x256))

/-- The decay over one block of columns. -/
def decV (X : FVec Ideal S32x256 .f32) (W : Vec Ideal S1x256x256 .bf16) (B : Vec Ideal S1x256 .f32) (L : FVec Ideal S1x256 .f32) : FVec Ideal S32x256 .f32 :=
  exp (mulf (mulf (broadcast S32x256 (Scalar.ofBits (F := Ideal) .f32 0x41000000#32)) (gateV X W B)) (broadcastTo S32x256 L broadcasts_S1x256_S32x256))

/-- One step over one block of columns. -/
def blkh (X : FVec Ideal S32x256 .f32) (L : FVec Ideal S1x256 .f32) (W : Vec Ideal S1x256x256 .bf16) (B : Vec Ideal S1x256 .f32) (W' : Vec Ideal S1x256x256 .bf16)
    (B' : Vec Ideal S1x256 .f32) (h : FVec Ideal S32x256 .f32) : FVec Ideal S32x256 .f32 :=
  addf (mulf (decV X W' B' L) h)
    (mulf (mulf (sqrt (subf (broadcast S32x256 (Scalar.ofBits (F := Ideal) .f32 0x3F800000#32)) (mulf (decV X W' B' L) (decV X W' B' L)))) (gateV X W B)) X)

/-- A state, gated. -/
def blkg (y : Vec Ideal S32x256 .f32) (h : FVec Ideal S32x256 .f32) : FVec Ideal S32x256 .bf16 :=
  truncf .bf16 (mulf (mulf (mulf (broadcast S32x256 (Scalar.ofBits (F := Ideal) .f32 0x3F000000#32)) (shapeCast S32x256 y shapeCasts_S32x256_S32x256))
    (addf (broadcast S32x256 (Scalar.ofBits (F := Ideal) .f32 0x3F800000#32))
      (erf (mulf (shapeCast S32x256 y shapeCasts_S32x256_S32x256) (broadcast S32x256 (Scalar.ofBits (F := Ideal) .f32 0x3F3504F3#32)))))) h) bitsLt_bf16_f32

/-! ## Their entries -/

theorem row_apply (v : FVec Ideal S1x2048 .f32) (r : Fin 32) (j : Fin 2048) : broadcastTo S32x2048 v broadcasts_S1x2048_S32x2048 (ix2 r j) = v (ix2 0 j) :=
  gain_apply v _ r j

theorem rowb_apply (v : FVec Ideal S1x256 .f32) (r : Fin 32) (d : Fin 256) : broadcastTo S32x256 v broadcasts_S1x256_S32x256 (ix2 r d) = v (ix2 0 d) :=
  broadcastTo_apply v _ (ix2 r d) (ix2 0 d) (fun a => match a with
    | ⟨0, _⟩ => rfl
    | ⟨1, _⟩ => rfl)

theorem convV_apply (b c0 c1 c2 c3 : Vec Ideal S1x2048 .f32) (u0 u1 u2 u3 : FVec Ideal S32x2048 .f32) (r : Fin 32) (j : Fin 2048) :
    convV b c0 c1 c2 c3 u0 u1 u2 u3 (ix2 r j)
      = b (ix2 0 j) + c0 (ix2 0 j) * u0 (ix2 r j) + c1 (ix2 0 j) * u1 (ix2 r j) + c2 (ix2 0 j) * u2 (ix2 r j) + c3 (ix2 0 j) * u3 (ix2 r j) := by
  unfold convV
  rw [shapeCast_self]
  show broadcastTo S32x2048 b _ (ix2 r j) + broadcastTo S32x2048 c0 _ (ix2 r j) * u0 (ix2 r j) + broadcastTo S32x2048 c1 _ (ix2 r j) * u1 (ix2 r j)
    + broadcastTo S32x2048 c2 _ (ix2 r j) * u2 (ix2 r j) + broadcastTo S32x2048 c3 _ (ix2 r j) * u3 (ix2 r j) = _
  rw [row_apply, row_apply, row_apply, row_apply, row_apply]

theorem gateV_apply (X : FVec Ideal S32x256 .f32) (W : Vec Ideal S1x256x256 .bf16) (B : Vec Ideal S1x256 .f32) (r : Fin 32) (d : Fin 256) :
    gateV X W B (ix2 r d) = Ideal.logistic ((∑ k : Fin 256, X (ix2 r k) * W (ix3 0 k d)) + B (ix2 0 d)) := by
  unfold gateV
  rw [shapeCast_self]
  show Ideal.logistic (matmul (F := Ideal) (DotDims.plain 32 256 256) none (truncf .bf16 X bitsLt_bf16_f32 : FVec Ideal (M2 32 256) .bf16)
      (shapeCast S256x256 W shapeCasts_S1x256x256_S256x256 : FVec Ideal (M2 256 256) .bf16) (constant (M2 32 256) .f32 0x00000000#32) (ix2 r d)
    + broadcastTo S32x256 B broadcasts_S1x256_S32x256 (ix2 r d)) = _
  rw [mm_apply, rowb_apply]
  refine congrArg (fun s => Ideal.logistic (s + B (ix2 0 d))) (Finset.sum_congr rfl fun k _ => ?_)
  refine congrArg (fun w : EReal => X (ix2 r k) * w) ?_
  refine shapeCast_apply W _ (ix2 k d) (ix3 0 k d) ?_
  rw [Shape.rowMajor_val_three, Shape.rowMajor_val_two]
  show (0 * 256 + k.val) * 256 + d.val = k.val * 256 + d.val
  omega

theorem blkh_apply (X : FVec Ideal S32x256 .f32) (L : FVec Ideal S1x256 .f32) (W : Vec Ideal S1x256x256 .bf16) (B : Vec Ideal S1x256 .f32) (W' : Vec Ideal S1x256x256 .bf16)
    (B' : Vec Ideal S1x256 .f32) (h : FVec Ideal S32x256 .f32) (r : Fin 32) (d : Fin 256) :
    blkh X L W B W' B' h (ix2 r d)
      = Ideal.exp (Ideal.ofBits .f32 0x41000000#32 * gateV X W' B' (ix2 r d) * L (ix2 0 d)) * h (ix2 r d)
        + addend (Ideal.ofBits .f32 0x41000000#32 * gateV X W' B' (ix2 r d) * L (ix2 0 d)) (gateV X W B (ix2 r d)) (X (ix2 r d)) := by
  have e : decV X W' B' L (ix2 r d) = Ideal.exp (Ideal.ofBits .f32 0x41000000#32 * gateV X W' B' (ix2 r d) * L (ix2 0 d)) := by
    show Ideal.exp (Ideal.ofBits .f32 0x41000000#32 * gateV X W' B' (ix2 r d) * broadcastTo S32x256 L broadcasts_S1x256_S32x256 (ix2 r d)) = _
    rw [rowb_apply]
  show decV X W' B' L (ix2 r d) * h (ix2 r d) + Ideal.sqrt (Ideal.ofBits .f32 0x3F800000#32 - decV X W' B' L (ix2 r d) * decV X W' B' L (ix2 r d)) * gateV X W B (ix2 r d) * X (ix2 r d) = _
  rw [e, one_bits]
  rfl

theorem blkg_apply (y : Vec Ideal S32x256 .f32) (h : FVec Ideal S32x256 .f32) (i : S32x256.Idx) : blkg y h i = gel (y i) * h i := by
  unfold blkg
  rw [shapeCast_self]
  show Ideal.ofBits .f32 0x3F000000#32 * y i * (Ideal.ofBits .f32 0x3F800000#32 + Ideal.erf (y i * Ideal.ofBits .f32 0x3F3504F3#32)) * h i = _
  rw [one_bits]
  rfl

theorem cols_apply {α : Type} (o : ℕ) (X : S32x2048.Idx → α) (hs : S32x2048.Slices ![0, o] S32x256) (r : Fin 32) (d : Fin 256) (J : Fin 2048) (hJ : J.val = o + d.val) :
    extractStridedSlice S32x256 ![0, o] X hs (ix2 r d) = X (ix2 r J) :=
  extractStridedSlice_apply _ X hs (ix2 r d) (ix2 r J) (fun a => match a with
    | ⟨0, _⟩ => (by show r.val = 0 + r.val; omega)
    | ⟨1, _⟩ => (by show J.val = o + d.val; omega))

theorem colsr_apply {α : Type} (o : ℕ) (X : S1x2048.Idx → α) (hs : S1x2048.Slices ![0, o] S1x256) (d : Fin 256) (J : Fin 2048) (hJ : J.val = o + d.val) :
    extractStridedSlice S1x256 ![0, o] X hs (ix2 0 d) = X (ix2 0 J) :=
  extractStridedSlice_apply _ X hs (ix2 0 d) (ix2 0 J) (fun a => match a with
    | ⟨0, _⟩ => (by show (0 : ℕ) = 0 + 0; omega)
    | ⟨1, _⟩ => (by show J.val = o + d.val; omega))

/-! ## The loads' places -/

theorem sl_cols (n : ℕ) (hn : n < 8) : S32x2048.Slices ![0, 256 * n] S32x256 :=
  ⟨rfl, fun a => match a with
    | ⟨0, _⟩ => (by show 0 + 32 ≤ 32; omega)
    | ⟨1, _⟩ => (by show 256 * n + 256 ≤ 2048; omega)⟩
theorem sl_row (n : ℕ) (hn : n < 8) : S1x2048.Slices ![0, 256 * n] S1x256 :=
  ⟨rfl, fun a => match a with
    | ⟨0, _⟩ => (by show 0 + 1 ≤ 1; omega)
    | ⟨1, _⟩ => (by show 256 * n + 256 ≤ 2048; omega)⟩
theorem in_z (s : ℕ) (hs : s < 4) : ∀ a, ![0, 17408 * s] a + S32x2048.size a ≤ S32x69632.size a := fun a => match a with
  | ⟨0, _⟩ => (by show 0 + 32 ≤ 32; omega)
  | ⟨1, _⟩ => (by show 17408 * s + 2048 ≤ 69632; omega)
theorem in_y (s n : ℕ) (hs : s < 4) (hn : n < 8) : ∀ a, ![0, 17408 * s + 2048 + 256 * n] a + S32x256.size a ≤ S32x69632.size a := fun a => match a with
  | ⟨0, _⟩ => (by show 0 + 32 ≤ 32; omega)
  | ⟨1, _⟩ => (by show 17408 * s + 2048 + 256 * n + 256 ≤ 69632; omega)
theorem in_c (k : ℕ) (hk : k < 3) : ∀ a, ![0, 2048 * k] a + S32x2048.size a ≤ S32x6144.size a := fun a => match a with
  | ⟨0, _⟩ => (by show 0 + 32 ≤ 32; omega)
  | ⟨1, _⟩ => (by show 2048 * k + 2048 ≤ 6144; omega)
theorem in_r (k : ℕ) (hk : k < 4) : ∀ a, ![k, 0] a + S1x2048.size a ≤ S4x2048.size a := fun a => match a with
  | ⟨0, _⟩ => (by show k + 1 ≤ 4; omega)
  | ⟨1, _⟩ => (by show 0 + 2048 ≤ 2048; omega)
theorem in_w (n : ℕ) (hn : n < 8) : ∀ a, ![n, 0, 0] a + S1x256x256.size a ≤ S8x256x256.size a := fun a => match a with
  | ⟨0, _⟩ => (by show n + 1 ≤ 8; omega)
  | ⟨1, _⟩ => (by show 0 + 256 ≤ 256; omega)
  | ⟨2, _⟩ => (by show 0 + 256 ≤ 256; omega)
theorem in_b (n : ℕ) (hn : n < 8) : ∀ a, ![0, 256 * n] a + S1x256.size a ≤ S1x2048.size a := fun a => match a with
  | ⟨0, _⟩ => (by show 0 + 1 ≤ 1; omega)
  | ⟨1, _⟩ => (by show 256 * n + 256 ≤ 2048; omega)
theorem in_h (n : ℕ) (hn : n < 8) : ∀ a, ![0, 256 * n] a + S32x256.size a ≤ S32x2048.size a := fun a => match a with
  | ⟨0, _⟩ => (by show 0 + 32 ≤ 32; omega)
  | ⟨1, _⟩ => (by show 256 * n + 256 ≤ 2048; omega)
theorem in_g (s n : ℕ) (hs : s < 4) (hn : n < 8) : ∀ a, ![0, 2048 * s + 256 * n] a + S32x256.size a ≤ S32x8192.size a := fun a => match a with
  | ⟨0, _⟩ => (by show 0 + 32 ≤ 32; omega)
  | ⟨1, _⟩ => (by show 2048 * s + 256 * n + 256 ≤ 8192; omega)

/-! ## The four states of a block of columns -/

/-- The ten arrays the body loads, against the recurrence's. -/
structure Reads (A : Args) (x0 : Vec Ideal S32x69632 .f32) (x1 : Vec Ideal S4x2048 .f32) (x2 : Vec Ideal S1x2048 .f32) (x3 : Vec Ideal S8x256x256 .bf16)
    (x4 : Vec Ideal S1x2048 .f32) (x5 : Vec Ideal S8x256x256 .bf16) (x6 : Vec Ideal S1x2048 .f32) (x7 : Vec Ideal S1x2048 .f32) (x8 : Vec Ideal S32x6144 .f32)
    (x9 : Vec Ideal S32x2048 .f32) : Prop where
  e0 : ∀ (r : Fin 32) (s : Fin 4) (j : Fin 17408) (J : Fin 69632), J.val = 17408 * s.val + j.val → x0 (ix2 r J) = A.z (ix3 r s j)
  e1 : ∀ (k : Fin 4) (j : Fin 2048), x1 (ix2 k j) = A.cw (ix2 k j)
  e2 : ∀ j : Fin 2048, x2 (ix2 0 j) = A.cb (ix1 j)
  e3 : ∀ (n : Fin 8) (k d : Fin 256), x3 (ix3 n k d) = A.wx (ix3 n k d)
  e4 : ∀ (n : Fin 8) (d : Fin 256), x4 (ix2 0 (col n d)) = A.bx (ix2 n d)
  e5 : ∀ (n : Fin 8) (k d : Fin 256), x5 (ix3 n k d) = A.wa (ix3 n k d)
  e6 : ∀ (n : Fin 8) (d : Fin 256), x6 (ix2 0 (col n d)) = A.ba (ix2 n d)
  e7 : ∀ j : Fin 2048, x7 (ix2 0 j) = A.lam (ix1 j)
  e8 : ∀ (r : Fin 32) (k : Fin 3) (j : Fin 2048) (J : Fin 6144), J.val = 2048 * k.val + j.val → x8 (ix2 r J) = A.cs (ix3 r k j)
  e9 : ∀ (r : Fin 32) (j : Fin 2048), x9 (ix2 r j) = A.h0 (ix2 r j)

section
variable (x0 : Vec Ideal S32x69632 .f32) (x1 : Vec Ideal S4x2048 .f32) (x2 : Vec Ideal S1x2048 .f32) (x3 : Vec Ideal S8x256x256 .bf16)
    (x4 : Vec Ideal S1x2048 .f32) (x5 : Vec Ideal S8x256x256 .bf16) (x6 : Vec Ideal S1x2048 .f32) (x7 : Vec Ideal S1x2048 .f32) (x8 : Vec Ideal S32x6144 .f32)
    (x9 : Vec Ideal S32x2048 .f32)

def zx (s : ℕ) (hs : s < 4) : FVec Ideal S32x2048 .f32 :=
  shapeCast S32x2048 (View.ld x0 (Rect.unit (s := S32x69632) ![0, 17408 * s] S32x2048.size (in_z s hs))) shapeCasts_S32x2048_S32x2048
def ck (k : ℕ) (hk : k < 3) : FVec Ideal S32x2048 .f32 :=
  shapeCast S32x2048 (View.ld x8 (Rect.unit (s := S32x6144) ![0, 2048 * k] S32x2048.size (in_c k hk))) shapeCasts_S32x2048_S32x2048
def rw' (k : ℕ) (hk : k < 4) : Vec Ideal S1x2048 .f32 := View.ld x1 (Rect.unit (s := S4x2048) ![k, 0] S1x2048.size (in_r k hk))
def all (x : Vec Ideal S1x2048 .f32) : Vec Ideal S1x2048 .f32 := View.ld x (Rect.unit (s := S1x2048) ![0, 0] S1x2048.size inb_S1x2048_S1x2048_0_0)

def conv (u0 u1 u2 u3 : FVec Ideal S32x2048 .f32) : FVec Ideal S32x2048 .f32 :=
  convV (all x2) (rw' x1 0 (by decide)) (rw' x1 1 (by decide)) (rw' x1 2 (by decide)) (rw' x1 3 (by decide)) u0 u1 u2 u3

def X1 : FVec Ideal S32x2048 .f32 := conv x1 x2 (zx x0 0 (by decide)) (ck x8 2 (by decide)) (ck x8 1 (by decide)) (ck x8 0 (by decide))
def X2 : FVec Ideal S32x2048 .f32 := conv x1 x2 (zx x0 1 (by decide)) (zx x0 0 (by decide)) (ck x8 2 (by decide)) (ck x8 1 (by decide))
def X3 : FVec Ideal S32x2048 .f32 := conv x1 x2 (zx x0 2 (by decide)) (zx x0 1 (by decide)) (zx x0 0 (by decide)) (ck x8 2 (by decide))
def X4 : FVec Ideal S32x2048 .f32 := conv x1 x2 (zx x0 3 (by decide)) (zx x0 2 (by decide)) (zx x0 1 (by decide)) (zx x0 0 (by decide))

def Ls : FVec Ideal S1x2048 .f32 := k0_pay1 (F := Ideal) (all x7)

def wt (x : Vec Ideal S8x256x256 .bf16) (n : ℕ) (hn : n < 8) : Vec Ideal S1x256x256 .bf16 := View.ld x (Rect.unit (s := S8x256x256) ![n, 0, 0] S1x256x256.size (in_w n hn))
def bs (x : Vec Ideal S1x2048 .f32) (n : ℕ) (hn : n < 8) : Vec Ideal S1x256 .f32 := View.ld x (Rect.unit (s := S1x2048) ![0, 256 * n] S1x256.size (in_b n hn))

def step (X : FVec Ideal S32x2048 .f32) (n : ℕ) (hn : n < 8) (h : FVec Ideal S32x256 .f32) : FVec Ideal S32x256 .f32 :=
  blkh (extractStridedSlice S32x256 ![0, 256 * n] X (sl_cols n hn)) (extractStridedSlice S1x256 ![0, 256 * n] (Ls x7) (sl_row n hn)) (wt x3 n hn) (bs x4 n hn)
    (wt x5 n hn) (bs x6 n hn) h

def st0 (n : ℕ) (hn : n < 8) : Vec Ideal S32x256 .f32 := View.ld x9 (Rect.unit (s := S32x2048) ![0, 256 * n] S32x256.size (in_h n hn))
def st1 (n : ℕ) (hn : n < 8) : FVec Ideal S32x256 .f32 := step x3 x4 x5 x6 x7 (X1 x0 x1 x2 x8) n hn (st0 x9 n hn)
def st2 (n : ℕ) (hn : n < 8) : FVec Ideal S32x256 .f32 := step x3 x4 x5 x6 x7 (X2 x0 x1 x2 x8) n hn (st1 x0 x1 x2 x3 x4 x5 x6 x7 x8 x9 n hn)
def st3 (n : ℕ) (hn : n < 8) : FVec Ideal S32x256 .f32 := step x3 x4 x5 x6 x7 (X3 x0 x1 x2 x8) n hn (st2 x0 x1 x2 x3 x4 x5 x6 x7 x8 x9 n hn)
def st4 (n : ℕ) (hn : n < 8) : FVec Ideal S32x256 .f32 := step x3 x4 x5 x6 x7 (X4 x0 x1 x2) n hn (st3 x0 x1 x2 x3 x4 x5 x6 x7 x8 x9 n hn)
end

section
variable {A : Args} {x0 : Vec Ideal S32x69632 .f32} {x1 : Vec Ideal S4x2048 .f32} {x2 : Vec Ideal S1x2048 .f32} {x3 : Vec Ideal S8x256x256 .bf16}
    {x4 : Vec Ideal S1x2048 .f32} {x5 : Vec Ideal S8x256x256 .bf16} {x6 : Vec Ideal S1x2048 .f32} {x7 : Vec Ideal S1x2048 .f32} {x8 : Vec Ideal S32x6144 .f32}
    {x9 : Vec Ideal S32x2048 .f32} (R : Reads A x0 x1 x2 x3 x4 x5 x6 x7 x8 x9)

theorem ld2 {α : EltTy} {a b p q o u : ℕ} (x : Vec Ideal (M2 a b) α) (inb : ∀ k, ![u, o] k + (M2 p q).size k ≤ (M2 a b).size k) (r : Fin p) (d : Fin q) (I : Fin a) (J : Fin b)
    (hI : I.val = u + r.val) (hJ : J.val = o + d.val) :
    View.ld x (Rect.unit (s := M2 a b) ![u, o] (M2 p q).size inb) (ix2 r d) = x (ix2 I J) :=
  congrArg x (funext fun k => Fin.ext (match k with
    | ⟨0, _⟩ => (by show u + 1 * r.val = I.val; omega)
    | ⟨1, _⟩ => (by show o + 1 * d.val = J.val; omega)))

theorem all_apply (x : Vec Ideal S1x2048 .f32) (j : Fin 2048) : all x (ix2 0 j) = x (ix2 0 j) :=
  ld2 (a := 1) (b := 2048) (p := 1) (q := 2048) x _ 0 j 0 j rfl (by omega)

include R

theorem zx_apply (s : ℕ) (hs : s < 4) (r : Fin 32) (j : Fin 2048) : zx x0 s hs (ix2 r j) = hist A r (s + 3) j := by
  unfold zx
  refine (congrFun (shapeCast_self _ _) _).trans ?_
  refine (ld2 (a := 32) (b := 69632) (p := 32) (q := 2048) x0 (in_z s hs) r j r ⟨17408 * s + j.val, by omega⟩ (by omega) rfl).trans ?_
  refine (R.e0 r ⟨s, hs⟩ (colX j) _ rfl).trans ?_
  unfold hist
  rw [dif_neg (by omega), dif_pos (by omega)]
  exact congrArg (fun q => A.z (ix3 r q (colX j))) (Fin.ext (by show s = s + 3 - 3; omega))

theorem ck_apply (k : ℕ) (hk : k < 3) (r : Fin 32) (j : Fin 2048) : ck x8 k hk (ix2 r j) = hist A r k j := by
  unfold ck
  refine (congrFun (shapeCast_self _ _) _).trans ?_
  refine (ld2 (a := 32) (b := 6144) (p := 32) (q := 2048) x8 (in_c k hk) r j r ⟨2048 * k + j.val, by omega⟩ (by omega) rfl).trans ?_
  refine (R.e8 r ⟨k, hk⟩ j _ rfl).trans ?_
  unfold hist
  rw [dif_pos hk]

theorem rw_apply (k : Fin 4) (j : Fin 2048) : rw' x1 k.val k.isLt (ix2 0 j) = A.cw (ix2 k j) :=
  (ld2 (a := 4) (b := 2048) (p := 1) (q := 2048) x1 (in_r k.val k.isLt) 0 j k j rfl (by omega)).trans (R.e1 k j)

theorem conv_apply (s : ℕ) (u0 u1 u2 u3 : FVec Ideal S32x2048 .f32) (h0 : ∀ r j, u0 (ix2 r j) = hist A r (s + 3) j) (h1 : ∀ r j, u1 (ix2 r j) = hist A r (s + 2) j)
    (h2 : ∀ r j, u2 (ix2 r j) = hist A r (s + 1) j) (h3 : ∀ r j, u3 (ix2 r j) = hist A r s j) (r : Fin 32) (j : Fin 2048) :
    conv x1 x2 u0 u1 u2 u3 (ix2 r j) = xc A r s j := by
  unfold conv
  rw [convV_apply, h0, h1, h2, h3, all_apply, R.e2]
  rw [show rw' x1 0 _ (ix2 0 j) = _ from rw_apply R 0 j, show rw' x1 1 _ (ix2 0 j) = _ from rw_apply R 1 j, show rw' x1 2 _ (ix2 0 j) = _ from rw_apply R 2 j,
    show rw' x1 3 _ (ix2 0 j) = _ from rw_apply R 3 j]
  rfl

theorem X1_apply (r : Fin 32) (j : Fin 2048) : X1 x0 x1 x2 x8 (ix2 r j) = xc A r 0 j :=
  conv_apply R 0 _ _ _ _ (zx_apply R 0 _) (ck_apply R 2 _) (ck_apply R 1 _) (ck_apply R 0 _) r j
theorem X2_apply (r : Fin 32) (j : Fin 2048) : X2 x0 x1 x2 x8 (ix2 r j) = xc A r 1 j :=
  conv_apply R 1 _ _ _ _ (zx_apply R 1 _) (zx_apply R 0 _) (ck_apply R 2 _) (ck_apply R 1 _) r j
theorem X3_apply (r : Fin 32) (j : Fin 2048) : X3 x0 x1 x2 x8 (ix2 r j) = xc A r 2 j :=
  conv_apply R 2 _ _ _ _ (zx_apply R 2 _) (zx_apply R 1 _) (zx_apply R 0 _) (ck_apply R 2 _) r j
theorem X4_apply (r : Fin 32) (j : Fin 2048) : X4 x0 x1 x2 (ix2 r j) = xc A r 3 j :=
  conv_apply R 3 _ _ _ _ (zx_apply R 3 _) (zx_apply R 2 _) (zx_apply R 1 _) (zx_apply R 0 _) r j

theorem Ls_apply (j : Fin 2048) : Ls x7 (ix2 0 j) = logSig (A.lam (ix1 j)) := by
  unfold Ls k0_pay1
  rw [shapeCast_self]
  have e : all x7 (ix2 0 j) = A.lam (ix1 j) := (all_apply x7 j).trans (R.e7 j)
  show Ideal.ofBits .f32 0x00000000#32 - (max (Ideal.ofBits .f32 0x00000000#32 - all x7 (ix2 0 j)) (Ideal.ofBits .f32 0x00000000#32)
    + Ideal.log1p (Ideal.exp (Ideal.ofBits .f32 0x00000000#32 - max (all x7 (ix2 0 j)) (-(all x7 (ix2 0 j)))))) = _
  rw [Ideal.ofBits_zero_f32, e]
  rfl

theorem wt_apply (n : ℕ) (hn : n < 8) (k d : Fin 256) : wt x3 n hn (ix3 0 k d) = A.wx (ix3 ⟨n, hn⟩ k d) ∧ wt x5 n hn (ix3 0 k d) = A.wa (ix3 ⟨n, hn⟩ k d) := by
  have e : ∀ x : Vec Ideal S8x256x256 .bf16, wt x n hn (ix3 0 k d) = x (ix3 ⟨n, hn⟩ k d) := fun x => congrArg x (funext fun a => Fin.ext (match a with
    | ⟨0, _⟩ => (by show n + 1 * 0 = n; omega)
    | ⟨1, _⟩ => (by show 0 + 1 * k.val = k.val; omega)
    | ⟨2, _⟩ => (by show 0 + 1 * d.val = d.val; omega)))
  exact ⟨(e x3).trans (R.e3 _ k d), (e x5).trans (R.e5 _ k d)⟩

theorem bs_apply (n : ℕ) (hn : n < 8) (d : Fin 256) : bs x4 n hn (ix2 0 d) = A.bx (ix2 ⟨n, hn⟩ d) ∧ bs x6 n hn (ix2 0 d) = A.ba (ix2 ⟨n, hn⟩ d) := by
  have e : ∀ x : Vec Ideal S1x2048 .f32, bs x n hn (ix2 0 d) = x (ix2 0 (col ⟨n, hn⟩ d)) := fun x =>
    ld2 (a := 1) (b := 2048) (p := 1) (q := 256) x (in_b n hn) 0 d 0 (col ⟨n, hn⟩ d) rfl rfl
  exact ⟨(e x4).trans (R.e4 _ d), (e x6).trans (R.e6 _ d)⟩

theorem step_apply (s : ℕ) (X : FVec Ideal S32x2048 .f32) (hX : ∀ r j, X (ix2 r j) = xc A r s j) (n : ℕ) (hn : n < 8) (h : FVec Ideal S32x256 .f32)
    (hh : ∀ r d, h (ix2 r d) = hAt A r ⟨n, hn⟩ d s) (r : Fin 32) (d : Fin 256) : step x3 x4 x5 x6 x7 X n hn h (ix2 r d) = hAt A r ⟨n, hn⟩ d (s + 1) := by
  have eX : ∀ k : Fin 256, extractStridedSlice S32x256 ![0, 256 * n] X (sl_cols n hn) (ix2 r k) = xc A r s (col ⟨n, hn⟩ k) := fun k =>
    (cols_apply (256 * n) X _ r k (col ⟨n, hn⟩ k) rfl).trans (hX r _)
  have eL : extractStridedSlice S1x256 ![0, 256 * n] (Ls x7) (sl_row n hn) (ix2 0 d) = logSig (A.lam (ix1 (col ⟨n, hn⟩ d))) :=
    (colsr_apply (256 * n) (Ls x7) _ d (col ⟨n, hn⟩ d) rfl).trans (Ls_apply R _)
  have ga : gateV (extractStridedSlice S32x256 ![0, 256 * n] X (sl_cols n hn)) (wt x5 n hn) (bs x6 n hn) (ix2 r d) = gate A A.wa A.ba r s ⟨n, hn⟩ d := by
    rw [gateV_apply, (bs_apply R n hn d).2]
    refine congrArg (fun q => Ideal.logistic (q + A.ba (ix2 ⟨n, hn⟩ d))) (Finset.sum_congr rfl fun k _ => ?_)
    rw [eX, (wt_apply R n hn k d).2]
  have gx : gateV (extractStridedSlice S32x256 ![0, 256 * n] X (sl_cols n hn)) (wt x3 n hn) (bs x4 n hn) (ix2 r d) = gate A A.wx A.bx r s ⟨n, hn⟩ d := by
    rw [gateV_apply, (bs_apply R n hn d).1]
    refine congrArg (fun q => Ideal.logistic (q + A.bx (ix2 ⟨n, hn⟩ d))) (Finset.sum_congr rfl fun k _ => ?_)
    rw [eX, (wt_apply R n hn k d).1]
  unfold step
  rw [blkh_apply, ga, gx, eX, eL, hh]
  rfl

theorem st0_apply (n : ℕ) (hn : n < 8) (r : Fin 32) (d : Fin 256) : st0 x9 n hn (ix2 r d) = hAt A r ⟨n, hn⟩ d 0 :=
  (ld2 (a := 32) (b := 2048) (p := 32) (q := 256) x9 (in_h n hn) r d r (col ⟨n, hn⟩ d) (by omega) rfl).trans (R.e9 r _)
theorem st1_apply (n : ℕ) (hn : n < 8) (r : Fin 32) (d : Fin 256) : st1 x0 x1 x2 x3 x4 x5 x6 x7 x8 x9 n hn (ix2 r d) = hAt A r ⟨n, hn⟩ d 1 :=
  step_apply R 0 _ (X1_apply R) n hn _ (st0_apply R n hn) r d
theorem st2_apply (n : ℕ) (hn : n < 8) (r : Fin 32) (d : Fin 256) : st2 x0 x1 x2 x3 x4 x5 x6 x7 x8 x9 n hn (ix2 r d) = hAt A r ⟨n, hn⟩ d 2 :=
  step_apply R 1 _ (X2_apply R) n hn _ (st1_apply R n hn) r d
theorem st3_apply (n : ℕ) (hn : n < 8) (r : Fin 32) (d : Fin 256) : st3 x0 x1 x2 x3 x4 x5 x6 x7 x8 x9 n hn (ix2 r d) = hAt A r ⟨n, hn⟩ d 3 :=
  step_apply R 2 _ (X3_apply R) n hn _ (st2_apply R n hn) r d
theorem st4_apply (n : ℕ) (hn : n < 8) (r : Fin 32) (d : Fin 256) : st4 x0 x1 x2 x3 x4 x5 x6 x7 x8 x9 n hn (ix2 r d) = hAt A r ⟨n, hn⟩ d 4 :=
  step_apply R 3 _ (X4_apply R) n hn _ (st3_apply R n hn) r d

/-! ## The stored strips -/

theorem gstrip_eq (s n : ℕ) (hs : s < 4) (hn : n < 8) (h : FVec Ideal S32x256 .f32) (hh : ∀ r d, h (ix2 r d) = hAt A r ⟨n, hn⟩ d (s + 1)) (y : S32x256.Idx) :
    blkg (View.ld x0 (Rect.unit (s := S32x69632) ![0, 17408 * s + 2048 + 256 * n] S32x256.size (in_y s n hs hn))) h y
      = gOut A ((Rect.unit (s := S32x8192) ![0, 2048 * s + 256 * n] S32x256.size (in_g s n hs hn)).emb y) := by
  obtain ⟨r, d, rfl⟩ : ∃ (r : Fin 32) (d : Fin 256), y = ix2 r d := ⟨y 0, y 1, eq_ix2 y⟩
  have hd := d.isLt
  rw [blkg_apply, hh]
  rw [ld2 (a := 32) (b := 69632) (p := 32) (q := 256) x0 (in_y s n hs hn) r d r ⟨17408 * s + 2048 + 256 * n + d.val, by omega⟩ (by omega) rfl]
  rw [R.e0 r ⟨s, hs⟩ (colY (col ⟨n, hn⟩ d)) _ (by show 17408 * s + 2048 + 256 * n + d.val = 17408 * s + (2048 + (256 * n + d.val)); omega)]
  have ei : (Rect.unit (s := S32x8192) ![0, 2048 * s + 256 * n] S32x256.size (in_g s n hs hn)).emb (ix2 r d) = ix2 r (⟨2048 * s + 256 * n + d.val, by omega⟩ : Fin 8192) :=
    funext fun a => Fin.ext (match a with
      | ⟨0, _⟩ => (by show 0 + 1 * r.val = r.val; omega)
      | ⟨1, _⟩ => (by show 2048 * s + 256 * n + 1 * d.val = 2048 * s + 256 * n + d.val; omega))
  rw [ei, gOut_ix A r ⟨s, hs⟩ ⟨n, hn⟩ d _ rfl]
  rfl

omit R in
theorem hstrip_eq (n : ℕ) (hn : n < 8) (h : FVec Ideal S32x256 .f32) (hh : ∀ r d, h (ix2 r d) = hAt A r ⟨n, hn⟩ d 4) (y : S32x256.Idx) :
    h y = hOut A ((Rect.unit (s := S32x2048) ![0, 256 * n] S32x256.size (in_h n hn)).emb y) := by
  obtain ⟨r, d, rfl⟩ : ∃ (r : Fin 32) (d : Fin 256), y = ix2 r d := ⟨y 0, y 1, eq_ix2 y⟩
  have ei : (Rect.unit (s := S32x2048) ![0, 256 * n] S32x256.size (in_h n hn)).emb (ix2 r d) = ix2 r (col ⟨n, hn⟩ d) :=
    funext fun a => Fin.ext (match a with
      | ⟨0, _⟩ => (by show 0 + 1 * r.val = r.val; omega)
      | ⟨1, _⟩ => (by show 256 * n + 1 * d.val = 256 * n + d.val; omega))
  rw [hh, ei, hOut_ix]

theorem cstrip_eq (k : ℕ) (hk : k < 3) (y : S32x2048.Idx) :
    zx x0 (k + 1) (by omega) y = cOut A ((Rect.unit (s := S32x6144) ![0, 2048 * k] S32x2048.size (in_c k hk)).emb y) := by
  obtain ⟨r, j, rfl⟩ : ∃ (r : Fin 32) (j : Fin 2048), y = ix2 r j := ⟨y 0, y 1, eq_ix2 y⟩
  have ei : (Rect.unit (s := S32x6144) ![0, 2048 * k] S32x2048.size (in_c k hk)).emb (ix2 r j) = ix2 r (⟨2048 * k + j.val, by omega⟩ : Fin 6144) :=
    funext fun a => Fin.ext (match a with
      | ⟨0, _⟩ => (by show 0 + 1 * r.val = r.val; omega)
      | ⟨1, _⟩ => (by show 2048 * k + 1 * j.val = 2048 * k + j.val; omega))
  rw [zx_apply R, ei, cOut_ix A r k j _ rfl]
  exact congrArg (fun q => hist A r q j) (by omega)

/-! ## The three outputs -/

theorem out11 : out0_11 (F := Ideal) x0 x1 x2 x3 x4 x5 x6 x7 x8 x9 = cOut A := by
  funext y
  unfold out0_11
  refine View.canon_apply_of_pieces (cOut A) _ ?_ y (cover0_11 (F := Ideal) _ _ _ y)
  exact
    (List.forall_mem_cons.2 ⟨cstrip_eq R 2 (by decide),
    (List.forall_mem_cons.2 ⟨cstrip_eq R 1 (by decide),
    (List.forall_mem_cons.2 ⟨cstrip_eq R 0 (by decide),
    (fun _ h => absurd h List.not_mem_nil)⟩)⟩)⟩)

set_option maxHeartbeats 4000000 in
theorem out12 : out0_12 (F := Ideal) x0 x1 x2 x3 x4 x5 x6 x7 x8 x9 = hOut A := by
  funext y
  unfold out0_12
  refine View.canon_apply_of_pieces (hOut A) _ ?_ y (cover0_12 (F := Ideal) _ _ _ _ _ _ _ _ y)
  exact
    (List.forall_mem_cons.2 ⟨hstrip_eq 7 (by decide) _ (st4_apply R 7 (by decide)),
    (List.forall_mem_cons.2 ⟨hstrip_eq 6 (by decide) _ (st4_apply R 6 (by decide)),
    (List.forall_mem_cons.2 ⟨hstrip_eq 5 (by decide) _ (st4_apply R 5 (by decide)),
    (List.forall_mem_cons.2 ⟨hstrip_eq 4 (by decide) _ (st4_apply R 4 (by decide)),
    (List.forall_mem_cons.2 ⟨hstrip_eq 3 (by decide) _ (st4_apply R 3 (by decide)),
    (List.forall_mem_cons.2 ⟨hstrip_eq 2 (by decide) _ (st4_apply R 2 (by decide)),
    (List.forall_mem_cons.2 ⟨hstrip_eq 1 (by decide) _ (st4_apply R 1 (by decide)),
    (List.forall_mem_cons.2 ⟨hstrip_eq 0 (by decide) _ (st4_apply R 0 (by decide)),
    (fun _ h => absurd h List.not_mem_nil)⟩)⟩)⟩)⟩)⟩)⟩)⟩)⟩)

set_option maxHeartbeats 4000000 in
theorem out10 : out0_10 (F := Ideal) x0 x1 x2 x3 x4 x5 x6 x7 x8 x9 = gOut A := by
  funext y
  unfold out0_10
  refine View.canon_apply_of_pieces (gOut A) _ ?_ y (cover0_10 (F := Ideal) _ _ _ _ _ _ _ _ _ _ _ _ _ _ _ _ _ _ _ _ _ _ _ _ _ _ _ _ _ _ _ _ y)
  exact
    (List.forall_mem_cons.2 ⟨gstrip_eq R 3 7 (by decide) (by decide) _ (st4_apply R 7 (by decide)),
    (List.forall_mem_cons.2 ⟨gstrip_eq R 3 6 (by decide) (by decide) _ (st4_apply R 6 (by decide)),
    (List.forall_mem_cons.2 ⟨gstrip_eq R 3 5 (by decide) (by decide) _ (st4_apply R 5 (by decide)),
    (List.forall_mem_cons.2 ⟨gstrip_eq R 3 4 (by decide) (by decide) _ (st4_apply R 4 (by decide)),
    (List.forall_mem_cons.2 ⟨gstrip_eq R 3 3 (by decide) (by decide) _ (st4_apply R 3 (by decide)),
    (List.forall_mem_cons.2 ⟨gstrip_eq R 3 2 (by decide) (by decide) _ (st4_apply R 2 (by decide)),
    (List.forall_mem_cons.2 ⟨gstrip_eq R 3 1 (by decide) (by decide) _ (st4_apply R 1 (by decide)),
    (List.forall_mem_cons.2 ⟨gstrip_eq R 3 0 (by decide) (by decide) _ (st4_apply R 0 (by decide)),
    (List.forall_mem_cons.2 ⟨gstrip_eq R 2 7 (by decide) (by decide) _ (st3_apply R 7 (by decide)),
    (List.forall_mem_cons.2 ⟨gstrip_eq R 2 6 (by decide) (by decide) _ (st3_apply R 6 (by decide)),
    (List.forall_mem_cons.2 ⟨gstrip_eq R 2 5 (by decide) (by decide) _ (st3_apply R 5 (by decide)),
    (List.forall_mem_cons.2 ⟨gstrip_eq R 2 4 (by decide) (by decide) _ (st3_apply R 4 (by decide)),
    (List.forall_mem_cons.2 ⟨gstrip_eq R 2 3 (by decide) (by decide) _ (st3_apply R 3 (by decide)),
    (List.forall_mem_cons.2 ⟨gstrip_eq R 2 2 (by decide) (by decide) _ (st3_apply R 2 (by decide)),
    (List.forall_mem_cons.2 ⟨gstrip_eq R 2 1 (by decide) (by decide) _ (st3_apply R 1 (by decide)),
    (List.forall_mem_cons.2 ⟨gstrip_eq R 2 0 (by decide) (by decide) _ (st3_apply R 0 (by decide)),
    (List.forall_mem_cons.2 ⟨gstrip_eq R 1 7 (by decide) (by decide) _ (st2_apply R 7 (by decide)),
    (List.forall_mem_cons.2 ⟨gstrip_eq R 1 6 (by decide) (by decide) _ (st2_apply R 6 (by decide)),
    (List.forall_mem_cons.2 ⟨gstrip_eq R 1 5 (by decide) (by decide) _ (st2_apply R 5 (by decide)),
    (List.forall_mem_cons.2 ⟨gstrip_eq R 1 4 (by decide) (by decide) _ (st2_apply R 4 (by decide)),
    (List.forall_mem_cons.2 ⟨gstrip_eq R 1 3 (by decide) (by decide) _ (st2_apply R 3 (by decide)),
    (List.forall_mem_cons.2 ⟨gstrip_eq R 1 2 (by decide) (by decide) _ (st2_apply R 2 (by decide)),
    (List.forall_mem_cons.2 ⟨gstrip_eq R 1 1 (by decide) (by decide) _ (st2_apply R 1 (by decide)),
    (List.forall_mem_cons.2 ⟨gstrip_eq R 1 0 (by decide) (by decide) _ (st2_apply R 0 (by decide)),
    (List.forall_mem_cons.2 ⟨gstrip_eq R 0 7 (by decide) (by decide) _ (st1_apply R 7 (by decide)),
    (List.forall_mem_cons.2 ⟨gstrip_eq R 0 6 (by decide) (by decide) _ (st1_apply R 6 (by decide)),
    (List.forall_mem_cons.2 ⟨gstrip_eq R 0 5 (by decide) (by decide) _ (st1_apply R 5 (by decide)),
    (List.forall_mem_cons.2 ⟨gstrip_eq R 0 4 (by decide) (by decide) _ (st1_apply R 4 (by decide)),
    (List.forall_mem_cons.2 ⟨gstrip_eq R 0 3 (by decide) (by decide) _ (st1_apply R 3 (by decide)),
    (List.forall_mem_cons.2 ⟨gstrip_eq R 0 2 (by decide) (by decide) _ (st1_apply R 2 (by decide)),
    (List.forall_mem_cons.2 ⟨gstrip_eq R 0 1 (by decide) (by decide) _ (st1_apply R 1 (by decide)),
    (List.forall_mem_cons.2 ⟨gstrip_eq R 0 0 (by decide) (by decide) _ (st1_apply R 0 (by decide)),
    (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
end

/-! ## The ten arrays -/

variable (m : (ℓ : Loc nD τ sig) → Buf (Elt Ideal) ℓ)

/-- What the kernel's arguments hold. -/
def args (c : Dev nD) : Args where
  z := m ((c : Thread nD τ).loc main_arg0)
  cs := m ((c : Thread nD τ).loc main_arg1)
  h0 := m ((c : Thread nD τ).loc main_arg2)
  cw := m ((c : Thread nD τ).loc main_arg3)
  cb := m ((c : Thread nD τ).loc main_arg4)
  wx := m ((c : Thread nD τ).loc main_arg5)
  bx := m ((c : Thread nD τ).loc main_arg6)
  wa := m ((c : Thread nD τ).loc main_arg7)
  ba := m ((c : Thread nD τ).loc main_arg8)
  lam := m ((c : Thread nD τ).loc main_arg9)

theorem V_v0 (c : Dev nD) : V m c main_v0 = shapeCast S32x69632 (m ((c : Thread nD τ).loc main_arg0)) shapeCasts_S32x4x17408_S32x69632 := by
  unfold_abbrev_sides
  after_results
  rfl
theorem V_v1 (c : Dev nD) : V m c main_v1 = shapeCast S1x2048 (m ((c : Thread nD τ).loc main_arg4)) shapeCasts_S2048_S1x2048 := by
  unfold_abbrev_sides
  after_results
  rfl
theorem V_v2 (c : Dev nD) : V m c main_v2 = (m ((c : Thread nD τ).loc main_arg5) : S8x256x256.Idx → EReal) := by
  unfold_abbrev_sides
  after_results
  rfl
theorem V_v3 (c : Dev nD) : V m c main_v3 = shapeCast S1x2048 (m ((c : Thread nD τ).loc main_arg6)) shapeCasts_S8x256_S1x2048 := by
  unfold_abbrev_sides
  after_results
  rfl
theorem V_v4 (c : Dev nD) : V m c main_v4 = (m ((c : Thread nD τ).loc main_arg7) : S8x256x256.Idx → EReal) := by
  unfold_abbrev_sides
  after_results
  rfl
theorem V_v5 (c : Dev nD) : V m c main_v5 = shapeCast S1x2048 (m ((c : Thread nD τ).loc main_arg8)) shapeCasts_S8x256_S1x2048 := by
  unfold_abbrev_sides
  after_results
  rfl
theorem V_v6 (c : Dev nD) : V m c main_v6 = shapeCast S1x2048 (m ((c : Thread nD τ).loc main_arg9)) shapeCasts_S2048_S1x2048 := by
  unfold_abbrev_sides
  after_results
  rfl
theorem V_v7 (c : Dev nD) : V m c main_v7 = shapeCast S32x6144 (m ((c : Thread nD τ).loc main_arg1)) shapeCasts_S32x3x2048_S32x6144 := by
  unfold_abbrev_sides
  after_results
  rfl

theorem emb2 {a b : ℕ} (f g : (M2 a b).Idx) (h0 : (f 0).val = 0 * a + 1 * (g 0).val) (h1 : (f 1).val = 0 * b + 1 * (g 1).val) : f = g :=
  funext fun k => Fin.ext (match k with
    | ⟨0, _⟩ => (by show (f 0).val = (g 0).val; rw [h0]; omega)
    | ⟨1, _⟩ => (by show (f 1).val = (g 1).val; rw [h1]; omega))

theorem iblk0 (c : Dev nD) (t : Fin cfg0.N) : iblk m c 0 t = V m c main_v0 := funext fun y => congrArg (V m c main_v0) (emb2 _ y rfl rfl)
theorem iblk1 (c : Dev nD) (t : Fin cfg0.N) : iblk m c 1 t = V m c main_arg3 := funext fun y => congrArg (V m c main_arg3) (emb2 _ y rfl rfl)
theorem iblk2 (c : Dev nD) (t : Fin cfg0.N) : iblk m c 2 t = V m c main_v1 := funext fun y => congrArg (V m c main_v1) (emb2 _ y rfl rfl)
theorem emb3 {a b d : ℕ} (f g : (M3 a b d).Idx) (h0 : (f 0).val = 0 * a + 1 * (g 0).val) (h1 : (f 1).val = 0 * b + 1 * (g 1).val) (h2 : (f 2).val = 0 * d + 1 * (g 2).val) : f = g :=
  funext fun k => Fin.ext (match k with
    | ⟨0, _⟩ => (by show (f 0).val = (g 0).val; rw [h0]; omega)
    | ⟨1, _⟩ => (by show (f 1).val = (g 1).val; rw [h1]; omega)
    | ⟨2, _⟩ => (by show (f 2).val = (g 2).val; rw [h2]; omega))

theorem iblk3 (c : Dev nD) (t : Fin cfg0.N) : iblk m c 3 t = V m c main_v2 := funext fun y => congrArg (V m c main_v2) (emb3 _ y rfl rfl rfl)
theorem iblk4 (c : Dev nD) (t : Fin cfg0.N) : iblk m c 4 t = V m c main_v3 := funext fun y => congrArg (V m c main_v3) (emb2 _ y rfl rfl)
theorem iblk5 (c : Dev nD) (t : Fin cfg0.N) : iblk m c 5 t = V m c main_v4 := funext fun y => congrArg (V m c main_v4) (emb3 _ y rfl rfl rfl)
theorem iblk6 (c : Dev nD) (t : Fin cfg0.N) : iblk m c 6 t = V m c main_v5 := funext fun y => congrArg (V m c main_v5) (emb2 _ y rfl rfl)
theorem iblk7 (c : Dev nD) (t : Fin cfg0.N) : iblk m c 7 t = V m c main_v6 := funext fun y => congrArg (V m c main_v6) (emb2 _ y rfl rfl)
theorem iblk8 (c : Dev nD) (t : Fin cfg0.N) : iblk m c 8 t = V m c main_v7 := funext fun y => congrArg (V m c main_v7) (emb2 _ y rfl rfl)
theorem iblk9 (c : Dev nD) (t : Fin cfg0.N) : iblk m c 9 t = V m c main_arg2 := funext fun y => congrArg (V m c main_arg2) (emb2 _ y rfl rfl)

theorem reads (c : Dev nD) (t : Fin cfg0.N) : Reads (args m c) (iblk m c 0 t) (iblk m c 1 t) (iblk m c 2 t) (iblk m c 3 t) (iblk m c 4 t) (iblk m c 5 t)
    (iblk m c 6 t) (iblk m c 7 t) (iblk m c 8 t) (iblk m c 9 t) where
  e0 r s j J hJ := by
    rw [iblk0, V_v0]
    refine shapeCast_apply _ _ (ix2 r J) (ix3 r s j) ?_
    rw [Shape.rowMajor_val_three, Shape.rowMajor_val_two]
    show (r.val * 4 + s.val) * 17408 + j.val = r.val * 69632 + J.val
    omega
  e1 k j := by rw [iblk1, V_main_arg3]; rfl
  e2 j := by
    rw [iblk2, V_v1]
    refine shapeCast_apply _ _ (ix2 0 j) (ix1 j) ?_
    rw [Shape.rowMajor_val_one, Shape.rowMajor_val_two]
    show j.val = 0 * 2048 + j.val
    omega
  e3 n k d := by rw [iblk3, V_v2]; rfl
  e4 n d := by
    rw [iblk4, V_v3]
    refine shapeCast_apply _ _ (ix2 0 (col n d)) (ix2 n d) ?_
    rw [Shape.rowMajor_val_two, Shape.rowMajor_val_two]
    show n.val * 256 + d.val = 0 * 2048 + (256 * n.val + d.val)
    omega
  e5 n k d := by rw [iblk5, V_v4]; rfl
  e6 n d := by
    rw [iblk6, V_v5]
    refine shapeCast_apply _ _ (ix2 0 (col n d)) (ix2 n d) ?_
    rw [Shape.rowMajor_val_two, Shape.rowMajor_val_two]
    show n.val * 256 + d.val = 0 * 2048 + (256 * n.val + d.val)
    omega
  e7 j := by
    rw [iblk7, V_v6]
    refine shapeCast_apply _ _ (ix2 0 j) (ix1 j) ?_
    rw [Shape.rowMajor_val_one, Shape.rowMajor_val_two]
    show j.val = 0 * 2048 + j.val
    omega
  e8 r k j J hJ := by
    rw [iblk8, V_v7]
    refine shapeCast_apply _ _ (ix2 r J) (ix3 r k j) ?_
    rw [Shape.rowMajor_val_three, Shape.rowMajor_val_two]
    show (r.val * 3 + k.val) * 2048 + j.val = r.val * 6144 + J.val
    omega
  e9 r j := by rw [iblk9, V_main_arg2]; rfl

/-! ## The arrays the kernel leaves -/

theorem result10 (c : Dev nD) : (dats m 0 c).arrAt 10 cfg0.N = gOut (args m c) := by
  refine (dats m 0 c).arrAt_eq_of_cover 10 _ (fun t hf => ?_)
    (fun i => Pipeline.Window.Covers.cover (w := cfg0.win 10) (by decide +kernel) (Memref.isWhole_whole _) i)
  rw [Value.flushed10, out10 (reads m c t)]
  exact funext fun y => congrArg (gOut (args m c)) (emb2 _ _ rfl rfl).symm

theorem result11 (c : Dev nD) : (dats m 0 c).arrAt 11 cfg0.N = cOut (args m c) := by
  refine (dats m 0 c).arrAt_eq_of_cover 11 _ (fun t hf => ?_)
    (fun i => Pipeline.Window.Covers.cover (w := cfg0.win 11) (by decide +kernel) (Memref.isWhole_whole _) i)
  rw [Value.flushed11, out11 (reads m c t)]
  exact funext fun y => congrArg (cOut (args m c)) (emb2 _ _ rfl rfl).symm

theorem result12 (c : Dev nD) : (dats m 0 c).arrAt 12 cfg0.N = hOut (args m c) := by
  refine (dats m 0 c).arrAt_eq_of_cover 12 _ (fun t hf => ?_)
    (fun i => Pipeline.Window.Covers.cover (w := cfg0.win 12) (by decide +kernel) (Memref.isWhole_whole _) i)
  rw [Value.flushed12, out12 (reads m c t)]
  exact funext fun y => congrArg (hOut (args m c)) (emb2 _ _ rfl rfl).symm

end Cert.StepIdeal.Side

end
-- ==== Proof.StepReference.lean ====
/- THE REFERENCE'S SIDE for the sample's recurrence: its lines, read one at a time, are `Step`'s; its scan, which joins the
   four steps in pairs, gives the four states. -/
module

public import proofs.«01_k».proof.Proof.Gen.StepRefIdeal.Read
public import proofs.«01_k».proof.Proof.Step
public import Idealize.ShloMosaic.Lib.KernelVsHost
public import Idealize.ShloMosaic.Lib.Routing.OpsOrder

@[expose] public section

set_option maxRecDepth 16384

noncomputable section

namespace Cert.StepRefIdeal.Side

open Cert.StepRefIdeal Cert.StepRefIdeal.Gen Cert.StepRefIdeal.Read Idealize.ShloMosaic Idealize.ShloMosaic.ValueIdx Cert.Dense Cert.Step

/-! ## Reads of the re-indexing operations -/

theorem slice3 {α : Type} {n p : ℕ} (o st : ℕ) (x : (M3 32 n 2048).Idx → α) (h : (M3 32 n 2048).SlicesBy ![0, o, 0] ![1, st, 1] (M3 32 p 2048)) (b : Fin 32) (i : Fin p)
    (j : Fin 2048) (I : Fin n) (hI : I.val = o + st * i.val) : Host.slice (M3 32 p 2048) ![0, o, 0] ![1, st, 1] x h (ix3 b i j) = x (ix3 b I j) :=
  congrArg x (funext fun a => Fin.ext (match a with
    | ⟨0, _⟩ => (by show 0 + 1 * b.val = b.val; omega)
    | ⟨1, _⟩ => (by show o + st * i.val = I.val; omega)
    | ⟨2, _⟩ => (by show 0 + 1 * j.val = j.val; omega)))

theorem pad_in {α : Type} {n p : ℕ} (lo hi : ℕ) (x : (M3 32 n 2048).Idx → α) {u : Shape} (v : u.Idx → α) (h : (M3 32 n 2048).Pads ![0, lo, 0] ![0, hi, 0] ![0, 1, 0] (M3 32 p 2048))
    (hu : 0 < u.numel) (b : Fin 32) (i : Fin p) (j : Fin 2048) (I : Fin n) (hI : i.val = lo + I.val * 2) :
    pad (M3 32 p 2048) ![0, lo, 0] ![0, hi, 0] ![0, 1, 0] x v h hu (ix3 b i j) = x (ix3 b I j) :=
  pad_apply_of_inside _ _ _ x v h hu (ix3 b i j) (ix3 b I j) (fun a => match a with
    | ⟨0, _⟩ => (by show b.val = 0 + b.val * (0 + 1); omega)
    | ⟨1, _⟩ => (by show i.val = lo + I.val * (1 + 1); omega)
    | ⟨2, _⟩ => (by show j.val = 0 + j.val * (0 + 1); omega))

theorem pad_out {α : Type} {n p : ℕ} (lo hi : ℕ) (x : (M3 32 n 2048).Idx → α) {u : Shape} (v : u.Idx → α) (h : (M3 32 n 2048).Pads ![0, lo, 0] ![0, hi, 0] ![0, 1, 0] (M3 32 p 2048))
    (hu : 0 < u.numel) (b : Fin 32) (i : Fin p) (j : Fin 2048) (hI : ¬(lo ≤ i.val ∧ (i.val - lo) % 2 = 0)) :
    pad (M3 32 p 2048) ![0, lo, 0] ![0, hi, 0] ![0, 1, 0] x v h hu (ix3 b i j) = v (Shape.Idx.first hu) :=
  pad_apply_of_not_inside _ _ _ x v h hu (ix3 b i j) (1 : Fin 3) (fun q => hI ⟨q.1, q.2.1⟩)

theorem cat0 {α : Type} {p q n : ℕ} (x : (M3 32 p 2048).Idx → α) (y : (M3 32 q 2048).Idx → α) (h : Shape.Concatenates [M3 32 p 2048, M3 32 q 2048] (M3 32 n 2048) (1 : Fin 3))
    (b : Fin 32) (i : Fin n) (j : Fin 2048) (I : Fin p) (hI : i.val = I.val) :
    concatenate (M3 32 n 2048) (1 : Fin 3) [⟨M3 32 p 2048, x⟩, ⟨M3 32 q 2048, y⟩] h (ix3 b i j) = x (ix3 b I j) :=
  concatenate_apply_piece (t := M3 32 n 2048) (1 : Fin 3) [⟨M3 32 p 2048, x⟩, ⟨M3 32 q 2048, y⟩] h (ix3 b i j) 0 (by show 0 < 2; decide) _ x rfl rfl 0 rfl (ix3 b I j)
    (fun a ha => match a with | ⟨0, _⟩ => rfl | ⟨1, _⟩ => absurd rfl ha | ⟨2, _⟩ => rfl) (by show 0 + I.val = i.val; omega)

theorem cat1 {α : Type} {p q n : ℕ} (x : (M3 32 p 2048).Idx → α) (y : (M3 32 q 2048).Idx → α) (h : Shape.Concatenates [M3 32 p 2048, M3 32 q 2048] (M3 32 n 2048) (1 : Fin 3))
    (b : Fin 32) (i : Fin n) (j : Fin 2048) (I : Fin q) (hI : i.val = p + I.val) :
    concatenate (M3 32 n 2048) (1 : Fin 3) [⟨M3 32 p 2048, x⟩, ⟨M3 32 q 2048, y⟩] h (ix3 b i j) = y (ix3 b I j) :=
  concatenate_apply_piece (t := M3 32 n 2048) (1 : Fin 3) [⟨M3 32 p 2048, x⟩, ⟨M3 32 q 2048, y⟩] h (ix3 b i j) 1 (by show 1 < 2; decide) _ y rfl rfl p rfl (ix3 b I j)
    (fun a ha => match a with | ⟨0, _⟩ => rfl | ⟨1, _⟩ => absurd rfl ha | ⟨2, _⟩ => rfl) (by show p + I.val = i.val; omega)

/-- A fold that changes its value at one element of its list only. -/
theorem fold_one {α ι : Type} [DecidableEq ι] (n0 : ι) (f : α → α → α) (g : ι → α) (p : ι → Prop) [DecidablePred p] (hp : ∀ n, p n ↔ n = n0) (L : List ι) (hL : L.Nodup) :
    ∀ x : α, L.foldl (fun a n => if p n then f a (g n) else a) x = if n0 ∈ L then f x (g n0) else x := by
  induction L with
  | nil => intro x; simp
  | cons c L ih =>
    intro x
    rw [List.foldl_cons, ih (List.nodup_cons.1 hL).2]
    by_cases h : c = n0
    · subst h
      rw [if_neg (List.nodup_cons.1 hL).1, if_pos ((hp c).2 rfl), if_pos List.mem_cons_self]
    · rw [if_neg (fun q => h ((hp c).1 q))]
      by_cases hm : n0 ∈ L
      · rw [if_pos hm, if_pos (List.mem_cons_of_mem _ hm)]
      · rw [if_neg hm, if_neg (fun q => (List.mem_cons.1 q).elim (fun e => h e.symm) hm)]

/-- A fold that never changes its value. -/
theorem fold_none {α ι : Type} (f : α → α → α) (g : ι → α) (p : ι → Prop) [DecidablePred p] (hp : ∀ n, ¬p n) (L : List ι) :
    ∀ x : α, L.foldl (fun a n => if p n then f a (g n) else a) x = x := by
  induction L with
  | nil => intro x; rfl
  | cons c L ih => intro x; rw [List.foldl_cons, ih, if_neg (hp c)]

/-- Where an update lands: at its own place of the first row. -/
theorem land (y : S32x2048.Idx) (idx : IVec S1 32) (h : ∀ k, idx k = 0#32) :
    scatter_S32x4x2048_S1_S32x2048_01_1_1_0.resultIdx? y idx = some (ix3 (y 0) (0 : Fin 4) (y 1)) := by
  have hs : ∀ a, scatter_S32x4x2048_S1_S32x2048_01_1_1_0.start y idx a = 0 := fun a => by
    unfold ScatterDims.start
    split
    · rw [h]; rfl
    · rfl
  have w0 : scatter_S32x4x2048_S1_S32x2048_01_1_1_0.window y (0 : Fin 3) = (y 0).val := rfl
  have w1 : scatter_S32x4x2048_S1_S32x2048_01_1_1_0.window y (1 : Fin 3) = 0 := rfl
  have w2 : scatter_S32x4x2048_S1_S32x2048_01_1_1_0.window y (2 : Fin 3) = (y 1).val := rfl
  have y0 : (y 0).val < 32 := (y 0).isLt
  have y1 : (y 1).val < 2048 := (y 1).isLt
  unfold ScatterDims.resultIdx?
  rw [dif_pos (fun a => match a with
    | ⟨0, _⟩ => (by rw [hs]; show 0 ≤ (0 : Int) + ((scatter_S32x4x2048_S1_S32x2048_01_1_1_0.window y (0 : Fin 3) : ℕ) : Int) ∧ (0 : Int) + ((scatter_S32x4x2048_S1_S32x2048_01_1_1_0.window y (0 : Fin 3) : ℕ) : Int) < ((32 : ℕ) : Int); rw [w0]; omega)
    | ⟨1, _⟩ => (by rw [hs]; show 0 ≤ (0 : Int) + ((scatter_S32x4x2048_S1_S32x2048_01_1_1_0.window y (1 : Fin 3) : ℕ) : Int) ∧ (0 : Int) + ((scatter_S32x4x2048_S1_S32x2048_01_1_1_0.window y (1 : Fin 3) : ℕ) : Int) < ((4 : ℕ) : Int); rw [w1]; omega)
    | ⟨2, _⟩ => (by rw [hs]; show 0 ≤ (0 : Int) + ((scatter_S32x4x2048_S1_S32x2048_01_1_1_0.window y (2 : Fin 3) : ℕ) : Int) ∧ (0 : Int) + ((scatter_S32x4x2048_S1_S32x2048_01_1_1_0.window y (2 : Fin 3) : ℕ) : Int) < ((2048 : ℕ) : Int); rw [w2]; omega))]
  refine congrArg some (funext fun a => Fin.ext ?_)
  match a with
  | ⟨0, _⟩ => show (scatter_S32x4x2048_S1_S32x2048_01_1_1_0.start y idx (0 : Fin 3) + ((scatter_S32x4x2048_S1_S32x2048_01_1_1_0.window y (0 : Fin 3) : ℕ) : Int)).toNat = (y 0).val; rw [hs, w0]; omega
  | ⟨1, _⟩ => show (scatter_S32x4x2048_S1_S32x2048_01_1_1_0.start y idx (1 : Fin 3) + ((scatter_S32x4x2048_S1_S32x2048_01_1_1_0.window y (1 : Fin 3) : ℕ) : Int)).toNat = 0; rw [hs, w1]; rfl
  | ⟨2, _⟩ => show (scatter_S32x4x2048_S1_S32x2048_01_1_1_0.start y idx (2 : Fin 3) + ((scatter_S32x4x2048_S1_S32x2048_01_1_1_0.window y (2 : Fin 3) : ℕ) : Int)).toNat = (y 1).val; rw [hs, w2]; omega

theorem scatter_at {α : Type} (f : α → α → α) (x : S32x4x2048.Idx → α) (idx : IVec S1 32) (h : ∀ k, idx k = 0#32) (u : S32x2048.Idx → α) (b : Fin 32) (s : Fin 4) (j : Fin 2048) :
    Host.scatter scatter_S32x4x2048_S1_S32x2048_01_1_1_0 f x idx u (ix3 b s j) = if s.val = 0 then f (x (ix3 b s j)) (u (ix2 b j)) else x (ix3 b s j) := by
  rw [← Routing.scatterIn_finRange, Routing.scatterIn_at]
  have key : ∀ n : Fin S32x2048.numel, scatter_S32x4x2048_S1_S32x2048_01_1_1_0.resultIdx? (S32x2048.rowMajor.symm n) idx = some (ix3 b s j)
      ↔ (s.val = 0 ∧ n = S32x2048.rowMajor (ix2 b j)) := by
    intro n
    rw [land _ idx h]
    constructor
    · intro e
      have e' := Option.some.inj e
      have q0 : (S32x2048.rowMajor.symm n) 0 = b := congrFun e' (0 : Fin 3)
      have q1 : (0 : Fin 4) = s := congrFun e' (1 : Fin 3)
      have q2 : (S32x2048.rowMajor.symm n) 1 = j := congrFun e' (2 : Fin 3)
      refine ⟨by rw [← q1]; rfl, ?_⟩
      have q : S32x2048.rowMajor.symm n = ix2 b j := funext fun a => match a with | ⟨0, _⟩ => q0 | ⟨1, _⟩ => q2
      exact (S32x2048.rowMajor.apply_symm_apply n).symm.trans (congrArg _ q)
    · rintro ⟨hs, rfl⟩
      rw [Equiv.symm_apply_apply]
      exact congrArg (fun q => some (ix3 b q j)) (Fin.ext hs.symm)
  by_cases hs : s.val = 0
  · rw [if_pos hs]
    refine (fold_one (S32x2048.rowMajor (ix2 b j)) f (fun n => u (S32x2048.rowMajor.symm n)) _ (fun n => (key n).trans ⟨fun q => q.2, fun q => ⟨hs, q⟩⟩) _ (List.nodup_finRange _) _).trans ?_
    rw [if_pos (List.mem_finRange _), Equiv.symm_apply_apply]
  · rw [if_neg hs]
    exact fold_none f (fun n => u (S32x2048.rowMajor.symm n)) _ (fun n q => hs ((key n).1 q).1) _ _

variable (A : Args)

/-! ## The convolution -/

theorem v0_at (b : Fin 32) (s : Fin 4) (j : Fin 2048) : val_main_v0 (F := Ideal) A.z (ix3 b s j) = A.z (ix3 b s (colX j)) := by
  rw [val_main_v0_apply (F := Ideal)]
  exact congrArg A.z (funext fun a => Fin.ext (match a with | ⟨0, _⟩ => rfl | ⟨1, _⟩ => rfl | ⟨2, _⟩ => rfl))

theorem v1_at (b : Fin 32) (s : Fin 4) (j : Fin 2048) : val_main_v1 (F := Ideal) A.z (ix3 b s j) = A.z (ix3 b s (colY j)) := by
  rw [val_main_v1_apply (F := Ideal)]
  exact congrArg A.z (funext fun a => Fin.ext (match a with | ⟨0, _⟩ => rfl | ⟨1, _⟩ => rfl | ⟨2, _⟩ => rfl))

theorem v7_at (b : Fin 32) (t : Fin 7) (j : Fin 2048) : val_main_v7 (F := Ideal) A.z A.cs (ix3 b t j) = hist A b t.val j := by
  have ht := t.isLt
  unfold val_main_v7 hist
  by_cases h : t.val < 3
  · rw [dif_pos h]
    exact cat0 (p := 3) (q := 4) (n := 7) A.cs (val_main_v0 (F := Ideal) A.z) _ b t j ⟨t.val, h⟩ rfl
  · rw [dif_neg h, dif_pos (by omega)]
    exact (cat1 (p := 3) (q := 4) (n := 7) A.cs (val_main_v0 (F := Ideal) A.z) _ b t j ⟨t.val - 3, by omega⟩ (by show t.val = 3 + (t.val - 3); omega)).trans (v0_at A b _ j)

theorem cw0_at (b : Fin 32) (s : Fin 4) (j : Fin 2048) : val_main_v12 (F := Ideal) A.cw (ix3 b s j) = A.cw (ix2 0 j) := by
  rw [val_main_v12_apply (F := Ideal), val_main_v11_apply (F := Ideal), val_main_v9_apply (F := Ideal), val_main_v8_apply (F := Ideal)]
  have hj := j.isLt
  exact congrArg A.cw (funext fun a => Fin.ext (match a with | ⟨0, _⟩ => rfl | ⟨1, _⟩ => (by show j.val % 2048 = j.val; omega)))

theorem x0_at (b : Fin 32) (s : Fin 4) (j : Fin 2048) : val_main_v10 (F := Ideal) A.z A.cs (ix3 b s j) = hist A b (s.val + 3) j := by
  have hs := s.isLt
  rw [val_main_v10_apply (F := Ideal)]
  refine Eq.trans (congrArg (val_main_v7 (F := Ideal) A.z A.cs) ?_) (v7_at A b ⟨s.val + 3, by omega⟩ j)
  exact funext fun a => Fin.ext (match a with | ⟨0, _⟩ => rfl | ⟨1, _⟩ => (by show 3 + s.val = s.val + 3; omega) | ⟨2, _⟩ => rfl)

theorem cw1_at (b : Fin 32) (s : Fin 4) (j : Fin 2048) : val_main_v21 (F := Ideal) A.cw (ix3 b s j) = A.cw (ix2 1 j) := by
  rw [val_main_v21_apply (F := Ideal), val_main_v20_apply (F := Ideal), val_main_v18_apply (F := Ideal), val_main_v17_apply (F := Ideal)]
  have hj := j.isLt
  exact congrArg A.cw (funext fun a => Fin.ext (match a with | ⟨0, _⟩ => rfl | ⟨1, _⟩ => (by show j.val % 2048 = j.val; omega)))

theorem x1_at (b : Fin 32) (s : Fin 4) (j : Fin 2048) : val_main_v19 (F := Ideal) A.z A.cs (ix3 b s j) = hist A b (s.val + 2) j := by
  have hs := s.isLt
  rw [val_main_v19_apply (F := Ideal)]
  refine Eq.trans (congrArg (val_main_v7 (F := Ideal) A.z A.cs) ?_) (v7_at A b ⟨s.val + 2, by omega⟩ j)
  exact funext fun a => Fin.ext (match a with | ⟨0, _⟩ => rfl | ⟨1, _⟩ => (by show 2 + s.val = s.val + 2; omega) | ⟨2, _⟩ => rfl)

theorem cw2_at (b : Fin 32) (s : Fin 4) (j : Fin 2048) : val_main_v28 (F := Ideal) A.cw (ix3 b s j) = A.cw (ix2 2 j) := by
  rw [val_main_v28_apply (F := Ideal), val_main_v27_apply (F := Ideal), val_main_v25_apply (F := Ideal), val_main_v24_apply (F := Ideal)]
  have hj := j.isLt
  exact congrArg A.cw (funext fun a => Fin.ext (match a with | ⟨0, _⟩ => rfl | ⟨1, _⟩ => (by show j.val % 2048 = j.val; omega)))

theorem x2_at (b : Fin 32) (s : Fin 4) (j : Fin 2048) : val_main_v26 (F := Ideal) A.z A.cs (ix3 b s j) = hist A b (s.val + 1) j := by
  have hs := s.isLt
  rw [val_main_v26_apply (F := Ideal)]
  refine Eq.trans (congrArg (val_main_v7 (F := Ideal) A.z A.cs) ?_) (v7_at A b ⟨s.val + 1, by omega⟩ j)
  exact funext fun a => Fin.ext (match a with | ⟨0, _⟩ => rfl | ⟨1, _⟩ => (by show 1 + s.val = s.val + 1; omega) | ⟨2, _⟩ => rfl)

theorem cw3_at (b : Fin 32) (s : Fin 4) (j : Fin 2048) : val_main_v35 (F := Ideal) A.cw (ix3 b s j) = A.cw (ix2 3 j) := by
  rw [val_main_v35_apply (F := Ideal), val_main_v34_apply (F := Ideal), val_main_v32_apply (F := Ideal), val_main_v31_apply (F := Ideal)]
  have hj := j.isLt
  exact congrArg A.cw (funext fun a => Fin.ext (match a with | ⟨0, _⟩ => rfl | ⟨1, _⟩ => (by show j.val % 2048 = j.val; omega)))

theorem x3_at (b : Fin 32) (s : Fin 4) (j : Fin 2048) : val_main_v33 (F := Ideal) A.z A.cs (ix3 b s j) = hist A b (s.val + 0) j := by
  have hs := s.isLt
  rw [val_main_v33_apply (F := Ideal)]
  refine Eq.trans (congrArg (val_main_v7 (F := Ideal) A.z A.cs) ?_) (v7_at A b ⟨s.val + 0, by omega⟩ j)
  exact funext fun a => Fin.ext (match a with | ⟨0, _⟩ => rfl | ⟨1, _⟩ => rfl | ⟨2, _⟩ => rfl)

theorem cb_at (b : Fin 32) (s : Fin 4) (j : Fin 2048) : val_main_v15 (F := Ideal) A.cb (ix3 b s j) = A.cb (ix1 j) := by
  rw [val_main_v15_apply (F := Ideal), val_main_v14_apply (F := Ideal)]
  exact congrArg A.cb (funext fun a => Fin.ext (match a with | ⟨0, _⟩ => rfl))

theorem v37_at (b : Fin 32) (s : Fin 4) (j : Fin 2048) : val_main_v37 (F := Ideal) A.z A.cs A.cw A.cb (ix3 b s j) = xc A b s.val j := by
  rw [val_main_v37_apply (F := Ideal), val_main_v36_apply (F := Ideal), val_main_v30_apply (F := Ideal), val_main_v29_apply (F := Ideal), val_main_v23_apply (F := Ideal), val_main_v22_apply (F := Ideal), val_main_v16_apply (F := Ideal), val_main_v13_apply (F := Ideal), cb_at, cw0_at, cw1_at, cw2_at, cw3_at, x0_at, x1_at, x2_at, x3_at]
  rfl

/-! ## The gates -/

theorem v39_at (b : Fin 32) (s : Fin 4) (n : Fin 8) (k : Fin 256) : val_main_v39 (F := Ideal) A.z A.cs A.cw A.cb (ix4 b s n k) = xc A b s.val (col n k) := by
  have hs := s.isLt
  have hn := n.isLt
  have hk := k.isLt
  rw [val_main_v39_apply (F := Ideal)]
  refine Eq.trans (congrArg (val_main_v37 (F := Ideal) A.z A.cs A.cw A.cb) ?_) (v37_at A b s (col n k))
  exact funext fun a => Fin.ext (match a with
    | ⟨0, _⟩ => (by show (((b.val * 4 + s.val) * 8 + n.val) * 256 + k.val) / 8192 = b.val; omega)
    | ⟨1, _⟩ => (by show (((b.val * 4 + s.val) * 8 + n.val) * 256 + k.val) / 2048 % 4 = s.val; omega)
    | ⟨2, _⟩ => (by show (((b.val * 4 + s.val) * 8 + n.val) * 256 + k.val) % 2048 = 256 * n.val + k.val; omega))

theorem gx_at (b : Fin 32) (s : Fin 4) (n : Fin 8) (d : Fin 256) : val_main_v51 (F := Ideal) A.z A.cs A.cw A.cb A.wx A.bx (ix3 b s (col n d)) = gate A A.wx A.bx b s.val n d := by
  have hs := s.isLt
  have hn := n.isLt
  have hd := d.isLt
  rw [val_main_v51_apply (F := Ideal)]
  have ei : idx_main_v51 (ix3 b s (col n d)) = ix4 b s n d := funext fun a => Fin.ext (match a with
    | ⟨0, _⟩ => (by show ((b.val * 4 + s.val) * 2048 + (256 * n.val + d.val)) / 8192 = b.val; omega)
    | ⟨1, _⟩ => (by show ((b.val * 4 + s.val) * 2048 + (256 * n.val + d.val)) / 2048 % 4 = s.val; omega)
    | ⟨2, _⟩ => (by show ((b.val * 4 + s.val) * 2048 + (256 * n.val + d.val)) / 256 % 8 = n.val; omega)
    | ⟨3, _⟩ => (by show ((b.val * 4 + s.val) * 2048 + (256 * n.val + d.val)) % 256 = d.val; omega))
  rw [ei]
  have pre : val_main_v44 (F := Ideal) A.z A.cs A.cw A.cb A.wx A.bx (ix4 b s n d) = (∑ k : Fin 256, xc A b s.val (col n k) * A.wx (ix3 n k d)) + A.bx (ix2 n d) := by
    rw [val_main_v44_apply (F := Ideal), val_main_v41_apply (F := Ideal), val_main_v40_apply, val_main_v43_apply (F := Ideal), val_main_v42_apply (F := Ideal)]
    refine congrArg₂ (fun p q : EReal => p + q) (Finset.sum_congr rfl fun k _ => ?_) ?_
    · rw [mul_comm]
      refine congrArg₂ (fun p q : EReal => p * q) ?_ ?_
      · refine Eq.trans (congrArg (val_main_v39 (F := Ideal) A.z A.cs A.cw A.cb) ?_) (v39_at A b s n k)
        exact funext fun a => Fin.ext (match a with | ⟨0, _⟩ => rfl | ⟨1, _⟩ => rfl | ⟨2, _⟩ => rfl | ⟨3, _⟩ => rfl)
      · exact congrArg A.wx (funext fun a => Fin.ext (match a with | ⟨0, _⟩ => rfl | ⟨1, _⟩ => rfl | ⟨2, _⟩ => rfl))
    · exact congrArg A.bx (funext fun a => Fin.ext (match a with | ⟨0, _⟩ => rfl | ⟨1, _⟩ => rfl))
  rw [val_main_v50_apply (F := Ideal), val_main_v49_apply (F := Ideal), val_main_cst_0_apply (F := Ideal), val_main_v48_apply (F := Ideal), val_main_v47_apply (F := Ideal), val_main_cst_apply (F := Ideal), val_main_v46_apply (F := Ideal), val_main_v45_apply (F := Ideal), pre]
  show Ideal.div (Ideal.ofBits .f32 0x3F800000#32) (Ideal.ofBits .f32 0x3F800000#32 + Ideal.exp (-((∑ k : Fin 256, xc A b s.val (col n k) * A.wx (ix3 n k d)) + A.bx (ix2 n d)))) = _
  rw [one_bits]
  rfl

theorem ga_at (b : Fin 32) (s : Fin 4) (n : Fin 8) (d : Fin 256) : val_main_v63 (F := Ideal) A.z A.cs A.cw A.cb A.wa A.ba (ix3 b s (col n d)) = gate A A.wa A.ba b s.val n d := by
  have hs := s.isLt
  have hn := n.isLt
  have hd := d.isLt
  rw [val_main_v63_apply (F := Ideal)]
  have ei : idx_main_v63 (ix3 b s (col n d)) = ix4 b s n d := funext fun a => Fin.ext (match a with
    | ⟨0, _⟩ => (by show ((b.val * 4 + s.val) * 2048 + (256 * n.val + d.val)) / 8192 = b.val; omega)
    | ⟨1, _⟩ => (by show ((b.val * 4 + s.val) * 2048 + (256 * n.val + d.val)) / 2048 % 4 = s.val; omega)
    | ⟨2, _⟩ => (by show ((b.val * 4 + s.val) * 2048 + (256 * n.val + d.val)) / 256 % 8 = n.val; omega)
    | ⟨3, _⟩ => (by show ((b.val * 4 + s.val) * 2048 + (256 * n.val + d.val)) % 256 = d.val; omega))
  rw [ei]
  have pre : val_main_v56 (F := Ideal) A.z A.cs A.cw A.cb A.wa A.ba (ix4 b s n d) = (∑ k : Fin 256, xc A b s.val (col n k) * A.wa (ix3 n k d)) + A.ba (ix2 n d) := by
    rw [val_main_v56_apply (F := Ideal), val_main_v53_apply (F := Ideal), val_main_v52_apply, val_main_v55_apply (F := Ideal), val_main_v54_apply (F := Ideal)]
    refine congrArg₂ (fun p q : EReal => p + q) (Finset.sum_congr rfl fun k _ => ?_) ?_
    · rw [mul_comm]
      refine congrArg₂ (fun p q : EReal => p * q) ?_ ?_
      · refine Eq.trans (congrArg (val_main_v39 (F := Ideal) A.z A.cs A.cw A.cb) ?_) (v39_at A b s n k)
        exact funext fun a => Fin.ext (match a with | ⟨0, _⟩ => rfl | ⟨1, _⟩ => rfl | ⟨2, _⟩ => rfl | ⟨3, _⟩ => rfl)
      · exact congrArg A.wa (funext fun a => Fin.ext (match a with | ⟨0, _⟩ => rfl | ⟨1, _⟩ => rfl | ⟨2, _⟩ => rfl))
    · exact congrArg A.ba (funext fun a => Fin.ext (match a with | ⟨0, _⟩ => rfl | ⟨1, _⟩ => rfl))
  rw [val_main_v62_apply (F := Ideal), val_main_v61_apply (F := Ideal), val_main_cst_2_apply (F := Ideal), val_main_v60_apply (F := Ideal), val_main_v59_apply (F := Ideal), val_main_cst_1_apply (F := Ideal), val_main_v58_apply (F := Ideal), val_main_v57_apply (F := Ideal), pre]
  show Ideal.div (Ideal.ofBits .f32 0x3F800000#32) (Ideal.ofBits .f32 0x3F800000#32 + Ideal.exp (-((∑ k : Fin 256, xc A b s.val (col n k) * A.wa (ix3 n k d)) + A.ba (ix2 n d)))) = _
  rw [one_bits]
  rfl

theorem ls_at (j : Fin 2048) : val_main_v66 (F := Ideal) A.lam (ix1 j) = logSig (A.lam (ix1 j)) := by
  rw [val_main_v66_apply (F := Ideal), val_main_call0_v1_apply (F := Ideal), val_main_call0_call0_v4_apply (F := Ideal)]
  rw [show FloatOps.cmpf (F := Ideal) .une (val_main_call0_call0_v3 (F := Ideal) A.lam (ix1 j)) (val_main_call0_call0_v3 (F := Ideal) A.lam (ix1 j)) = 0#1 from by
    show Ideal.cmp .une _ _ = 0#1
    simp [Ideal.cmp]]
  rw [val_main_call0_call0_v11_apply (F := Ideal), val_main_call0_call0_v10_apply (F := Ideal), val_main_call0_call0_v9_apply (F := Ideal), val_main_call0_call0_v8_apply (F := Ideal), val_main_call0_call0_v7_apply (F := Ideal), val_main_call0_call0_v3_apply (F := Ideal), val_main_call0_call0_v1_apply (F := Ideal), val_main_call0_v0_apply (F := Ideal), val_main_call0_call0_v0_apply (F := Ideal), val_main_call0_call0_v2_apply (F := Ideal)]
  rw [val_main_call0_call0_cst_apply (F := Ideal)]
  show -(max (-(A.lam (ix1 j))) (Ideal.ofBits .f32 0x00000000#32) + Ideal.log1p (Ideal.exp (-(max (-(A.lam (ix1 j)) - Ideal.ofBits .f32 0x00000000#32) (-(-(A.lam (ix1 j)) - Ideal.ofBits .f32 0x00000000#32)))))) = _
  rw [Ideal.ofBits_zero_f32]
  exact logSig_eq _

/-! ## The steps' decays and addends -/

theorem v69_at (b : Fin 32) (s : Fin 4) (n : Fin 8) (d : Fin 256) : val_main_v69 (F := Ideal) A.z A.cs A.cw A.cb A.wa A.ba A.lam (ix3 b s (col n d)) = expo A b s.val n d := by
  rw [val_main_v69_apply (F := Ideal), val_main_v65_apply (F := Ideal), val_main_v64_apply (F := Ideal), val_main_cst_3_apply (F := Ideal), ga_at, val_main_v68_apply (F := Ideal), val_main_v67_apply (F := Ideal)]
  refine congrArg (fun q : EReal => Ideal.ofBits .f32 0x41000000#32 * gate A A.wa A.ba b s.val n d * q) ?_
  have e : idx_main_v67 (idx_main_v68 (ix3 b s (col n d))) = ix1 (col n d) := funext fun a => Fin.ext (match a with | ⟨0, _⟩ => rfl)
  exact (congrArg (val_main_v66 (F := Ideal) A.lam) e).trans (ls_at A (col n d))

theorem v70_at (b : Fin 32) (s : Fin 4) (n : Fin 8) (d : Fin 256) : val_main_v70 (F := Ideal) A.z A.cs A.cw A.cb A.wa A.ba A.lam (ix3 b s (col n d)) = Ideal.exp (expo A b s.val n d) := by
  rw [val_main_v70_apply (F := Ideal), v69_at]
  rfl

theorem v77_at (b : Fin 32) (s : Fin 4) (n : Fin 8) (d : Fin 256) : val_main_v77 (F := Ideal) A.z A.cs A.cw A.cb A.wx A.bx A.wa A.ba A.lam (ix3 b s (col n d)) = inc A b s.val n d := by
  rw [val_main_v77_apply (F := Ideal), val_main_v76_apply (F := Ideal), val_main_v75_apply (F := Ideal), val_main_v74_apply (F := Ideal), val_main_v73_apply (F := Ideal), val_main_v72_apply (F := Ideal), val_main_v71_apply (F := Ideal), val_main_cst_4_apply (F := Ideal), v69_at, gx_at, v37_at]
  exact addend_eq _ _ _ (expo_nonpos A b s.val n d)

theorem v80_at (b : Fin 32) (n : Fin 8) (d : Fin 256) : val_main_v80 (F := Ideal) A.z A.cs A.h0 A.cw A.cb A.wa A.ba A.lam (ix2 b (col n d)) = Ideal.exp (expo A b 0 n d) * A.h0 (ix2 b (col n d)) := by
  have hn := n.isLt
  have hd := d.isLt
  rw [val_main_v80_apply (F := Ideal), val_main_v79_apply (F := Ideal), val_main_v78_apply (F := Ideal)]
  refine congrArg (fun q : EReal => q * A.h0 (ix2 b (col n d))) ?_
  refine Eq.trans (congrArg (val_main_v70 (F := Ideal) A.z A.cs A.cw A.cb A.wa A.ba A.lam) ?_) (v70_at A b 0 n d)
  exact funext fun a => Fin.ext (match a with
    | ⟨0, _⟩ => (by show (b.val * 2048 + (256 * n.val + d.val)) / 2048 = b.val; omega)
    | ⟨1, _⟩ => rfl
    | ⟨2, _⟩ => (by show (b.val * 2048 + (256 * n.val + d.val)) % 2048 = 256 * n.val + d.val; omega))

theorem v82_at (b : Fin 32) (s : Fin 4) (n : Fin 8) (d : Fin 256) : val_main_v82 (F := Ideal) A.z A.cs A.h0 A.cw A.cb A.wx A.bx A.wa A.ba A.lam (ix3 b s (col n d))
    = if s.val = 0 then hAt A b n d 1 else inc A b s.val n d := by
  unfold val_main_v82
  rw [scatter_at _ _ _ (fun k => by rw [val_main_v81_apply (F := Ideal)]; rfl)]
  by_cases h : s.val = 0
  · rw [if_pos h, if_pos h, v77_at, v80_at, h]
    exact add_comm _ _
  · rw [if_neg h, if_neg h, v77_at]

/-! ## The scan -/

/-- The decay and the addend of one step, as the scan takes them. -/
abbrev ea (b : Fin 32) (n : Fin 8) (d : Fin 256) (s : ℕ) : EReal := Ideal.exp (expo A b s n d)

theorem v87_at (b : Fin 32) (i : Fin 2) (n : Fin 8) (d : Fin 256) : val_main_v87 (F := Ideal) A.z A.cs A.cw A.cb A.wa A.ba A.lam (ix3 b i (col n d)) = ea A b n d (2 * i.val) * ea A b n d (2 * i.val + 1) := by
  have hi := i.isLt
  rw [val_main_v87_apply (F := Ideal)]
  unfold val_main_v83 val_main_v85
  rw [slice3 0 2 (val_main_v70 (F := Ideal) A.z A.cs A.cw A.cb A.wa A.ba A.lam) _ b i (col n d) (⟨2 * i.val, by omega⟩ : Fin 4) (by show 2 * i.val = 0 + 2 * i.val; omega),
    slice3 1 2 (val_main_v70 (F := Ideal) A.z A.cs A.cw A.cb A.wa A.ba A.lam) _ b i (col n d) (⟨2 * i.val + 1, by omega⟩ : Fin 4) (by show 2 * i.val + 1 = 1 + 2 * i.val; omega), v70_at, v70_at]
  rfl

theorem v89_at (b : Fin 32) (i : Fin 2) (n : Fin 8) (d : Fin 256) : val_main_v89 (F := Ideal) A.z A.cs A.h0 A.cw A.cb A.wx A.bx A.wa A.ba A.lam (ix3 b i (col n d))
    = ea A b n d (2 * i.val + 1) * (if i.val = 0 then hAt A b n d 1 else inc A b (2 * i.val) n d) + inc A b (2 * i.val + 1) n d := by
  have hi := i.isLt
  rw [val_main_v89_apply (F := Ideal), val_main_v88_apply (F := Ideal)]
  unfold val_main_v84 val_main_v85 val_main_v86
  rw [slice3 0 2 (val_main_v82 (F := Ideal) A.z A.cs A.h0 A.cw A.cb A.wx A.bx A.wa A.ba A.lam) _ b i (col n d) (⟨2 * i.val, by omega⟩ : Fin 4) (by show 2 * i.val = 0 + 2 * i.val; omega),
    slice3 1 2 (val_main_v70 (F := Ideal) A.z A.cs A.cw A.cb A.wa A.ba A.lam) _ b i (col n d) (⟨2 * i.val + 1, by omega⟩ : Fin 4) (by show 2 * i.val + 1 = 1 + 2 * i.val; omega),
    slice3 1 2 (val_main_v82 (F := Ideal) A.z A.cs A.h0 A.cw A.cb A.wx A.bx A.wa A.ba A.lam) _ b i (col n d) (⟨2 * i.val + 1, by omega⟩ : Fin 4) (by show 2 * i.val + 1 = 1 + 2 * i.val; omega), v70_at, v82_at, v82_at]
  rw [if_neg (show ¬(⟨2 * i.val + 1, by omega⟩ : Fin 4).val = 0 from by show ¬(2 * i.val + 1 = 0); omega)]
  by_cases h : i.val = 0
  · rw [if_pos h, if_pos (by show 2 * i.val = 0; omega)]; rfl
  · rw [if_neg h, if_neg (by show ¬(2 * i.val = 0); omega)]; rfl

theorem v89_0 (b : Fin 32) (n : Fin 8) (d : Fin 256) : val_main_v89 (F := Ideal) A.z A.cs A.h0 A.cw A.cb A.wx A.bx A.wa A.ba A.lam (ix3 b 0 (col n d)) = hAt A b n d 2 := by
  rw [v89_at, if_pos (by rfl)]
  rfl

theorem v89_1 (b : Fin 32) (n : Fin 8) (d : Fin 256) : val_main_v89 (F := Ideal) A.z A.cs A.h0 A.cw A.cb A.wx A.bx A.wa A.ba A.lam (ix3 b 1 (col n d)) = ea A b n d 3 * inc A b 2 n d + inc A b 3 n d := by
  rw [v89_at, if_neg (by decide)]
  rfl

theorem v96_at (b : Fin 32) (n : Fin 8) (d : Fin 256) : val_main_v96 (F := Ideal) A.z A.cs A.h0 A.cw A.cb A.wx A.bx A.wa A.ba A.lam (ix3 b 0 (col n d)) = hAt A b n d 4 := by
  rw [val_main_v96_apply (F := Ideal), val_main_v95_apply (F := Ideal)]
  unfold val_main_v91 val_main_v92 val_main_v93
  rw [slice3 0 2 (val_main_v89 (F := Ideal) A.z A.cs A.h0 A.cw A.cb A.wx A.bx A.wa A.ba A.lam) _ b (0 : Fin 1) (col n d) (0 : Fin 2) rfl, slice3 1 2 (val_main_v87 (F := Ideal) A.z A.cs A.cw A.cb A.wa A.ba A.lam) _ b (0 : Fin 1) (col n d) (1 : Fin 2) rfl,
    slice3 1 2 (val_main_v89 (F := Ideal) A.z A.cs A.h0 A.cw A.cb A.wx A.bx A.wa A.ba A.lam) _ b (0 : Fin 1) (col n d) (1 : Fin 2) rfl, v89_0, v89_1, v87_at]
  exact two_steps (ea A b n d 3) (ea A b n d 2) (inc A b 3 n d) (inc A b 2 n d) (hAt A b n d 2) (exp_nonneg _) (exp_ne_top _ (expo_nonpos A b 3 n d))

theorem v107_at (b : Fin 32) (n : Fin 8) (d : Fin 256) : val_main_v107 (F := Ideal) A.z A.cs A.h0 A.cw A.cb A.wx A.bx A.wa A.ba A.lam (ix3 b 0 (col n d)) = hAt A b n d 2 := by
  unfold val_main_v107
  refine (cat0 (p := 1) (q := 0) (n := 1) (val_main_v106 (F := Ideal) A.z A.cs A.h0 A.cw A.cb A.wx A.bx A.wa A.ba A.lam) (val_main_v103 (F := Ideal) A.z A.cs A.h0 A.cw A.cb A.wx A.bx A.wa A.ba A.lam) _ b (0 : Fin 1) (col n d) (0 : Fin 1) rfl).trans ?_
  rw [val_main_v106_apply (F := Ideal)]
  refine Eq.trans (congrArg (val_main_v89 (F := Ideal) A.z A.cs A.h0 A.cw A.cb A.wx A.bx A.wa A.ba A.lam) ?_) (v89_0 A b n d)
  exact funext fun a => Fin.ext (match a with | ⟨0, _⟩ => rfl | ⟨1, _⟩ => rfl | ⟨2, _⟩ => rfl)

theorem v113_0 (b : Fin 32) (n : Fin 8) (d : Fin 256) : val_main_v113 (F := Ideal) A.z A.cs A.h0 A.cw A.cb A.wx A.bx A.wa A.ba A.lam (ix3 b 0 (col n d)) = hAt A b n d 2 := by
  rw [val_main_v113_apply (F := Ideal)]
  unfold val_main_v111 val_main_v112
  rw [pad_in 0 1 (val_main_v107 (F := Ideal) A.z A.cs A.h0 A.cw A.cb A.wx A.bx A.wa A.ba A.lam) _ _ _ b (0 : Fin 2) (col n d) (0 : Fin 1) rfl, pad_out 1 0 (val_main_v96 (F := Ideal) A.z A.cs A.h0 A.cw A.cb A.wx A.bx A.wa A.ba A.lam) _ _ _ b (0 : Fin 2) (col n d) (by decide), v107_at,
    val_main_cst_8_apply (F := Ideal)]
  show hAt A b n d 2 + Ideal.ofBits .f32 0x00000000#32 = _
  rw [Ideal.ofBits_zero_f32, add_zero]

theorem v113_1 (b : Fin 32) (n : Fin 8) (d : Fin 256) : val_main_v113 (F := Ideal) A.z A.cs A.h0 A.cw A.cb A.wx A.bx A.wa A.ba A.lam (ix3 b 1 (col n d)) = hAt A b n d 4 := by
  rw [val_main_v113_apply (F := Ideal)]
  unfold val_main_v111 val_main_v112
  rw [pad_out 0 1 (val_main_v107 (F := Ideal) A.z A.cs A.h0 A.cw A.cb A.wx A.bx A.wa A.ba A.lam) _ _ _ b (1 : Fin 2) (col n d) (by decide), pad_in 1 0 (val_main_v96 (F := Ideal) A.z A.cs A.h0 A.cw A.cb A.wx A.bx A.wa A.ba A.lam) _ _ _ b (1 : Fin 2) (col n d) (0 : Fin 1) rfl, v96_at,
    val_main_cst_7_apply (F := Ideal)]
  show Ideal.ofBits .f32 0x00000000#32 + hAt A b n d 4 = _
  rw [Ideal.ofBits_zero_f32, zero_add]

theorem v120_at (b : Fin 32) (n : Fin 8) (d : Fin 256) : val_main_v120 (F := Ideal) A.z A.cs A.h0 A.cw A.cb A.wx A.bx A.wa A.ba A.lam (ix3 b 0 (col n d)) = hAt A b n d 3 := by
  rw [val_main_v120_apply (F := Ideal), val_main_v119_apply (F := Ideal), val_main_v115_apply (F := Ideal)]
  unfold val_main_v116 val_main_v117
  rw [slice3 2 2 (val_main_v70 (F := Ideal) A.z A.cs A.cw A.cb A.wa A.ba A.lam) _ b (0 : Fin 1) (col n d) (2 : Fin 4) rfl, slice3 2 2 (val_main_v82 (F := Ideal) A.z A.cs A.h0 A.cw A.cb A.wx A.bx A.wa A.ba A.lam) _ b (0 : Fin 1) (col n d) (2 : Fin 4) rfl, v70_at, v82_at, if_neg (by decide),
    show idx_main_v115 (ix3 b 0 (col n d)) = ix3 b 0 (col n d) from funext fun a => Fin.ext (match a with | ⟨0, _⟩ => rfl | ⟨1, _⟩ => rfl | ⟨2, _⟩ => rfl), v113_0]
  rfl

theorem v124_0 (b : Fin 32) (n : Fin 8) (d : Fin 256) : val_main_v124 (F := Ideal) A.z A.cs A.h0 A.cw A.cb A.wx A.bx A.wa A.ba A.lam (ix3 b 0 (col n d)) = hAt A b n d 1 := by
  unfold val_main_v124
  refine (cat0 (p := 1) (q := 1) (n := 2) (val_main_v123 (F := Ideal) A.z A.cs A.h0 A.cw A.cb A.wx A.bx A.wa A.ba A.lam) (val_main_v120 (F := Ideal) A.z A.cs A.h0 A.cw A.cb A.wx A.bx A.wa A.ba A.lam) _ b (0 : Fin 2) (col n d) (0 : Fin 1) rfl).trans ?_
  rw [val_main_v123_apply (F := Ideal)]
  refine Eq.trans (congrArg (val_main_v82 (F := Ideal) A.z A.cs A.h0 A.cw A.cb A.wx A.bx A.wa A.ba A.lam) ?_) ((v82_at A b 0 n d).trans (if_pos rfl))
  exact funext fun a => Fin.ext (match a with | ⟨0, _⟩ => rfl | ⟨1, _⟩ => rfl | ⟨2, _⟩ => rfl)

theorem v124_1 (b : Fin 32) (n : Fin 8) (d : Fin 256) : val_main_v124 (F := Ideal) A.z A.cs A.h0 A.cw A.cb A.wx A.bx A.wa A.ba A.lam (ix3 b 1 (col n d)) = hAt A b n d 3 := by
  unfold val_main_v124
  exact (cat1 (p := 1) (q := 1) (n := 2) (val_main_v123 (F := Ideal) A.z A.cs A.h0 A.cw A.cb A.wx A.bx A.wa A.ba A.lam) (val_main_v120 (F := Ideal) A.z A.cs A.h0 A.cw A.cb A.wx A.bx A.wa A.ba A.lam) _ b (1 : Fin 2) (col n d) (0 : Fin 1) rfl).trans (v120_at A b n d)

theorem v130_at (b : Fin 32) (s : Fin 4) (n : Fin 8) (d : Fin 256) : val_main_v130 (F := Ideal) A.z A.cs A.h0 A.cw A.cb A.wx A.bx A.wa A.ba A.lam (ix3 b s (col n d)) = hAt A b n d (s.val + 1) := by
  have even : ∀ (s : Fin 4) (I : Fin 2), s.val = 0 + I.val * 2 → val_main_v130 (F := Ideal) A.z A.cs A.h0 A.cw A.cb A.wx A.bx A.wa A.ba A.lam (ix3 b s (col n d)) = val_main_v124 (F := Ideal) A.z A.cs A.h0 A.cw A.cb A.wx A.bx A.wa A.ba A.lam (ix3 b I (col n d)) := by
    intro s I h
    rw [val_main_v130_apply (F := Ideal)]
    unfold val_main_v128 val_main_v129
    rw [pad_in 0 1 (val_main_v124 (F := Ideal) A.z A.cs A.h0 A.cw A.cb A.wx A.bx A.wa A.ba A.lam) _ _ _ b s (col n d) I h, pad_out 1 0 (val_main_v113 (F := Ideal) A.z A.cs A.h0 A.cw A.cb A.wx A.bx A.wa A.ba A.lam) _ _ _ b s (col n d) (by omega), val_main_cst_12_apply (F := Ideal)]
    show val_main_v124 (F := Ideal) A.z A.cs A.h0 A.cw A.cb A.wx A.bx A.wa A.ba A.lam (ix3 b I (col n d)) + Ideal.ofBits .f32 0x00000000#32 = _
    rw [Ideal.ofBits_zero_f32, add_zero]
  have odd : ∀ (s : Fin 4) (I : Fin 2), s.val = 1 + I.val * 2 → val_main_v130 (F := Ideal) A.z A.cs A.h0 A.cw A.cb A.wx A.bx A.wa A.ba A.lam (ix3 b s (col n d)) = val_main_v113 (F := Ideal) A.z A.cs A.h0 A.cw A.cb A.wx A.bx A.wa A.ba A.lam (ix3 b I (col n d)) := by
    intro s I h
    rw [val_main_v130_apply (F := Ideal)]
    unfold val_main_v128 val_main_v129
    rw [pad_out 0 1 (val_main_v124 (F := Ideal) A.z A.cs A.h0 A.cw A.cb A.wx A.bx A.wa A.ba A.lam) _ _ _ b s (col n d) (by omega), pad_in 1 0 (val_main_v113 (F := Ideal) A.z A.cs A.h0 A.cw A.cb A.wx A.bx A.wa A.ba A.lam) _ _ _ b s (col n d) I h, val_main_cst_11_apply (F := Ideal)]
    show Ideal.ofBits .f32 0x00000000#32 + val_main_v113 (F := Ideal) A.z A.cs A.h0 A.cw A.cb A.wx A.bx A.wa A.ba A.lam (ix3 b I (col n d)) = _
    rw [Ideal.ofBits_zero_f32, zero_add]
  match s with
  | ⟨0, _⟩ => exact (even _ 0 rfl).trans (v124_0 A b n d)
  | ⟨1, _⟩ => exact (odd _ 0 rfl).trans (v113_0 A b n d)
  | ⟨2, _⟩ => exact (even _ 1 rfl).trans (v124_1 A b n d)
  | ⟨3, _⟩ => exact (odd _ 1 rfl).trans (v113_1 A b n d)

/-! ## The three results -/

theorem v140_at (b : Fin 32) (s : Fin 4) (n : Fin 8) (d : Fin 256) : val_main_v140 (F := Ideal) A.z A.cs A.h0 A.cw A.cb A.wx A.bx A.wa A.ba A.lam (ix3 b s (col n d)) = gS A b s n d := by
  rw [val_main_v140_apply (F := Ideal), v130_at, val_main_v139_apply (F := Ideal), val_main_v134_apply (F := Ideal), val_main_v133_apply (F := Ideal), val_main_cst_13_apply (F := Ideal), val_main_v138_apply (F := Ideal), val_main_v137_apply (F := Ideal), val_main_v136_apply (F := Ideal), val_main_cst_14_apply (F := Ideal), val_main_v135_apply (F := Ideal), v1_at]
  exact congrArg (fun q : EReal => q * hAt A b n d (s.val + 1)) (gel_eq _)

theorem result_g : val_main_v142 (F := Ideal) A.z A.cs A.h0 A.cw A.cb A.wx A.bx A.wa A.ba A.lam = gOut A := by
  funext i
  obtain ⟨b, J, rfl⟩ : ∃ (b : Fin 32) (J : Fin 8192), i = ix2 b J := ⟨i 0, i 1, eq_ix2 i⟩
  have hJ := J.isLt
  obtain ⟨s, n, d, e⟩ : ∃ (s : Fin 4) (n : Fin 8) (d : Fin 256), J.val = 2048 * s.val + 256 * n.val + d.val :=
    ⟨⟨J.val / 2048, by omega⟩, ⟨J.val % 2048 / 256, by omega⟩, ⟨J.val % 256, by omega⟩, by
      show J.val = 2048 * (J.val / 2048) + 256 * (J.val % 2048 / 256) + J.val % 256; omega⟩
  have hs := s.isLt
  have hn := n.isLt
  have hd := d.isLt
  rw [gOut_ix A b s n d J e, val_main_v142_apply (F := Ideal), val_main_v141_apply (F := Ideal)]
  refine Eq.trans (congrArg (val_main_v140 (F := Ideal) A.z A.cs A.h0 A.cw A.cb A.wx A.bx A.wa A.ba A.lam) ?_) (v140_at A b s n d)
  exact funext fun a => Fin.ext (match a with
    | ⟨0, _⟩ => (by show (b.val * 8192 + J.val) / 8192 = b.val; omega)
    | ⟨1, _⟩ => (by show (b.val * 8192 + J.val) / 2048 % 4 = s.val; omega)
    | ⟨2, _⟩ => (by show (b.val * 8192 + J.val) % 2048 = 256 * n.val + d.val; omega))

theorem result_c : val_main_v143 (F := Ideal) A.z A.cs = cOut A := by
  funext i
  obtain ⟨b, J, rfl⟩ : ∃ (b : Fin 32) (J : Fin 6144), i = ix2 b J := ⟨i 0, i 1, eq_ix2 i⟩
  have hJ := J.isLt
  obtain ⟨k, j, e⟩ : ∃ (k : Fin 3) (j : Fin 2048), J.val = 2048 * k.val + j.val :=
    ⟨⟨J.val / 2048, by omega⟩, ⟨J.val % 2048, by omega⟩, by show J.val = 2048 * (J.val / 2048) + J.val % 2048; omega⟩
  have hk := k.isLt
  have hj := j.isLt
  rw [cOut_ix A b k.val j J e, val_main_v143_apply (F := Ideal), val_main_v38_apply (F := Ideal)]
  refine Eq.trans (congrArg (val_main_v7 (F := Ideal) A.z A.cs) ?_) (v7_at A b ⟨4 + k.val, by omega⟩ j)
  exact funext fun a => Fin.ext (match a with
    | ⟨0, _⟩ => (by show (b.val * 6144 + J.val) / 6144 = b.val; omega)
    | ⟨1, _⟩ => (by show 4 + (b.val * 6144 + J.val) / 2048 % 3 = 4 + k.val; omega)
    | ⟨2, _⟩ => (by show (b.val * 6144 + J.val) % 2048 = j.val; omega))

theorem result_h : val_main_v132 (F := Ideal) A.z A.cs A.h0 A.cw A.cb A.wx A.bx A.wa A.ba A.lam = hOut A := by
  funext i
  obtain ⟨b, J, rfl⟩ : ∃ (b : Fin 32) (J : Fin 2048), i = ix2 b J := ⟨i 0, i 1, eq_ix2 i⟩
  have hJ := J.isLt
  obtain ⟨n, d, rfl⟩ : ∃ (n : Fin 8) (d : Fin 256), J = col n d :=
    ⟨⟨J.val / 256, by omega⟩, ⟨J.val % 256, by omega⟩, Fin.ext (by show J.val = 256 * (J.val / 256) + J.val % 256; omega)⟩
  have hn := n.isLt
  have hd := d.isLt
  rw [hOut_ix, val_main_v132_apply (F := Ideal), val_main_v131_apply (F := Ideal)]
  refine Eq.trans (congrArg (val_main_v130 (F := Ideal) A.z A.cs A.h0 A.cw A.cb A.wx A.bx A.wa A.ba A.lam) ?_) (v130_at A b 3 n d)
  exact funext fun a => Fin.ext (match a with
    | ⟨0, _⟩ => (by show (b.val * 2048 + (256 * n.val + d.val)) / 2048 = b.val; omega)
    | ⟨1, _⟩ => rfl
    | ⟨2, _⟩ => (by show (b.val * 2048 + (256 * n.val + d.val)) % 2048 = 256 * n.val + d.val; omega))

/-- The program's arguments. -/
def args (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6), m ((c.tc : Thread nD τ).loc main_arg7),
    m ((c.tc : Thread nD τ).loc main_arg8), m ((c.tc : Thread nD τ).loc main_arg9)⟩

end Cert.StepRefIdeal.Side

end
-- ==== Proof.Samp.lean ====
/- THE SAMPLE'S ATTENTION, written over the arrays' coordinates: each of the four new queries sees the 129 rows that end with its own,
   of a sequence made of 128 kept rows and the four new ones. What one pass over the rows gives is also what two give, the new rows
   first and then the kept ones, the first part rescaled to the larger top. No program enters. -/
module

public import proofs.«01_k».proof.Proof.Dense
public import proofs.«01_k».proof.Proof.Band
public import Idealize.ShloMosaic.Lib.IdealHost

@[expose] public section

set_option maxRecDepth 16384

noncomputable section

namespace Cert.Samp

open Idealize.ShloMosaic Idealize.ShloMosaic.ValueIdx

abbrev N4 (a b c d : ℕ) : Shape := ⟨4, ![a, b, c, d]⟩
abbrev N5 (a b c d e : ℕ) : Shape := ⟨5, ![a, b, c, d, e]⟩
abbrev N3 (a b c : ℕ) : Shape := ⟨3, ![a, b, c]⟩
abbrev N2 (a b : ℕ) : Shape := ⟨2, ![a, b]⟩

/-- The arguments: the queries, the new rows of keys and of values, and the kept rows of both. -/
structure Args where
  q : (N4 32 4 8 128).Idx → EReal
  k : (N4 32 4 8 128).Idx → EReal
  v : (N4 32 4 8 128).Idx → EReal
  c : (N5 32 128 2 8 128).Idx → EReal

/-! ## A row's softmax -/

/-- The greatest of a row. -/
def top {n : ℕ} (r : Fin n → EReal) : EReal := (Finset.univ : Finset (Fin n)).fold max ⊥ r

/-- The row's exponentials, summed against values. -/
def acc {n : ℕ} (r u : Fin n → EReal) (t : EReal) : EReal := ∑ j : Fin n, Ideal.exp (r j - t) * u j

/-- The row's exponentials, summed. -/
def den {n : ℕ} (r : Fin n → EReal) (t : EReal) : EReal := ∑ j : Fin n, Ideal.exp (r j - t)

theorem top_eq {n : ℕ} (r : Fin n → EReal) : top r = Finset.univ.sup r := rfl

theorem le_top' {n : ℕ} (r : Fin n → EReal) (j : Fin n) : r j ≤ top r := by
  rw [top_eq]
  exact Finset.le_sup (f := r) (Finset.mem_univ j)

theorem top_le {n : ℕ} (r : Fin n → EReal) (t : EReal) (h : ∀ j, r j ≤ t) : top r ≤ t := by
  rw [top_eq]
  exact Finset.sup_le fun j _ => h j

/-! ## The rescaling of a part -/

/-- The exponentials relative to a part's top become those relative to the whole's. -/
theorem rescale (x a t : EReal) (h : x ≤ a) (h' : a ≤ t) : Ideal.exp (a - t) * Ideal.exp (x - a) = Ideal.exp (x - t) := by
  induction a with
  | bot =>
    obtain rfl : x = ⊥ := le_bot_iff.1 h
    simp [Ideal.exp_bot, sub_eq_add_neg, EReal.bot_add]
  | top =>
    obtain rfl : t = ⊤ := top_le_iff.1 h'
    simp [Ideal.exp_bot, sub_eq_add_neg, EReal.add_bot]
  | coe a =>
    induction t with
    | bot => exact absurd h' (by simp)
    | top => simp [Ideal.exp_bot, sub_eq_add_neg, EReal.add_bot]
    | coe t =>
      induction x with
      | bot => simp [Ideal.exp_bot, sub_eq_add_neg, EReal.bot_add]
      | top => exact absurd h (by simp)
      | coe x =>
        rw [← EReal.coe_sub, ← EReal.coe_sub, ← EReal.coe_sub, Ideal.exp_coe, Ideal.exp_coe, Ideal.exp_coe, ← EReal.coe_mul, ← Real.exp_add]
        congr 2
        ring

theorem scale_nonneg (x : EReal) : 0 ≤ Ideal.exp x := by
  induction x with
  | bot => exact le_of_eq Ideal.exp_bot.symm
  | coe r => rw [Ideal.exp_coe]; exact_mod_cast (Real.exp_pos r).le
  | top => rw [Ideal.exp_top]; exact le_top

theorem scale_ne_top (a t : EReal) (h : a ≤ t) : Ideal.exp (a - t) ≠ ⊤ := by
  induction a with
  | bot => simp [Ideal.exp_bot, sub_eq_add_neg, EReal.bot_add]
  | top =>
    obtain rfl : t = ⊤ := top_le_iff.1 h
    simp [Ideal.exp_bot, sub_eq_add_neg, EReal.add_bot]
  | coe a =>
    induction t with
    | bot => exact absurd h (by simp)
    | top => simp [Ideal.exp_bot, sub_eq_add_neg, EReal.add_bot]
    | coe t =>
      rw [← EReal.coe_sub, Ideal.exp_coe]
      exact EReal.coe_ne_top _

theorem mul_sum' {n : ℕ} (a : EReal) (h : 0 ≤ a) (h' : a ≠ ⊤) (f : Fin n → EReal) : a * ∑ j : Fin n, f j = ∑ j : Fin n, a * f j := by
  induction n with
  | zero => simp
  | succ n ih => rw [Fin.sum_univ_succ, Fin.sum_univ_succ, EReal.left_distrib_of_nonneg_of_ne_top h h', ih]

theorem rescale_acc {n : ℕ} (r u : Fin n → EReal) (t : EReal) (h : top r ≤ t) :
    Ideal.exp (top r - t) * acc r u (top r) = acc r u t := by
  unfold acc
  rw [mul_sum' _ (scale_nonneg _) (scale_ne_top _ _ h)]
  refine Finset.sum_congr rfl fun j _ => ?_
  rw [← mul_assoc, rescale _ _ _ (le_top' r j) h]

theorem rescale_den {n : ℕ} (r : Fin n → EReal) (t : EReal) (h : top r ≤ t) :
    Ideal.exp (top r - t) * den r (top r) = den r t := by
  unfold den
  rw [mul_sum' _ (scale_nonneg _) (scale_ne_top _ _ h)]
  exact Finset.sum_congr rfl fun j _ => rescale _ _ _ (le_top' r j) h

/-! ## One pass and two -/

/-- The row of the 129 seen entries, from the newest to the oldest. -/
def seen (s : ℕ) (f : ℕ → EReal) (j : Fin 129) : EReal := f (128 + s - j.val)
/-- The new entries seen. -/
def fresh (s : ℕ) (f : ℕ → EReal) (j : Fin (s + 1)) : EReal := f (128 + j.val)
/-- The kept entries, those no longer seen masked. -/
def kept (s : ℕ) (f : ℕ → EReal) (i : Fin 128) : EReal := if s ≤ i.val then f i.val else ⊥

theorem two_sum (s : ℕ) (hs : s ≤ 128) (G : ℕ → EReal) :
    ∑ j : Fin 129, G (128 + s - j.val) = ∑ j : Fin (s + 1), G (128 + j.val) + ∑ i : Fin 128, (if s ≤ i.val then G i.val else 0) := by
  rw [Fin.sum_univ_eq_sum_range (fun j => G (128 + s - j)) 129, Fin.sum_univ_eq_sum_range (fun j => G (128 + j)) (s + 1),
    Fin.sum_univ_eq_sum_range (fun i => if s ≤ i then G i else 0) 128]
  have e : ∑ j ∈ Finset.range 129, G (128 + s - j) = ∑ j ∈ Finset.range ((128 - s) + (s + 1)), G (s + j) := by
    rw [show (128 - s) + (s + 1) = 129 by omega, ← Finset.sum_range_reflect (fun j => G (s + j)) 129]
    refine Finset.sum_congr rfl fun j hj => congrArg G ?_
    have := Finset.mem_range.1 hj
    omega
  have e' : ∑ i ∈ Finset.range 128, (if s ≤ i then G i else 0) = ∑ j ∈ Finset.range (128 - s), G (s + j) := by
    rw [show Finset.range 128 = Finset.range (s + (128 - s)) from congrArg _ (by omega), Finset.sum_range_add]
    have z : ∑ x ∈ Finset.range s, (if s ≤ x then G x else 0) = 0 :=
      Finset.sum_eq_zero fun x hx => if_neg (by have := Finset.mem_range.1 hx; omega)
    rw [z, zero_add]
    exact Finset.sum_congr rfl fun x _ => if_pos (by omega)
  rw [e, e', Finset.sum_range_add, add_comm]
  congr 1
  refine Finset.sum_congr rfl fun j _ => congrArg G ?_
  omega

theorem two_top (s : ℕ) (hs : s ≤ 128) (f : ℕ → EReal) : max (top (fresh s f)) (top (kept s f)) = top (seen s f) := by
  refine le_antisymm (max_le (top_le _ _ fun j => ?_) (top_le _ _ fun i => ?_)) (top_le _ _ fun j => ?_)
  · have := j.isLt
    exact (le_of_eq (congrArg f (show 128 + j.val = 128 + s - (s - j.val) by omega))).trans (le_top' (seen s f) ⟨s - j.val, by omega⟩)
  · unfold kept
    split
    · have := i.isLt
      exact (le_of_eq (congrArg f (show i.val = 128 + s - (128 + s - i.val) by omega))).trans (le_top' (seen s f) ⟨128 + s - i.val, by omega⟩)
    · exact bot_le
  · have hj := j.isLt
    by_cases h : j.val ≤ s
    · exact ((le_of_eq (congrArg f (show 128 + s - j.val = 128 + (s - j.val) by omega))).trans (le_top' (fresh s f) ⟨s - j.val, by omega⟩)).trans (le_max_left _ _)
    · refine le_trans ?_ (le_max_right _ _)
      refine le_trans (le_of_eq ?_) (le_top' (kept s f) ⟨128 + s - j.val, by omega⟩)
      unfold kept
      rw [if_pos (by show s ≤ 128 + s - j.val; omega)]
      rfl

theorem kept_weight (s : ℕ) (f : ℕ → EReal) (t : EReal) (i : Fin 128) :
    Ideal.exp (kept s f i - t) = if s ≤ i.val then Ideal.exp (f i.val - t) else 0 := by
  unfold kept
  split
  · rfl
  · rw [sub_eq_add_neg, EReal.bot_add, Ideal.exp_bot]

/-- The sum of the weights, the new rows first. -/
theorem two_den (s : ℕ) (hs : s ≤ 128) (f : ℕ → EReal) :
    Ideal.exp (top (fresh s f) - top (seen s f)) * den (fresh s f) (top (fresh s f)) + den (kept s f) (top (seen s f))
      = den (seen s f) (top (seen s f)) := by
  have h : top (fresh s f) ≤ top (seen s f) := (two_top s hs f) ▸ le_max_left _ _
  rw [rescale_den _ _ h]
  generalize top (seen s f) = t
  refine Eq.trans ?_ (two_sum s hs fun j => Ideal.exp (f j - t)).symm
  congr 1
  exact Finset.sum_congr rfl fun i _ => kept_weight s f t i

/-- The weighted values, the new rows first. -/
theorem two_acc (s : ℕ) (hs : s ≤ 128) (f u : ℕ → EReal) :
    Ideal.exp (top (fresh s f) - top (seen s f)) * acc (fresh s f) (fresh s u) (top (fresh s f)) + acc (kept s f) (fun i => u i.val) (top (seen s f))
      = acc (seen s f) (seen s u) (top (seen s f)) := by
  have h : top (fresh s f) ≤ top (seen s f) := (two_top s hs f) ▸ le_max_left _ _
  rw [rescale_acc _ _ _ h]
  generalize top (seen s f) = t
  refine Eq.trans ?_ (two_sum s hs fun j => Ideal.exp (f j - t) * u j).symm
  congr 1
  refine Finset.sum_congr rfl fun i _ => ?_
  rw [kept_weight]
  split
  · rfl
  · rw [zero_mul]

/-! ## The three results -/

variable (A : Args)

/-- The sequence of keys of a head: the kept rows and then the new ones. -/
def key (b : Fin 32) (h : Fin 8) (d : Fin 128) (t : ℕ) : EReal :=
  if p : t < 128 then A.c (ix5 b ⟨t, p⟩ 0 h d) else if p : t - 128 < 4 then A.k (ix4 b ⟨t - 128, p⟩ h d) else 0

/-- The sequence of values. -/
def val (b : Fin 32) (h : Fin 8) (d : Fin 128) (t : ℕ) : EReal :=
  if p : t < 128 then A.c (ix5 b ⟨t, p⟩ 1 h d) else if p : t - 128 < 4 then A.v (ix4 b ⟨t - 128, p⟩ h d) else 0

/-- A query's score with a row. -/
def score (b : Fin 32) (s : Fin 4) (h : Fin 8) (t : ℕ) : EReal :=
  ∑ d : Fin 128, (A.q (ix4 b s h d) * Band.sc) * key A b h d t

/-- A query's greatest score. -/
def best (b : Fin 32) (s : Fin 4) (h : Fin 8) : EReal := top (seen s.val (score A b s h))
/-- The sum of its weights. -/
def mass (b : Fin 32) (s : Fin 4) (h : Fin 8) : EReal := den (seen s.val (score A b s h)) (best A b s h)

/-- The attention's output. -/
def oV (b : Fin 32) (s : Fin 4) (h : Fin 8) (d : Fin 128) : EReal :=
  Ideal.div (acc (seen s.val (score A b s h)) (seen s.val (val A b h d)) (best A b s h)) (mass A b s h)
/-- The log-sum-exp. -/
def lV (b : Fin 32) (s : Fin 4) (h : Fin 8) : EReal := best A b s h + Ideal.log (mass A b s h)
/-- The rows kept for the next call. -/
def nV (b : Fin 32) (t : Fin 128) (x : Fin 2) (h : Fin 8) (d : Fin 128) : EReal :=
  if p : t.val < 124 then A.c (ix5 b ⟨4 + t.val, by omega⟩ x h d)
  else if x.val = 0 then A.k (ix4 b ⟨t.val - 124, by omega⟩ h d) else A.v (ix4 b ⟨t.val - 124, by omega⟩ h d)

def oOut (y : (N4 32 4 8 128).Idx) : EReal := oV A (y 0) (y 1) (y 2) (y 3)
def lOut (y : (N4 32 4 8 128).Idx) : EReal := lV A (y 0) (y 1) (y 2)
def nOut (y : (N5 32 128 2 8 128).Idx) : EReal := nV A (y 0) (y 1) (y 2) (y 3) (y 4)

end Cert.Samp

end
-- ==== Proof.SampBlock.lean ====
/- ONE STEP'S ATTENTION as the sample's kernel computes it: the scores of a set of rows on the lanes, their running greatest, and the sums of
   the exponentials, first of a set alone and then of a second set joined to it. The functions are stated without reference to a program, for any
   number of rows; each is then read at an index as the textbook expression. -/
module

public import proofs.«01_k».proof.Proof.Samp
public import Idealize.ShloMosaic.Lib.Pipeline.Value

@[expose] public section

set_option maxRecDepth 16384

noncomputable section

namespace Cert.SampBlk

open Idealize.ShloMosaic Idealize.ShloMosaic.ValueIdx Cert.Samp

/-- What the shapes of `n` rows of eight heads must satisfy. -/
structure Fit (n : ℕ) : Prop where
  b : (N3 1 8 128).Broadcasts (N3 n 8 128)
  b1 : (N3 1 8 1).Broadcasts (N3 n 8 1)
  b2 : (N3 n 8 1).Broadcasts (N3 n 8 128)
  r2 : (N3 n 8 128).Reduces [2] (N2 n 8)
  c2 : (N2 n 8).ShapeCasts (N3 n 8 1)
  r0 : (N3 n 8 1).Reduces [0] (N2 8 1)
  r0' : (N3 n 8 128).Reduces [0] (N2 8 128)

theorem fit1 : Fit 1 := ⟨by decide, by decide, by decide, by decide, by decide, by decide, by decide⟩
theorem fit2 : Fit 2 := ⟨by decide, by decide, by decide, by decide, by decide, by decide, by decide⟩
theorem fit3 : Fit 3 := ⟨by decide, by decide, by decide, by decide, by decide, by decide, by decide⟩
theorem fit4 : Fit 4 := ⟨by decide, by decide, by decide, by decide, by decide, by decide, by decide⟩
theorem fit128 : Fit 128 := ⟨by decide, by decide, by decide, by decide, by decide, by decide, by decide⟩

theorem cq : (N4 1 1 8 128).ShapeCasts (N2 8 128) := by decide
theorem cq' : (N2 8 128).ShapeCasts (N4 1 1 8 128) := by decide
theorem c13 : (N2 8 128).ShapeCasts (N3 1 8 128) := by decide
theorem c31 : (N3 1 8 128).ShapeCasts (N2 8 128) := by decide
theorem d13 : (N2 8 1).ShapeCasts (N3 1 8 1) := by decide
theorem d11 : (N2 8 1).ShapeCasts (N2 8 1) := by decide
theorem bb : (N2 8 1).Broadcasts (N2 8 128) := by decide
theorem sl : (N2 8 128).Slices ![0, 0] (N2 8 1) := by decide

variable {n : ℕ} (f : Fit n)

/-- The scores of rows. -/
def scores (k : FVec Ideal (N3 n 8 128) .f32) (q : FVec Ideal (N4 1 1 8 128) .f32) : FVec Ideal (N3 n 8 1) .f32 :=
  shapeCast (N3 n 8 1) (multiReduction .add [2] (N2 n 8)
    (mulf (broadcastTo (N3 n 8 128) (shapeCast (N3 1 8 128) (mulf (shapeCast (N2 8 128) q cq) (broadcast (N2 8 128) (Scalar.ofBits .f32 0x3DB504F3#32))) c13) f.b) k)
    0x00000000#32 f.r2 (.inl rfl) rfl) f.c2
/-- Each head's greatest. -/
def maxes (s : FVec Ideal (N3 n 8 1) .f32) : FVec Ideal (N2 8 1) .f32 := multiReduction .maximumf [0] (N2 8 1) s 0xFF800000#32 f.r0 (.inl rfl) rfl
/-- The exponentials relative to a top. -/
def wts (s : FVec Ideal (N3 n 8 1) .f32) (m : FVec Ideal (N2 8 1) .f32) : FVec Ideal (N3 n 8 1) .f32 :=
  exp (subf s (broadcastTo (N3 n 8 1) (shapeCast (N3 1 8 1) m d13) f.b1))
/-- Each head's sum. -/
def sums (w : FVec Ideal (N3 n 8 1) .f32) : FVec Ideal (N2 8 1) .f32 := multiReduction .add [0] (N2 8 1) w 0x00000000#32 f.r0 (.inl rfl) rfl
/-- Each head's weighted values. -/
def vals (w : FVec Ideal (N3 n 8 1) .f32) (v : FVec Ideal (N3 n 8 128) .f32) : FVec Ideal (N2 8 128) .f32 :=
  multiReduction .add [0] (N2 8 128) (mulf (broadcastTo (N3 n 8 128) w f.b2) v) 0x00000000#32 f.r0' (.inl rfl) rfl
/-- A column copied along the lanes. -/
def spread (x : FVec Ideal (N2 8 1) .f32) : FVec Ideal (N3 1 8 128) .f32 :=
  shapeCast (N3 1 8 128) (broadcastTo (N2 8 128) (shapeCast (N2 8 1) x d11) bb) c13
/-- The first lane. -/
def lane (x : FVec Ideal (N3 1 8 128) .f32) : FVec Ideal (N2 8 1) .f32 := extractStridedSlice (N2 8 1) ![0, 0] (shapeCast (N2 8 128) x c31) sl

/-- The first set: its greatest, its sum and its weighted values. -/
def m1 (s : FVec Ideal (N3 n 8 1) .f32) : FVec Ideal (N3 1 8 128) .f32 := spread (maxes f s)
def d1 (s : FVec Ideal (N3 n 8 1) .f32) : FVec Ideal (N3 1 8 128) .f32 := spread (sums f (wts f s (maxes f s)))
def a1 (s : FVec Ideal (N3 n 8 1) .f32) (v : FVec Ideal (N3 n 8 128) .f32) : FVec Ideal (N3 1 8 128) .f32 :=
  shapeCast (N3 1 8 128) (vals f (wts f s (maxes f s)) v) c13

/-- A second set joined: the greatest of both, -/
def mn (s : FVec Ideal (N3 n 8 1) .f32) (mo : FVec Ideal (N3 1 8 128) .f32) : FVec Ideal (N2 8 1) .f32 := maximumf (lane mo) (maxes f s)
/-- the factor of the first part, -/
def al (s : FVec Ideal (N3 n 8 1) .f32) (mo : FVec Ideal (N3 1 8 128) .f32) : FVec Ideal (N2 8 1) .f32 := exp (subf (lane mo) (mn f s mo))
/-- and what is kept of both. -/
def m2 (s : FVec Ideal (N3 n 8 1) .f32) (mo : FVec Ideal (N3 1 8 128) .f32) : FVec Ideal (N3 1 8 128) .f32 := spread (mn f s mo)
def d2 (s : FVec Ideal (N3 n 8 1) .f32) (mo dd : FVec Ideal (N3 1 8 128) .f32) : FVec Ideal (N3 1 8 128) .f32 :=
  spread (addf (mulf (al f s mo) (lane dd)) (sums f (wts f s (mn f s mo))))
def a2 (s : FVec Ideal (N3 n 8 1) .f32) (v : FVec Ideal (N3 n 8 128) .f32) (mo ao : FVec Ideal (N3 1 8 128) .f32) : FVec Ideal (N3 1 8 128) .f32 :=
  shapeCast (N3 1 8 128) (addf (mulf (broadcastTo (N2 8 128) (al f s mo) bb) (shapeCast (N2 8 128) ao c31)) (vals f (wts f s (mn f s mo)) v)) c13

/-! ## Read at an index -/

theorem bcast_self {α : Type} {s : Shape} (x : s.Idx → α) (h : s.Broadcasts s) : broadcastTo s x h = x := by
  funext i
  exact broadcastTo_apply x h i i (fun a => by
    split
    · next e => have := (i a).isLt; omega
    · exact congrArg (fun b => (i b).val) (Fin.ext (by simp)))

theorem c13_apply {α : Type} {w : ℕ} (x : (N2 8 w).Idx → α) (c : (N2 8 w).ShapeCasts (N3 1 8 w)) (o : Fin 1) (h : Fin 8) (l : Fin w) :
    shapeCast (N3 1 8 w) x c (ix3 o h l) = x (ix2 h l) :=
  shapeCast_apply x c (ix3 o h l) (ix2 h l) (by
    have := o.isLt
    rw [Shape.rowMajor_val_two, Shape.rowMajor_val_three]
    show h.val * w + l.val = (o.val * 8 + h.val) * w + l.val
    rw [show o.val = 0 by omega]
    simp)

theorem c31_apply {α : Type} {w : ℕ} (x : (N3 1 8 w).Idx → α) (c : (N3 1 8 w).ShapeCasts (N2 8 w)) (h : Fin 8) (l : Fin w) :
    shapeCast (N2 8 w) x c (ix2 h l) = x (ix3 0 h l) :=
  shapeCast_apply x c (ix2 h l) (ix3 0 h l) (by
    rw [Shape.rowMajor_val_two, Shape.rowMajor_val_three]
    show (0 * 8 + h.val) * w + l.val = h.val * w + l.val
    simp)

theorem cq_apply {α : Type} (x : (N4 1 1 8 128).Idx → α) (h : Fin 8) (l : Fin 128) : shapeCast (N2 8 128) x cq (ix2 h l) = x (ix4 0 0 h l) :=
  shapeCast_apply x cq (ix2 h l) (ix4 0 0 h l) (by
    rw [Shape.rowMajor_val_two, Shape.rowMajor_val_four]
    show ((0 * 1 + 0) * 8 + h.val) * 128 + l.val = h.val * 128 + l.val
    omega)

theorem cq'_apply {α : Type} (x : (N2 8 128).Idx → α) (o p : Fin 1) (h : Fin 8) (l : Fin 128) : shapeCast (N4 1 1 8 128) x cq' (ix4 o p h l) = x (ix2 h l) :=
  shapeCast_apply x cq' (ix4 o p h l) (ix2 h l) (by
    have := o.isLt
    have := p.isLt
    rw [Shape.rowMajor_val_two, Shape.rowMajor_val_four]
    show h.val * 128 + l.val = ((o.val * 1 + p.val) * 8 + h.val) * 128 + l.val
    omega)

theorem c2_apply {α : Type} (x : (N2 n 8).Idx → α) (c : (N2 n 8).ShapeCasts (N3 n 8 1)) (j : Fin n) (h : Fin 8) (u : Fin 1) :
    shapeCast (N3 n 8 1) x c (ix3 j h u) = x (ix2 j h) :=
  shapeCast_apply x c (ix3 j h u) (ix2 j h) (by
    have := u.isLt
    rw [Shape.rowMajor_val_two, Shape.rowMajor_val_three]
    show j.val * 8 + h.val = (j.val * 8 + h.val) * 1 + u.val
    omega)

theorem rows_apply {α : Type} {w : ℕ} (x : (N3 1 8 w).Idx → α) (c : (N3 1 8 w).Broadcasts (N3 n 8 w)) (j : Fin n) (h : Fin 8) (l : Fin w) :
    broadcastTo (N3 n 8 w) x c (ix3 j h l) = x (ix3 0 h l) :=
  broadcastTo_apply x c (ix3 j h l) (ix3 0 h l) (fun a => match a with
    | ⟨0, _⟩ => rfl
    | ⟨1, _⟩ => rfl
    | ⟨2, _⟩ => (by
      show l.val = if w = 1 then 0 else l.val
      split
      · next e => have := l.isLt; omega
      · rfl))

theorem lanes_apply {α : Type} (x : (N3 n 8 1).Idx → α) (c : (N3 n 8 1).Broadcasts (N3 n 8 128)) (j : Fin n) (h : Fin 8) (l : Fin 128) :
    broadcastTo (N3 n 8 128) x c (ix3 j h l) = x (ix3 j h 0) :=
  broadcastTo_apply x c (ix3 j h l) (ix3 j h 0) (fun a => match a with
    | ⟨0, _⟩ => (by
      show j.val = if n = 1 then 0 else j.val
      split
      · next e => have := j.isLt; omega
      · rfl)
    | ⟨1, _⟩ => rfl
    | ⟨2, _⟩ => rfl)

theorem bb_apply {α : Type} (x : (N2 8 1).Idx → α) (h : Fin 8) (l : Fin 128) : broadcastTo (N2 8 128) x bb (ix2 h l) = x (ix2 h 0) :=
  broadcastTo_apply x bb (ix2 h l) (ix2 h 0) (fun a => match a with | ⟨0, _⟩ => rfl | ⟨1, _⟩ => rfl)

theorem lift2 (r : (N3 n 8 128).Reduces [2] (N2 n 8)) (j : Fin n) (h : Fin 8) (k : Fin 128) : r.lift (ix2 j h) k = ix3 j h k :=
  funext fun a => Fin.ext (match a with | ⟨0, _⟩ => rfl | ⟨1, _⟩ => rfl | ⟨2, _⟩ => rfl)
theorem lift0 {w : ℕ} (r : (N3 n 8 w).Reduces [0] (N2 8 w)) (h : Fin 8) (l : Fin w) (k : Fin n) : r.lift (ix2 h l) k = ix3 k h l :=
  funext fun a => Fin.ext (match a with | ⟨0, _⟩ => rfl | ⟨1, _⟩ => rfl | ⟨2, _⟩ => rfl)

theorem scores_apply (k : FVec Ideal (N3 n 8 128) .f32) (q : FVec Ideal (N4 1 1 8 128) .f32) (j : Fin n) (h : Fin 8) (u : Fin 1) :
    scores f k q (ix3 j h u) = ∑ d : Fin 128, (q (ix4 0 0 h d) * Band.sc) * k (ix3 j h d) := by
  unfold scores
  rw [c2_apply]
  refine (Ideal.multiReduction_add_single _ 0x00000000#32 f.r2 (.inl rfl) rfl (ix2 j h)).trans ?_
  refine Finset.sum_congr rfl fun (d : Fin 128) _ => ?_
  refine (congrArg _ (lift2 f.r2 j h d)).trans ?_
  show broadcastTo (N3 n 8 128) _ f.b (ix3 j h d) * k (ix3 j h d) = _
  rw [rows_apply, c13_apply]
  show shapeCast (N2 8 128) q cq (ix2 h d) * Band.sc * k (ix3 j h d) = _
  rw [cq_apply]

theorem maxes_apply (s : FVec Ideal (N3 n 8 1) .f32) (h : Fin 8) (u : Fin 1) : maxes f s (ix2 h u) = top fun j => s (ix3 j h u) := by
  unfold maxes top
  refine (Ideal.multiReduction_maximumf_single s 0xFF800000#32 f.r0 (.inl rfl) rfl (ix2 h u)).trans ?_
  show Finset.fold max (Ideal.ofBits .f32 0xFF800000#32) _ _ = _
  rw [Band.ofBits_bot]
  congr 1
  funext k
  exact congrArg s (lift0 f.r0 h u k)

theorem wts_apply (s : FVec Ideal (N3 n 8 1) .f32) (m : FVec Ideal (N2 8 1) .f32) (j : Fin n) (h : Fin 8) (u : Fin 1) :
    wts f s m (ix3 j h u) = Ideal.exp (s (ix3 j h u) - m (ix2 h u)) := by
  unfold wts
  show Ideal.exp (s (ix3 j h u) - broadcastTo (N3 n 8 1) _ f.b1 (ix3 j h u)) = _
  rw [rows_apply, c13_apply]

theorem sums_apply (w : FVec Ideal (N3 n 8 1) .f32) (h : Fin 8) (u : Fin 1) : sums f w (ix2 h u) = ∑ j : Fin n, w (ix3 j h u) := by
  unfold sums
  refine (Ideal.multiReduction_add_single w 0x00000000#32 f.r0 (.inl rfl) rfl (ix2 h u)).trans ?_
  exact Finset.sum_congr rfl fun k _ => congrArg w (lift0 f.r0 h u k)

theorem vals_apply (w : FVec Ideal (N3 n 8 1) .f32) (v : FVec Ideal (N3 n 8 128) .f32) (h : Fin 8) (l : Fin 128) :
    vals f w v (ix2 h l) = ∑ j : Fin n, w (ix3 j h 0) * v (ix3 j h l) := by
  unfold vals
  refine (Ideal.multiReduction_add_single _ 0x00000000#32 f.r0' (.inl rfl) rfl (ix2 h l)).trans ?_
  refine Finset.sum_congr rfl fun (k : Fin n) _ => ?_
  refine (congrArg _ (lift0 f.r0' h l k)).trans ?_
  show broadcastTo (N3 n 8 128) w f.b2 (ix3 k h l) * v (ix3 k h l) = _
  rw [lanes_apply]

theorem spread_apply (x : FVec Ideal (N2 8 1) .f32) (o : Fin 1) (h : Fin 8) (l : Fin 128) : spread x (ix3 o h l) = x (ix2 h 0) := by
  unfold spread
  rw [c13_apply, bb_apply]
  exact congrFun (shapeCast_self x d11) (ix2 h 0)

theorem lane_apply (x : FVec Ideal (N3 1 8 128) .f32) (h : Fin 8) (u : Fin 1) : lane x (ix2 h u) = x (ix3 0 h 0) := by
  unfold lane
  refine (extractStridedSlice_apply ![0, 0] _ sl (ix2 h u) (ix2 h 0) (fun a => match a with
    | ⟨0, _⟩ => (by show h.val = 0 + h.val; omega)
    | ⟨1, _⟩ => (by have := u.isLt; show 0 = 0 + u.val; omega))).trans ?_
  rw [c31_apply]

theorem m1_apply (s : FVec Ideal (N3 n 8 1) .f32) (o : Fin 1) (h : Fin 8) (l : Fin 128) : m1 f s (ix3 o h l) = top fun j => s (ix3 j h 0) := by
  unfold m1
  rw [spread_apply, maxes_apply]
theorem d1_apply (s : FVec Ideal (N3 n 8 1) .f32) (o : Fin 1) (h : Fin 8) (l : Fin 128) :
    d1 f s (ix3 o h l) = den (fun j => s (ix3 j h 0)) (top fun j => s (ix3 j h 0)) := by
  unfold d1
  rw [spread_apply, sums_apply]
  refine Finset.sum_congr rfl fun j _ => ?_
  rw [wts_apply, maxes_apply]
theorem a1_apply (s : FVec Ideal (N3 n 8 1) .f32) (v : FVec Ideal (N3 n 8 128) .f32) (o : Fin 1) (h : Fin 8) (l : Fin 128) :
    a1 f s v (ix3 o h l) = acc (fun j => s (ix3 j h 0)) (fun j => v (ix3 j h l)) (top fun j => s (ix3 j h 0)) := by
  unfold a1
  rw [c13_apply, vals_apply]
  refine Finset.sum_congr rfl fun j _ => ?_
  rw [wts_apply, maxes_apply]

theorem mn_apply (s : FVec Ideal (N3 n 8 1) .f32) (mo : FVec Ideal (N3 1 8 128) .f32) (h : Fin 8) (u : Fin 1) :
    mn f s mo (ix2 h u) = max (mo (ix3 0 h 0)) (top fun j => s (ix3 j h u)) := by
  unfold mn
  show max (lane mo (ix2 h u)) (maxes f s (ix2 h u)) = _
  rw [lane_apply, maxes_apply]
theorem al_apply (s : FVec Ideal (N3 n 8 1) .f32) (mo : FVec Ideal (N3 1 8 128) .f32) (h : Fin 8) (u : Fin 1) :
    al f s mo (ix2 h u) = Ideal.exp (mo (ix3 0 h 0) - max (mo (ix3 0 h 0)) (top fun j => s (ix3 j h u))) := by
  unfold al
  show Ideal.exp (lane mo (ix2 h u) - mn f s mo (ix2 h u)) = _
  rw [lane_apply, mn_apply]
theorem m2_apply (s : FVec Ideal (N3 n 8 1) .f32) (mo : FVec Ideal (N3 1 8 128) .f32) (o : Fin 1) (h : Fin 8) (l : Fin 128) :
    m2 f s mo (ix3 o h l) = max (mo (ix3 0 h 0)) (top fun j => s (ix3 j h 0)) := by
  unfold m2
  rw [spread_apply, mn_apply]
theorem d2_apply (s : FVec Ideal (N3 n 8 1) .f32) (mo dd : FVec Ideal (N3 1 8 128) .f32) (o : Fin 1) (h : Fin 8) (l : Fin 128) :
    d2 f s mo dd (ix3 o h l) = Ideal.exp (mo (ix3 0 h 0) - max (mo (ix3 0 h 0)) (top fun j => s (ix3 j h 0))) * dd (ix3 0 h 0)
      + den (fun j => s (ix3 j h 0)) (max (mo (ix3 0 h 0)) (top fun j => s (ix3 j h 0))) := by
  unfold d2
  rw [spread_apply]
  show al f s mo (ix2 h 0) * lane dd (ix2 h 0) + sums f _ (ix2 h 0) = _
  rw [al_apply, lane_apply, sums_apply]
  refine congrArg (fun q : EReal => _ + q) (Finset.sum_congr rfl fun j _ => ?_)
  rw [wts_apply, mn_apply]
theorem a2_apply (s : FVec Ideal (N3 n 8 1) .f32) (v : FVec Ideal (N3 n 8 128) .f32) (mo ao : FVec Ideal (N3 1 8 128) .f32) (o : Fin 1) (h : Fin 8) (l : Fin 128) :
    a2 f s v mo ao (ix3 o h l) = Ideal.exp (mo (ix3 0 h 0) - max (mo (ix3 0 h 0)) (top fun j => s (ix3 j h 0))) * ao (ix3 0 h l)
      + acc (fun j => s (ix3 j h 0)) (fun j => v (ix3 j h l)) (max (mo (ix3 0 h 0)) (top fun j => s (ix3 j h 0))) := by
  unfold a2
  rw [c13_apply]
  show broadcastTo (N2 8 128) (al f s mo) bb (ix2 h l) * shapeCast (N2 8 128) ao c31 (ix2 h l) + vals f _ v (ix2 h l) = _
  rw [bb_apply, c31_apply, al_apply, vals_apply]
  refine congrArg (fun q : EReal => _ + q) (Finset.sum_congr rfl fun j _ => ?_)
  rw [wts_apply, mn_apply]

/-! ## Both sets together -/

section
variable {s : ℕ} (g : Fit (s + 1)) (p : Fit 128) (hs : s ≤ 128) (F U : ℕ → EReal) (h : Fin 8) (l : Fin 128)
  (x : FVec Ideal (N3 (s + 1) 8 1) .f32) (y : FVec Ideal (N3 128 8 1) .f32) (xv : FVec Ideal (N3 (s + 1) 8 128) .f32) (yv : FVec Ideal (N3 128 8 128) .f32)
  (hx : (fun j => x (ix3 j h 0)) = fresh s F) (hy : (fun j => y (ix3 j h 0)) = kept s F)
include hs hx hy

theorem both_m (o : Fin 1) : m2 p y (m1 g x) (ix3 o h l) = top (seen s F) := by
  rw [m2_apply, m1_apply, hx, hy, two_top s hs]
theorem both_d (o : Fin 1) : d2 p y (m1 g x) (d1 g x) (ix3 o h l) = den (seen s F) (top (seen s F)) := by
  rw [d2_apply, m1_apply, d1_apply, hx, hy, two_top s hs, two_den s hs]
theorem both_a (hxv : (fun j => xv (ix3 j h l)) = fresh s U) (hyv : (fun j : Fin 128 => yv (ix3 j h l)) = fun j => U j.val) (o : Fin 1) :
    a2 p y yv (m1 g x) (a1 g x xv) (ix3 o h l) = acc (seen s F) (seen s U) (top (seen s F)) := by
  rw [a2_apply, m1_apply, a1_apply, hx, hy, hxv, hyv, two_top s hs, two_acc s hs]

end

/-! ## The rows a step may see, and the casts around it -/

theorem iot : (N3 128 1 1).Iotas .tc 32 [0] := by decide
theorem mself : (N3 128 1 1).ShapeCasts (N3 128 1 1) := by decide
theorem mb : (N3 128 1 1).Broadcasts (N3 128 8 1) := by decide
theorem cc : (N5 1 128 1 8 128).ShapeCasts (N3 128 8 128) := by decide

/-- Whether a kept row is seen by the step `b`. -/
def ge (w b : BitVec 32) : IVec (N3 128 8 1) 1 :=
  broadcastTo (N3 128 8 1) (shapeCast (N3 128 1 1) (cmpi .sge (addi (iota .tc (N3 128 1 1) 32 [0] iot) (broadcast (N3 128 1 1) (Scalar.muli w 128#32)))
    (broadcast (N3 128 1 1) b)) mself) mb
/-- The scores of the rows that are seen. -/
def hid (w b : BitVec 32) (y : FVec Ideal (N3 128 8 1) .f32) : FVec Ideal (N3 128 8 1) .f32 :=
  select (ge w b) y (broadcast (N3 128 8 1) (Scalar.ofBits .f32 0xFF800000#32))
/-- The weighted values over the sum. -/
def fo (a d : FVec Ideal (N3 1 8 128) .f32) : FVec Ideal (N4 1 1 8 128) .f32 :=
  shapeCast (N4 1 1 8 128) (divf (shapeCast (N2 8 128) a c31) (shapeCast (N2 8 128) d c31)) cq'
/-- The greatest and the logarithm of the sum. -/
def fl (t d : FVec Ideal (N3 1 8 128) .f32) : FVec Ideal (N4 1 1 8 128) .f32 :=
  shapeCast (N4 1 1 8 128) (addf (shapeCast (N2 8 128) t c31) (log (shapeCast (N2 8 128) d c31))) cq'

theorem castN_apply {α : Type} (x : (N4 1 n 8 128).Idx → α) (c : (N4 1 n 8 128).ShapeCasts (N3 n 8 128)) (j : Fin n) (h : Fin 8) (l : Fin 128) :
    shapeCast (N3 n 8 128) x c (ix3 j h l) = x (ix4 0 j h l) :=
  shapeCast_apply x c (ix3 j h l) (ix4 0 j h l) (by
    rw [Shape.rowMajor_val_three, Shape.rowMajor_val_four]
    show ((0 * n + j.val) * 8 + h.val) * 128 + l.val = (j.val * 8 + h.val) * 128 + l.val
    simp)

theorem castC_apply {α : Type} (x : (N5 1 128 1 8 128).Idx → α) (j : Fin 128) (h : Fin 8) (l : Fin 128) :
    shapeCast (N3 128 8 128) x cc (ix3 j h l) = x (ix5 0 j 0 h l) :=
  shapeCast_apply x cc (ix3 j h l) (ix5 0 j 0 h l) (by
    rw [Shape.rowMajor_val_three, Shape.rowMajor_val_five]
    show (((0 * 128 + j.val) * 1 + 0) * 8 + h.val) * 128 + l.val = (j.val * 8 + h.val) * 128 + l.val
    omega)

theorem sees : ∀ s : Fin 4, ∀ j : Fin 128, IntOp.cmpi .sge (IntOp.addi (BitVec.ofNat 32 j.val) (IntOp.muli 0#32 128#32)) (BitVec.ofNat 32 s.val)
    = BitVec.ofBool (decide (s.val ≤ j.val)) := by
  decide +kernel

theorem hid_apply (s : ℕ) (hs : s < 4) (y : FVec Ideal (N3 128 8 1) .f32) (j : Fin 128) (h : Fin 8) (u : Fin 1) :
    hid 0#32 (BitVec.ofNat 32 s) y (ix3 j h u) = if s ≤ j.val then y (ix3 j h u) else ⊥ := by
  have e : ge 0#32 (BitVec.ofNat 32 s) (ix3 j h u) = BitVec.ofBool (decide (s ≤ j.val)) := by
    unfold ge
    refine (broadcastTo_apply _ mb (ix3 j h u) (ix3 j 0 0) (fun a => match a with | ⟨0, _⟩ => rfl | ⟨1, _⟩ => rfl | ⟨2, _⟩ => rfl)).trans ?_
    rw [shapeCast_self]
    show IntOp.cmpi .sge (IntOp.addi (iota .tc (N3 128 1 1) 32 [0] iot (ix3 j 0 0)) (IntOp.muli 0#32 128#32)) (BitVec.ofNat 32 s) = _
    rw [iota_single_apply]
    exact sees ⟨s, hs⟩ j
  unfold hid
  show (if ge 0#32 (BitVec.ofNat 32 s) (ix3 j h u) = 1#1 then y (ix3 j h u) else Ideal.ofBits .f32 0xFF800000#32) = _
  rw [e, Band.ofBits_bot]
  by_cases p : s ≤ j.val
  · rw [if_pos p, decide_eq_true p]; rfl
  · rw [if_neg p, decide_eq_false p]; rfl

/-! ## A step's two rows of results -/

theorem lt4 {s : ℕ} (hs : s < 4) (j : Fin (s + 1)) : j.val < 4 := by have := j.isLt; omega

section
variable (A : Args) (b : Fin 32) (s : ℕ) (hs : s < 4) (g : Fit (s + 1))
  (q : FVec Ideal (N4 1 1 8 128) .f32) (kn vn : FVec Ideal (N3 (s + 1) 8 128) .f32) (kc vc : FVec Ideal (N3 128 8 128) .f32)
  (hq : ∀ h d, q (ix4 0 0 h d) = A.q (ix4 b ⟨s, hs⟩ h d))
  (hkn : ∀ (j : Fin (s + 1)) h d, kn (ix3 j h d) = A.k (ix4 b ⟨j.val, lt4 hs j⟩ h d))
  (hvn : ∀ (j : Fin (s + 1)) h d, vn (ix3 j h d) = A.v (ix4 b ⟨j.val, lt4 hs j⟩ h d))
  (hkc : ∀ j h d, kc (ix3 j h d) = A.c (ix5 b j 0 h d)) (hvc : ∀ j h d, vc (ix3 j h d) = A.c (ix5 b j 1 h d))

/-- The scores with the new rows and with the kept ones. -/
abbrev sn : FVec Ideal (N3 (s + 1) 8 1) .f32 := scores g kn q
abbrev sk : FVec Ideal (N3 128 8 1) .f32 := hid 0#32 (BitVec.ofNat 32 s) (scores fit128 kc q)

/-- What a step leaves of both sets: the output and the log-sum-exp. -/
def resO (w b : BitVec 32) {n : ℕ} (g : Fit n) (q : FVec Ideal (N4 1 1 8 128) .f32) (kn vn : FVec Ideal (N3 n 8 128) .f32) (kc vc : FVec Ideal (N3 128 8 128) .f32) :
    FVec Ideal (N4 1 1 8 128) .f32 :=
  fo (a2 fit128 (hid w b (scores fit128 kc q)) vc (m1 g (scores g kn q)) (a1 g (scores g kn q) vn))
    (d2 fit128 (hid w b (scores fit128 kc q)) (m1 g (scores g kn q)) (d1 g (scores g kn q)))
def resL (w b : BitVec 32) {n : ℕ} (g : Fit n) (q : FVec Ideal (N4 1 1 8 128) .f32) (kn : FVec Ideal (N3 n 8 128) .f32) (kc : FVec Ideal (N3 128 8 128) .f32) :
    FVec Ideal (N4 1 1 8 128) .f32 :=
  fl (m2 fit128 (hid w b (scores fit128 kc q)) (m1 g (scores g kn q)))
    (d2 fit128 (hid w b (scores fit128 kc q)) (m1 g (scores g kn q)) (d1 g (scores g kn q)))

include hq
include hkn in
theorem sn_eq (h : Fin 8) : (fun j => sn s g q kn (ix3 j h 0)) = fresh s (Samp.score A b ⟨s, hs⟩ h) := by
  funext j
  have := j.isLt
  refine (scores_apply g kn q j h 0).trans ?_
  show _ = Samp.score A b ⟨s, hs⟩ h (128 + j.val)
  refine Finset.sum_congr rfl fun d _ => ?_
  rw [hq, hkn]
  unfold key
  rw [dif_neg (by omega), dif_pos (show 128 + j.val - 128 < 4 by omega)]
  exact congrArg (fun t => _ * A.k (ix4 b t h d)) (Fin.ext (by show j.val = 128 + j.val - 128; omega))
include hkc in
theorem sk_eq (h : Fin 8) : (fun j => sk s q kc (ix3 j h 0)) = kept s (Samp.score A b ⟨s, hs⟩ h) := by
  funext j
  refine (hid_apply s hs _ j h 0).trans ?_
  unfold kept
  congr 1
  refine (scores_apply fit128 kc q j h 0).trans ?_
  unfold Samp.score
  refine Finset.sum_congr rfl fun d _ => ?_
  rw [hq, hkc]
  unfold key
  rw [dif_pos j.isLt]

include hkn hvn hkc hvc
theorem row_o (o p : Fin 1) (h : Fin 8) (d : Fin 128) :
    resO 0#32 (BitVec.ofNat 32 s) g q kn vn kc vc (ix4 o p h d)
      = oV A b ⟨s, hs⟩ h d := by
  have hx := sn_eq A b s hs g q kn hq hkn h
  have hy := sk_eq A b s hs q kc hq hkc h
  unfold resO fo
  rw [cq'_apply]
  show Ideal.div (shapeCast (N2 8 128) _ c31 (ix2 h d)) (shapeCast (N2 8 128) _ c31 (ix2 h d)) = _
  rw [c31_apply, c31_apply, both_d g fit128 (by omega) _ h d _ _ hx hy,
    both_a g fit128 (by omega) _ (Samp.val A b h d) h d _ _ vn vc hx hy]
  · rfl
  · funext j
    have := j.isLt
    show vn (ix3 j h d) = Samp.val A b h d (128 + j.val)
    rw [hvn]
    unfold Samp.val
    rw [dif_neg (by omega), dif_pos (show 128 + j.val - 128 < 4 by omega)]
    exact congrArg (fun t => A.v (ix4 b t h d)) (Fin.ext (by show j.val = 128 + j.val - 128; omega))
  · funext j
    rw [hvc]
    unfold Samp.val
    rw [dif_pos j.isLt]
omit hvn hvc in
theorem row_l (o p : Fin 1) (h : Fin 8) (d : Fin 128) :
    resL 0#32 (BitVec.ofNat 32 s) g q kn kc (ix4 o p h d)
      = lV A b ⟨s, hs⟩ h := by
  have hx := sn_eq A b s hs g q kn hq hkn h
  have hy := sk_eq A b s hs q kc hq hkc h
  unfold resL fl
  rw [cq'_apply]
  show shapeCast (N2 8 128) _ c31 (ix2 h d) + Ideal.log (shapeCast (N2 8 128) _ c31 (ix2 h d)) = _
  rw [c31_apply, c31_apply, both_d g fit128 (by omega) _ h d _ _ hx hy, both_m g fit128 (by omega) _ h d _ _ hx hy]
  rfl
end

end Cert.SampBlk

end
-- ==== Proof.SampKernel.lean ====
/- THE KERNEL'S SIDE for the sample's attention of the first group of heads: each step attends to the new rows, keeps its greatest, its sum and its
   weighted values, and joins the kept rows to them; the rows kept for the next call are shifted by four. -/
module

public import proofs.«01_k».proof.Proof.Gen.SampIdeal.Value
public import proofs.«01_k».proof.Proof.SampBlock
public import Idealize.ShloMosaic.Lib.Pipeline.ValueKit.Geometry

@[expose] public section

set_option maxRecDepth 16384

noncomputable section

namespace Cert.SampIdeal.Side

open Cert.SampIdeal Cert.SampIdeal.Gen Idealize.ShloMosaic Idealize.ShloMosaic.TcCoe Idealize.SL.Sem Idealize.ShloMosaic.ValueIdx
open Idealize.ShloMosaic.StableHlo
open Cert.Samp Cert.SampBlk

/-! ## The rows the kernel keeps between its two parts -/

/-- A row of what is kept. -/
abbrev krow (s : ℕ) (il : ∀ a, ![s, 0, 0] a + ![1, 8, 128] a ≤ S4x8x128.size a) : Rect S4x8x128 := Rect.unit ![s, 0, 0] ![1, 8, 128] il

theorem rd_top (v : View sig .tc .vmem S4x8x128 .f32) (s : ℕ) (il il') (w : S1x8x128.Idx → EReal) (L : List (View.Piece (Elt Ideal) S4x8x128 .f32)) :
    v.readCov (⟨krow s il, w⟩ :: L) (krow s il').toLoadRect = w := by
  rw [View.readCov_eq_canon']
  exact funext fun j => View.canon_cons_emb (krow s il) w L j

theorem rd_skip (v : View sig .tc .vmem S4x8x128 .f32) (s s' : ℕ) (h : s ≠ s') (il il') (w : S1x8x128.Idx → EReal)
    (L : List (View.Piece (Elt Ideal) S4x8x128 .f32)) :
    v.readCov (⟨krow s' il, w⟩ :: L) (krow s il').toLoadRect = v.readCov L (krow s il').toLoadRect := by
  rw [View.readCov_eq_canon', View.readCov_eq_canon']
  refine funext fun j => View.canon_cons_of_not_mem _ _ ?_
  rw [Rect.mem_set_unit]
  intro hh
  have h0 := hh 0
  have hj : (j 0).val < 1 := (j 0).isLt
  have e0 : s' ≤ s + 1 * (j 0).val ∧ s + 1 * (j 0).val < s' + 1 := h0
  omega

/-! ## The kernel's values over its loaded rows -/

section
variable (q : Vec Ideal S1x1x8x128 .f32) (kc vc : Vec Ideal S1x128x1x8x128 .f32) (w : BitVec 32) (i : grid0.Coords)

/-- Loaded rows without their leading axis. -/
abbrev un {n : ℕ} (x : FVec Ideal (N4 1 n 8 128) .f32) (c : (N4 1 n 8 128).ShapeCasts (N3 n 8 128)) : FVec Ideal (N3 n 8 128) .f32 := shapeCast (N3 n 8 128) x c
abbrev uc (x : Vec Ideal S1x128x1x8x128 .f32) : FVec Ideal (N3 128 8 128) .f32 := shapeCast (N3 128 8 128) x cc

theorem cn1 : (N4 1 1 8 128).ShapeCasts (N3 1 8 128) := by decide
theorem cn2 : (N4 1 2 8 128).ShapeCasts (N3 2 8 128) := by decide
theorem cn3 : (N4 1 3 8 128).ShapeCasts (N3 3 8 128) := by decide
theorem cn4 : (N4 1 4 8 128).ShapeCasts (N3 4 8 128) := by decide

theorem first_s (kn : Vec Ideal S1x1x8x128 .f32) : k0_pay8 (F := Ideal) kn q = scores fit1 (un kn cn1) q := by
  unfold scores
  rw [bcast_self]
  rfl
theorem first_w (kn : Vec Ideal S1x1x8x128 .f32) :
    k0_pay10 (F := Ideal) kn q = wts fit1 (scores fit1 (un kn cn1) q) (maxes fit1 (scores fit1 (un kn cn1) q)) := by
  unfold k0_pay10 k0_pay9 wts
  rw [bcast_self, first_s]
  rfl
theorem first_m (kn : Vec Ideal S1x1x8x128 .f32) : k0_pay12 (F := Ideal) kn q = m1 fit1 (scores fit1 (un kn cn1) q) := by
  unfold k0_pay12 k0_pay9
  rw [first_s]
  rfl
theorem first_d (kn : Vec Ideal S1x1x8x128 .f32) : k0_pay13 (F := Ideal) kn q = d1 fit1 (scores fit1 (un kn cn1) q) := by
  unfold k0_pay13
  rw [first_w]
  rfl
theorem first_a (kn vn : Vec Ideal S1x1x8x128 .f32) : k0_pay14 (F := Ideal) (k0_pay11 kn vn q) = a1 fit1 (scores fit1 (un kn cn1) q) (un vn cn1) := by
  unfold k0_pay14 k0_pay11
  rw [first_w]
  rfl

theorem o0 (kn vn : Vec Ideal S1x1x8x128 .f32) :
    k0_pay36 (F := Ideal) (k0_pay53 (k0_pay44 vc) (k0_pay45 i kc q) (k0_pay47 i kc q (k0_pay12 kn q)) (k0_pay48 i kc q (k0_pay12 kn q)) (k0_pay14 (k0_pay11 kn vn q)))
      (k0_pay52 (k0_pay45 i kc q) (k0_pay47 i kc q (k0_pay12 kn q)) (k0_pay48 i kc q (k0_pay12 kn q)) (k0_pay13 kn q))
      = resO (BitVec.ofNat 32 (i 1).val) 0#32 fit1 q (un kn cn1) (un vn cn1) (uc kc) (uc vc) := by
  rw [first_m, first_d, first_a]
  rfl
theorem l0 (kn : Vec Ideal S1x1x8x128 .f32) :
    k0_pay37 (F := Ideal) (k0_pay51 (k0_pay47 i kc q (k0_pay12 kn q)))
      (k0_pay52 (k0_pay45 i kc q) (k0_pay47 i kc q (k0_pay12 kn q)) (k0_pay48 i kc q (k0_pay12 kn q)) (k0_pay13 kn q))
      = resL (BitVec.ofNat 32 (i 1).val) 0#32 fit1 q (un kn cn1) (uc kc) := by
  rw [first_m, first_d]
  rfl
theorem o1 (kn vn : Vec Ideal S1x2x8x128 .f32) :
    k0_pay38 (F := Ideal) (k0_pay64 (k0_pay55 vc) (k0_pay59 (k0_pay54 w) kc q (k0_pay19 kn q)) (k0_pay60 (k0_pay54 w) kc q (k0_pay19 kn q)) (k0_pay21 (k0_pay18 kn vn q)))
      (k0_pay63 (k0_pay61 (k0_pay54 w) kc q (k0_pay19 kn q) (k0_pay20 kn q)))
      = resO w 1#32 fit2 q (un kn cn2) (un vn cn2) (uc kc) (uc vc) := rfl
theorem l1 (kn : Vec Ideal S1x2x8x128 .f32) :
    k0_pay39 (F := Ideal) (k0_pay62 (k0_pay58 (k0_pay54 w) kc q (k0_pay19 kn q))) (k0_pay63 (k0_pay61 (k0_pay54 w) kc q (k0_pay19 kn q) (k0_pay20 kn q)))
      = resL w 1#32 fit2 q (un kn cn2) (uc kc) := rfl
theorem o2 (kn vn : Vec Ideal S1x3x8x128 .f32) :
    k0_pay40 (F := Ideal) (k0_pay78 (k0_pay74 (k0_pay65 kc) (k0_pay66 vc) (k0_pay67 w) q (k0_pay26 kn q) (k0_pay29 (k0_pay25 kn vn q))))
      (k0_pay77 (k0_pay73 (k0_pay65 kc) (k0_pay67 w) q (k0_pay26 kn q) (k0_pay28 (k0_pay27 kn q))))
      = resO w 2#32 fit3 q (un kn cn3) (un vn cn3) (uc kc) (uc vc) := rfl
theorem l2 (kn : Vec Ideal S1x3x8x128 .f32) :
    k0_pay41 (F := Ideal) (k0_pay76 (k0_pay75 (k0_pay65 kc) (k0_pay67 w) q (k0_pay26 kn q)))
      (k0_pay77 (k0_pay73 (k0_pay65 kc) (k0_pay67 w) q (k0_pay26 kn q) (k0_pay28 (k0_pay27 kn q))))
      = resL w 2#32 fit3 q (un kn cn3) (uc kc) := rfl
theorem o3 (kn vn : Vec Ideal S1x4x8x128 .f32) :
    k0_pay2 (F := Ideal) (k0_pay1 (k0_pay87 (k0_pay79 vc) (k0_pay80 kc q) (Scalar.ofBits .f32 0xFF800000#32) (k0_pay81 w) (k0_pay34 kn q) (k0_pay43 (k0_pay33 kn vn q))))
      (k0_pay89 (k0_pay80 kc q) (Scalar.ofBits .f32 0xFF800000#32) (k0_pay81 w) (k0_pay34 kn q) (k0_pay42 (k0_pay35 kn q)))
      = resO w 3#32 fit4 q (un kn cn4) (un vn cn4) (uc kc) (uc vc) := rfl
theorem l3 (kn : Vec Ideal S1x4x8x128 .f32) :
    k0_pay3 (F := Ideal) (k0_pay88 (k0_pay80 kc q) (Scalar.ofBits .f32 0xFF800000#32) (k0_pay81 w) (k0_pay34 kn q))
      (k0_pay89 (k0_pay80 kc q) (Scalar.ofBits .f32 0xFF800000#32) (k0_pay81 w) (k0_pay34 kn q) (k0_pay42 (k0_pay35 kn q)))
      = resL w 3#32 fit4 q (un kn cn4) (uc kc) := rfl
end

/-! ## The blocks' entries -/

/-- The loaded blocks hold a batch's rows of the arguments. -/
structure Holds (A : Args) (b : Fin 32) (x0 x1 x2 : Vec Ideal S1x4x8x128 .f32) (x3 : Vec Ideal S1x128x2x8x128 .f32) : Prop where
  q : ∀ s h d, x0 (ix4 0 s h d) = A.q (ix4 b s h d)
  k : ∀ s h d, x1 (ix4 0 s h d) = A.k (ix4 b s h d)
  v : ∀ s h d, x2 (ix4 0 s h d) = A.v (ix4 b s h d)
  c : ∀ t x h d, x3 (ix5 0 t x h d) = A.c (ix5 b t x h d)

theorem ld4 (x : Vec Ideal S1x4x8x128 .f32) (r n : ℕ) (il : ∀ a, ![0, r, 0, 0] a + ![1, n, 8, 128] a ≤ S1x4x8x128.size a) (j : Fin n) (h : Fin 8) (d : Fin 128)
    (s : Fin 4) (hs : s.val = r + j.val) :
    View.ld x (Rect.unit (s := S1x4x8x128) ![0, r, 0, 0] ![1, n, 8, 128] il) (ix4 0 j h d : (N4 1 n 8 128).Idx) = x (ix4 0 s h d) := by
  refine congrArg x (funext fun a => Fin.ext ?_)
  match a with
  | ⟨0, _⟩ => rfl
  | ⟨1, _⟩ => show r + 1 * j.val = s.val; omega
  | ⟨2, _⟩ => show 0 + 1 * h.val = h.val; omega
  | ⟨3, _⟩ => show 0 + 1 * d.val = d.val; omega

theorem ld5 (x : Vec Ideal S1x128x2x8x128 .f32) (r y n z : ℕ) (il : ∀ a, ![0, r, y, 0, 0] a + ![1, n, z, 8, 128] a ≤ S1x128x2x8x128.size a) (j : Fin n) (e : Fin z)
    (h : Fin 8) (d : Fin 128) (s : Fin 128) (hs : s.val = r + j.val) (f : Fin 2) (hf : f.val = y + e.val) :
    View.ld x (Rect.unit (s := S1x128x2x8x128) ![0, r, y, 0, 0] ![1, n, z, 8, 128] il) (ix5 0 j e h d : (N5 1 n z 8 128).Idx) = x (ix5 0 s f h d) := by
  refine congrArg x (funext fun a => Fin.ext ?_)
  match a with
  | ⟨0, _⟩ => rfl
  | ⟨1, _⟩ => show r + 1 * j.val = s.val; omega
  | ⟨2, _⟩ => show y + 1 * e.val = f.val; omega
  | ⟨3, _⟩ => show 0 + 1 * h.val = h.val; omega
  | ⟨4, _⟩ => show 0 + 1 * d.val = d.val; omega

section
variable {A : Args} {b : Fin 32} {x0 x1 x2 : Vec Ideal S1x4x8x128 .f32} {x3 : Vec Ideal S1x128x2x8x128 .f32} (R : Holds A b x0 x1 x2 x3)
  (n : ℕ) (hn : n < 4) (g : Fit (n + 1)) (cn : (N4 1 (n + 1) 8 128).ShapeCasts (N3 (n + 1) 8 128))
  (iq : ∀ a, ![0, n, 0, 0] a + ![1, 1, 8, 128] a ≤ S1x4x8x128.size a) (ik : ∀ a, ![0, 0, 0, 0] a + ![1, n + 1, 8, 128] a ≤ S1x4x8x128.size a)
  (ic : ∀ a, ![0, 0, 0, 0, 0] a + ![1, 128, 1, 8, 128] a ≤ S1x128x2x8x128.size a) (iv : ∀ a, ![0, 0, 1, 0, 0] a + ![1, 128, 1, 8, 128] a ≤ S1x128x2x8x128.size a)
include R hn

theorem strip_o (x : S1x1x8x128.Idx) :
    resO 0#32 (BitVec.ofNat 32 n) g (View.ld x0 (Rect.unit (s := S1x4x8x128) ![0, n, 0, 0] ![1, 1, 8, 128] iq))
        (un (View.ld x1 (Rect.unit (s := S1x4x8x128) ![0, 0, 0, 0] ![1, n + 1, 8, 128] ik)) cn)
        (un (View.ld x2 (Rect.unit (s := S1x4x8x128) ![0, 0, 0, 0] ![1, n + 1, 8, 128] ik)) cn)
        (uc (View.ld x3 (Rect.unit (s := S1x128x2x8x128) ![0, 0, 0, 0, 0] ![1, 128, 1, 8, 128] ic)))
        (uc (View.ld x3 (Rect.unit (s := S1x128x2x8x128) ![0, 0, 1, 0, 0] ![1, 128, 1, 8, 128] iv))) x
      = oV A b ((Rect.unit (s := S1x4x8x128) ![0, n, 0, 0] ![1, 1, 8, 128] iq).emb x 1) ((Rect.unit (s := S1x4x8x128) ![0, n, 0, 0] ![1, 1, 8, 128] iq).emb x 2)
        ((Rect.unit (s := S1x4x8x128) ![0, n, 0, 0] ![1, 1, 8, 128] iq).emb x 3) := by
  obtain ⟨o, p, h, d, rfl⟩ : ∃ (o p : Fin 1) (h : Fin 8) (d : Fin 128), x = ix4 o p h d := ⟨x 0, x 1, x 2, x 3, eq_ix4 x⟩
  have hp := p.isLt
  rw [show (Rect.unit (s := S1x4x8x128) ![0, n, 0, 0] ![1, 1, 8, 128] iq).emb (ix4 o p h d) 1 = (⟨n, hn⟩ : Fin 4) from Fin.ext (by show n + 1 * p.val = n; omega),
    show (Rect.unit (s := S1x4x8x128) ![0, n, 0, 0] ![1, 1, 8, 128] iq).emb (ix4 o p h d) 2 = h from Fin.ext (by show 0 + 1 * h.val = h.val; omega),
    show (Rect.unit (s := S1x4x8x128) ![0, n, 0, 0] ![1, 1, 8, 128] iq).emb (ix4 o p h d) 3 = d from Fin.ext (by show 0 + 1 * d.val = d.val; omega)]
  refine row_o A b n hn g _ _ _ _ _ (fun h d => ?_) (fun j h d => ?_) (fun j h d => ?_) (fun j h d => ?_) (fun j h d => ?_) o p h d
  · exact (ld4 x0 n 1 iq 0 h d ⟨n, hn⟩ rfl).trans (R.q _ h d)
  · exact (castN_apply _ cn j h d).trans ((ld4 x1 0 (n + 1) ik j h d ⟨j.val, by omega⟩ (by show j.val = 0 + j.val; omega)).trans (R.k _ h d))
  · exact (castN_apply _ cn j h d).trans ((ld4 x2 0 (n + 1) ik j h d ⟨j.val, by omega⟩ (by show j.val = 0 + j.val; omega)).trans (R.v _ h d))
  · exact (castC_apply _ j h d).trans ((ld5 x3 0 0 128 1 ic j 0 h d j (by omega) 0 rfl).trans (R.c _ _ h d))
  · exact (castC_apply _ j h d).trans ((ld5 x3 0 1 128 1 iv j 0 h d j (by omega) 1 rfl).trans (R.c _ _ h d))

theorem strip_l (x : S1x1x8x128.Idx) :
    resL 0#32 (BitVec.ofNat 32 n) g (View.ld x0 (Rect.unit (s := S1x4x8x128) ![0, n, 0, 0] ![1, 1, 8, 128] iq))
        (un (View.ld x1 (Rect.unit (s := S1x4x8x128) ![0, 0, 0, 0] ![1, n + 1, 8, 128] ik)) cn)
        (uc (View.ld x3 (Rect.unit (s := S1x128x2x8x128) ![0, 0, 0, 0, 0] ![1, 128, 1, 8, 128] ic))) x
      = lV A b ((Rect.unit (s := S1x4x8x128) ![0, n, 0, 0] ![1, 1, 8, 128] iq).emb x 1) ((Rect.unit (s := S1x4x8x128) ![0, n, 0, 0] ![1, 1, 8, 128] iq).emb x 2) := by
  obtain ⟨o, p, h, d, rfl⟩ : ∃ (o p : Fin 1) (h : Fin 8) (d : Fin 128), x = ix4 o p h d := ⟨x 0, x 1, x 2, x 3, eq_ix4 x⟩
  have hp := p.isLt
  rw [show (Rect.unit (s := S1x4x8x128) ![0, n, 0, 0] ![1, 1, 8, 128] iq).emb (ix4 o p h d) 1 = (⟨n, hn⟩ : Fin 4) from Fin.ext (by show n + 1 * p.val = n; omega),
    show (Rect.unit (s := S1x4x8x128) ![0, n, 0, 0] ![1, 1, 8, 128] iq).emb (ix4 o p h d) 2 = h from Fin.ext (by show 0 + 1 * h.val = h.val; omega)]
  refine row_l A b n hn g _ _ _ (fun h d => ?_) (fun j h d => ?_) (fun j h d => ?_) o p h d
  · exact (ld4 x0 n 1 iq 0 h d ⟨n, hn⟩ rfl).trans (R.q _ h d)
  · exact (castN_apply _ cn j h d).trans ((ld4 x1 0 (n + 1) ik j h d ⟨j.val, by omega⟩ (by show j.val = 0 + j.val; omega)).trans (R.k _ h d))
  · exact (castC_apply _ j h d).trans ((ld5 x3 0 0 128 1 ic j 0 h d j (by omega) 0 rfl).trans (R.c _ _ h d))
end

/-! ## The rows kept -/

section
variable {A : Args} {b : Fin 32} {x0 x1 x2 : Vec Ideal S1x4x8x128 .f32} {x3 : Vec Ideal S1x128x2x8x128 .f32} (R : Holds A b x0 x1 x2 x3)
include R

theorem old_n (il : ∀ a, ![0, 4, 0, 0, 0] a + ![1, 124, 2, 8, 128] a ≤ S1x128x2x8x128.size a) (io : ∀ a, ![0, 0, 0, 0, 0] a + ![1, 124, 2, 8, 128] a ≤ S1x128x2x8x128.size a)
    (x : S1x124x2x8x128.Idx) :
    k0_pay4 (F := Ideal) (View.ld x3 (Rect.unit (s := S1x128x2x8x128) ![0, 4, 0, 0, 0] ![1, 124, 2, 8, 128] il)) x
      = (fun y : S1x128x2x8x128.Idx => nV A b (y 1) (y 2) (y 3) (y 4)) ((Rect.unit (s := S1x128x2x8x128) ![0, 0, 0, 0, 0] ![1, 124, 2, 8, 128] io).emb x) := by
  obtain ⟨o, t, e, h, d, rfl⟩ : ∃ (o : Fin 1) (t : Fin 124) (e : Fin 2) (h : Fin 8) (d : Fin 128), x = ix5 o t e h d := ⟨x 0, x 1, x 2, x 3, x 4, eq_ix5 x⟩
  have ho := o.isLt
  have ht := t.isLt
  have ei : (Rect.unit (s := S1x128x2x8x128) ![0, 0, 0, 0, 0] ![1, 124, 2, 8, 128] io).emb (ix5 o t e h d) = ix5 0 ⟨t.val, by omega⟩ e h d :=
    funext fun a => Fin.ext (match a with
      | ⟨0, _⟩ => (by show 0 + 1 * o.val = 0; omega)
      | ⟨1, _⟩ => (by show 0 + 1 * t.val = t.val; omega)
      | ⟨2, _⟩ => (by show 0 + 1 * e.val = e.val; omega)
      | ⟨3, _⟩ => (by show 0 + 1 * h.val = h.val; omega)
      | ⟨4, _⟩ => (by show 0 + 1 * d.val = d.val; omega))
  rw [ei]
  show _ = nV A b ⟨t.val, _⟩ e h d
  unfold nV
  rw [dif_pos (show t.val < 124 from ht)]
  unfold k0_pay4
  refine (shapeCast_apply _ _ (ix5 o t e h d) (ix4 t e h d) ?_).trans ((shapeCast_apply _ _ (ix4 t e h d) (ix5 0 t e h d) ?_).trans ?_)
  · rw [Shape.rowMajor_val_four, Shape.rowMajor_val_five]
    show ((t.val * 2 + e.val) * 8 + h.val) * 128 + d.val = (((o.val * 124 + t.val) * 2 + e.val) * 8 + h.val) * 128 + d.val
    rw [show o.val = 0 by omega]; simp
  · rw [Shape.rowMajor_val_four, Shape.rowMajor_val_five]
    show (((0 * 124 + t.val) * 2 + e.val) * 8 + h.val) * 128 + d.val = ((t.val * 2 + e.val) * 8 + h.val) * 128 + d.val
    simp
  · exact (ld5 x3 4 0 124 2 il t e h d ⟨4 + t.val, by omega⟩ rfl e (by omega)).trans (R.c _ _ h d)

omit R in
theorem nV_k (t : Fin 4) (p : 124 + t.val < 128) (h : Fin 8) (d : Fin 128) : nV A b ⟨124 + t.val, p⟩ 0 h d = A.k (ix4 b t h d) := by
  unfold nV
  refine (dif_neg (show ¬ 124 + t.val < 124 by omega)).trans ((if_pos (show (0 : Fin 2).val = 0 from rfl)).trans ?_)
  exact congrArg (fun s => A.k (ix4 b s h d)) (Fin.ext (by show 124 + t.val - 124 = t.val; omega))
omit R in
theorem nV_v (t : Fin 4) (p : 124 + t.val < 128) (h : Fin 8) (d : Fin 128) : nV A b ⟨124 + t.val, p⟩ 1 h d = A.v (ix4 b t h d) := by
  unfold nV
  refine (dif_neg (show ¬ 124 + t.val < 124 by omega)).trans ((if_neg (show ¬ (1 : Fin 2).val = 0 by decide)).trans ?_)
  exact congrArg (fun s => A.v (ix4 b s h d)) (Fin.ext (by show 124 + t.val - 124 = t.val; omega))
omit R in
theorem cast_new (x : Vec Ideal S1x4x8x128 .f32) (o : Fin 1) (t : Fin 4) (e : Fin 1) (h : Fin 8) (d : Fin 128) :
    shapeCast S1x4x1x8x128 (shapeCast S4x8x128 x shapeCasts_S1x4x8x128_S4x8x128) shapeCasts_S4x8x128_S1x4x1x8x128 (ix5 o t e h d) = x (ix4 0 t h d) := by
  have ho := o.isLt
  have he := e.isLt
  refine (shapeCast_apply _ _ (ix5 o t e h d) (ix3 t h d) ?_).trans (castN_apply x _ t h d)
  rw [Shape.rowMajor_val_three, Shape.rowMajor_val_five]
  show (t.val * 8 + h.val) * 128 + d.val = (((o.val * 4 + t.val) * 1 + e.val) * 8 + h.val) * 128 + d.val
  rw [show o.val = 0 by omega, show e.val = 0 by omega]
  simp

omit R in
theorem emb_new (y : ℕ) (hy : y < 2) (io : ∀ a, ![0, 124, y, 0, 0] a + ![1, 4, 1, 8, 128] a ≤ S1x128x2x8x128.size a) (o : Fin 1) (t : Fin 4) (e : Fin 1) (h : Fin 8)
    (d : Fin 128) : (Rect.unit (s := S1x128x2x8x128) ![0, 124, y, 0, 0] ![1, 4, 1, 8, 128] io).emb (ix5 o t e h d) = ix5 0 ⟨124 + t.val, by omega⟩ ⟨y, hy⟩ h d := by
  have ho := o.isLt
  have he := e.isLt
  exact funext fun a => Fin.ext (match a with
      | ⟨0, _⟩ => (by show 0 + 1 * o.val = 0; omega)
      | ⟨1, _⟩ => (by show 124 + 1 * t.val = 124 + t.val; omega)
      | ⟨2, _⟩ => (by show y + 1 * e.val = y; omega)
      | ⟨3, _⟩ => (by show 0 + 1 * h.val = h.val; omega)
      | ⟨4, _⟩ => (by show 0 + 1 * d.val = d.val; omega))

theorem new_k (ik : ∀ a, ![0, 0, 0, 0] a + ![1, 4, 8, 128] a ≤ S1x4x8x128.size a) (io : ∀ a, ![0, 124, 0, 0, 0] a + ![1, 4, 1, 8, 128] a ≤ S1x128x2x8x128.size a)
    (x : S1x4x1x8x128.Idx) :
    k0_pay6 (F := Ideal) (View.ld x1 (Rect.unit (s := S1x4x8x128) ![0, 0, 0, 0] ![1, 4, 8, 128] ik)) x
      = (fun y : S1x128x2x8x128.Idx => nV A b (y 1) (y 2) (y 3) (y 4)) ((Rect.unit (s := S1x128x2x8x128) ![0, 124, 0, 0, 0] ![1, 4, 1, 8, 128] io).emb x) := by
  obtain ⟨o, t, e, h, d, rfl⟩ : ∃ (o : Fin 1) (t : Fin 4) (e : Fin 1) (h : Fin 8) (d : Fin 128), x = ix5 o t e h d := ⟨x 0, x 1, x 2, x 3, x 4, eq_ix5 x⟩
  have p : 124 + t.val < 128 := by have := t.isLt; omega
  have e1 := (cast_new (View.ld x1 (Rect.unit (s := S1x4x8x128) ![0, 0, 0, 0] ![1, 4, 8, 128] ik)) o t e h d).trans ((ld4 x1 0 4 ik t h d t (by omega)).trans (R.k t h d))
  have e2 : (fun y : S1x128x2x8x128.Idx => nV A b (y 1) (y 2) (y 3) (y 4)) (ix5 0 ⟨124 + t.val, p⟩ 0 h d) = A.k (ix4 b t h d) := nV_k t p h d
  refine Eq.trans ?_ (e2.symm.trans (congrArg (fun y : S1x128x2x8x128.Idx => nV A b (y 1) (y 2) (y 3) (y 4)) (emb_new 0 (by decide) io o t e h d).symm))
  exact e1

theorem new_v (ik : ∀ a, ![0, 0, 0, 0] a + ![1, 4, 8, 128] a ≤ S1x4x8x128.size a) (io : ∀ a, ![0, 124, 1, 0, 0] a + ![1, 4, 1, 8, 128] a ≤ S1x128x2x8x128.size a)
    (x : S1x4x1x8x128.Idx) :
    k0_pay7 (F := Ideal) (View.ld x2 (Rect.unit (s := S1x4x8x128) ![0, 0, 0, 0] ![1, 4, 8, 128] ik)) x
      = (fun y : S1x128x2x8x128.Idx => nV A b (y 1) (y 2) (y 3) (y 4)) ((Rect.unit (s := S1x128x2x8x128) ![0, 124, 1, 0, 0] ![1, 4, 1, 8, 128] io).emb x) := by
  obtain ⟨o, t, e, h, d, rfl⟩ : ∃ (o : Fin 1) (t : Fin 4) (e : Fin 1) (h : Fin 8) (d : Fin 128), x = ix5 o t e h d := ⟨x 0, x 1, x 2, x 3, x 4, eq_ix5 x⟩
  have p : 124 + t.val < 128 := by have := t.isLt; omega
  have e1 := (cast_new (View.ld x2 (Rect.unit (s := S1x4x8x128) ![0, 0, 0, 0] ![1, 4, 8, 128] ik)) o t e h d).trans ((ld4 x2 0 4 ik t h d t (by omega)).trans (R.v t h d))
  have e2 : (fun y : S1x128x2x8x128.Idx => nV A b (y 1) (y 2) (y 3) (y 4)) (ix5 0 ⟨124 + t.val, p⟩ 1 h d) = A.v (ix4 b t h d) := nV_v t p h d
  refine Eq.trans ?_ (e2.symm.trans (congrArg (fun y : S1x128x2x8x128.Idx => nV A b (y 1) (y 2) (y 3) (y 4)) (emb_new 1 (by decide) io o t e h d).symm))
  exact e1
end

/-! ## What a point stores -/

variable (m : (ℓ : Loc nD τ sig) → Buf (Elt Ideal) ℓ)

/-- What the kernel's arguments hold. -/
def args (c : Dev nD) : Args where
  q := m ((c : Thread nD τ).loc main_arg0)
  k := m ((c : Thread nD τ).loc main_arg1)
  v := m ((c : Thread nD τ).loc main_arg2)
  c := m ((c : Thread nD τ).loc main_arg3)

theorem index0 : ∀ t : Fin cfg0.N, win0_0.index t = ![t.val, 0, 0, 0] := (by decide +kernel : ∀ t : Fin grid0.N, win0_0.index t = ![t.val, 0, 0, 0])
theorem index1 : ∀ t : Fin cfg0.N, win0_1.index t = ![t.val, 0, 0, 0] := (by decide +kernel : ∀ t : Fin grid0.N, win0_1.index t = ![t.val, 0, 0, 0])
theorem index2 : ∀ t : Fin cfg0.N, win0_2.index t = ![t.val, 0, 0, 0] := (by decide +kernel : ∀ t : Fin grid0.N, win0_2.index t = ![t.val, 0, 0, 0])
theorem index3 : ∀ t : Fin cfg0.N, win0_3.index t = ![t.val, 0, 0, 0, 0] := (by decide +kernel : ∀ t : Fin grid0.N, win0_3.index t = ![t.val, 0, 0, 0, 0])
theorem index5 : ∀ t : Fin cfg0.N, win0_5.index t = ![t.val, 0, 0, 0] := (by decide +kernel : ∀ t : Fin grid0.N, win0_5.index t = ![t.val, 0, 0, 0])
theorem index6 : ∀ t : Fin cfg0.N, win0_6.index t = ![t.val, 0, 0, 0] := (by decide +kernel : ∀ t : Fin grid0.N, win0_6.index t = ![t.val, 0, 0, 0])
theorem index7 : ∀ t : Fin cfg0.N, win0_7.index t = ![t.val, 0, 0, 0, 0] := (by decide +kernel : ∀ t : Fin grid0.N, win0_7.index t = ![t.val, 0, 0, 0, 0])
theorem start : ∀ t : Fin cfg0.N, BitVec.ofNat 32 (grid0.coords t 1).val = 0#32 := (by decide +kernel : ∀ t : Fin grid0.N, BitVec.ofNat 32 (grid0.coords t 1).val = 0#32)

theorem holds (c : Dev nD) (t : Fin cfg0.N) : Holds (args m c) t (iblk m c 0 t) (iblk m c 1 t) (iblk m c 2 t) (iblk m c 3 t) where
  q s h d := by
    show V m c main_arg0 (((cfg0.win 0).blk t).view.emb (ix4 0 s h d)) = m ((c : Thread nD τ).loc main_arg0) (ix4 t s h d)
    refine congrArg (m ((c : Thread nD τ).loc main_arg0)) (funext fun a => Fin.ext ?_)
    match a with
    | ⟨0, _⟩ => blk_simp [index0 t]
    | ⟨1, _⟩ => blk_simp [index0 t]
    | ⟨2, _⟩ => blk_simp [index0 t]
    | ⟨3, _⟩ => blk_simp [index0 t]
  k s h d := by
    show V m c main_arg1 (((cfg0.win 1).blk t).view.emb (ix4 0 s h d)) = m ((c : Thread nD τ).loc main_arg1) (ix4 t s h d)
    refine congrArg (m ((c : Thread nD τ).loc main_arg1)) (funext fun a => Fin.ext ?_)
    match a with
    | ⟨0, _⟩ => blk_simp [index1 t]
    | ⟨1, _⟩ => blk_simp [index1 t]
    | ⟨2, _⟩ => blk_simp [index1 t]
    | ⟨3, _⟩ => blk_simp [index1 t]
  v s h d := by
    show V m c main_arg2 (((cfg0.win 2).blk t).view.emb (ix4 0 s h d)) = m ((c : Thread nD τ).loc main_arg2) (ix4 t s h d)
    refine congrArg (m ((c : Thread nD τ).loc main_arg2)) (funext fun a => Fin.ext ?_)
    match a with
    | ⟨0, _⟩ => blk_simp [index2 t]
    | ⟨1, _⟩ => blk_simp [index2 t]
    | ⟨2, _⟩ => blk_simp [index2 t]
    | ⟨3, _⟩ => blk_simp [index2 t]
  c s x h d := by
    show V m c main_arg3 (((cfg0.win 3).blk t).view.emb (ix5 0 s x h d)) = m ((c : Thread nD τ).loc main_arg3) (ix5 t s x h d)
    refine congrArg (m ((c : Thread nD τ).loc main_arg3)) (funext fun a => Fin.ext ?_)
    match a with
    | ⟨0, _⟩ => blk_simp [index3 t]
    | ⟨1, _⟩ => blk_simp [index3 t]
    | ⟨2, _⟩ => blk_simp [index3 t]
    | ⟨3, _⟩ => blk_simp [index3 t]
    | ⟨4, _⟩ => blk_simp [index3 t]

set_option maxHeartbeats 4000000 in
theorem outs_o (c : Dev nD) (t : Fin cfg0.N) : (outsAt0 m c t).1 = fun y => oV (args m c) t (y 1) (y 2) (y 3) := by
  funext y
  have R := holds m c t
  unfold outsAt0
  dsimp only
  unfold out0_A_5
  rw [View.read_writes_eq_canon _ _ _ (cover0_A_5 (F := Ideal) c _ _ _ _ _ _ _ _ _ _ _ _ _ _ _ _ _ _ _ _ _ _ _ _ _ _ _ _ _ _ _ _)]
  refine View.canon_apply_of_pieces (fun y => oV (args m c) t (y 1) (y 2) (y 3)) _ ?_ y (cover0_A_5 (F := Ideal) c _ _ _ _ _ _ _ _ _ _ _ _ _ _ _ _ _ _ _ _ _ _ _ _ _ _ _ _ _ _ _ _ y)
  unfold kernelRun0_A
  dsimp only
  sl_unfold_words
  simp (disch := decide) only [rd_top, rd_skip, View.readAt_eq_ld, (hs0_0 t).read_unread, (hs0_1 t).read_unread, (hs0_2 t).read_unread, (hs0_3 t).read_unread]
  rw [o0, o1, o2, o3, start t]
  exact
    (List.forall_mem_cons.2 ⟨strip_o R 3 (by decide) fit4 cn4 _ _ _ _,
    (List.forall_mem_cons.2 ⟨strip_o R 2 (by decide) fit3 cn3 _ _ _ _,
    (List.forall_mem_cons.2 ⟨strip_o R 1 (by decide) fit2 cn2 _ _ _ _,
    (List.forall_mem_cons.2 ⟨strip_o R 0 (by decide) fit1 cn1 _ _ _ _,
    (fun _ h => absurd h List.not_mem_nil)⟩)⟩)⟩)⟩)

set_option maxHeartbeats 4000000 in
theorem outs_l (c : Dev nD) (t : Fin cfg0.N) : (outsAt0 m c t).2.1 = fun y => lV (args m c) t (y 1) (y 2) := by
  funext y
  have R := holds m c t
  unfold outsAt0
  dsimp only
  unfold out0_A_6
  rw [View.read_writes_eq_canon _ _ _ (cover0_A_6 (F := Ideal) c _ _ _ _ _ _ _ _ _ _ _ _ _ _ _ _ _ _ _ _ _ _ _ _ _ _ _ _ _ _ _ _)]
  refine View.canon_apply_of_pieces (fun y => lV (args m c) t (y 1) (y 2)) _ ?_ y (cover0_A_6 (F := Ideal) c _ _ _ _ _ _ _ _ _ _ _ _ _ _ _ _ _ _ _ _ _ _ _ _ _ _ _ _ _ _ _ _ y)
  unfold kernelRun0_A
  dsimp only
  sl_unfold_words
  simp (disch := decide) only [rd_top, rd_skip, View.readAt_eq_ld, (hs0_0 t).read_unread, (hs0_1 t).read_unread, (hs0_2 t).read_unread, (hs0_3 t).read_unread]
  rw [l0, l1, l2, l3, start t]
  exact
    (List.forall_mem_cons.2 ⟨strip_l R 3 (by decide) fit4 cn4 _ _ _,
    (List.forall_mem_cons.2 ⟨strip_l R 2 (by decide) fit3 cn3 _ _ _,
    (List.forall_mem_cons.2 ⟨strip_l R 1 (by decide) fit2 cn2 _ _ _,
    (List.forall_mem_cons.2 ⟨strip_l R 0 (by decide) fit1 cn1 _ _ _,
    (fun _ h => absurd h List.not_mem_nil)⟩)⟩)⟩)⟩)

theorem outs_n (c : Dev nD) (t : Fin cfg0.N) : (outsAt0 m c t).2.2 = fun y => nV (args m c) t (y 1) (y 2) (y 3) (y 4) := by
  funext y
  have R := holds m c t
  unfold outsAt0
  dsimp only
  unfold out0_A_7
  rw [View.read_writes_eq_canon _ _ _ (cover0_A_7 (F := Ideal) c _ _ _ _ _ _ _ _ _ _ _ _ _ _ _ _ _ _ _ _ _ _ _ _ _ _ _ _ _ _ _ _)]
  refine View.canon_apply_of_pieces (fun y => nV (args m c) t (y 1) (y 2) (y 3) (y 4)) _ ?_ y (cover0_A_7 (F := Ideal) c _ _ _ _ _ _ _ _ _ _ _ _ _ _ _ _ _ _ _ _ _ _ _ _ _ _ _ _ _ _ _ _ y)
  unfold kernelRun0_A
  dsimp only
  sl_unfold_words
  simp only [View.readAt_eq_ld, (hs0_1 t).read_unread, (hs0_2 t).read_unread, (hs0_3 t).read_unread]
  exact
    (List.forall_mem_cons.2 ⟨new_v R _ inb_S1x128x2x8x128_S1x4x1x8x128_0_124_1_0_0,
    (List.forall_mem_cons.2 ⟨new_k R _ inb_S1x128x2x8x128_S1x4x1x8x128_0_124_0_0_0,
    (List.forall_mem_cons.2 ⟨old_n R _ inb_S1x128x2x8x128_S1x124x2x8x128_0_0_0_0_0,
    (fun _ h => absurd h List.not_mem_nil)⟩)⟩)⟩)

/-! ## The arrays -/

theorem result5 (c : Dev nD) : (dats m 0 c).arrAt 5 cfg0.N = oOut (args m c) := by
  refine (dats m 0 c).arrAt_eq_of_covers 5 _ (by decide +kernel) fun t hf y => ?_
  blk_simp
  rw [after0_5]
  refine (congrFun (outs_o m c t) y).trans ?_
  show oV (args m c) t (y 1) (y 2) (y 3) = oV (args m c) _ _ _ _
  congr 1
  all_goals refine Fin.ext ?_
  all_goals blk_simp [index5 t]

theorem result6 (c : Dev nD) : (dats m 0 c).arrAt 6 cfg0.N = lOut (args m c) := by
  refine (dats m 0 c).arrAt_eq_of_covers 6 _ (by decide +kernel) fun t hf y => ?_
  blk_simp
  rw [after0_6]
  refine (congrFun (outs_l m c t) y).trans ?_
  show lV (args m c) t (y 1) (y 2) = lV (args m c) _ _ _
  congr 1
  all_goals refine Fin.ext ?_
  all_goals blk_simp [index6 t]

theorem result7 (c : Dev nD) : (dats m 0 c).arrAt 7 cfg0.N = nOut (args m c) := by
  refine (dats m 0 c).arrAt_eq_of_covers 7 _ (by decide +kernel) fun t hf y => ?_
  blk_simp
  rw [after0_7]
  refine (congrFun (outs_n m c t) y).trans ?_
  show nV (args m c) t (y 1) (y 2) (y 3) (y 4) = nV (args m c) _ _ _ _ _
  congr 1
  all_goals refine Fin.ext ?_
  all_goals blk_simp [index7 t]

end Cert.SampIdeal.Side

end
-- ==== Proof.SampReference.lean ====
/- THE REFERENCE'S SIDE for the sample's attention: its lines, read one at a time, are `Samp`'s. -/
module

public import proofs.«01_k».proof.Proof.Gen.SampRefIdeal.Read
public import proofs.«01_k».proof.Proof.Samp
public import Idealize.ShloMosaic.Lib.KernelVsHost
public import Idealize.ShloMosaic.Lib.Routing.OpsOrder

@[expose] public section

set_option maxRecDepth 16384

noncomputable section

namespace Cert.SampRefIdeal.Side

open Cert.SampRefIdeal Cert.SampRefIdeal.Gen Cert.SampRefIdeal.Read Idealize.ShloMosaic Idealize.ShloMosaic.ValueIdx Cert.Samp

/-! ## The gather of rows -/

/-- Rows of the second axis taken at indices of two axes. -/
abbrev rowDims (N R C : ℕ) (wf : GatherDims.WF (N4 32 N 8 128) (N3 R C 1) (N5 32 R C 8 128) [0, 3, 4] [1] [] [1] [] 2 ![32, 1, 8, 128]) :
    GatherDims (N4 32 N 8 128) (N3 R C 1) (N5 32 R C 8 128) where
  offsetDims := [0, 3, 4]
  collapsedSliceDims := [1]
  operandBatchingDims := []
  startIndicesBatchingDims := []
  startIndexMap := [1]
  indexVectorDim := 2
  sliceSizes := ![32, 1, 8, 128]
  wf := wf

theorem gather_rows {α : Type} {N R C w : ℕ} (hN : 0 < N) (wf : GatherDims.WF (N4 32 N 8 128) (N3 R C 1) (N5 32 R C 8 128) [0, 3, 4] [1] [] [1] [] 2 ![32, 1, 8, 128])
    (x : (N4 32 N 8 128).Idx → α) (idx : IVec (N3 R C 1) w) (b : Fin 32) (s : Fin R) (j : Fin C) (h : Fin 8) (d : Fin 128) :
    Host.gather (rowDims N R C wf) x idx (ix5 b s j h d) = x (ix4 b ⟨min (idx (ix3 s j 0)).toInt.toNat (N - 1), by omega⟩ h d) := by
  unfold Host.gather
  congr 1
  funext a
  refine Fin.ext ?_
  show (rowDims N R C wf).start (ix5 b s j h d) idx a + (rowDims N R C wf).batchCoord (ix5 b s j h d) a
      + (rowDims N R C wf).offCoord (ix5 b s j h d) a = _
  rw [GatherDims.batchCoord_eq_zero _ _ _ List.not_mem_nil]
  have h03 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h03 with rfl | rfl | rfl | rfl
  · unfold GatherDims.start
    rw [dif_neg (by show ¬ ((0 : Fin 4) ∈ [(1 : Fin 4)]); decide)]
    show 0 + 0 + _ = b.val
    rw [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 4) ∈ (rowDims N R C wf).startIndexMap from List.mem_singleton.mpr rfl)]
    have hsi : (rowDims N R C wf).siIdx (ix5 b s j h d) ⟨List.idxOf (1 : Fin 4) (rowDims N R C wf).startIndexMap,
        List.idxOf_lt_length_iff.2 (List.mem_singleton.mpr rfl)⟩ = ix3 s j 0 := by
      funext b; refine Fin.ext ?_
      match b with
      | ⟨0, _⟩ => rfl
      | ⟨1, _⟩ => rfl
      | ⟨2, _⟩ => rfl
    rw [hsi]
    rfl
  · unfold GatherDims.start
    rw [dif_neg (by show ¬ ((2 : Fin 4) ∈ [(1 : Fin 4)]); decide)]
    show 0 + 0 + _ = h.val
    rw [Nat.zero_add]
    rfl
  · unfold GatherDims.start
    rw [dif_neg (by show ¬ ((3 : Fin 4) ∈ [(1 : Fin 4)]); decide)]
    show 0 + 0 + _ = d.val
    rw [Nat.zero_add]
    rfl

/-! ## The rows' numbers -/

/-- The number of the row a query sees at a distance, as the reference computes it. -/
def rowNo (s j : ℕ) : BitVec 32 := IntOp.subi (IntOp.addi 128#32 (BitVec.ofNat 32 s)) (IntOp.muli 1#32 (BitVec.ofNat 32 j))
/-- The same made nonnegative and wrapped. -/
def rowAt (s j : ℕ) : BitVec 32 :=
  Scalar.select (IntOp.cmpi .slt (IntOp.maxsi (rowNo s j) 0#32) 0#32) (IntOp.addi (IntOp.maxsi (rowNo s j) 0#32) 132#32) (IntOp.maxsi (rowNo s j) 0#32)

theorem rowNo_all : ∀ s : Fin 4, ∀ j : Fin 129, IntOp.cmpi .sge (rowNo s.val j.val) 0#32 = 1#1 ∧ min (rowAt s.val j.val).toInt.toNat 131 = 128 + s.val - j.val := by
  decide +kernel

variable (A : Args)

theorem v27_at (s : Fin 4) (j : Fin 129) : val_main_v27 (F := Ideal) (ix2 s j) = rowAt s.val j.val := by
  rw [val_main_v27_apply (F := Ideal), val_main_v24_apply (F := Ideal), val_main_v26_apply (F := Ideal), val_main_v22_apply (F := Ideal), val_main_v21_apply (F := Ideal), val_main_v23_apply (F := Ideal), val_main_v25_apply (F := Ideal),
    val_main_v18_apply (F := Ideal), val_main_v16_apply (F := Ideal), val_main_v17_apply (F := Ideal), val_main_v11_apply (F := Ideal), val_main_v15_apply (F := Ideal), val_main_v10_apply (F := Ideal), val_main_v9_apply (F := Ideal),
    val_main_v14_apply (F := Ideal), val_main_v13_apply (F := Ideal)]
  rfl
theorem v34_at (s : Fin 4) (j : Fin 129) : val_main_v34 (F := Ideal) (ix2 s j) = rowAt s.val j.val := by
  rw [val_main_v34_apply (F := Ideal), val_main_v31_apply (F := Ideal), val_main_v33_apply (F := Ideal), val_main_v22_apply (F := Ideal), val_main_v21_apply (F := Ideal), val_main_v30_apply (F := Ideal), val_main_v32_apply (F := Ideal),
    val_main_v18_apply (F := Ideal), val_main_v16_apply (F := Ideal), val_main_v17_apply (F := Ideal), val_main_v11_apply (F := Ideal), val_main_v15_apply (F := Ideal), val_main_v10_apply (F := Ideal), val_main_v9_apply (F := Ideal),
    val_main_v14_apply (F := Ideal), val_main_v13_apply (F := Ideal)]
  rfl
theorem v20_at (s : Fin 4) (j : Fin 129) : val_main_v20 (F := Ideal) (ix2 s j) = 1#1 := by
  rw [val_main_v20_apply (F := Ideal), val_main_v19_apply (F := Ideal),
    val_main_v18_apply (F := Ideal), val_main_v16_apply (F := Ideal), val_main_v17_apply (F := Ideal), val_main_v11_apply (F := Ideal), val_main_v15_apply (F := Ideal), val_main_v10_apply (F := Ideal), val_main_v9_apply (F := Ideal),
    val_main_v14_apply (F := Ideal), val_main_v13_apply (F := Ideal)]
  exact (rowNo_all s j).1

/-! ## The keys and the values -/

theorem v3_at (b : Fin 32) (t : Fin 128) (h : Fin 8) (d : Fin 128) : val_main_v3 (F := Ideal) A.c (ix4 b t h d) = A.c (ix5 b t 0 h d) := by
  rw [val_main_v3_apply (F := Ideal), val_main_v2_apply (F := Ideal)]
  refine congrArg A.c (funext fun a => Fin.ext ?_)
  have hb := b.isLt
  have ht := t.isLt
  have hh := h.isLt
  have hd := d.isLt
  match a with
  | ⟨0, _⟩ => show (((b.val * 128 + t.val) * 8 + h.val) * 128 + d.val) / 131072 = b.val; omega
  | ⟨1, _⟩ => show (((b.val * 128 + t.val) * 8 + h.val) * 128 + d.val) / 1024 % 128 = t.val; omega
  | ⟨2, _⟩ => rfl
  | ⟨3, _⟩ => show (((b.val * 128 + t.val) * 8 + h.val) * 128 + d.val) / 128 % 8 = h.val; omega
  | ⟨4, _⟩ => show (((b.val * 128 + t.val) * 8 + h.val) * 128 + d.val) % 128 = d.val; omega
theorem v6_at (b : Fin 32) (t : Fin 128) (h : Fin 8) (d : Fin 128) : val_main_v6 (F := Ideal) A.c (ix4 b t h d) = A.c (ix5 b t 1 h d) := by
  rw [val_main_v6_apply (F := Ideal), val_main_v5_apply (F := Ideal)]
  refine congrArg A.c (funext fun a => Fin.ext ?_)
  have hb := b.isLt
  have ht := t.isLt
  have hh := h.isLt
  have hd := d.isLt
  match a with
  | ⟨0, _⟩ => show (((b.val * 128 + t.val) * 8 + h.val) * 128 + d.val) / 131072 = b.val; omega
  | ⟨1, _⟩ => show (((b.val * 128 + t.val) * 8 + h.val) * 128 + d.val) / 1024 % 128 = t.val; omega
  | ⟨2, _⟩ => rfl
  | ⟨3, _⟩ => show (((b.val * 128 + t.val) * 8 + h.val) * 128 + d.val) / 128 % 8 = h.val; omega
  | ⟨4, _⟩ => show (((b.val * 128 + t.val) * 8 + h.val) * 128 + d.val) % 128 = d.val; omega

/-- Kept rows and new ones, one after the other. -/
theorem cat_at (x : (N4 32 128 8 128).Idx → EReal) (y : (N4 32 4 8 128).Idx → EReal)
    (hc : Shape.Concatenates [N4 32 128 8 128, N4 32 4 8 128] (N4 32 132 8 128) 1) (b : Fin 32) (t : Fin 132) (h : Fin 8) (d : Fin 128) :
    concatenate (N4 32 132 8 128) 1 [⟨N4 32 128 8 128, x⟩, ⟨N4 32 4 8 128, y⟩] hc (ix4 b t h d)
      = if p : t.val < 128 then x (ix4 b ⟨t.val, p⟩ h d) else y (ix4 b ⟨t.val - 128, by omega⟩ h d) := by
  split
  · next p =>
    exact concatenate_pair_apply_left (t := N4 32 132 8 128) (s₁ := N4 32 128 8 128) (s₂ := N4 32 4 8 128) 1 x y hc (ix4 b t h d) rfl (ix4 b ⟨t.val, p⟩ h d)
      (fun a => match a with | ⟨0, _⟩ => rfl | ⟨1, _⟩ => rfl | ⟨2, _⟩ => rfl | ⟨3, _⟩ => rfl)
  · next p =>
    exact concatenate_pair_apply_right (t := N4 32 132 8 128) (s₁ := N4 32 128 8 128) (s₂ := N4 32 4 8 128) 1 x y hc (ix4 b t h d) rfl rfl (ix4 b ⟨t.val - 128, by omega⟩ h d)
      (fun a => match a with | ⟨0, _⟩ => fun _ => rfl | ⟨1, _⟩ => fun hb => absurd rfl hb | ⟨2, _⟩ => fun _ => rfl | ⟨3, _⟩ => fun _ => rfl)
      (show t.val - 128 + 128 = t.val by omega)

theorem v4_at (b : Fin 32) (t : Fin 132) (h : Fin 8) (d : Fin 128) : val_main_v4 (F := Ideal) A.k A.c (ix4 b t h d) = key A b h d t.val := by
  refine (cat_at _ _ concatenates_S32x128x8x128_S32x4x8x128_S32x132x8x128_d1 b t h d).trans ?_
  unfold key
  have ht := t.isLt
  by_cases p : t.val < 128
  · rw [dif_pos p, dif_pos p]
    exact v3_at A b _ h d
  · rw [dif_neg p, dif_neg p, dif_pos (show t.val - 128 < 4 by omega)]
theorem v7_at (b : Fin 32) (t : Fin 132) (h : Fin 8) (d : Fin 128) : val_main_v7 (F := Ideal) A.v A.c (ix4 b t h d) = val A b h d t.val := by
  refine (cat_at _ _ concatenates_S32x128x8x128_S32x4x8x128_S32x132x8x128_d1 b t h d).trans ?_
  unfold val
  have ht := t.isLt
  by_cases p : t.val < 128
  · rw [dif_pos p, dif_pos p]
    exact v6_at A b _ h d
  · rw [dif_neg p, dif_neg p, dif_pos (show t.val - 128 < 4 by omega)]

theorem v29_at (b : Fin 32) (s : Fin 4) (j : Fin 129) (h : Fin 8) (d : Fin 128) :
    val_main_v29 (F := Ideal) A.k A.c (ix5 b s j h d) = key A b h d (128 + s.val - j.val) := by
  refine (gather_rows (by decide) gather_S32x132x8x128_S4x129x1_S32x4x129x8x128_034_1_n_n_1_2_3218128_wf _ _ b s j h d).trans ((v4_at A b _ h d).trans (congrArg (key A b h d) ?_))
  refine Eq.trans (congrArg (fun q : BitVec 32 => min q.toInt.toNat 131) ?_) (rowNo_all s j).2
  rw [val_main_v28_apply (F := Ideal)]
  exact v27_at s j
theorem v36_at (b : Fin 32) (s : Fin 4) (j : Fin 129) (h : Fin 8) (d : Fin 128) :
    val_main_v36 (F := Ideal) A.v A.c (ix5 b s j h d) = val A b h d (128 + s.val - j.val) := by
  refine (gather_rows (by decide) gather_S32x132x8x128_S4x129x1_S32x4x129x8x128_034_1_n_n_1_2_3218128_wf _ _ b s j h d).trans ((v7_at A b _ h d).trans (congrArg (val A b h d) ?_))
  refine Eq.trans (congrArg (fun q : BitVec 32 => min q.toInt.toNat 131) ?_) (rowNo_all s j).2
  rw [val_main_v35_apply (F := Ideal)]
  exact v34_at s j

/-! ## The softmax -/

theorem e37l (b : Fin 32) (s : Fin 4) (h : Fin 8) (j : Fin 129) (d : Fin 128) : lidx_main_v37 (ix4 b s h j) d = ix4 b s h d :=
  (funext fun a => match a with | ⟨0, _⟩ => rfl | ⟨1, _⟩ => rfl | ⟨2, _⟩ => rfl | ⟨3, _⟩ => rfl)
theorem e37r (b : Fin 32) (s : Fin 4) (h : Fin 8) (j : Fin 129) (d : Fin 128) : ridx_main_v37 (ix4 b s h j) d = ix5 b s j h d :=
  (funext fun a => match a with | ⟨0, _⟩ => rfl | ⟨1, _⟩ => rfl | ⟨2, _⟩ => rfl | ⟨3, _⟩ => rfl | ⟨4, _⟩ => rfl)
theorem e46l (b : Fin 32) (s : Fin 4) (h : Fin 8) (j : Fin 129) (d : Fin 128) : lidx_main_v46 (ix4 b s h d) j = ix4 b s h j :=
  (funext fun a => match a with | ⟨0, _⟩ => rfl | ⟨1, _⟩ => rfl | ⟨2, _⟩ => rfl | ⟨3, _⟩ => rfl)
theorem e46r (b : Fin 32) (s : Fin 4) (h : Fin 8) (j : Fin 129) (d : Fin 128) : ridx_main_v46 (ix4 b s h d) j = ix5 b s j h d :=
  (funext fun a => match a with | ⟨0, _⟩ => rfl | ⟨1, _⟩ => rfl | ⟨2, _⟩ => rfl | ⟨3, _⟩ => rfl | ⟨4, _⟩ => rfl)
theorem e45 (b : Fin 32) (s : Fin 4) (h : Fin 8) (j : Fin 129) : idx_main_v45 (ix3 b s h) j = ix4 b s h j :=
  (funext fun a => match a with | ⟨0, _⟩ => rfl | ⟨1, _⟩ => rfl | ⟨2, _⟩ => rfl | ⟨3, _⟩ => rfl)
theorem e42 (b : Fin 32) (s : Fin 4) (h : Fin 8) (j : Fin 129) : idx_main_v41 (idx_main_v42 (ix4 b s h j)) = ix3 b s h :=
  (funext fun a => match a with | ⟨0, _⟩ => rfl | ⟨1, _⟩ => rfl | ⟨2, _⟩ => rfl)
theorem e51 (b : Fin 32) (s : Fin 4) (h : Fin 8) (d : Fin 128) : idx_main_v50 (idx_main_v51 (ix4 b s h d)) = ix3 b s h :=
  (funext fun a => match a with | ⟨0, _⟩ => rfl | ⟨1, _⟩ => rfl | ⟨2, _⟩ => rfl)
theorem e59 (b : Fin 32) (s : Fin 4) (h : Fin 8) (d : Fin 128) : idx_main_v58 (idx_main_v59 (ix4 b s h d)) = ix3 b s h :=
  (funext fun a => match a with | ⟨0, _⟩ => rfl | ⟨1, _⟩ => rfl | ⟨2, _⟩ => rfl)
theorem e39 (b : Fin 32) (s : Fin 4) (h : Fin 8) (j : Fin 129) : idx_main_v38 (idx_main_call0_v1 (ix4 b s h j)) = ix2 s j :=
  (funext fun a => match a with | ⟨0, _⟩ => rfl | ⟨1, _⟩ => rfl)

theorem v37_at (b : Fin 32) (s : Fin 4) (h : Fin 8) (j : Fin 129) :
    val_main_v37 (F := Ideal) A.q A.k A.c (ix4 b s h j) = seen s.val (score A b s h) j := by
  rw [val_main_v37_apply]
  unfold seen score
  refine Finset.sum_congr rfl fun d _ => ?_
  refine congrArg₂ (fun p q : EReal => p * q) ?_ ?_
  · rw [e37l, val_main_v1_apply (F := Ideal), val_main_v0_apply (F := Ideal)]
    rfl
  · rw [e37r]
    exact v29_at A b s j h d

theorem v39_at (b : Fin 32) (s : Fin 4) (h : Fin 8) (j : Fin 129) :
    val_main_v39 (F := Ideal) A.q A.k A.c (ix4 b s h j) = seen s.val (score A b s h) j := by
  rw [val_main_v39_apply (F := Ideal), val_main_call0_v1_apply (F := Ideal), val_main_v38_apply (F := Ideal)]
  rw [e39, v20_at]
  exact v37_at A b s h j

theorem reduces_last : S32x4x8x129.Reduces [3] S32x4x8 := by decide

theorem v40_at (b : Fin 32) (s : Fin 4) (h : Fin 8) : val_main_v40 (F := Ideal) A.q A.k A.c (ix3 b s h) = best A b s h := by
  have e : val_main_v40 (F := Ideal) A.q A.k A.c (ix3 b s h) = Host.reduce (max : EReal → EReal → EReal) (val_main_v39 (F := Ideal) A.q A.k A.c) (val_main_cst_8 (F := Ideal))
    reducesTo_S32x4x8x129_S32x4x8_d3 h_S_ (ix3 b s h) := rfl
  rw [e]
  refine Eq.trans (Host.reduce_eq_fold_single (max : EReal → EReal → EReal) (val_main_v39 (F := Ideal) A.q A.k A.c) (val_main_cst_8 (F := Ideal)) reducesTo_S32x4x8x129_S32x4x8_d3 reduces_last h_S_ (ix3 b s h)) ?_
  unfold best top
  show Finset.fold max (Ideal.ofBits .f32 0xFF800000#32) _ _ = _
  rw [Band.ofBits_bot]
  refine congrArg (fun f : Fin 129 → EReal => Finset.fold max ⊥ f Finset.univ) (funext fun k => ?_)
  refine (congrArg (val_main_v39 (F := Ideal) A.q A.k A.c) (?_ : reduces_last.lift (ix3 b s h) k = ix4 b s h k)).trans (v39_at A b s h k)
  funext a; apply Fin.ext
  match a with
  | ⟨0, _⟩ => rfl
  | ⟨1, _⟩ => rfl
  | ⟨2, _⟩ => rfl
  | ⟨3, _⟩ => rfl

theorem v44_at (b : Fin 32) (s : Fin 4) (h : Fin 8) (j : Fin 129) :
    val_main_v44 (F := Ideal) A.q A.k A.c (ix4 b s h j) = Ideal.exp (seen s.val (score A b s h) j - best A b s h) := by
  rw [val_main_v44_apply (F := Ideal), val_main_v43_apply (F := Ideal), v39_at, val_main_v42_apply (F := Ideal), val_main_v41_apply (F := Ideal), e42, v40_at]
  rfl

theorem v45_at (b : Fin 32) (s : Fin 4) (h : Fin 8) : val_main_v45 (F := Ideal) A.q A.k A.c (ix3 b s h) = mass A b s h := by
  rw [val_main_v45_apply]
  show Ideal.ofBits .f32 0x00000000#32 + _ = _
  rw [Ideal.ofBits_zero_f32, zero_add]
  exact Finset.sum_congr rfl fun j _ => (congrArg (val_main_v44 (F := Ideal) A.q A.k A.c) (e45 b s h j)).trans (v44_at A b s h j)

theorem v46_at (b : Fin 32) (s : Fin 4) (h : Fin 8) (d : Fin 128) :
    val_main_v46 (F := Ideal) A.q A.k A.v A.c (ix4 b s h d) = acc (seen s.val (score A b s h)) (seen s.val (val A b h d)) (best A b s h) := by
  rw [val_main_v46_apply]
  exact Finset.sum_congr rfl fun j _ => congrArg₂ (fun p q : EReal => p * q) ((congrArg (val_main_v44 (F := Ideal) A.q A.k A.c) (e46l b s h j d)).trans (v44_at A b s h j))
    ((congrArg (val_main_v36 (F := Ideal) A.v A.c) (e46r b s h j d)).trans (v36_at A b s j h d))

theorem v47_at (b : Fin 32) (s : Fin 4) (h : Fin 8) : val_main_v47 (F := Ideal) A.q A.k A.c (ix3 b s h) = best A b s h := by
  rw [val_main_v47_apply (F := Ideal), val_main_v41_apply (F := Ideal)]
  refine Eq.trans (congrArg (val_main_v40 (F := Ideal) A.q A.k A.c) (funext fun a => Fin.ext ?_)) (v40_at A b s h)
  have hb := b.isLt
  have hs := s.isLt
  have hh := h.isLt
  match a with
  | ⟨0, _⟩ => show ((b.val * 4 + s.val) * 8 + h.val) / 32 = b.val; omega
  | ⟨1, _⟩ => show ((b.val * 4 + s.val) * 8 + h.val) / 8 % 4 = s.val; omega
  | ⟨2, _⟩ => show ((b.val * 4 + s.val) * 8 + h.val) / 1 % 8 = h.val; omega

theorem v49_at (b : Fin 32) (s : Fin 4) (h : Fin 8) : val_main_v49 (F := Ideal) A.q A.k A.c (ix3 b s h) = lV A b s h := by
  rw [val_main_v49_apply (F := Ideal), val_main_v48_apply (F := Ideal), v47_at, v45_at]
  rfl

/-! ## The three results -/

theorem result_o : val_main_v52 (F := Ideal) A.q A.k A.v A.c = oOut A := by
  funext i
  obtain ⟨b, s, h, d, rfl⟩ : ∃ (b : Fin 32) (s : Fin 4) (h : Fin 8) (d : Fin 128), i = ix4 b s h d := ⟨i 0, i 1, i 2, i 3, eq_ix4 i⟩
  rw [val_main_v52_apply (F := Ideal), v46_at, val_main_v51_apply (F := Ideal), val_main_v50_apply (F := Ideal), e51, v45_at]
  rfl

theorem result_l : val_main_v59 (F := Ideal) A.q A.k A.c = lOut A := by
  funext i
  obtain ⟨b, s, h, d, rfl⟩ : ∃ (b : Fin 32) (s : Fin 4) (h : Fin 8) (d : Fin 128), i = ix4 b s h d := ⟨i 0, i 1, i 2, i 3, eq_ix4 i⟩
  rw [val_main_v59_apply (F := Ideal), val_main_v58_apply (F := Ideal), e59]
  exact v49_at A b s h

theorem v55_at (b : Fin 32) (t : Fin 4) (x : Fin 2) (h : Fin 8) (d : Fin 128) :
    val_main_v55 (F := Ideal) A.k A.v (ix5 b t x h d) = if x.val = 0 then A.k (ix4 b t h d) else A.v (ix4 b t h d) := by
  have hx := x.isLt
  unfold val_main_v55
  split
  · next p =>
    refine (concatenate_pair_apply_left (t := N5 32 4 2 8 128) (s₁ := N5 32 4 1 8 128) (s₂ := N5 32 4 1 8 128) 2 _ _ concatenates_S32x4x1x8x128_S32x4x1x8x128_S32x4x2x8x128_d2
      (ix5 b t x h d) rfl (ix5 b t 0 h d) (fun a => match a with | ⟨0, _⟩ => rfl | ⟨1, _⟩ => rfl | ⟨2, _⟩ => (show 0 = x.val from p.symm) | ⟨3, _⟩ => rfl | ⟨4, _⟩ => rfl)).trans ?_
    rw [val_main_v53_apply (F := Ideal)]
    exact congrArg A.k (funext fun a => match a with | ⟨0, _⟩ => rfl | ⟨1, _⟩ => rfl | ⟨2, _⟩ => rfl | ⟨3, _⟩ => rfl)
  · next p =>
    refine (concatenate_pair_apply_right (t := N5 32 4 2 8 128) (s₁ := N5 32 4 1 8 128) (s₂ := N5 32 4 1 8 128) 2 _ _ concatenates_S32x4x1x8x128_S32x4x1x8x128_S32x4x2x8x128_d2
      (ix5 b t x h d) rfl rfl (ix5 b t 0 h d)
      (fun a => match a with | ⟨0, _⟩ => fun _ => rfl | ⟨1, _⟩ => fun _ => rfl | ⟨2, _⟩ => fun hb => absurd rfl hb | ⟨3, _⟩ => fun _ => rfl | ⟨4, _⟩ => fun _ => rfl)
      (show 0 + 1 = x.val by omega)).trans ?_
    rw [val_main_v54_apply (F := Ideal)]
    exact congrArg A.v (funext fun a => match a with | ⟨0, _⟩ => rfl | ⟨1, _⟩ => rfl | ⟨2, _⟩ => rfl | ⟨3, _⟩ => rfl)

theorem result_n : val_main_v57 (F := Ideal) A.k A.v A.c = nOut A := by
  funext i
  obtain ⟨b, t, x, h, d, rfl⟩ : ∃ (b : Fin 32) (t : Fin 128) (x : Fin 2) (h : Fin 8) (d : Fin 128), i = ix5 b t x h d := ⟨i 0, i 1, i 2, i 3, i 4, eq_ix5 i⟩
  have ht := t.isLt
  rw [val_main_v57_apply (F := Ideal)]
  unfold val_main_v56
  show _ = nV A b t x h d
  unfold nV
  split
  · next p =>
    exact concatenate_pair_apply_left (t := N5 32 132 2 8 128) (s₁ := N5 32 128 2 8 128) (s₂ := N5 32 4 2 8 128) 1 _ _ concatenates_S32x128x2x8x128_S32x4x2x8x128_S32x132x2x8x128_d1
      _ rfl (ix5 b ⟨4 + t.val, by omega⟩ x h d) (fun a => match a with | ⟨0, _⟩ => rfl | ⟨1, _⟩ => rfl | ⟨2, _⟩ => rfl | ⟨3, _⟩ => rfl | ⟨4, _⟩ => rfl)
  · next p =>
    exact (concatenate_pair_apply_right (t := N5 32 132 2 8 128) (s₁ := N5 32 128 2 8 128) (s₂ := N5 32 4 2 8 128) 1 _ _ concatenates_S32x128x2x8x128_S32x4x2x8x128_S32x132x2x8x128_d1
      (idx_main_v57 (ix5 b t x h d)) rfl rfl (ix5 b ⟨t.val - 124, by omega⟩ x h d)
      (fun a => match a with | ⟨0, _⟩ => fun _ => rfl | ⟨1, _⟩ => fun hb => absurd rfl hb | ⟨2, _⟩ => fun _ => rfl | ⟨3, _⟩ => fun _ => rfl | ⟨4, _⟩ => fun _ => rfl)
      (show t.val - 124 + 128 = 4 + t.val by omega)).trans (v55_at A b _ x h d)

/-- The program's arguments. -/
def args (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3)⟩

end Cert.SampRefIdeal.Side

end
-- ==== Proof.lean ====
/- THE PROOF OF THE CLAIMS: each program runs and leaves its arguments and its semaphores as they were, and each kernel's
   results are its reference's. The results of the two sides meet in `Spec` for the attention and in `Dense` for the rest. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Read
public import proofs.«01_k».proof.Proof.Gen.Fin
public import proofs.«01_k».proof.Proof.Gen.Fin.Skeleton
public import proofs.«01_k».proof.Proof.Gen.Fin.Launch
public import proofs.«01_k».proof.Proof.Gen.Fin.Points
public import proofs.«01_k».proof.Proof.Gen.Fin.Frame
public import proofs.«01_k».proof.Proof.Gen.FinIdeal
public import proofs.«01_k».proof.Proof.Gen.FinIdeal.Skeleton
public import proofs.«01_k».proof.Proof.Gen.FinIdeal.Launch
public import proofs.«01_k».proof.Proof.Gen.FinIdeal.Points
public import proofs.«01_k».proof.Proof.Gen.FinIdeal.Frame
public import proofs.«01_k».proof.Proof.Gen.FinRefIdeal
public import proofs.«01_k».proof.Proof.Gen.FinIdeal.Value
public import proofs.«01_k».proof.Proof.Gen.FinRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Read
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepRefIdeal
public import proofs.«01_k».proof.Proof.Gen.StepIdeal.Value
public import proofs.«01_k».proof.Proof.Gen.StepRefIdeal.Read
public import proofs.«01_k».proof.Proof.Gen.Samp
public import proofs.«01_k».proof.Proof.Gen.Samp.Skeleton
public import proofs.«01_k».proof.Proof.Gen.Samp.Launch
public import proofs.«01_k».proof.Proof.Gen.Samp.Points
public import proofs.«01_k».proof.Proof.Gen.Samp.Frame
public import proofs.«01_k».proof.Proof.Gen.SampIdeal
public import proofs.«01_k».proof.Proof.Gen.SampIdeal.Skeleton
public import proofs.«01_k».proof.Proof.Gen.SampIdeal.Launch
public import proofs.«01_k».proof.Proof.Gen.SampIdeal.Points
public import proofs.«01_k».proof.Proof.Gen.SampIdeal.Frame
public import proofs.«01_k».proof.Proof.Gen.SampRefIdeal
public import proofs.«01_k».proof.Proof.Gen.SampIdeal.Value
public import proofs.«01_k».proof.Proof.Gen.SampRefIdeal.Read
public import proofs.«01_k».proof.Proof.Gen.Pre_finite_lse
public import proofs.«01_k».proof.Proof.Kernel
public import proofs.«01_k».proof.Proof.Reference
public import proofs.«01_k».proof.Proof.ProjKernel
public import proofs.«01_k».proof.Proof.ProjReference
public import proofs.«01_k».proof.Proof.OutKernel
public import proofs.«01_k».proof.Proof.OutReference
public import proofs.«01_k».proof.Proof.FinKernel
public import proofs.«01_k».proof.Proof.FinReference
public import proofs.«01_k».proof.Proof.MergePre
public import proofs.«01_k».proof.Proof.MergeKernel
public import proofs.«01_k».proof.Proof.MergeReference
public import proofs.«01_k».proof.Proof.StepKernel
public import proofs.«01_k».proof.Proof.StepReference
public import proofs.«01_k».proof.Proof.SampKernel
public import proofs.«01_k».proof.Proof.SampReference
public import Idealize.ShloMosaic.Adequacy
public import Idealize.ShloMosaic.Init

@[expose] public section

noncomputable section

namespace Cert.Proof

open Idealize.ShloMosaic Idealize.SL.Sem Cert.Attn

/-- The prompt's attention of head group 0: both programs end with the attention of `Spec` of the argument array. -/
theorem attn : Cert.algebraic_AttnIdeal_AttnRefIdeal (hAttnIdeal := Cert.AttnIdeal.Gen.facts) (hAttnRefIdeal := Cert.AttnRefIdeal.Gen.facts) := by
  intro m g m' g' _ hm
  refine ⟨fun c => Cert.Spec.O (Cert.AttnIdeal.Side.zz m c) 1 0, fun c => Cert.Spec.L (Cert.AttnIdeal.Side.zz m c) 1 0,
    (θ_run _ _ _).mono (fun r h c => ?_) (Cert.AttnIdeal.Value.run_blocks m g),
    (θ_run _ _ _).mono (fun r h c => ?_) (Cert.AttnRefIdeal.Value.run m' g')⟩
  · exact ⟨(h c).1.trans (Cert.AttnIdeal.Side.final_o m c), (h c).2.1.trans (Cert.AttnIdeal.Side.final_l m c), (h c).2.2⟩
  · refine ⟨(h c).1.trans ((Cert.AttnRefIdeal.Read.val_main_v89_eq m' c).trans ((Cert.AttnRefIdeal.Side.res_o _).trans ?_)),
      (h c).2.1.trans ((Cert.AttnRefIdeal.Read.val_main_v91_eq m' c).trans ((Cert.AttnRefIdeal.Side.res_l _).trans ?_)), (h c).2.2⟩
    · exact congrArg (fun z => Cert.Spec.O z 1 0) (hm c)
    · exact congrArg (fun z => Cert.Spec.L z 1 0) (hm c)

theorem proj : Cert.algebraic_ProjIdeal_ProjRefIdeal (hProjIdeal := Cert.ProjIdeal.Gen.facts) (hProjRefIdeal := Cert.ProjRefIdeal.Gen.facts) := by
  intro m g m' g' _ hm
  refine ⟨fun c => Cert.Dense.projS (Cert.ProjIdeal.Side.xx m c) (Cert.ProjIdeal.Side.gg m c) (Cert.ProjIdeal.Side.ww m c),
    (θ_run _ _ _).mono (fun r h c => ?_) (Cert.ProjIdeal.Value.run_blocks m g),
    (θ_run _ _ _).mono (fun r h c => ?_) (Cert.ProjRefIdeal.Value.run m' g')⟩
  · exact ⟨(h c).1.trans (Cert.ProjIdeal.Side.result m c), (h c).2⟩
  · refine ⟨(h c).1.trans ((Cert.ProjRefIdeal.Read.val_main_v13_eq _ _ _).trans ((Cert.ProjRefIdeal.Side.result _ _ _).trans ?_)), (h c).2⟩
    obtain ⟨e0, e1, e2⟩ := hm c
    rw [e0, e1, e2]

theorem out : Cert.algebraic_OutIdeal_OutRefIdeal (hOutIdeal := Cert.OutIdeal.Gen.facts) (hOutRefIdeal := Cert.OutRefIdeal.Gen.facts) := by
  intro m g m' g' _ hm
  refine ⟨fun c i => Cert.Dense.outS (Cert.OutIdeal.Side.xx m c) (Cert.OutIdeal.Side.yy m c) (Cert.OutIdeal.Side.ww m c) (i 0) (i 1),
    fun c i => Cert.Dense.outN (Cert.OutIdeal.Side.xx m c) (Cert.OutIdeal.Side.yy m c) (Cert.OutIdeal.Side.ww m c) (Cert.OutIdeal.Side.gg m c) (i 0) (i 1),
    fun c i => Cert.Dense.outN (Cert.OutIdeal.Side.xx m c) (Cert.OutIdeal.Side.yy m c) (Cert.OutIdeal.Side.ww m c) (Cert.OutIdeal.Side.gg m c) (i 1) (i 0),
    (θ_run _ _ _).mono (fun r h c => ?_) (Cert.OutIdeal.Value.run_blocks m g),
    (θ_run _ _ _).mono (fun r h c => ?_) (Cert.OutRefIdeal.Value.run m' g')⟩
  · exact ⟨(h c).1.trans (Cert.OutIdeal.Side.final_h m c), (h c).2.1.trans (Cert.OutIdeal.Side.final_n m c), (h c).2.2.1.trans (Cert.OutIdeal.Side.final_t m c), (h c).2.2.2⟩
  · obtain ⟨e0, e1, e2, e3⟩ := hm c
    refine ⟨(h c).1.trans ((Cert.OutRefIdeal.Read.val_main_v1_eq _ _ _).trans ((Cert.OutRefIdeal.Side.result_h _ _ _).trans ?_)),
      (h c).2.1.trans ((Cert.OutRefIdeal.Read.val_main_v15_eq _ _ _ _).trans ((Cert.OutRefIdeal.Side.result_n _ _ _ _).trans ?_)),
      (h c).2.2.1.trans ((Cert.OutRefIdeal.Read.val_main_v17_eq _ _ _ _).trans ((Cert.OutRefIdeal.Side.result_t _ _ _ _).trans ?_)), (h c).2.2.2⟩
    · rw [e0, e1, e2]
      rfl
    · rw [e0, e1, e2, e3]
      rfl
    · rw [e0, e1, e2, e3]
      rfl

theorem fin : Cert.algebraic_FinIdeal_FinRefIdeal (hFinIdeal := Cert.FinIdeal.Gen.facts) (hFinRefIdeal := Cert.FinRefIdeal.Gen.facts) := by
  intro m g m' g' _ hm
  refine ⟨fun c i => Cert.Dense.finS (Cert.FinIdeal.Side.hh m c) (Cert.FinIdeal.Side.yt m c) (Cert.FinIdeal.Side.gg m c) (i 0) (i 1),
    (θ_run _ _ _).mono (fun r h c => ?_) (Cert.FinIdeal.Value.run_blocks m g),
    (θ_run _ _ _).mono (fun r h c => ?_) (Cert.FinRefIdeal.Value.run m' g')⟩
  · exact ⟨(h c).1.trans (Cert.FinIdeal.Side.result m c), (h c).2⟩
  · obtain ⟨e0, e1, e2⟩ := hm c
    refine ⟨(h c).1.trans ((Cert.FinRefIdeal.Read.val_main_v14_eq _ _ _).trans ((Cert.FinRefIdeal.Side.result _ _ _).trans ?_)), (h c).2⟩
    rw [e0, e1, e2]
    rfl

/-- The two branches gated and added, where each head's largest log-sum-exp is a real number: both programs end with `mixS` of the arguments. -/
theorem merge : Cert.algebraic_MergeIdeal_MergeRefIdeal_pre_finite_lse (hMergeIdeal := Cert.MergeIdeal.Gen.facts) (hMergeRefIdeal := Cert.MergeRefIdeal.Gen.facts)
    (hPre_finite_lse := Cert.Pre_finite_lse.Gen.facts) := by
  intro m g m' g' hp hm
  refine ⟨fun c => Cert.MergeIdeal.Side.mixK m c,
    (θ_run _ _ _).mono (fun r h c => ?_) (Cert.MergeIdeal.Value.run_blocks m g),
    (θ_run _ _ _).mono (fun r h c => ?_) (Cert.MergeRefIdeal.Value.run m' g')⟩
  · exact ⟨(h c).1.trans (Cert.MergeIdeal.Side.result m c), (h c).2⟩
  · refine ⟨(h c).1.trans ((Cert.MergeRefIdeal.Read.val_main_v57_eq m' c).trans ((Cert.MergeRefIdeal.Side.result _ _ _ _ _ _ _ _ _ _).trans ?_)), (h c).2⟩
    obtain ⟨e0, e1, e2, e3, e4, e5, e6, e7, e8, e9⟩ := hm c
    rw [e0, e1, e2, e3, e4, e5, e6, e7, e8, e9]
    have e := Cert.Mix.attK_eq (Cert.MergeIdeal.Side.oa m c) (Cert.MergeIdeal.Side.ob m c) (Cert.MergeIdeal.Side.oc m c) (Cert.MergeIdeal.Side.la m c)
      (Cert.MergeIdeal.Side.lb m c) (Cert.MergeIdeal.Side.lc m c) (fun i q hq => Cert.Mix.bounds _ _ _ _ _ _ _ _ _ _ (hp c) i q hq)
    exact (congrArg (fun a : Fin 16384 → Fin 1024 → EReal => fun i : (Cert.Dense.M2 16384 2048).Idx =>
      Cert.Mix.mixW (Cert.MergeIdeal.Side.gg m c) (Cert.MergeIdeal.Side.zz m c) (Cert.MergeIdeal.Side.wr m c) (Cert.MergeIdeal.Side.wa m c) a (i 0) (i 1)) e).symm

/-- The sample's recurrence of four steps: both programs end with `gOut`, `cOut` and `hOut` of the arguments. -/
theorem step : Cert.algebraic_StepIdeal_StepRefIdeal (hStepIdeal := Cert.StepIdeal.Gen.facts) (hStepRefIdeal := Cert.StepRefIdeal.Gen.facts) := by
  intro m g m' g' _ hm
  refine ⟨fun c => Cert.Step.gOut (Cert.StepIdeal.Side.args m c), fun c => Cert.Step.cOut (Cert.StepIdeal.Side.args m c), fun c => Cert.Step.hOut (Cert.StepIdeal.Side.args m c),
    (θ_run _ _ _).mono (fun r h c => ?_) (Cert.StepIdeal.Value.run_blocks m g),
    (θ_run _ _ _).mono (fun r h c => ?_) (Cert.StepRefIdeal.Value.run m' g')⟩
  · exact ⟨(h c).1.trans (Cert.StepIdeal.Side.result10 m c), (h c).2.1.trans (Cert.StepIdeal.Side.result11 m c),
      (h c).2.2.1.trans (Cert.StepIdeal.Side.result12 m c), (h c).2.2.2⟩
  · have e : Cert.StepRefIdeal.Side.args m' c = Cert.StepIdeal.Side.args m c := by
      obtain ⟨e0, e1, e2, e3, e4, e5, e6, e7, e8, e9⟩ := hm c
      unfold Cert.StepRefIdeal.Side.args Cert.StepIdeal.Side.args
      rw [e0, e1, e2, e3, e4, e5, e6, e7, e8, e9]
    exact ⟨(h c).1.trans ((Cert.StepRefIdeal.Read.val_main_v142_eq _).trans ((Cert.StepRefIdeal.Side.result_g (Cert.StepRefIdeal.Side.args m' c)).trans (congrArg Cert.Step.gOut e))),
      (h c).2.1.trans ((Cert.StepRefIdeal.Read.val_main_v143_eq _).trans ((Cert.StepRefIdeal.Side.result_c (Cert.StepRefIdeal.Side.args m' c)).trans (congrArg Cert.Step.cOut e))),
      (h c).2.2.1.trans ((Cert.StepRefIdeal.Read.val_main_v132_eq _).trans ((Cert.StepRefIdeal.Side.result_h (Cert.StepRefIdeal.Side.args m' c)).trans (congrArg Cert.Step.hOut e))), (h c).2.2.2⟩

/-- The sample's attention of the first group of heads: both programs end with `oOut`, `lOut` and `nOut` of the arguments. -/
theorem samp : Cert.algebraic_SampIdeal_SampRefIdeal (hSampIdeal := Cert.SampIdeal.Gen.facts) (hSampRefIdeal := Cert.SampRefIdeal.Gen.facts) := by
  intro m g m' g' _ hm
  refine ⟨fun c => Cert.Samp.oOut (Cert.SampIdeal.Side.args m c), fun c => Cert.Samp.lOut (Cert.SampIdeal.Side.args m c), fun c => Cert.Samp.nOut (Cert.SampIdeal.Side.args m c),
    (θ_run _ _ _).mono (fun r h c => ?_) (Cert.SampIdeal.Value.run_blocks m g),
    (θ_run _ _ _).mono (fun r h c => ?_) (Cert.SampRefIdeal.Value.run m' g')⟩
  · exact ⟨(h c).1.trans (Cert.SampIdeal.Side.result5 m c), (h c).2.1.trans (Cert.SampIdeal.Side.result6 m c),
      (h c).2.2.1.trans (Cert.SampIdeal.Side.result7 m c), (h c).2.2.2⟩
  · have e : Cert.SampRefIdeal.Side.args m' c = Cert.SampIdeal.Side.args m c := by
      obtain ⟨e0, e1, e2, e3⟩ := hm c
      unfold Cert.SampRefIdeal.Side.args Cert.SampIdeal.Side.args
      rw [e0, e1, e2, e3]
    exact ⟨(h c).1.trans ((Cert.SampRefIdeal.Read.val_main_v52_eq _ _).trans ((Cert.SampRefIdeal.Side.result_o (Cert.SampRefIdeal.Side.args m' c)).trans (congrArg Cert.Samp.oOut e))),
      (h c).2.1.trans ((Cert.SampRefIdeal.Read.val_main_v59_eq _ _).trans ((Cert.SampRefIdeal.Side.result_l (Cert.SampRefIdeal.Side.args m' c)).trans (congrArg Cert.Samp.lOut e))),
      (h c).2.2.1.trans ((Cert.SampRefIdeal.Read.val_main_v57_eq _ _ _).trans ((Cert.SampRefIdeal.Side.result_n (Cert.SampRefIdeal.Side.args m' c)).trans (congrArg Cert.Samp.nOut e))), (h c).2.2.2⟩
theorem claim : Cert.Claim := ⟨Cert.Attn.Gen.facts, Cert.AttnIdeal.Gen.facts, Cert.AttnRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.Fin.Gen.facts, Cert.FinIdeal.Gen.facts, Cert.FinRefIdeal.Gen.facts, Cert.Merge.Gen.facts, Cert.MergeIdeal.Gen.facts, Cert.MergeRefIdeal.Gen.facts, Cert.Step.Gen.facts, Cert.StepIdeal.Gen.facts, Cert.StepRefIdeal.Gen.facts, Cert.Samp.Gen.facts, Cert.SampIdeal.Gen.facts, Cert.SampRefIdeal.Gen.facts, Cert.Pre_finite_lse.Gen.facts,
  fun m g _ => Cert.Attn.Gen.frame m g,
  fun m g _ => Cert.AttnIdeal.Gen.frame m g,
  fun m g _ => (θ_run Cert.AttnRefIdeal.defs _ _).mono (fun r h => ⟨fun c => (h c).2.2, sem_eq_zero_of_no_sems (by decide) r.2⟩)
    (Cert.AttnRefIdeal.Value.run m g),
  fun m g _ => Cert.Proj.Gen.frame m g,
  fun m g _ => Cert.ProjIdeal.Gen.frame m g,
  fun m g _ => (θ_run Cert.ProjRefIdeal.defs _ _).mono (fun r h => ⟨fun c => (h c).2, sem_eq_zero_of_no_sems (by decide) r.2⟩)
    (Cert.ProjRefIdeal.Value.run m g),
  fun m g _ => Cert.Out.Gen.frame m g,
  fun m g _ => Cert.OutIdeal.Gen.frame m g,
  fun m g _ => (θ_run Cert.OutRefIdeal.defs _ _).mono (fun r h => ⟨fun c => (h c).2.2.2, sem_eq_zero_of_no_sems (by decide) r.2⟩)
    (Cert.OutRefIdeal.Value.run m g),
  fun m g _ => Cert.Fin.Gen.frame m g,
  fun m g _ => Cert.FinIdeal.Gen.frame m g,
  fun m g _ => (θ_run Cert.FinRefIdeal.defs _ _).mono (fun r h => ⟨fun c => (h c).2, sem_eq_zero_of_no_sems (by decide) r.2⟩)
    (Cert.FinRefIdeal.Value.run m g),
  fun m g _ => Cert.Merge.Gen.frame m g,
  fun m g _ => Cert.MergeIdeal.Gen.frame m g,
  fun m g _ => Cert.MergeIdeal.Gen.frame m g,
  fun m g _ => (θ_run Cert.MergeRefIdeal.defs _ _).mono (fun r h => ⟨fun c => (h c).2, sem_eq_zero_of_no_sems (by decide) r.2⟩)
    (Cert.MergeRefIdeal.Value.run m g),
  fun m g _ => (θ_run Cert.MergeRefIdeal.defs _ _).mono (fun r h => ⟨fun c => (h c).2, sem_eq_zero_of_no_sems (by decide) r.2⟩)
    (Cert.MergeRefIdeal.Value.run m g),
  fun m g _ => Cert.Step.Gen.frame m g,
  fun m g _ => Cert.StepIdeal.Gen.frame m g,
  fun m g _ => (θ_run Cert.StepRefIdeal.defs _ _).mono (fun r h => ⟨fun c => (h c).2.2.2, sem_eq_zero_of_no_sems (by decide) r.2⟩)
    (Cert.StepRefIdeal.Value.run m g),
  fun m g _ => Cert.Samp.Gen.frame m g,
  fun m g _ => Cert.SampIdeal.Gen.frame m g,
  fun m g _ => (θ_run Cert.SampRefIdeal.defs _ _).mono (fun r h => ⟨fun c => (h c).2.2.2, sem_eq_zero_of_no_sems (by decide) r.2⟩)
    (Cert.SampRefIdeal.Value.run m g),
  trivial, attn,
  trivial, proj,
  trivial, out,
  trivial, fin,
  trivial, merge,
  trivial, step,
  trivial, samp⟩

end Cert.Proof

end
